-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pack.Statement Cert.KernelIdeal.S512x128

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S6x128x2880 : Shape := ⟨3, ![6, 128, 2880]⟩
abbrev S60000x2880 : Shape := ⟨2, ![60000, 2880]⟩
abbrev S60000 : Shape := ⟨1, ![60000]⟩
abbrev S6x2048 : Shape := ⟨2, ![6, 2048]⟩
abbrev S6x128 : Shape := ⟨2, ![6, 128]⟩
abbrev S_ : Shape := ⟨0, ![]⟩

class Facts : Prop where
  bcast_S_S6x2048 : S_.BroadcastsInDim S6x2048 (![] : Fin 0 → Fin S6x2048.rank)
  reducesTo_S6x2048_S_d0_1 : S6x2048.ReducesTo [0, 1] S_
  h_S_ : 0 < S_.numel
  bcast_S_S6x128 : S_.BroadcastsInDim S6x128 (![] : Fin 0 → Fin S6x128.rank)
  reducesTo_S6x128_S_d0_1 : S6x128.ReducesTo [0, 1] S_

variable [Facts]

def fn {F : FTy → Type} [FloatOps F] (main_arg0 : FVec F S6x128x2880 .bf16) (main_arg1 : IVec S60000x2880 8) (main_arg2 : FVec F S60000 .f32) (main_arg3 : FVec F S60000 .f32) (main_arg4 : IVec S6x2048 32) (main_arg5 : IVec S6x128 32) (main_arg6 : FVec F S6x128 .f32) : IVec S_ 1 :=
  let main_c : IVec S_ 32 := constantI S_ 32 0#32
  let main_v0 : IVec S6x2048 32 := broadcastInDim S6x2048 ![] bcast_S_S6x2048 main_c
  let main_v1 : IVec S6x2048 1 := cmpi .sge main_arg4 main_v0
  let main_c_0 : IVec S_ 32 := constantI S_ 32 60000#32
  let main_v2 : IVec S6x2048 32 := broadcastInDim S6x2048 ![] bcast_S_S6x2048 main_c_0
  let main_v3 : IVec S6x2048 1 := cmpi .slt main_arg4 main_v2
  let main_v4 : IVec S6x2048 1 := andi main_v1 main_v3
  let main_c_1 : IVec S_ 1 := constantI S_ 1 1#1
  let main_v5 : IVec S_ 1 := (fun x v => Host.reduce IntOp.andi x v reducesTo_S6x2048_S_d0_1 h_S_) main_v4 main_c_1
  let main_c_2 : IVec S_ 32 := constantI S_ 32 0#32
  let main_v6 : IVec S6x128 32 := broadcastInDim S6x128 ![] bcast_S_S6x128 main_c_2
  let main_v7 : IVec S6x128 1 := cmpi .sge main_arg5 main_v6
  let main_c_3 : IVec S_ 32 := constantI S_ 32 60000#32
  let main_v8 : IVec S6x128 32 := broadcastInDim S6x128 ![] bcast_S_S6x128 main_c_3
  let main_v9 : IVec S6x128 1 := cmpi .slt main_arg5 main_v8
  let main_v10 : IVec S6x128 1 := andi main_v7 main_v9
  let main_c_4 : IVec S_ 1 := constantI S_ 1 1#1
  let main_v11 : IVec S_ 1 := (fun x v => Host.reduce IntOp.andi x v reducesTo_S6x128_S_d0_1 h_S_) main_v10 main_c_4
  let main_v12 : IVec S_ 1 := andi main_v5 main_v11
  main_v12
-- ==== Pre_in_range_finite.lean ====
abbrev S6x128x2880 : Shape := ⟨3, ![6, 128, 2880]⟩
abbrev S60000x2880 : Shape := ⟨2, ![60000, 2880]⟩
abbrev S60000 : Shape := ⟨1, ![60000]⟩
abbrev S6x2048 : Shape := ⟨2, ![6, 2048]⟩
abbrev S6x128 : Shape := ⟨2, ![6, 128]⟩
abbrev S_ : Shape := ⟨0, ![]⟩

class Facts : Prop where
  bcast_S_S6x2048 : S_.BroadcastsInDim S6x2048 (![] : Fin 0 → Fin S6x2048.rank)
  reducesTo_S6x2048_S_d0_1 : S6x2048.ReducesTo [0, 1] S_
  h_S_ : 0 < S_.numel
  bcast_S_S6x128 : S_.BroadcastsInDim S6x128 (![] : Fin 0 → Fin S6x128.rank)
  reducesTo_S6x128_S_d0_1 : S6x128.ReducesTo [0, 1] S_
  bcast_S_S6x128x2880 : S_.BroadcastsInDim S6x128x2880 (![] : Fin 0 → Fin S6x128x2880.rank)
  reducesTo_S6x128x2880_S_d0_1_2 : S6x128x2880.ReducesTo [0, 1, 2] S_
  bcast_S_S60000 : S_.BroadcastsInDim S60000 (![] : Fin 0 → Fin S60000.rank)
  reducesTo_S60000_S_d0 : S60000.ReducesTo [0] S_

variable [Facts]

def fn_part1 {F : FTy → Type} [FloatOps F] (main_arg2 : FVec F S60000 .f32) (main_arg3 : FVec F S60000 .f32) (main_v12 : IVec S_ 1) (main_v15 : IVec S6x128x2880 1) (main_c_5 : IVec S_ 1) : IVec S_ 1 :=
  let main_v16 : IVec S_ 1 := (fun x v => Host.reduce IntOp.andi x v reducesTo_S6x128x2880_S_d0_1_2 h_S_) main_v15 main_c_5
  let main_v17 : IVec S_ 1 := andi main_v12 main_v16
  let main_v18 : FVec F S60000 .f32 := Host.absf main_arg2
  let main_cst_6 : FVec F S_ .f32 := constant S_ .f32 0x7F800000#32
  let main_v19 : FVec F S60000 .f32 := broadcastInDim S60000 ![] bcast_S_S60000 main_cst_6
  let main_v20 : IVec S60000 1 := cmpf .olt main_v18 main_v19
  let main_c_7 : IVec S_ 1 := constantI S_ 1 1#1
  let main_v21 : IVec S_ 1 := (fun x v => Host.reduce IntOp.andi x v reducesTo_S60000_S_d0 h_S_) main_v20 main_c_7
  let main_v22 : IVec S_ 1 := andi main_v17 main_v21
  let main_v23 : FVec F S60000 .f32 := Host.absf main_arg3
  let main_cst_8 : FVec F S_ .f32 := constant S_ .f32 0x7F800000#32
  let main_v24 : FVec F S60000 .f32 := broadcastInDim S60000 ![] bcast_S_S60000 main_cst_8
  let main_v25 : IVec S60000 1 := cmpf .olt main_v23 main_v24
  let main_c_9 : IVec S_ 1 := constantI S_ 1 1#1
  let main_v26 : IVec S_ 1 := (fun x v => Host.reduce IntOp.andi x v reducesTo_S60000_S_d0 h_S_) main_v25 main_c_9
  let main_v27 : IVec S_ 1 := andi main_v22 main_v26
  main_v27

def fn {F : FTy → Type} [FloatOps F] (main_arg0 : FVec F S6x128x2880 .bf16) (main_arg1 : IVec S60000x2880 8) (main_arg2 : FVec F S60000 .f32) (main_arg3 : FVec F S60000 .f32) (main_arg4 : IVec S6x2048 32) (main_arg5 : IVec S6x128 32) (main_arg6 : FVec F S6x128 .f32) : IVec S_ 1 :=
  let main_c : IVec S_ 32 := constantI S_ 32 0#32
  let main_v0 : IVec S6x2048 32 := broadcastInDim S6x2048 ![] bcast_S_S6x2048 main_c
  let main_v1 : IVec S6x2048 1 := cmpi .sge main_arg4 main_v0
  let main_c_0 : IVec S_ 32 := constantI S_ 32 60000#32
  let main_v2 : IVec S6x2048 32 := broadcastInDim S6x2048 ![] bcast_S_S6x2048 main_c_0
  let main_v3 : IVec S6x2048 1 := cmpi .slt main_arg4 main_v2
  let main_v4 : IVec S6x2048 1 := andi main_v1 main_v3
  let main_c_1 : IVec S_ 1 := constantI S_ 1 1#1
  let main_v5 : IVec S_ 1 := (fun x v => Host.reduce IntOp.andi x v reducesTo_S6x2048_S_d0_1 h_S_) main_v4 main_c_1
  let main_c_2 : IVec S_ 32 := constantI S_ 32 0#32
  let main_v6 : IVec S6x128 32 := broadcastInDim S6x128 ![] bcast_S_S6x128 main_c_2
  let main_v7 : IVec S6x128 1 := cmpi .sge main_arg5 main_v6
  let main_c_3 : IVec S_ 32 := constantI S_ 32 60000#32
  let main_v8 : IVec S6x128 32 := broadcastInDim S6x128 ![] bcast_S_S6x128 main_c_3
  let main_v9 : IVec S6x128 1 := cmpi .slt main_arg5 main_v8
  let main_v10 : IVec S6x128 1 := andi main_v7 main_v9
  let main_c_4 : IVec S_ 1 := constantI S_ 1 1#1
  let main_v11 : IVec S_ 1 := (fun x v => Host.reduce IntOp.andi x v reducesTo_S6x128_S_d0_1 h_S_) main_v10 main_c_4
  let main_v12 : IVec S_ 1 := andi main_v5 main_v11
  let main_v13 : FVec F S6x128x2880 .bf16 := Host.absf main_arg0
  let main_cst : FVec F S_ .bf16 := constant S_ .bf16 0x7F80#16
  let main_v14 : FVec F S6x128x2880 .bf16 := broadcastInDim S6x128x2880 ![] bcast_S_S6x128x2880 main_cst
  let main_v15 : IVec S6x128x2880 1 := cmpf .olt main_v13 main_v14
  let main_c_5 : IVec S_ 1 := constantI S_ 1 1#1
  fn_part1 (F := F) main_arg2 main_arg3 main_v12 main_v15 main_c_5
-- ==== Kernel.lean ====
abbrev S6x128x2880 : Shape := ⟨3, ![6, 128, 2880]⟩
abbrev S60000x2880 : Shape := ⟨2, ![60000, 2880]⟩
abbrev S60000 : Shape := ⟨1, ![60000]⟩
abbrev S6x2048 : Shape := ⟨2, ![6, 2048]⟩
abbrev S6x128 : Shape := ⟨2, ![6, 128]⟩
abbrev S768x2880 : Shape := ⟨2, ![768, 2880]⟩
abbrev S12288 : Shape := ⟨1, ![12288]⟩
abbrev S768 : Shape := ⟨1, ![768]⟩
abbrev S_ : Shape := ⟨0, ![]⟩
abbrev S65536 : Shape := ⟨1, ![65536]⟩
abbrev S512x128 : Shape := ⟨2, ![512, 128]⟩
abbrev S96x1x128 : Shape := ⟨3, ![96, 1, 128]⟩
abbrev S6x1x128 : Shape := ⟨3, ![6, 1, 128]⟩
abbrev S15000x4x2880 : Shape := ⟨3, ![15000, 4, 2880]⟩
abbrev S15000x2880x4 : Shape := ⟨3, ![15000, 2880, 4]⟩
abbrev S15000x2880 : Shape := ⟨2, ![15000, 2880]⟩
abbrev S12288x128 : Shape := ⟨2, ![12288, 128]⟩
abbrev S3x256x2880 : Shape := ⟨3, ![3, 256, 2880]⟩
abbrev S128x2880 : Shape := ⟨2, ![128, 2880]⟩
abbrev S2048x2880 : Shape := ⟨2, ![2048, 2880]⟩
abbrev S2048x128 : Shape := ⟨2, ![2048, 128]⟩
abbrev S512x768 : Shape := ⟨2, ![512, 768]⟩
abbrev S3 : Shape := ⟨1, ![3]⟩
abbrev S1 : Shape := ⟨1, ![1]⟩
abbrev S1x2880 : Shape := ⟨2, ![1, 2880]⟩
abbrev S1x1x2880 : Shape := ⟨3, ![1, 1, 2880]⟩
abbrev S128x128 : Shape := ⟨2, ![128, 128]⟩
abbrev S1x1x128 : Shape := ⟨3, ![1, 1, 128]⟩
abbrev S1x128 : Shape := ⟨2, ![1, 128]⟩
abbrev S128x64 : Shape := ⟨2, ![128, 64]⟩
abbrev S128x512 : Shape := ⟨2, ![128, 512]⟩
abbrev S128x768 : Shape := ⟨2, ![128, 768]⟩
abbrev S128 : Shape := ⟨1, ![128]⟩
abbrev S128x1 : Shape := ⟨2, ![128, 1]⟩
abbrev S1x128x128 : Shape := ⟨3, ![1, 128, 128]⟩
abbrev S1x128x64 : Shape := ⟨3, ![1, 128, 64]⟩
abbrev S128x2048 : Shape := ⟨2, ![128, 2048]⟩
abbrev S2048x256 : Shape := ⟨2, ![2048, 256]⟩
abbrev S128x256 : Shape := ⟨2, ![128, 256]⟩
abbrev S2048x64 : Shape := ⟨2, ![2048, 64]⟩

abbrev nBuf : Space → Nat
  | .hbm => 28
  | .vmem => 16
  | .smem => 2
  | _ => 0

abbrev bufTy : (tb : Table) → Fin (tcTables nBuf tb) → BufTy
  | .hbm, ⟨0, _⟩ => ⟨S6x128x2880, .bf16⟩
  | .hbm, ⟨1, _⟩ => ⟨S60000x2880, .i8⟩
  | .hbm, ⟨2, _⟩ => ⟨S60000, .f32⟩
  | .hbm, ⟨3, _⟩ => ⟨S60000, .f32⟩
  | .hbm, ⟨4, _⟩ => ⟨S6x2048, .i32⟩
  | .hbm, ⟨5, _⟩ => ⟨S6x128, .i32⟩
  | .hbm, ⟨6, _⟩ => ⟨S6x128, .f32⟩
  | .hbm, ⟨7, _⟩ => ⟨S768x2880, .bf16⟩
  | .hbm, ⟨8, _⟩ => ⟨S12288, .i32⟩
  | .hbm, ⟨9, _⟩ => ⟨S768, .i32⟩
  | .hbm, ⟨10, _⟩ => ⟨S_, .i32⟩
  | .hbm, ⟨11, _⟩ => ⟨S_, .f32⟩
  | .hbm, ⟨12, _⟩ => ⟨S65536, .f32⟩
  | .hbm, ⟨13, _⟩ => ⟨S512x128, .f32⟩
  | .hbm, ⟨14, _⟩ => ⟨S_, .i32⟩
  | .hbm, ⟨15, _⟩ => ⟨S_, .f32⟩
  | .hbm, ⟨16, _⟩ => ⟨S65536, .f32⟩
  | .hbm, ⟨17, _⟩ => ⟨S512x128, .f32⟩
  | .hbm, ⟨18, _⟩ => ⟨S96x1x128, .i32⟩
  | .hbm, ⟨19, _⟩ => ⟨S6x1x128, .i32⟩
  | .hbm, ⟨20, _⟩ => ⟨S6x1x128, .f32⟩
  | .hbm, ⟨21, _⟩ => ⟨S15000x4x2880, .i8⟩
  | .hbm, ⟨22, _⟩ => ⟨S15000x2880x4, .i8⟩
  | .hbm, ⟨23, _⟩ => ⟨S15000x2880, .i32⟩
  | .hbm, ⟨24, _⟩ => ⟨S12288x128, .f32⟩
  | .hbm, ⟨25, _⟩ => ⟨S6x1x128, .f32⟩
  | .hbm, ⟨26, _⟩ => ⟨S768x2880, .bf16⟩
  | .hbm, ⟨27, _⟩ => ⟨S6x1x128, .f32⟩
  | .local _ .vmem, ⟨0, _⟩ => ⟨S96x1x128, .i32⟩
  | .local _ .vmem, ⟨1, _⟩ => ⟨S6x1x128, .i32⟩
  | .local _ .vmem, ⟨2, _⟩ => ⟨S768x2880, .bf16⟩
  | .local _ .vmem, ⟨3, _⟩ => ⟨S512x128, .f32⟩
  | .local _ .vmem, ⟨4, _⟩ => ⟨S512x128, .f32⟩
  | .local _ .vmem, ⟨5, _⟩ => ⟨S6x1x128, .f32⟩
  | .local _ .vmem, ⟨6, _⟩ => ⟨S12288x128, .f32⟩
  | .local _ .vmem, ⟨7, _⟩ => ⟨S6x1x128, .f32⟩
  | .local _ .vmem, ⟨8, _⟩ => ⟨S768x2880, .bf16⟩
  | .local _ .vmem, ⟨9, _⟩ => ⟨S6x1x128, .f32⟩
  | .local _ .vmem, ⟨10, _⟩ => ⟨S3x256x2880, .i32⟩
  | .local _ .vmem, ⟨11, _⟩ => ⟨S128x2880, .i32⟩
  | .local _ .vmem, ⟨12, _⟩ => ⟨S2048x2880, .bf16⟩
  | .local _ .vmem, ⟨13, _⟩ => ⟨S2048x128, .f32⟩
  | .local _ .vmem, ⟨14, _⟩ => ⟨S2048x128, .f32⟩
  | .local _ .vmem, ⟨15, _⟩ => ⟨S512x768, .bf16⟩
  | .local _ .smem, ⟨0, _⟩ => ⟨S12288, .i32⟩
  | .local _ .smem, ⟨1, _⟩ => ⟨S768, .i32⟩
  | _, _ => ⟨S6x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 1 → Nat :=
  let c0_i32_28 : BitVec 32 := 0#32
  let c0_i32 : BitVec 32 := 0#32
  let c1_i32 : BitVec 32 := 1#32
  let arg21 : BitVec 32 := Scf.iv c0_i32 c1_i32 k0_t1
  let c8_i32 : BitVec 32 := 8#32
  let v55 : BitVec 32 := Scalar.muli arg21 c8_i32
  let c0_i32_27 : BitVec 32 := 0#32
  let v56 : BitVec 32 := Scalar.addi v55 c0_i32_27
  let v57 : BitVec 32 := Scalar.addi c0_i32_28 v56
  let v58 : Index := Scalar.indexCast v57
  ![v58.toNat]
def k0_off2 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32 : BitVec 32 := 8#32
  let v55 : BitVec 32 := Scalar.muli arg21 c8_i32
  let c0_i32_27 : BitVec 32 := 0#32
  let v56 : BitVec 32 := Scalar.addi v55 c0_i32_27
  let c0_i32_29 : BitVec 32 := 0#32
  ![v56.toNat, 0]
def k0_off3 (v59 : BitVec 32) : Fin 2 → Nat :=
  let c2_i32 : BitVec 32 := 2#32
  let v60 : BitVec 32 := Scalar.shrui v59 c2_i32
  let c0_i32_30 : BitVec 32 := 0#32
  ![v60.toNat, 0]

def k0_chk1 (v59 : BitVec 32) : Prop :=
  (∀ a, (k0_off3 v59) a + S1x2880.size a ≤ S15000x2880.size a)
theorem k0_off3_inb : ∀ (v59 : BitVec 32) (k0_hw1 : k0_chk1 v59), ∀ a, (k0_off3 v59) a + S1x2880.size a ≤ S15000x2880.size a := fun v59 k0_hw1 => k0_hw1

def k0_off4 (k0_t1 : Fin k0_t1_loop.trips) : Fin 1 → Nat :=
  let c0_i32_33 : BitVec 32 := 0#32
  let c0_i32 : BitVec 32 := 0#32
  let c1_i32 : BitVec 32 := 1#32
  let arg21 : BitVec 32 := Scf.iv c0_i32 c1_i32 k0_t1
  let c8_i32_31 : BitVec 32 := 8#32
  let v63 : BitVec 32 := Scalar.muli arg21 c8_i32_31
  let c1_i32_32 : BitVec 32 := 1#32
  let v64 : BitVec 32 := Scalar.addi v63 c1_i32_32
  let v65 : BitVec 32 := Scalar.addi c0_i32_33 v64
  let v66 : Index := Scalar.indexCast v65
  ![v66.toNat]
def k0_off5 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32_31 : BitVec 32 := 8#32
  let v63 : BitVec 32 := Scalar.muli arg21 c8_i32_31
  let c1_i32_32 : BitVec 32 := 1#32
  let v64 : BitVec 32 := Scalar.addi v63 c1_i32_32
  let c0_i32_35 : BitVec 32 := 0#32
  ![v64.toNat, 0]
def k0_off6 (v67 : BitVec 32) : Fin 2 → Nat :=
  let c2_i32_34 : BitVec 32 := 2#32
  let v68 : BitVec 32 := Scalar.shrui v67 c2_i32_34
  let c0_i32_36 : BitVec 32 := 0#32
  ![v68.toNat, 0]

def k0_chk2 (v67 : BitVec 32) : Prop :=
  (∀ a, (k0_off6 v67) a + S1x2880.size a ≤ S15000x2880.size a)
theorem k0_off6_inb : ∀ (v67 : BitVec 32) (k0_hw2 : k0_chk2 v67), ∀ a, (k0_off6 v67) a + S1x2880.size a ≤ S15000x2880.size a := fun v67 k0_hw2 => k0_hw2

def k0_off7 (k0_t1 : Fin k0_t1_loop.trips) : Fin 1 → Nat :=
  let c0_i32_39 : BitVec 32 := 0#32
  let c0_i32 : BitVec 32 := 0#32
  let c1_i32 : BitVec 32 := 1#32
  let arg21 : BitVec 32 := Scf.iv c0_i32 c1_i32 k0_t1
  let c8_i32_37 : BitVec 32 := 8#32
  let v71 : BitVec 32 := Scalar.muli arg21 c8_i32_37
  let c2_i32_38 : BitVec 32 := 2#32
  let v72 : BitVec 32 := Scalar.addi v71 c2_i32_38
  let v73 : BitVec 32 := Scalar.addi c0_i32_39 v72
  let v74 : Index := Scalar.indexCast v73
  ![v74.toNat]
def k0_off8 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32_37 : BitVec 32 := 8#32
  let v71 : BitVec 32 := Scalar.muli arg21 c8_i32_37
  let c2_i32_38 : BitVec 32 := 2#32
  let v72 : BitVec 32 := Scalar.addi v71 c2_i32_38
  let c0_i32_41 : BitVec 32 := 0#32
  ![v72.toNat, 0]
def k0_off9 (v75 : BitVec 32) : Fin 2 → Nat :=
  let c2_i32_40 : BitVec 32 := 2#32
  let v76 : BitVec 32 := Scalar.shrui v75 c2_i32_40
  let c0_i32_42 : BitVec 32 := 0#32
  ![v76.toNat, 0]

def k0_chk3 (v75 : BitVec 32) : Prop :=
  (∀ a, (k0_off9 v75) a + S1x2880.size a ≤ S15000x2880.size a)
theorem k0_off9_inb : ∀ (v75 : BitVec 32) (k0_hw3 : k0_chk3 v75), ∀ a, (k0_off9 v75) a + S1x2880.size a ≤ S15000x2880.size a := fun v75 k0_hw3 => k0_hw3

def k0_off10 (k0_t1 : Fin k0_t1_loop.trips) : Fin 1 → Nat :=
  let c0_i32_45 : BitVec 32 := 0#32
  let c0_i32 : BitVec 32 := 0#32
  let c1_i32 : BitVec 32 := 1#32
  let arg21 : BitVec 32 := Scf.iv c0_i32 c1_i32 k0_t1
  let c8_i32_43 : BitVec 32 := 8#32
  let v79 : BitVec 32 := Scalar.muli arg21 c8_i32_43
  let c3_i32_44 : BitVec 32 := 3#32
  let v80 : BitVec 32 := Scalar.addi v79 c3_i32_44
  let v81 : BitVec 32 := Scalar.addi c0_i32_45 v80
  let v82 : Index := Scalar.indexCast v81
  ![v82.toNat]
def k0_off11 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32_43 : BitVec 32 := 8#32
  let v79 : BitVec 32 := Scalar.muli arg21 c8_i32_43
  let c3_i32_44 : BitVec 32 := 3#32
  let v80 : BitVec 32 := Scalar.addi v79 c3_i32_44
  let c0_i32_47 : BitVec 32 := 0#32
  ![v80.toNat, 0]
def k0_off12 (v83 : BitVec 32) : Fin 2 → Nat :=
  let c2_i32_46 : BitVec 32 := 2#32
  let v84 : BitVec 32 := Scalar.shrui v83 c2_i32_46
  let c0_i32_48 : BitVec 32 := 0#32
  ![v84.toNat, 0]

def k0_chk4 (v83 : BitVec 32) : Prop :=
  (∀ a, (k0_off12 v83) a + S1x2880.size a ≤ S15000x2880.size a)
theorem k0_off12_inb : ∀ (v83 : BitVec 32) (k0_hw4 : k0_chk4 v83), ∀ a, (k0_off12 v83) a + S1x2880.size a ≤ S15000x2880.size a := fun v83 k0_hw4 => k0_hw4

def k0_off13 (k0_t1 : Fin k0_t1_loop.trips) : Fin 1 → Nat :=
  let c0_i32_50 : BitVec 32 := 0#32
  let c0_i32 : BitVec 32 := 0#32
  let c1_i32 : BitVec 32 := 1#32
  let arg21 : BitVec 32 := Scf.iv c0_i32 c1_i32 k0_t1
  let c8_i32_49 : BitVec 32 := 8#32
  let v87 : BitVec 32 := Scalar.muli arg21 c8_i32_49
  let c4_i32 : BitVec 32 := 4#32
  let v88 : BitVec 32 := Scalar.addi v87 c4_i32
  let v89 : BitVec 32 := Scalar.addi c0_i32_50 v88
  let v90 : Index := Scalar.indexCast v89
  ![v90.toNat]
def k0_off14 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32_49 : BitVec 32 := 8#32
  let v87 : BitVec 32 := Scalar.muli arg21 c8_i32_49
  let c4_i32 : BitVec 32 := 4#32
  let v88 : BitVec 32 := Scalar.addi v87 c4_i32
  let c0_i32_52 : BitVec 32 := 0#32
  ![v88.toNat, 0]
def k0_off15 (v91 : BitVec 32) : Fin 2 → Nat :=
  let c2_i32_51 : BitVec 32 := 2#32
  let v92 : BitVec 32 := Scalar.shrui v91 c2_i32_51
  let c0_i32_53 : BitVec 32 := 0#32
  ![v92.toNat, 0]

def k0_chk5 (v91 : BitVec 32) : Prop :=
  (∀ a, (k0_off15 v91) a + S1x2880.size a ≤ S15000x2880.size a)
theorem k0_off15_inb : ∀ (v91 : BitVec 32) (k0_hw5 : k0_chk5 v91), ∀ a, (k0_off15 v91) a + S1x2880.size a ≤ S15000x2880.size a := fun v91 k0_hw5 => k0_hw5

def k0_off16 (k0_t1 : Fin k0_t1_loop.trips) : Fin 1 → Nat :=
  let c0_i32_55 : BitVec 32 := 0#32
  let c0_i32 : BitVec 32 := 0#32
  let c1_i32 : BitVec 32 := 1#32
  let arg21 : BitVec 32 := Scf.iv c0_i32 c1_i32 k0_t1
  let c8_i32_54 : BitVec 32 := 8#32
  let v95 : BitVec 32 := Scalar.muli arg21 c8_i32_54
  let c5_i32 : BitVec 32 := 5#32
  let v96 : BitVec 32 := Scalar.addi v95 c5_i32
  let v97 : BitVec 32 := Scalar.addi c0_i32_55 v96
  let v98 : Index := Scalar.indexCast v97
  ![v98.toNat]
def k0_off17 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32_54 : BitVec 32 := 8#32
  let v95 : BitVec 32 := Scalar.muli arg21 c8_i32_54
  let c5_i32 : BitVec 32 := 5#32
  let v96 : BitVec 32 := Scalar.addi v95 c5_i32
  let c0_i32_57 : BitVec 32 := 0#32
  ![v96.toNat, 0]
def k0_off18 (v99 : BitVec 32) : Fin 2 → Nat :=
  let c2_i32_56 : BitVec 32 := 2#32
  let v100 : BitVec 32 := Scalar.shrui v99 c2_i32_56
  let c0_i32_58 : BitVec 32 := 0#32
  ![v100.toNat, 0]

def k0_chk6 (v99 : BitVec 32) : Prop :=
  (∀ a, (k0_off18 v99) a + S1x2880.size a ≤ S15000x2880.size a)
theorem k0_off18_inb : ∀ (v99 : BitVec 32) (k0_hw6 : k0_chk6 v99), ∀ a, (k0_off18 v99) a + S1x2880.size a ≤ S15000x2880.size a := fun v99 k0_hw6 => k0_hw6

def k0_off19 (k0_t1 : Fin k0_t1_loop.trips) : Fin 1 → Nat :=
  let c0_i32_61 : BitVec 32 := 0#32
  let c0_i32 : BitVec 32 := 0#32
  let c1_i32 : BitVec 32 := 1#32
  let arg21 : BitVec 32 := Scf.iv c0_i32 c1_i32 k0_t1
  let c8_i32_59 : BitVec 32 := 8#32
  let v103 : BitVec 32 := Scalar.muli arg21 c8_i32_59
  let c6_i32_60 : BitVec 32 := 6#32
  let v104 : BitVec 32 := Scalar.addi v103 c6_i32_60
  let v105 : BitVec 32 := Scalar.addi c0_i32_61 v104
  let v106 : Index := Scalar.indexCast v105
  ![v106.toNat]
def k0_off20 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32_59 : BitVec 32 := 8#32
  let v103 : BitVec 32 := Scalar.muli arg21 c8_i32_59
  let c6_i32_60 : BitVec 32 := 6#32
  let v104 : BitVec 32 := Scalar.addi v103 c6_i32_60
  let c0_i32_63 : BitVec 32 := 0#32
  ![v104.toNat, 0]
def k0_off21 (v107 : BitVec 32) : Fin 2 → Nat :=
  let c2_i32_62 : BitVec 32 := 2#32
  let v108 : BitVec 32 := Scalar.shrui v107 c2_i32_62
  let c0_i32_64 : BitVec 32 := 0#32
  ![v108.toNat, 0]

def k0_chk7 (v107 : BitVec 32) : Prop :=
  (∀ a, (k0_off21 v107) a + S1x2880.size a ≤ S15000x2880.size a)
theorem k0_off21_inb : ∀ (v107 : BitVec 32) (k0_hw7 : k0_chk7 v107), ∀ a, (k0_off21 v107) a + S1x2880.size a ≤ S15000x2880.size a := fun v107 k0_hw7 => k0_hw7

def k0_off22 (k0_t1 : Fin k0_t1_loop.trips) : Fin 1 → Nat :=
  let c0_i32_66 : BitVec 32 := 0#32
  let c0_i32 : BitVec 32 := 0#32
  let c1_i32 : BitVec 32 := 1#32
  let arg21 : BitVec 32 := Scf.iv c0_i32 c1_i32 k0_t1
  let c8_i32_65 : BitVec 32 := 8#32
  let v111 : BitVec 32 := Scalar.muli arg21 c8_i32_65
  let c7_i32 : BitVec 32 := 7#32
  let v112 : BitVec 32 := Scalar.addi v111 c7_i32
  let v113 : BitVec 32 := Scalar.addi c0_i32_66 v112
  let v114 : Index := Scalar.indexCast v113
  ![v114.toNat]
def k0_off23 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32_65 : BitVec 32 := 8#32
  let v111 : BitVec 32 := Scalar.muli arg21 c8_i32_65
  let c7_i32 : BitVec 32 := 7#32
  let v112 : BitVec 32 := Scalar.addi v111 c7_i32
  let c0_i32_68 : BitVec 32 := 0#32
  ![v112.toNat, 0]
def k0_off24 (v115 : BitVec 32) : Fin 2 → Nat :=
  let c2_i32_67 : BitVec 32 := 2#32
  let v116 : BitVec 32 := Scalar.shrui v115 c2_i32_67
  let c0_i32_69 : BitVec 32 := 0#32
  ![v116.toNat, 0]

def k0_chk8 (v115 : BitVec 32) : Prop :=
  (∀ a, (k0_off24 v115) a + S1x2880.size a ≤ S15000x2880.size a)
theorem k0_off24_inb : ∀ (v115 : BitVec 32) (k0_hw8 : k0_chk8 v115), ∀ a, (k0_off24 v115) a + S1x2880.size a ≤ S15000x2880.size a := fun v115 k0_hw8 => k0_hw8

@[reducible] def k0_t2_loop : Scf.Loop 32 :=
  let c0_i32_2 : BitVec 32 := 0#32
  let c32_i32 : BitVec 32 := 32#32
  let v2 : BitVec 32 := Scalar.addi c0_i32_2 c32_i32
  let c1_i32_3 : BitVec 32 := 1#32
  ⟨c0_i32_2, v2, c1_i32_3⟩
def k0_off25 (k0_t2 : Fin k0_t2_loop.trips) : Fin 1 → Nat :=
  let c0_i32_28 : BitVec 32 := 0#32
  let c0_i32_2 : BitVec 32 := 0#32
  let c1_i32_3 : BitVec 32 := 1#32
  let arg21 : BitVec 32 := Scf.iv c0_i32_2 c1_i32_3 k0_t2
  let c8_i32 : BitVec 32 := 8#32
  let v55 : BitVec 32 := Scalar.muli arg21 c8_i32
  let c0_i32_27 : BitVec 32 := 0#32
  let v56 : BitVec 32 := Scalar.addi v55 c0_i32_27
  let v57 : BitVec 32 := Scalar.addi c0_i32_28 v56
  let v58 : Index := Scalar.indexCast v57
  ![v58.toNat]
def k0_off26 : Fin 1 → Nat :=
  let c0_i32_1 : BitVec 32 := 0#32
  let c3_i32 : BitVec 32 := 3#32
  let v1 : BitVec 32 := Scalar.remsi c0_i32_1 c3_i32
  ![v1.toNat]
def k0_off27 (k0_t2 : Fin k0_t2_loop.trips) : Fin 3 → Nat :=
  let c0_i32_1 : BitVec 32 := 0#32
  let c3_i32 : BitVec 32 := 3#32
  let v1 : BitVec 32 := Scalar.remsi c0_i32_1 c3_i32
  let c0_i32_2 : BitVec 32 := 0#32
  let c1_i32_3 : BitVec 32 := 1#32
  let arg21 : BitVec 32 := Scf.iv c0_i32_2 c1_i32_3 k0_t2
  let c8_i32 : BitVec 32 := 8#32
  let v55 : BitVec 32 := Scalar.muli arg21 c8_i32
  let c0_i32_27 : BitVec 32 := 0#32
  let v56 : BitVec 32 := Scalar.addi v55 c0_i32_27
  let c0_i32_29 : BitVec 32 := 0#32
  ![v1.toNat, v56.toNat, 0]
def k0_off28 (v59 : BitVec 32) : Fin 2 → Nat :=
  let c2_i32 : BitVec 32 := 2#32
  let v60 : BitVec 32 := Scalar.shrui v59 c2_i32
  let c0_i32_30 : BitVec 32 := 0#32
  ![v60.toNat, 0]

def k0_chk9 (v59 : BitVec 32) : Prop :=
  (∀ a, (k0_off28 v59) a + S1x2880.size a ≤ S15000x2880.size a)
theorem k0_off28_inb : ∀ (v59 : BitVec 32) (k0_hw9 : k0_chk9 v59), ∀ a, (k0_off28 v59) a + S1x2880.size a ≤ S15000x2880.size a := fun v59 k0_hw9 => k0_hw9

def k0_off29 (k0_t2 : Fin k0_t2_loop.trips) : Fin 1 → Nat :=
  let c0_i32_33 : BitVec 32 := 0#32
  let c0_i32_2 : BitVec 32 := 0#32
  let c1_i32_3 : BitVec 32 := 1#32
  let arg21 : BitVec 32 := Scf.iv c0_i32_2 c1_i32_3 k0_t2
  let c8_i32_31 : BitVec 32 := 8#32
  let v66 : BitVec 32 := Scalar.muli arg21 c8_i32_31
  let c1_i32_32 : BitVec 32 := 1#32
  let v67 : BitVec 32 := Scalar.addi v66 c1_i32_32
  let v68 : BitVec 32 := Scalar.addi c0_i32_33 v67
  let v69 : Index := Scalar.indexCast v68
  ![v69.toNat]
def k0_off30 : Fin 1 → Nat :=
  let c0_i32_1 : BitVec 32 := 0#32
  let c3_i32 : BitVec 32 := 3#32
  let v1 : BitVec 32 := Scalar.remsi c0_i32_1 c3_i32
  ![v1.toNat]
def k0_off31 (k0_t2 : Fin k0_t2_loop.trips) : Fin 3 → Nat :=
  let c0_i32_1 : BitVec 32 := 0#32
  let c3_i32 : BitVec 32 := 3#32
  let v1 : BitVec 32 := Scalar.remsi c0_i32_1 c3_i32
  let c0_i32_2 : BitVec 32 := 0#32
  let c1_i32_3 : BitVec 32 := 1#32
  let arg21 : BitVec 32 := Scf.iv c0_i32_2 c1_i32_3 k0_t2
  let c8_i32_31 : BitVec 32 := 8#32
  let v66 : BitVec 32 := Scalar.muli arg21 c8_i32_31
  let c1_i32_32 : BitVec 32 := 1#32
  let v67 : BitVec 32 := Scalar.addi v66 c1_i32_32
  let c0_i32_35 : BitVec 32 := 0#32
  ![v1.toNat, v67.toNat, 0]
def k0_off32 (v70 : BitVec 32) : Fin 2 → Nat :=
  let c2_i32_34 : BitVec 32 := 2#32
  let v71 : BitVec 32 := Scalar.shrui v70 c2_i32_34
  let c0_i32_36 : BitVec 32 := 0#32
  ![v71.toNat, 0]

def k0_chk10 (v70 : BitVec 32) : Prop :=
  (∀ a, (k0_off32 v70) a + S1x2880.size a ≤ S15000x2880.size a)
theorem k0_off32_inb : ∀ (v70 : BitVec 32) (k0_hw10 : k0_chk10 v70), ∀ a, (k0_off32 v70) a + S1x2880.size a ≤ S15000x2880.size a := fun v70 k0_hw10 => k0_hw10

def k0_off33 (k0_t2 : Fin k0_t2_loop.trips) : Fin 1 → Nat :=
  let c0_i32_39 : BitVec 32 := 0#32
  let c0_i32_2 : BitVec 32 := 0#32
  let c1_i32_3 : BitVec 32 := 1#32
  let arg21 : BitVec 32 := Scf.iv c0_i32_2 c1_i32_3 k0_t2
  let c8_i32_37 : BitVec 32 := 8#32
  let v77 : BitVec 32 := Scalar.muli arg21 c8_i32_37
  let c2_i32_38 : BitVec 32 := 2#32
  let v78 : BitVec 32 := Scalar.addi v77 c2_i32_38
  let v79 : BitVec 32 := Scalar.addi c0_i32_39 v78
  let v80 : Index := Scalar.indexCast v79
  ![v80.toNat]
def k0_off34 : Fin 1 → Nat :=
  let c0_i32_1 : BitVec 32 := 0#32
  let c3_i32 : BitVec 32 := 3#32
  let v1 : BitVec 32 := Scalar.remsi c0_i32_1 c3_i32
  ![v1.toNat]
def k0_off35 (k0_t2 : Fin k0_t2_loop.trips) : Fin 3 → Nat :=
  let c0_i32_1 : BitVec 32 := 0#32
  let c3_i32 : BitVec 32 := 3#32
  let v1 : BitVec 32 := Scalar.remsi c0_i32_1 c3_i32
  let c0_i32_2 : BitVec 32 := 0#32
  let c1_i32_3 : BitVec 32 := 1#32
  let arg21 : BitVec 32 := Scf.iv c0_i32_2 c1_i32_3 k0_t2
  let c8_i32_37 : BitVec 32 := 8#32
  let v77 : BitVec 32 := Scalar.muli arg21 c8_i32_37
  let c2_i32_38 : BitVec 32 := 2#32
  let v78 : BitVec 32 := Scalar.addi v77 c2_i32_38
  let c0_i32_41 : BitVec 32 := 0#32
  ![v1.toNat, v78.toNat, 0]
def k0_off36 (v81 : BitVec 32) : Fin 2 → Nat :=
  let c2_i32_40 : BitVec 32 := 2#32
  let v82 : BitVec 32 := Scalar.shrui v81 c2_i32_40
  let c0_i32_42 : BitVec 32 := 0#32
  ![v82.toNat, 0]

def k0_chk11 (v81 : BitVec 32) : Prop :=
  (∀ a, (k0_off36 v81) a + S1x2880.size a ≤ S15000x2880.size a)
theorem k0_off36_inb : ∀ (v81 : BitVec 32) (k0_hw11 : k0_chk11 v81), ∀ a, (k0_off36 v81) a + S1x2880.size a ≤ S15000x2880.size a := fun v81 k0_hw11 => k0_hw11

def k0_off37 (k0_t2 : Fin k0_t2_loop.trips) : Fin 1 → Nat :=
  let c0_i32_45 : BitVec 32 := 0#32
  let c0_i32_2 : BitVec 32 := 0#32
  let c1_i32_3 : BitVec 32 := 1#32
  let arg21 : BitVec 32 := Scf.iv c0_i32_2 c1_i32_3 k0_t2
  let c8_i32_43 : BitVec 32 := 8#32
  let v88 : BitVec 32 := Scalar.muli arg21 c8_i32_43
  let c3_i32_44 : BitVec 32 := 3#32
  let v89 : BitVec 32 := Scalar.addi v88 c3_i32_44
  let v90 : BitVec 32 := Scalar.addi c0_i32_45 v89
  let v91 : Index := Scalar.indexCast v90
  ![v91.toNat]
def k0_off38 : Fin 1 → Nat :=
  let c0_i32_1 : BitVec 32 := 0#32
  let c3_i32 : BitVec 32 := 3#32
  let v1 : BitVec 32 := Scalar.remsi c0_i32_1 c3_i32
  ![v1.toNat]
def k0_off39 (k0_t2 : Fin k0_t2_loop.trips) : Fin 3 → Nat :=
  let c0_i32_1 : BitVec 32 := 0#32
  let c3_i32 : BitVec 32 := 3#32
  let v1 : BitVec 32 := Scalar.remsi c0_i32_1 c3_i32
  let c0_i32_2 : BitVec 32 := 0#32
  let c1_i32_3 : BitVec 32 := 1#32
  let arg21 : BitVec 32 := Scf.iv c0_i32_2 c1_i32_3 k0_t2
  let c8_i32_43 : BitVec 32 := 8#32
  let v88 : BitVec 32 := Scalar.muli arg21 c8_i32_43
  let c3_i32_44 : BitVec 32 := 3#32
  let v89 : BitVec 32 := Scalar.addi v88 c3_i32_44
  let c0_i32_47 : BitVec 32 := 0#32
  ![v1.toNat, v89.toNat, 0]
def k0_off40 (v92 : BitVec 32) : Fin 2 → Nat :=
  let c2_i32_46 : BitVec 32 := 2#32
  let v93 : BitVec 32 := Scalar.shrui v92 c2_i32_46
  let c0_i32_48 : BitVec 32 := 0#32
  ![v93.toNat, 0]

def k0_chk12 (v92 : BitVec 32) : Prop :=
  (∀ a, (k0_off40 v92) a + S1x2880.size a ≤ S15000x2880.size a)
theorem k0_off40_inb : ∀ (v92 : BitVec 32) (k0_hw12 : k0_chk12 v92), ∀ a, (k0_off40 v92) a + S1x2880.size a ≤ S15000x2880.size a := fun v92 k0_hw12 => k0_hw12

def k0_off41 (k0_t2 : Fin k0_t2_loop.trips) : Fin 1 → Nat :=
  let c0_i32_50 : BitVec 32 := 0#32
  let c0_i32_2 : BitVec 32 := 0#32
  let c1_i32_3 : BitVec 32 := 1#32
  let arg21 : BitVec 32 := Scf.iv c0_i32_2 c1_i32_3 k0_t2
  let c8_i32_49 : BitVec 32 := 8#32
  let v99 : BitVec 32 := Scalar.muli arg21 c8_i32_49
  let c4_i32 : BitVec 32 := 4#32
  let v100 : BitVec 32 := Scalar.addi v99 c4_i32
  let v101 : BitVec 32 := Scalar.addi c0_i32_50 v100
  let v102 : Index := Scalar.indexCast v101
  ![v102.toNat]
def k0_off42 : Fin 1 → Nat :=
  let c0_i32_1 : BitVec 32 := 0#32
  let c3_i32 : BitVec 32 := 3#32
  let v1 : BitVec 32 := Scalar.remsi c0_i32_1 c3_i32
  ![v1.toNat]
def k0_off43 (k0_t2 : Fin k0_t2_loop.trips) : Fin 3 → Nat :=
  let c0_i32_1 : BitVec 32 := 0#32
  let c3_i32 : BitVec 32 := 3#32
  let v1 : BitVec 32 := Scalar.remsi c0_i32_1 c3_i32
  let c0_i32_2 : BitVec 32 := 0#32
  let c1_i32_3 : BitVec 32 := 1#32
  let arg21 : BitVec 32 := Scf.iv c0_i32_2 c1_i32_3 k0_t2
  let c8_i32_49 : BitVec 32 := 8#32
  let v99 : BitVec 32 := Scalar.muli arg21 c8_i32_49
  let c4_i32 : BitVec 32 := 4#32
  let v100 : BitVec 32 := Scalar.addi v99 c4_i32
  let c0_i32_52 : BitVec 32 := 0#32
  ![v1.toNat, v100.toNat, 0]
def k0_off44 (v103 : BitVec 32) : Fin 2 → Nat :=
  let c2_i32_51 : BitVec 32 := 2#32
  let v104 : BitVec 32 := Scalar.shrui v103 c2_i32_51
  let c0_i32_53 : BitVec 32 := 0#32
  ![v104.toNat, 0]

def k0_chk13 (v103 : BitVec 32) : Prop :=
  (∀ a, (k0_off44 v103) a + S1x2880.size a ≤ S15000x2880.size a)
theorem k0_off44_inb : ∀ (v103 : BitVec 32) (k0_hw13 : k0_chk13 v103), ∀ a, (k0_off44 v103) a + S1x2880.size a ≤ S15000x2880.size a := fun v103 k0_hw13 => k0_hw13

def k0_off45 (k0_t2 : Fin k0_t2_loop.trips) : Fin 1 → Nat :=
  let c0_i32_55 : BitVec 32 := 0#32
  let c0_i32_2 : BitVec 32 := 0#32
  let c1_i32_3 : BitVec 32 := 1#32
  let arg21 : BitVec 32 := Scf.iv c0_i32_2 c1_i32_3 k0_t2
  let c8_i32_54 : BitVec 32 := 8#32
  let v110 : BitVec 32 := Scalar.muli arg21 c8_i32_54
  let c5_i32 : BitVec 32 := 5#32
  let v111 : BitVec 32 := Scalar.addi v110 c5_i32
  let v112 : BitVec 32 := Scalar.addi c0_i32_55 v111
  let v113 : Index := Scalar.indexCast v112
  ![v113.toNat]
def k0_off46 : Fin 1 → Nat :=
  let c0_i32_1 : BitVec 32 := 0#32
  let c3_i32 : BitVec 32 := 3#32
  let v1 : BitVec 32 := Scalar.remsi c0_i32_1 c3_i32
  ![v1.toNat]
def k0_off47 (k0_t2 : Fin k0_t2_loop.trips) : Fin 3 → Nat :=
  let c0_i32_1 : BitVec 32 := 0#32
  let c3_i32 : BitVec 32 := 3#32
  let v1 : BitVec 32 := Scalar.remsi c0_i32_1 c3_i32
  let c0_i32_2 : BitVec 32 := 0#32
  let c1_i32_3 : BitVec 32 := 1#32
  let arg21 : BitVec 32 := Scf.iv c0_i32_2 c1_i32_3 k0_t2
  let c8_i32_54 : BitVec 32 := 8#32
  let v110 : BitVec 32 := Scalar.muli arg21 c8_i32_54
  let c5_i32 : BitVec 32 := 5#32
  let v111 : BitVec 32 := Scalar.addi v110 c5_i32
  let c0_i32_57 : BitVec 32 := 0#32
  ![v1.toNat, v111.toNat, 0]
def k0_off48 (v114 : BitVec 32) : Fin 2 → Nat :=
  let c2_i32_56 : BitVec 32 := 2#32
  let v115 : BitVec 32 := Scalar.shrui v114 c2_i32_56
  let c0_i32_58 : BitVec 32 := 0#32
  ![v115.toNat, 0]

def k0_chk14 (v114 : BitVec 32) : Prop :=
  (∀ a, (k0_off48 v114) a + S1x2880.size a ≤ S15000x2880.size a)
theorem k0_off48_inb : ∀ (v114 : BitVec 32) (k0_hw14 : k0_chk14 v114), ∀ a, (k0_off48 v114) a + S1x2880.size a ≤ S15000x2880.size a := fun v114 k0_hw14 => k0_hw14

def k0_off49 (k0_t2 : Fin k0_t2_loop.trips) : Fin 1 → Nat :=
  let c0_i32_61 : BitVec 32 := 0#32
  let c0_i32_2 : BitVec 32 := 0#32
  let c1_i32_3 : BitVec 32 := 1#32
  let arg21 : BitVec 32 := Scf.iv c0_i32_2 c1_i32_3 k0_t2
  let c8_i32_59 : BitVec 32 := 8#32
  let v121 : BitVec 32 := Scalar.muli arg21 c8_i32_59
  let c6_i32_60 : BitVec 32 := 6#32
  let v122 : BitVec 32 := Scalar.addi v121 c6_i32_60
  let v123 : BitVec 32 := Scalar.addi c0_i32_61 v122
  let v124 : Index := Scalar.indexCast v123
  ![v124.toNat]
def k0_off50 : Fin 1 → Nat :=
  let c0_i32_1 : BitVec 32 := 0#32
  let c3_i32 : BitVec 32 := 3#32
  let v1 : BitVec 32 := Scalar.remsi c0_i32_1 c3_i32
  ![v1.toNat]
def k0_off51 (k0_t2 : Fin k0_t2_loop.trips) : Fin 3 → Nat :=
  let c0_i32_1 : BitVec 32 := 0#32
  let c3_i32 : BitVec 32 := 3#32
  let v1 : BitVec 32 := Scalar.remsi c0_i32_1 c3_i32
  let c0_i32_2 : BitVec 32 := 0#32
  let c1_i32_3 : BitVec 32 := 1#32
  let arg21 : BitVec 32 := Scf.iv c0_i32_2 c1_i32_3 k0_t2
  let c8_i32_59 : BitVec 32 := 8#32
  let v121 : BitVec 32 := Scalar.muli arg21 c8_i32_59
  let c6_i32_60 : BitVec 32 := 6#32
  let v122 : BitVec 32 := Scalar.addi v121 c6_i32_60
  let c0_i32_63 : BitVec 32 := 0#32
  ![v1.toNat, v122.toNat, 0]
def k0_off52 (v125 : BitVec 32) : Fin 2 → Nat :=
  let c2_i32_62 : BitVec 32 := 2#32
  let v126 : BitVec 32 := Scalar.shrui v125 c2_i32_62
  let c0_i32_64 : BitVec 32 := 0#32
  ![v126.toNat, 0]

def k0_chk15 (v125 : BitVec 32) : Prop :=
  (∀ a, (k0_off52 v125) a + S1x2880.size a ≤ S15000x2880.size a)
theorem k0_off52_inb : ∀ (v125 : BitVec 32) (k0_hw15 : k0_chk15 v125), ∀ a, (k0_off52 v125) a + S1x2880.size a ≤ S15000x2880.size a := fun v125 k0_hw15 => k0_hw15

def k0_off53 (k0_t2 : Fin k0_t2_loop.trips) : Fin 1 → Nat :=
  let c0_i32_66 : BitVec 32 := 0#32
  let c0_i32_2 : BitVec 32 := 0#32
  let c1_i32_3 : BitVec 32 := 1#32
  let arg21 : BitVec 32 := Scf.iv c0_i32_2 c1_i32_3 k0_t2
  let c8_i32_65 : BitVec 32 := 8#32
  let v132 : BitVec 32 := Scalar.muli arg21 c8_i32_65
  let c7_i32 : BitVec 32 := 7#32
  let v133 : BitVec 32 := Scalar.addi v132 c7_i32
  let v134 : BitVec 32 := Scalar.addi c0_i32_66 v133
  let v135 : Index := Scalar.indexCast v134
  ![v135.toNat]
def k0_off54 : Fin 1 → Nat :=
  let c0_i32_1 : BitVec 32 := 0#32
  let c3_i32 : BitVec 32 := 3#32
  let v1 : BitVec 32 := Scalar.remsi c0_i32_1 c3_i32
  ![v1.toNat]
def k0_off55 (k0_t2 : Fin k0_t2_loop.trips) : Fin 3 → Nat :=
  let c0_i32_1 : BitVec 32 := 0#32
  let c3_i32 : BitVec 32 := 3#32
  let v1 : BitVec 32 := Scalar.remsi c0_i32_1 c3_i32
  let c0_i32_2 : BitVec 32 := 0#32
  let c1_i32_3 : BitVec 32 := 1#32
  let arg21 : BitVec 32 := Scf.iv c0_i32_2 c1_i32_3 k0_t2
  let c8_i32_65 : BitVec 32 := 8#32
  let v132 : BitVec 32 := Scalar.muli arg21 c8_i32_65
  let c7_i32 : BitVec 32 := 7#32
  let v133 : BitVec 32 := Scalar.addi v132 c7_i32
  let c0_i32_68 : BitVec 32 := 0#32
  ![v1.toNat, v133.toNat, 0]
def k0_off56 (v136 : BitVec 32) : Fin 2 → Nat :=
  let c2_i32_67 : BitVec 32 := 2#32
  let v137 : BitVec 32 := Scalar.shrui v136 c2_i32_67
  let c0_i32_69 : BitVec 32 := 0#32
  ![v137.toNat, 0]

def k0_chk16 (v136 : BitVec 32) : Prop :=
  (∀ a, (k0_off56 v136) a + S1x2880.size a ≤ S15000x2880.size a)
theorem k0_off56_inb : ∀ (v136 : BitVec 32) (k0_hw16 : k0_chk16 v136), ∀ a, (k0_off56 v136) a + S1x2880.size a ≤ S15000x2880.size a := fun v136 k0_hw16 => k0_hw16

@[reducible] def k0_t3_loop : Scf.Loop 32 :=
  let c0_i32_7 : BitVec 32 := 0#32
  let c32_i32_8 : BitVec 32 := 32#32
  let v4 : BitVec 32 := Scalar.addi c0_i32_7 c32_i32_8
  let c1_i32_9 : BitVec 32 := 1#32
  ⟨c0_i32_7, v4, c1_i32_9⟩
def k0_off57 (k0_t3 : Fin k0_t3_loop.trips) : Fin 1 → Nat :=
  let c256_i32 : BitVec 32 := 256#32
  let c0_i32_7 : BitVec 32 := 0#32
  let c1_i32_9 : BitVec 32 := 1#32
  let arg21 : BitVec 32 := Scf.iv c0_i32_7 c1_i32_9 k0_t3
  let c8_i32 : BitVec 32 := 8#32
  let v55 : BitVec 32 := Scalar.muli arg21 c8_i32
  let c0_i32_27 : BitVec 32 := 0#32
  let v56 : BitVec 32 := Scalar.addi v55 c0_i32_27
  let v57 : BitVec 32 := Scalar.addi c256_i32 v56
  let v58 : Index := Scalar.indexCast v57
  ![v58.toNat]
def k0_off58 : Fin 1 → Nat :=
  let c1_i32_5 : BitVec 32 := 1#32
  let c3_i32_6 : BitVec 32 := 3#32
  let v3 : BitVec 32 := Scalar.remsi c1_i32_5 c3_i32_6
  ![v3.toNat]
def k0_off59 (k0_t3 : Fin k0_t3_loop.trips) : Fin 3 → Nat :=
  let c1_i32_5 : BitVec 32 := 1#32
  let c3_i32_6 : BitVec 32 := 3#32
  let v3 : BitVec 32 := Scalar.remsi c1_i32_5 c3_i32_6
  let c0_i32_7 : BitVec 32 := 0#32
  let c1_i32_9 : BitVec 32 := 1#32
  let arg21 : BitVec 32 := Scf.iv c0_i32_7 c1_i32_9 k0_t3
  let c8_i32 : BitVec 32 := 8#32
  let v55 : BitVec 32 := Scalar.muli arg21 c8_i32
  let c0_i32_27 : BitVec 32 := 0#32
  let v56 : BitVec 32 := Scalar.addi v55 c0_i32_27
  let c0_i32_28 : BitVec 32 := 0#32
  ![v3.toNat, v56.toNat, 0]
def k0_off60 (v59 : BitVec 32) : Fin 2 → Nat :=
  let c2_i32 : BitVec 32 := 2#32
  let v60 : BitVec 32 := Scalar.shrui v59 c2_i32
  let c0_i32_29 : BitVec 32 := 0#32
  ![v60.toNat, 0]

def k0_chk17 (v59 : BitVec 32) : Prop :=
  (∀ a, (k0_off60 v59) a + S1x2880.size a ≤ S15000x2880.size a)
theorem k0_off60_inb : ∀ (v59 : BitVec 32) (k0_hw17 : k0_chk17 v59), ∀ a, (k0_off60 v59) a + S1x2880.size a ≤ S15000x2880.size a := fun v59 k0_hw17 => k0_hw17

def k0_off61 (k0_t3 : Fin k0_t3_loop.trips) : Fin 1 → Nat :=
  let c256_i32_32 : BitVec 32 := 256#32
  let c0_i32_7 : BitVec 32 := 0#32
  let c1_i32_9 : BitVec 32 := 1#32
  let arg21 : BitVec 32 := Scf.iv c0_i32_7 c1_i32_9 k0_t3
  let c8_i32_30 : BitVec 32 := 8#32
  let v66 : BitVec 32 := Scalar.muli arg21 c8_i32_30
  let c1_i32_31 : BitVec 32 := 1#32
  let v67 : BitVec 32 := Scalar.addi v66 c1_i32_31
  let v68 : BitVec 32 := Scalar.addi c256_i32_32 v67
  let v69 : Index := Scalar.indexCast v68
  ![v69.toNat]
def k0_off62 : Fin 1 → Nat :=
  let c1_i32_5 : BitVec 32 := 1#32
  let c3_i32_6 : BitVec 32 := 3#32
  let v3 : BitVec 32 := Scalar.remsi c1_i32_5 c3_i32_6
  ![v3.toNat]
def k0_off63 (k0_t3 : Fin k0_t3_loop.trips) : Fin 3 → Nat :=
  let c1_i32_5 : BitVec 32 := 1#32
  let c3_i32_6 : BitVec 32 := 3#32
  let v3 : BitVec 32 := Scalar.remsi c1_i32_5 c3_i32_6
  let c0_i32_7 : BitVec 32 := 0#32
  let c1_i32_9 : BitVec 32 := 1#32
  let arg21 : BitVec 32 := Scf.iv c0_i32_7 c1_i32_9 k0_t3
  let c8_i32_30 : BitVec 32 := 8#32
  let v66 : BitVec 32 := Scalar.muli arg21 c8_i32_30
  let c1_i32_31 : BitVec 32 := 1#32
  let v67 : BitVec 32 := Scalar.addi v66 c1_i32_31
  let c0_i32_34 : BitVec 32 := 0#32
  ![v3.toNat, v67.toNat, 0]
def k0_off64 (v70 : BitVec 32) : Fin 2 → Nat :=
  let c2_i32_33 : BitVec 32 := 2#32
  let v71 : BitVec 32 := Scalar.shrui v70 c2_i32_33
  let c0_i32_35 : BitVec 32 := 0#32
  ![v71.toNat, 0]

def k0_chk18 (v70 : BitVec 32) : Prop :=
  (∀ a, (k0_off64 v70) a + S1x2880.size a ≤ S15000x2880.size a)
theorem k0_off64_inb : ∀ (v70 : BitVec 32) (k0_hw18 : k0_chk18 v70), ∀ a, (k0_off64 v70) a + S1x2880.size a ≤ S15000x2880.size a := fun v70 k0_hw18 => k0_hw18

def k0_off65 (k0_t3 : Fin k0_t3_loop.trips) : Fin 1 → Nat :=
  let c256_i32_38 : BitVec 32 := 256#32
  let c0_i32_7 : BitVec 32 := 0#32
  let c1_i32_9 : BitVec 32 := 1#32
  let arg21 : BitVec 32 := Scf.iv c0_i32_7 c1_i32_9 k0_t3
  let c8_i32_36 : BitVec 32 := 8#32
  let v77 : BitVec 32 := Scalar.muli arg21 c8_i32_36
  let c2_i32_37 : BitVec 32 := 2#32
  let v78 : BitVec 32 := Scalar.addi v77 c2_i32_37
  let v79 : BitVec 32 := Scalar.addi c256_i32_38 v78
  let v80 : Index := Scalar.indexCast v79
  ![v80.toNat]
def k0_off66 : Fin 1 → Nat :=
  let c1_i32_5 : BitVec 32 := 1#32
  let c3_i32_6 : BitVec 32 := 3#32
  let v3 : BitVec 32 := Scalar.remsi c1_i32_5 c3_i32_6
  ![v3.toNat]
def k0_off67 (k0_t3 : Fin k0_t3_loop.trips) : Fin 3 → Nat :=
  let c1_i32_5 : BitVec 32 := 1#32
  let c3_i32_6 : BitVec 32 := 3#32
  let v3 : BitVec 32 := Scalar.remsi c1_i32_5 c3_i32_6
  let c0_i32_7 : BitVec 32 := 0#32
  let c1_i32_9 : BitVec 32 := 1#32
  let arg21 : BitVec 32 := Scf.iv c0_i32_7 c1_i32_9 k0_t3
  let c8_i32_36 : BitVec 32 := 8#32
  let v77 : BitVec 32 := Scalar.muli arg21 c8_i32_36
  let c2_i32_37 : BitVec 32 := 2#32
  let v78 : BitVec 32 := Scalar.addi v77 c2_i32_37
  let c0_i32_40 : BitVec 32 := 0#32
  ![v3.toNat, v78.toNat, 0]
def k0_off68 (v81 : BitVec 32) : Fin 2 → Nat :=
  let c2_i32_39 : BitVec 32 := 2#32
  let v82 : BitVec 32 := Scalar.shrui v81 c2_i32_39
  let c0_i32_41 : BitVec 32 := 0#32
  ![v82.toNat, 0]

def k0_chk19 (v81 : BitVec 32) : Prop :=
  (∀ a, (k0_off68 v81) a + S1x2880.size a ≤ S15000x2880.size a)
theorem k0_off68_inb : ∀ (v81 : BitVec 32) (k0_hw19 : k0_chk19 v81), ∀ a, (k0_off68 v81) a + S1x2880.size a ≤ S15000x2880.size a := fun v81 k0_hw19 => k0_hw19

def k0_off69 (k0_t3 : Fin k0_t3_loop.trips) : Fin 1 → Nat :=
  let c256_i32_44 : BitVec 32 := 256#32
  let c0_i32_7 : BitVec 32 := 0#32
  let c1_i32_9 : BitVec 32 := 1#32
  let arg21 : BitVec 32 := Scf.iv c0_i32_7 c1_i32_9 k0_t3
  let c8_i32_42 : BitVec 32 := 8#32
  let v88 : BitVec 32 := Scalar.muli arg21 c8_i32_42
  let c3_i32_43 : BitVec 32 := 3#32
  let v89 : BitVec 32 := Scalar.addi v88 c3_i32_43
  let v90 : BitVec 32 := Scalar.addi c256_i32_44 v89
  let v91 : Index := Scalar.indexCast v90
  ![v91.toNat]
def k0_off70 : Fin 1 → Nat :=
  let c1_i32_5 : BitVec 32 := 1#32
  let c3_i32_6 : BitVec 32 := 3#32
  let v3 : BitVec 32 := Scalar.remsi c1_i32_5 c3_i32_6
  ![v3.toNat]
def k0_off71 (k0_t3 : Fin k0_t3_loop.trips) : Fin 3 → Nat :=
  let c1_i32_5 : BitVec 32 := 1#32
  let c3_i32_6 : BitVec 32 := 3#32
  let v3 : BitVec 32 := Scalar.remsi c1_i32_5 c3_i32_6
  let c0_i32_7 : BitVec 32 := 0#32
  let c1_i32_9 : BitVec 32 := 1#32
  let arg21 : BitVec 32 := Scf.iv c0_i32_7 c1_i32_9 k0_t3
  let c8_i32_42 : BitVec 32 := 8#32
  let v88 : BitVec 32 := Scalar.muli arg21 c8_i32_42
  let c3_i32_43 : BitVec 32 := 3#32
  let v89 : BitVec 32 := Scalar.addi v88 c3_i32_43
  let c0_i32_46 : BitVec 32 := 0#32
  ![v3.toNat, v89.toNat, 0]
def k0_off72 (v92 : BitVec 32) : Fin 2 → Nat :=
  let c2_i32_45 : BitVec 32 := 2#32
  let v93 : BitVec 32 := Scalar.shrui v92 c2_i32_45
  let c0_i32_47 : BitVec 32 := 0#32
  ![v93.toNat, 0]

def k0_chk20 (v92 : BitVec 32) : Prop :=
  (∀ a, (k0_off72 v92) a + S1x2880.size a ≤ S15000x2880.size a)
theorem k0_off72_inb : ∀ (v92 : BitVec 32) (k0_hw20 : k0_chk20 v92), ∀ a, (k0_off72 v92) a + S1x2880.size a ≤ S15000x2880.size a := fun v92 k0_hw20 => k0_hw20

def k0_off73 (k0_t3 : Fin k0_t3_loop.trips) : Fin 1 → Nat :=
  let c256_i32_49 : BitVec 32 := 256#32
  let c0_i32_7 : BitVec 32 := 0#32
  let c1_i32_9 : BitVec 32 := 1#32
  let arg21 : BitVec 32 := Scf.iv c0_i32_7 c1_i32_9 k0_t3
  let c8_i32_48 : BitVec 32 := 8#32
  let v99 : BitVec 32 := Scalar.muli arg21 c8_i32_48
  let c4_i32 : BitVec 32 := 4#32
  let v100 : BitVec 32 := Scalar.addi v99 c4_i32
  let v101 : BitVec 32 := Scalar.addi c256_i32_49 v100
  let v102 : Index := Scalar.indexCast v101
  ![v102.toNat]
def k0_off74 : Fin 1 → Nat :=
  let c1_i32_5 : BitVec 32 := 1#32
  let c3_i32_6 : BitVec 32 := 3#32
  let v3 : BitVec 32 := Scalar.remsi c1_i32_5 c3_i32_6
  ![v3.toNat]
def k0_off75 (k0_t3 : Fin k0_t3_loop.trips) : Fin 3 → Nat :=
  let c1_i32_5 : BitVec 32 := 1#32
  let c3_i32_6 : BitVec 32 := 3#32
  let v3 : BitVec 32 := Scalar.remsi c1_i32_5 c3_i32_6
  let c0_i32_7 : BitVec 32 := 0#32
  let c1_i32_9 : BitVec 32 := 1#32
  let arg21 : BitVec 32 := Scf.iv c0_i32_7 c1_i32_9 k0_t3
  let c8_i32_48 : BitVec 32 := 8#32
  let v99 : BitVec 32 := Scalar.muli arg21 c8_i32_48
  let c4_i32 : BitVec 32 := 4#32
  let v100 : BitVec 32 := Scalar.addi v99 c4_i32
  let c0_i32_51 : BitVec 32 := 0#32
  ![v3.toNat, v100.toNat, 0]
def k0_off76 (v103 : BitVec 32) : Fin 2 → Nat :=
  let c2_i32_50 : BitVec 32 := 2#32
  let v104 : BitVec 32 := Scalar.shrui v103 c2_i32_50
  let c0_i32_52 : BitVec 32 := 0#32
  ![v104.toNat, 0]

def k0_chk21 (v103 : BitVec 32) : Prop :=
  (∀ a, (k0_off76 v103) a + S1x2880.size a ≤ S15000x2880.size a)
theorem k0_off76_inb : ∀ (v103 : BitVec 32) (k0_hw21 : k0_chk21 v103), ∀ a, (k0_off76 v103) a + S1x2880.size a ≤ S15000x2880.size a := fun v103 k0_hw21 => k0_hw21

def k0_off77 (k0_t3 : Fin k0_t3_loop.trips) : Fin 1 → Nat :=
  let c256_i32_54 : BitVec 32 := 256#32
  let c0_i32_7 : BitVec 32 := 0#32
  let c1_i32_9 : BitVec 32 := 1#32
  let arg21 : BitVec 32 := Scf.iv c0_i32_7 c1_i32_9 k0_t3
  let c8_i32_53 : BitVec 32 := 8#32
  let v110 : BitVec 32 := Scalar.muli arg21 c8_i32_53
  let c5_i32 : BitVec 32 := 5#32
  let v111 : BitVec 32 := Scalar.addi v110 c5_i32
  let v112 : BitVec 32 := Scalar.addi c256_i32_54 v111
  let v113 : Index := Scalar.indexCast v112
  ![v113.toNat]
def k0_off78 : Fin 1 → Nat :=
  let c1_i32_5 : BitVec 32 := 1#32
  let c3_i32_6 : BitVec 32 := 3#32
  let v3 : BitVec 32 := Scalar.remsi c1_i32_5 c3_i32_6
  ![v3.toNat]
def k0_off79 (k0_t3 : Fin k0_t3_loop.trips) : Fin 3 → Nat :=
  let c1_i32_5 : BitVec 32 := 1#32
  let c3_i32_6 : BitVec 32 := 3#32
  let v3 : BitVec 32 := Scalar.remsi c1_i32_5 c3_i32_6
  let c0_i32_7 : BitVec 32 := 0#32
  let c1_i32_9 : BitVec 32 := 1#32
  let arg21 : BitVec 32 := Scf.iv c0_i32_7 c1_i32_9 k0_t3
  let c8_i32_53 : BitVec 32 := 8#32
  let v110 : BitVec 32 := Scalar.muli arg21 c8_i32_53
  let c5_i32 : BitVec 32 := 5#32
  let v111 : BitVec 32 := Scalar.addi v110 c5_i32
  let c0_i32_56 : BitVec 32 := 0#32
  ![v3.toNat, v111.toNat, 0]
def k0_off80 (v114 : BitVec 32) : Fin 2 → Nat :=
  let c2_i32_55 : BitVec 32 := 2#32
  let v115 : BitVec 32 := Scalar.shrui v114 c2_i32_55
  let c0_i32_57 : BitVec 32 := 0#32
  ![v115.toNat, 0]

def k0_chk22 (v114 : BitVec 32) : Prop :=
  (∀ a, (k0_off80 v114) a + S1x2880.size a ≤ S15000x2880.size a)
theorem k0_off80_inb : ∀ (v114 : BitVec 32) (k0_hw22 : k0_chk22 v114), ∀ a, (k0_off80 v114) a + S1x2880.size a ≤ S15000x2880.size a := fun v114 k0_hw22 => k0_hw22

def k0_off81 (k0_t3 : Fin k0_t3_loop.trips) : Fin 1 → Nat :=
  let c256_i32_60 : BitVec 32 := 256#32
  let c0_i32_7 : BitVec 32 := 0#32
  let c1_i32_9 : BitVec 32 := 1#32
  let arg21 : BitVec 32 := Scf.iv c0_i32_7 c1_i32_9 k0_t3
  let c8_i32_58 : BitVec 32 := 8#32
  let v121 : BitVec 32 := Scalar.muli arg21 c8_i32_58
  let c6_i32_59 : BitVec 32 := 6#32
  let v122 : BitVec 32 := Scalar.addi v121 c6_i32_59
  let v123 : BitVec 32 := Scalar.addi c256_i32_60 v122
  let v124 : Index := Scalar.indexCast v123
  ![v124.toNat]
def k0_off82 : Fin 1 → Nat :=
  let c1_i32_5 : BitVec 32 := 1#32
  let c3_i32_6 : BitVec 32 := 3#32
  let v3 : BitVec 32 := Scalar.remsi c1_i32_5 c3_i32_6
  ![v3.toNat]
def k0_off83 (k0_t3 : Fin k0_t3_loop.trips) : Fin 3 → Nat :=
  let c1_i32_5 : BitVec 32 := 1#32
  let c3_i32_6 : BitVec 32 := 3#32
  let v3 : BitVec 32 := Scalar.remsi c1_i32_5 c3_i32_6
  let c0_i32_7 : BitVec 32 := 0#32
  let c1_i32_9 : BitVec 32 := 1#32
  let arg21 : BitVec 32 := Scf.iv c0_i32_7 c1_i32_9 k0_t3
  let c8_i32_58 : BitVec 32 := 8#32
  let v121 : BitVec 32 := Scalar.muli arg21 c8_i32_58
  let c6_i32_59 : BitVec 32 := 6#32
  let v122 : BitVec 32 := Scalar.addi v121 c6_i32_59
  let c0_i32_62 : BitVec 32 := 0#32
  ![v3.toNat, v122.toNat, 0]
def k0_off84 (v125 : BitVec 32) : Fin 2 → Nat :=
  let c2_i32_61 : BitVec 32 := 2#32
  let v126 : BitVec 32 := Scalar.shrui v125 c2_i32_61
  let c0_i32_63 : BitVec 32 := 0#32
  ![v126.toNat, 0]

def k0_chk23 (v125 : BitVec 32) : Prop :=
  (∀ a, (k0_off84 v125) a + S1x2880.size a ≤ S15000x2880.size a)
theorem k0_off84_inb : ∀ (v125 : BitVec 32) (k0_hw23 : k0_chk23 v125), ∀ a, (k0_off84 v125) a + S1x2880.size a ≤ S15000x2880.size a := fun v125 k0_hw23 => k0_hw23

def k0_off85 (k0_t3 : Fin k0_t3_loop.trips) : Fin 1 → Nat :=
  let c256_i32_65 : BitVec 32 := 256#32
  let c0_i32_7 : BitVec 32 := 0#32
  let c1_i32_9 : BitVec 32 := 1#32
  let arg21 : BitVec 32 := Scf.iv c0_i32_7 c1_i32_9 k0_t3
  let c8_i32_64 : BitVec 32 := 8#32
  let v132 : BitVec 32 := Scalar.muli arg21 c8_i32_64
  let c7_i32 : BitVec 32 := 7#32
  let v133 : BitVec 32 := Scalar.addi v132 c7_i32
  let v134 : BitVec 32 := Scalar.addi c256_i32_65 v133
  let v135 : Index := Scalar.indexCast v134
  ![v135.toNat]
def k0_off86 : Fin 1 → Nat :=
  let c1_i32_5 : BitVec 32 := 1#32
  let c3_i32_6 : BitVec 32 := 3#32
  let v3 : BitVec 32 := Scalar.remsi c1_i32_5 c3_i32_6
  ![v3.toNat]
def k0_off87 (k0_t3 : Fin k0_t3_loop.trips) : Fin 3 → Nat :=
  let c1_i32_5 : BitVec 32 := 1#32
  let c3_i32_6 : BitVec 32 := 3#32
  let v3 : BitVec 32 := Scalar.remsi c1_i32_5 c3_i32_6
  let c0_i32_7 : BitVec 32 := 0#32
  let c1_i32_9 : BitVec 32 := 1#32
  let arg21 : BitVec 32 := Scf.iv c0_i32_7 c1_i32_9 k0_t3
  let c8_i32_64 : BitVec 32 := 8#32
  let v132 : BitVec 32 := Scalar.muli arg21 c8_i32_64
  let c7_i32 : BitVec 32 := 7#32
  let v133 : BitVec 32 := Scalar.addi v132 c7_i32
  let c0_i32_67 : BitVec 32 := 0#32
  ![v3.toNat, v133.toNat, 0]
def k0_off88 (v136 : BitVec 32) : Fin 2 → Nat :=
  let c2_i32_66 : BitVec 32 := 2#32
  let v137 : BitVec 32 := Scalar.shrui v136 c2_i32_66
  let c0_i32_68 : BitVec 32 := 0#32
  ![v137.toNat, 0]

def k0_chk24 (v136 : BitVec 32) : Prop :=
  (∀ a, (k0_off88 v136) a + S1x2880.size a ≤ S15000x2880.size a)
theorem k0_off88_inb : ∀ (v136 : BitVec 32) (k0_hw24 : k0_chk24 v136), ∀ a, (k0_off88 v136) a + S1x2880.size a ≤ S15000x2880.size a := fun v136 k0_hw24 => k0_hw24

@[reducible] def k0_t4_loop : Scf.Loop 32 :=
  let c0_i32_24 : BitVec 32 := 0#32
  let c6_i32 : BitVec 32 := 6#32
  let v54 : BitVec 32 := Scalar.addi c0_i32_24 c6_i32
  let c1_i32_25 : BitVec 32 := 1#32
  ⟨c0_i32_24, v54, c1_i32_25⟩
def k0_mult1 (k0_t4 : Fin k0_t4_loop.trips) : BitVec 32 :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  v55
def k0_off89 (k0_t4 : Fin k0_t4_loop.trips) : Fin 3 → Nat :=
  let c0_i32_24 : BitVec 32 := 0#32
  let c1_i32_25 : BitVec 32 := 1#32
  let arg21 : BitVec 32 := Scf.iv c0_i32_24 c1_i32_25 k0_t4
  let v57 : Index := Scalar.indexCast arg21
  let c0_27 : Index := 0#32
  let c0_28 : Index := 0#32
  ![v57.toNat, 0, 0]
@[reducible] def k0_t5_loop : Scf.Loop 32 :=
  let c0_i32_29 : BitVec 32 := 0#32
  let c128_i32_30 : BitVec 32 := 128#32
  let v60 : BitVec 32 := Scalar.addi c0_i32_29 c128_i32_30
  let c1_i32_31 : BitVec 32 := 1#32
  ⟨c0_i32_29, v60, c1_i32_31⟩
def k0_off90 (k0_t5 : Fin k0_t5_loop.trips) : Fin 2 → Nat :=
  let c0_i32_29 : BitVec 32 := 0#32
  let c1_i32_31 : BitVec 32 := 1#32
  let arg22 : BitVec 32 := Scf.iv c0_i32_29 c1_i32_31 k0_t5
  let c0_i32_279 : BitVec 32 := 0#32
  ![arg22.toNat, 0]
def k0_off91 : Fin 2 → Nat :=
  let c0_i32_278 : BitVec 32 := 0#32
  let c2_i32 : BitVec 32 := 2#32
  let v722 : BitVec 32 := Scalar.shrui c0_i32_278 c2_i32
  let c0_i32_280 : BitVec 32 := 0#32
  ![v722.toNat, 0]
def k0_off92 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v76 : Index := Scalar.indexCast v56
  let c0_37 : Index := 0#32
  ![v76.toNat, 0]
def k0_off93 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v87 : Index := Scalar.indexCast v56
  let c128_41 : Index := 128#32
  ![v87.toNat, 128]
def k0_off94 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v98 : Index := Scalar.indexCast v56
  let c256_45 : Index := 256#32
  ![v98.toNat, 256]
def k0_off95 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v109 : Index := Scalar.indexCast v56
  let c384_49 : Index := 384#32
  ![v109.toNat, 384]
def k0_off96 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v120 : Index := Scalar.indexCast v56
  let c512_53 : Index := 512#32
  ![v120.toNat, 512]
def k0_off97 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v131 : Index := Scalar.indexCast v56
  let c640_57 : Index := 640#32
  ![v131.toNat, 640]
def k0_off98 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v142 : Index := Scalar.indexCast v56
  let c768_60 : Index := 768#32
  ![v142.toNat, 768]
def k0_off99 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v153 : Index := Scalar.indexCast v56
  let c896_63 : Index := 896#32
  ![v153.toNat, 896]
def k0_off100 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v164 : Index := Scalar.indexCast v56
  let c1024_66 : Index := 1024#32
  ![v164.toNat, 1024]
def k0_off101 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v175 : Index := Scalar.indexCast v56
  let c1152_69 : Index := 1152#32
  ![v175.toNat, 1152]
def k0_off102 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v186 : Index := Scalar.indexCast v56
  let c1280_72 : Index := 1280#32
  ![v186.toNat, 1280]
def k0_off103 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v197 : Index := Scalar.indexCast v56
  let c1408_75 : Index := 1408#32
  ![v197.toNat, 1408]
def k0_off104 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v208 : Index := Scalar.indexCast v56
  let c1536_78 : Index := 1536#32
  ![v208.toNat, 1536]
def k0_off105 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v219 : Index := Scalar.indexCast v56
  let c1664_81 : Index := 1664#32
  ![v219.toNat, 1664]
def k0_off106 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v230 : Index := Scalar.indexCast v56
  let c1792_84 : Index := 1792#32
  ![v230.toNat, 1792]
def k0_off107 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v241 : Index := Scalar.indexCast v56
  let c1920_87 : Index := 1920#32
  ![v241.toNat, 1920]
def k0_off108 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v252 : Index := Scalar.indexCast v56
  let c2048_90 : Index := 2048#32
  ![v252.toNat, 2048]
def k0_off109 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v263 : Index := Scalar.indexCast v56
  let c2176_93 : Index := 2176#32
  ![v263.toNat, 2176]
def k0_off110 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v274 : Index := Scalar.indexCast v56
  let c2304_96 : Index := 2304#32
  ![v274.toNat, 2304]
def k0_off111 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v285 : Index := Scalar.indexCast v56
  let c2432_99 : Index := 2432#32
  ![v285.toNat, 2432]
def k0_off112 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v296 : Index := Scalar.indexCast v56
  let c2560_102 : Index := 2560#32
  ![v296.toNat, 2560]
def k0_off113 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v307 : Index := Scalar.indexCast v56
  let c2688_105 : Index := 2688#32
  ![v307.toNat, 2688]
def k0_off114 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v319 : Index := Scalar.indexCast v56
  let c2816_108 : Index := 2816#32
  ![v319.toNat, 2816]
@[reducible] def k0_t6_loop : Scf.Loop 32 :=
  let c0_i32_128 : BitVec 32 := 0#32
  let c8_i32_129 : BitVec 32 := 8#32
  let v386 : BitVec 32 := Scalar.addi c0_i32_128 c8_i32_129
  let c1_i32_130 : BitVec 32 := 1#32
  ⟨c0_i32_128, v386, c1_i32_130⟩
def k0_cond1 (k0_t4 : Fin k0_t4_loop.trips) (k0_t6 : Fin k0_t6_loop.trips) : BitVec 1 :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_279 : BitVec 32 := 3#32
  let v724 : BitVec 32 := Scalar.addi v723 c3_i32_279
  let c1_i32_280 : BitVec 32 := 1#32
  let v725 : BitVec 32 := Scalar.subi v724 c1_i32_280
  let c48_i32 : BitVec 32 := 48#32
  let v726 : BitVec 1 := Scalar.cmpi .slt v725 c48_i32
  let v727 : BitVec 32 := Scalar.extui v726
  let c0_i32_281 : BitVec 32 := 0#32
  let v728 : BitVec 1 := Scalar.cmpi .ne v727 c0_i32_281
  v728

@[reducible] def k0_t7_loop : Scf.Loop 32 :=
  let c0_i32_546 : BitVec 32 := 0#32
  let c32_i32_547 : BitVec 32 := 32#32
  let v1473 : BitVec 32 := Scalar.addi c0_i32_546 c32_i32_547
  let c1_i32_548 : BitVec 32 := 1#32
  ⟨c0_i32_546, v1473, c1_i32_548⟩
def k0_off115 (k0_t4 : Fin k0_t4_loop.trips) (k0_t6 : Fin k0_t6_loop.trips) (k0_t7 : Fin k0_t7_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c256_i32_552 : BitVec 32 := 256#32
  let v1476 : BitVec 32 := Scalar.muli v1471 c256_i32_552
  let c0_i32_546 : BitVec 32 := 0#32
  let c1_i32_548 : BitVec 32 := 1#32
  let arg23 : BitVec 32 := Scf.iv c0_i32_546 c1_i32_548 k0_t7
  let c8_i32_550 : BitVec 32 := 8#32
  let v1474 : BitVec 32 := Scalar.muli arg23 c8_i32_550
  let c0_i32_551 : BitVec 32 := 0#32
  let v1475 : BitVec 32 := Scalar.addi v1474 c0_i32_551
  let v1477 : BitVec 32 := Scalar.addi v1476 v1475
  let v1478 : Index := Scalar.indexCast v1477
  ![v1478.toNat]
def k0_off116 (k0_t4 : Fin k0_t4_loop.trips) (k0_t6 : Fin k0_t6_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  ![v1472.toNat]
def k0_off117 (k0_t4 : Fin k0_t4_loop.trips) (k0_t6 : Fin k0_t6_loop.trips) (k0_t7 : Fin k0_t7_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  let c0_i32_546 : BitVec 32 := 0#32
  let c1_i32_548 : BitVec 32 := 1#32
  let arg23 : BitVec 32 := Scf.iv c0_i32_546 c1_i32_548 k0_t7
  let c8_i32_550 : BitVec 32 := 8#32
  let v1474 : BitVec 32 := Scalar.muli arg23 c8_i32_550
  let c0_i32_551 : BitVec 32 := 0#32
  let v1475 : BitVec 32 := Scalar.addi v1474 c0_i32_551
  let c0_i32_554 : BitVec 32 := 0#32
  ![v1472.toNat, v1475.toNat, 0]
def k0_off118 (v1479 : BitVec 32) : Fin 2 → Nat :=
  let c2_i32_553 : BitVec 32 := 2#32
  let v1480 : BitVec 32 := Scalar.shrui v1479 c2_i32_553
  let c0_i32_555 : BitVec 32 := 0#32
  ![v1480.toNat, 0]

def k0_chk25 (k0_t4 : Fin k0_t4_loop.trips) (k0_t6 : Fin k0_t6_loop.trips) (v1479 : BitVec 32) : Prop :=
  (∀ (k0_h1 : k0_cond1 k0_t4 k0_t6 = 1#1), ∀ a, (k0_off118 v1479) a + S1x2880.size a ≤ S15000x2880.size a)
theorem k0_off118_inb : ∀ (k0_t4 : Fin k0_t4_loop.trips) (k0_t6 : Fin k0_t6_loop.trips) (v1479 : BitVec 32) (k0_hw25 : k0_chk25 k0_t4 k0_t6 v1479), ∀ (k0_h1 : k0_cond1 k0_t4 k0_t6 = 1#1), ∀ a, (k0_off118 v1479) a + S1x2880.size a ≤ S15000x2880.size a := fun k0_t4 k0_t6 v1479 k0_hw25 k0_h1 => k0_hw25 k0_h1

def k0_off119 (k0_t4 : Fin k0_t4_loop.trips) (k0_t6 : Fin k0_t6_loop.trips) (k0_t7 : Fin k0_t7_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c256_i32_558 : BitVec 32 := 256#32
  let v1488 : BitVec 32 := Scalar.muli v1471 c256_i32_558
  let c0_i32_546 : BitVec 32 := 0#32
  let c1_i32_548 : BitVec 32 := 1#32
  let arg23 : BitVec 32 := Scf.iv c0_i32_546 c1_i32_548 k0_t7
  let c8_i32_556 : BitVec 32 := 8#32
  let v1486 : BitVec 32 := Scalar.muli arg23 c8_i32_556
  let c1_i32_557 : BitVec 32 := 1#32
  let v1487 : BitVec 32 := Scalar.addi v1486 c1_i32_557
  let v1489 : BitVec 32 := Scalar.addi v1488 v1487
  let v1490 : Index := Scalar.indexCast v1489
  ![v1490.toNat]
def k0_off120 (k0_t4 : Fin k0_t4_loop.trips) (k0_t6 : Fin k0_t6_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  ![v1472.toNat]
def k0_off121 (k0_t4 : Fin k0_t4_loop.trips) (k0_t6 : Fin k0_t6_loop.trips) (k0_t7 : Fin k0_t7_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  let c0_i32_546 : BitVec 32 := 0#32
  let c1_i32_548 : BitVec 32 := 1#32
  let arg23 : BitVec 32 := Scf.iv c0_i32_546 c1_i32_548 k0_t7
  let c8_i32_556 : BitVec 32 := 8#32
  let v1486 : BitVec 32 := Scalar.muli arg23 c8_i32_556
  let c1_i32_557 : BitVec 32 := 1#32
  let v1487 : BitVec 32 := Scalar.addi v1486 c1_i32_557
  let c0_i32_560 : BitVec 32 := 0#32
  ![v1472.toNat, v1487.toNat, 0]
def k0_off122 (v1491 : BitVec 32) : Fin 2 → Nat :=
  let c2_i32_559 : BitVec 32 := 2#32
  let v1492 : BitVec 32 := Scalar.shrui v1491 c2_i32_559
  let c0_i32_561 : BitVec 32 := 0#32
  ![v1492.toNat, 0]

def k0_chk26 (k0_t4 : Fin k0_t4_loop.trips) (k0_t6 : Fin k0_t6_loop.trips) (v1491 : BitVec 32) : Prop :=
  (∀ (k0_h1 : k0_cond1 k0_t4 k0_t6 = 1#1), ∀ a, (k0_off122 v1491) a + S1x2880.size a ≤ S15000x2880.size a)
theorem k0_off122_inb : ∀ (k0_t4 : Fin k0_t4_loop.trips) (k0_t6 : Fin k0_t6_loop.trips) (v1491 : BitVec 32) (k0_hw26 : k0_chk26 k0_t4 k0_t6 v1491), ∀ (k0_h1 : k0_cond1 k0_t4 k0_t6 = 1#1), ∀ a, (k0_off122 v1491) a + S1x2880.size a ≤ S15000x2880.size a := fun k0_t4 k0_t6 v1491 k0_hw26 k0_h1 => k0_hw26 k0_h1

def k0_off123 (k0_t4 : Fin k0_t4_loop.trips) (k0_t6 : Fin k0_t6_loop.trips) (k0_t7 : Fin k0_t7_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c256_i32_564 : BitVec 32 := 256#32
  let v1500 : BitVec 32 := Scalar.muli v1471 c256_i32_564
  let c0_i32_546 : BitVec 32 := 0#32
  let c1_i32_548 : BitVec 32 := 1#32
  let arg23 : BitVec 32 := Scf.iv c0_i32_546 c1_i32_548 k0_t7
  let c8_i32_562 : BitVec 32 := 8#32
  let v1498 : BitVec 32 := Scalar.muli arg23 c8_i32_562
  let c2_i32_563 : BitVec 32 := 2#32
  let v1499 : BitVec 32 := Scalar.addi v1498 c2_i32_563
  let v1501 : BitVec 32 := Scalar.addi v1500 v1499
  let v1502 : Index := Scalar.indexCast v1501
  ![v1502.toNat]
def k0_off124 (k0_t4 : Fin k0_t4_loop.trips) (k0_t6 : Fin k0_t6_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  ![v1472.toNat]
def k0_off125 (k0_t4 : Fin k0_t4_loop.trips) (k0_t6 : Fin k0_t6_loop.trips) (k0_t7 : Fin k0_t7_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  let c0_i32_546 : BitVec 32 := 0#32
  let c1_i32_548 : BitVec 32 := 1#32
  let arg23 : BitVec 32 := Scf.iv c0_i32_546 c1_i32_548 k0_t7
  let c8_i32_562 : BitVec 32 := 8#32
  let v1498 : BitVec 32 := Scalar.muli arg23 c8_i32_562
  let c2_i32_563 : BitVec 32 := 2#32
  let v1499 : BitVec 32 := Scalar.addi v1498 c2_i32_563
  let c0_i32_566 : BitVec 32 := 0#32
  ![v1472.toNat, v1499.toNat, 0]
def k0_off126 (v1503 : BitVec 32) : Fin 2 → Nat :=
  let c2_i32_565 : BitVec 32 := 2#32
  let v1504 : BitVec 32 := Scalar.shrui v1503 c2_i32_565
  let c0_i32_567 : BitVec 32 := 0#32
  ![v1504.toNat, 0]

def k0_chk27 (k0_t4 : Fin k0_t4_loop.trips) (k0_t6 : Fin k0_t6_loop.trips) (v1503 : BitVec 32) : Prop :=
  (∀ (k0_h1 : k0_cond1 k0_t4 k0_t6 = 1#1), ∀ a, (k0_off126 v1503) a + S1x2880.size a ≤ S15000x2880.size a)
theorem k0_off126_inb : ∀ (k0_t4 : Fin k0_t4_loop.trips) (k0_t6 : Fin k0_t6_loop.trips) (v1503 : BitVec 32) (k0_hw27 : k0_chk27 k0_t4 k0_t6 v1503), ∀ (k0_h1 : k0_cond1 k0_t4 k0_t6 = 1#1), ∀ a, (k0_off126 v1503) a + S1x2880.size a ≤ S15000x2880.size a := fun k0_t4 k0_t6 v1503 k0_hw27 k0_h1 => k0_hw27 k0_h1

def k0_off127 (k0_t4 : Fin k0_t4_loop.trips) (k0_t6 : Fin k0_t6_loop.trips) (k0_t7 : Fin k0_t7_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c256_i32_570 : BitVec 32 := 256#32
  let v1512 : BitVec 32 := Scalar.muli v1471 c256_i32_570
  let c0_i32_546 : BitVec 32 := 0#32
  let c1_i32_548 : BitVec 32 := 1#32
  let arg23 : BitVec 32 := Scf.iv c0_i32_546 c1_i32_548 k0_t7
  let c8_i32_568 : BitVec 32 := 8#32
  let v1510 : BitVec 32 := Scalar.muli arg23 c8_i32_568
  let c3_i32_569 : BitVec 32 := 3#32
  let v1511 : BitVec 32 := Scalar.addi v1510 c3_i32_569
  let v1513 : BitVec 32 := Scalar.addi v1512 v1511
  let v1514 : Index := Scalar.indexCast v1513
  ![v1514.toNat]
def k0_off128 (k0_t4 : Fin k0_t4_loop.trips) (k0_t6 : Fin k0_t6_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  ![v1472.toNat]
def k0_off129 (k0_t4 : Fin k0_t4_loop.trips) (k0_t6 : Fin k0_t6_loop.trips) (k0_t7 : Fin k0_t7_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  let c0_i32_546 : BitVec 32 := 0#32
  let c1_i32_548 : BitVec 32 := 1#32
  let arg23 : BitVec 32 := Scf.iv c0_i32_546 c1_i32_548 k0_t7
  let c8_i32_568 : BitVec 32 := 8#32
  let v1510 : BitVec 32 := Scalar.muli arg23 c8_i32_568
  let c3_i32_569 : BitVec 32 := 3#32
  let v1511 : BitVec 32 := Scalar.addi v1510 c3_i32_569
  let c0_i32_572 : BitVec 32 := 0#32
  ![v1472.toNat, v1511.toNat, 0]
def k0_off130 (v1515 : BitVec 32) : Fin 2 → Nat :=
  let c2_i32_571 : BitVec 32 := 2#32
  let v1516 : BitVec 32 := Scalar.shrui v1515 c2_i32_571
  let c0_i32_573 : BitVec 32 := 0#32
  ![v1516.toNat, 0]

def k0_chk28 (k0_t4 : Fin k0_t4_loop.trips) (k0_t6 : Fin k0_t6_loop.trips) (v1515 : BitVec 32) : Prop :=
  (∀ (k0_h1 : k0_cond1 k0_t4 k0_t6 = 1#1), ∀ a, (k0_off130 v1515) a + S1x2880.size a ≤ S15000x2880.size a)
theorem k0_off130_inb : ∀ (k0_t4 : Fin k0_t4_loop.trips) (k0_t6 : Fin k0_t6_loop.trips) (v1515 : BitVec 32) (k0_hw28 : k0_chk28 k0_t4 k0_t6 v1515), ∀ (k0_h1 : k0_cond1 k0_t4 k0_t6 = 1#1), ∀ a, (k0_off130 v1515) a + S1x2880.size a ≤ S15000x2880.size a := fun k0_t4 k0_t6 v1515 k0_hw28 k0_h1 => k0_hw28 k0_h1

def k0_off131 (k0_t4 : Fin k0_t4_loop.trips) (k0_t6 : Fin k0_t6_loop.trips) (k0_t7 : Fin k0_t7_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c256_i32_575 : BitVec 32 := 256#32
  let v1524 : BitVec 32 := Scalar.muli v1471 c256_i32_575
  let c0_i32_546 : BitVec 32 := 0#32
  let c1_i32_548 : BitVec 32 := 1#32
  let arg23 : BitVec 32 := Scf.iv c0_i32_546 c1_i32_548 k0_t7
  let c8_i32_574 : BitVec 32 := 8#32
  let v1522 : BitVec 32 := Scalar.muli arg23 c8_i32_574
  let c4_i32 : BitVec 32 := 4#32
  let v1523 : BitVec 32 := Scalar.addi v1522 c4_i32
  let v1525 : BitVec 32 := Scalar.addi v1524 v1523
  let v1526 : Index := Scalar.indexCast v1525
  ![v1526.toNat]
def k0_off132 (k0_t4 : Fin k0_t4_loop.trips) (k0_t6 : Fin k0_t6_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  ![v1472.toNat]
def k0_off133 (k0_t4 : Fin k0_t4_loop.trips) (k0_t6 : Fin k0_t6_loop.trips) (k0_t7 : Fin k0_t7_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  let c0_i32_546 : BitVec 32 := 0#32
  let c1_i32_548 : BitVec 32 := 1#32
  let arg23 : BitVec 32 := Scf.iv c0_i32_546 c1_i32_548 k0_t7
  let c8_i32_574 : BitVec 32 := 8#32
  let v1522 : BitVec 32 := Scalar.muli arg23 c8_i32_574
  let c4_i32 : BitVec 32 := 4#32
  let v1523 : BitVec 32 := Scalar.addi v1522 c4_i32
  let c0_i32_577 : BitVec 32 := 0#32
  ![v1472.toNat, v1523.toNat, 0]
def k0_off134 (v1527 : BitVec 32) : Fin 2 → Nat :=
  let c2_i32_576 : BitVec 32 := 2#32
  let v1528 : BitVec 32 := Scalar.shrui v1527 c2_i32_576
  let c0_i32_578 : BitVec 32 := 0#32
  ![v1528.toNat, 0]

def k0_chk29 (k0_t4 : Fin k0_t4_loop.trips) (k0_t6 : Fin k0_t6_loop.trips) (v1527 : BitVec 32) : Prop :=
  (∀ (k0_h1 : k0_cond1 k0_t4 k0_t6 = 1#1), ∀ a, (k0_off134 v1527) a + S1x2880.size a ≤ S15000x2880.size a)
theorem k0_off134_inb : ∀ (k0_t4 : Fin k0_t4_loop.trips) (k0_t6 : Fin k0_t6_loop.trips) (v1527 : BitVec 32) (k0_hw29 : k0_chk29 k0_t4 k0_t6 v1527), ∀ (k0_h1 : k0_cond1 k0_t4 k0_t6 = 1#1), ∀ a, (k0_off134 v1527) a + S1x2880.size a ≤ S15000x2880.size a := fun k0_t4 k0_t6 v1527 k0_hw29 k0_h1 => k0_hw29 k0_h1

def k0_off135 (k0_t4 : Fin k0_t4_loop.trips) (k0_t6 : Fin k0_t6_loop.trips) (k0_t7 : Fin k0_t7_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c256_i32_580 : BitVec 32 := 256#32
  let v1536 : BitVec 32 := Scalar.muli v1471 c256_i32_580
  let c0_i32_546 : BitVec 32 := 0#32
  let c1_i32_548 : BitVec 32 := 1#32
  let arg23 : BitVec 32 := Scf.iv c0_i32_546 c1_i32_548 k0_t7
  let c8_i32_579 : BitVec 32 := 8#32
  let v1534 : BitVec 32 := Scalar.muli arg23 c8_i32_579
  let c5_i32 : BitVec 32 := 5#32
  let v1535 : BitVec 32 := Scalar.addi v1534 c5_i32
  let v1537 : BitVec 32 := Scalar.addi v1536 v1535
  let v1538 : Index := Scalar.indexCast v1537
  ![v1538.toNat]
def k0_off136 (k0_t4 : Fin k0_t4_loop.trips) (k0_t6 : Fin k0_t6_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  ![v1472.toNat]
def k0_off137 (k0_t4 : Fin k0_t4_loop.trips) (k0_t6 : Fin k0_t6_loop.trips) (k0_t7 : Fin k0_t7_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  let c0_i32_546 : BitVec 32 := 0#32
  let c1_i32_548 : BitVec 32 := 1#32
  let arg23 : BitVec 32 := Scf.iv c0_i32_546 c1_i32_548 k0_t7
  let c8_i32_579 : BitVec 32 := 8#32
  let v1534 : BitVec 32 := Scalar.muli arg23 c8_i32_579
  let c5_i32 : BitVec 32 := 5#32
  let v1535 : BitVec 32 := Scalar.addi v1534 c5_i32
  let c0_i32_582 : BitVec 32 := 0#32
  ![v1472.toNat, v1535.toNat, 0]
def k0_off138 (v1539 : BitVec 32) : Fin 2 → Nat :=
  let c2_i32_581 : BitVec 32 := 2#32
  let v1540 : BitVec 32 := Scalar.shrui v1539 c2_i32_581
  let c0_i32_583 : BitVec 32 := 0#32
  ![v1540.toNat, 0]

def k0_chk30 (k0_t4 : Fin k0_t4_loop.trips) (k0_t6 : Fin k0_t6_loop.trips) (v1539 : BitVec 32) : Prop :=
  (∀ (k0_h1 : k0_cond1 k0_t4 k0_t6 = 1#1), ∀ a, (k0_off138 v1539) a + S1x2880.size a ≤ S15000x2880.size a)
theorem k0_off138_inb : ∀ (k0_t4 : Fin k0_t4_loop.trips) (k0_t6 : Fin k0_t6_loop.trips) (v1539 : BitVec 32) (k0_hw30 : k0_chk30 k0_t4 k0_t6 v1539), ∀ (k0_h1 : k0_cond1 k0_t4 k0_t6 = 1#1), ∀ a, (k0_off138 v1539) a + S1x2880.size a ≤ S15000x2880.size a := fun k0_t4 k0_t6 v1539 k0_hw30 k0_h1 => k0_hw30 k0_h1

def k0_off139 (k0_t4 : Fin k0_t4_loop.trips) (k0_t6 : Fin k0_t6_loop.trips) (k0_t7 : Fin k0_t7_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c256_i32_586 : BitVec 32 := 256#32
  let v1548 : BitVec 32 := Scalar.muli v1471 c256_i32_586
  let c0_i32_546 : BitVec 32 := 0#32
  let c1_i32_548 : BitVec 32 := 1#32
  let arg23 : BitVec 32 := Scf.iv c0_i32_546 c1_i32_548 k0_t7
  let c8_i32_584 : BitVec 32 := 8#32
  let v1546 : BitVec 32 := Scalar.muli arg23 c8_i32_584
  let c6_i32_585 : BitVec 32 := 6#32
  let v1547 : BitVec 32 := Scalar.addi v1546 c6_i32_585
  let v1549 : BitVec 32 := Scalar.addi v1548 v1547
  let v1550 : Index := Scalar.indexCast v1549
  ![v1550.toNat]
def k0_off140 (k0_t4 : Fin k0_t4_loop.trips) (k0_t6 : Fin k0_t6_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  ![v1472.toNat]
def k0_off141 (k0_t4 : Fin k0_t4_loop.trips) (k0_t6 : Fin k0_t6_loop.trips) (k0_t7 : Fin k0_t7_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  let c0_i32_546 : BitVec 32 := 0#32
  let c1_i32_548 : BitVec 32 := 1#32
  let arg23 : BitVec 32 := Scf.iv c0_i32_546 c1_i32_548 k0_t7
  let c8_i32_584 : BitVec 32 := 8#32
  let v1546 : BitVec 32 := Scalar.muli arg23 c8_i32_584
  let c6_i32_585 : BitVec 32 := 6#32
  let v1547 : BitVec 32 := Scalar.addi v1546 c6_i32_585
  let c0_i32_588 : BitVec 32 := 0#32
  ![v1472.toNat, v1547.toNat, 0]
def k0_off142 (v1551 : BitVec 32) : Fin 2 → Nat :=
  let c2_i32_587 : BitVec 32 := 2#32
  let v1552 : BitVec 32 := Scalar.shrui v1551 c2_i32_587
  let c0_i32_589 : BitVec 32 := 0#32
  ![v1552.toNat, 0]

def k0_chk31 (k0_t4 : Fin k0_t4_loop.trips) (k0_t6 : Fin k0_t6_loop.trips) (v1551 : BitVec 32) : Prop :=
  (∀ (k0_h1 : k0_cond1 k0_t4 k0_t6 = 1#1), ∀ a, (k0_off142 v1551) a + S1x2880.size a ≤ S15000x2880.size a)
theorem k0_off142_inb : ∀ (k0_t4 : Fin k0_t4_loop.trips) (k0_t6 : Fin k0_t6_loop.trips) (v1551 : BitVec 32) (k0_hw31 : k0_chk31 k0_t4 k0_t6 v1551), ∀ (k0_h1 : k0_cond1 k0_t4 k0_t6 = 1#1), ∀ a, (k0_off142 v1551) a + S1x2880.size a ≤ S15000x2880.size a := fun k0_t4 k0_t6 v1551 k0_hw31 k0_h1 => k0_hw31 k0_h1

def k0_off143 (k0_t4 : Fin k0_t4_loop.trips) (k0_t6 : Fin k0_t6_loop.trips) (k0_t7 : Fin k0_t7_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c256_i32_592 : BitVec 32 := 256#32
  let v1560 : BitVec 32 := Scalar.muli v1471 c256_i32_592
  let c0_i32_546 : BitVec 32 := 0#32
  let c1_i32_548 : BitVec 32 := 1#32
  let arg23 : BitVec 32 := Scf.iv c0_i32_546 c1_i32_548 k0_t7
  let c8_i32_590 : BitVec 32 := 8#32
  let v1558 : BitVec 32 := Scalar.muli arg23 c8_i32_590
  let c7_i32_591 : BitVec 32 := 7#32
  let v1559 : BitVec 32 := Scalar.addi v1558 c7_i32_591
  let v1561 : BitVec 32 := Scalar.addi v1560 v1559
  let v1562 : Index := Scalar.indexCast v1561
  ![v1562.toNat]
def k0_off144 (k0_t4 : Fin k0_t4_loop.trips) (k0_t6 : Fin k0_t6_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  ![v1472.toNat]
def k0_off145 (k0_t4 : Fin k0_t4_loop.trips) (k0_t6 : Fin k0_t6_loop.trips) (k0_t7 : Fin k0_t7_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_543 : BitVec 32 := 3#32
  let v1470 : BitVec 32 := Scalar.addi v723 c3_i32_543
  let c1_i32_544 : BitVec 32 := 1#32
  let v1471 : BitVec 32 := Scalar.subi v1470 c1_i32_544
  let c3_i32_545 : BitVec 32 := 3#32
  let v1472 : BitVec 32 := Scalar.remsi v1471 c3_i32_545
  let c0_i32_546 : BitVec 32 := 0#32
  let c1_i32_548 : BitVec 32 := 1#32
  let arg23 : BitVec 32 := Scf.iv c0_i32_546 c1_i32_548 k0_t7
  let c8_i32_590 : BitVec 32 := 8#32
  let v1558 : BitVec 32 := Scalar.muli arg23 c8_i32_590
  let c7_i32_591 : BitVec 32 := 7#32
  let v1559 : BitVec 32 := Scalar.addi v1558 c7_i32_591
  let c0_i32_594 : BitVec 32 := 0#32
  ![v1472.toNat, v1559.toNat, 0]
def k0_off146 (v1563 : BitVec 32) : Fin 2 → Nat :=
  let c2_i32_593 : BitVec 32 := 2#32
  let v1564 : BitVec 32 := Scalar.shrui v1563 c2_i32_593
  let c0_i32_595 : BitVec 32 := 0#32
  ![v1564.toNat, 0]

def k0_chk32 (k0_t4 : Fin k0_t4_loop.trips) (k0_t6 : Fin k0_t6_loop.trips) (v1563 : BitVec 32) : Prop :=
  (∀ (k0_h1 : k0_cond1 k0_t4 k0_t6 = 1#1), ∀ a, (k0_off146 v1563) a + S1x2880.size a ≤ S15000x2880.size a)
theorem k0_off146_inb : ∀ (k0_t4 : Fin k0_t4_loop.trips) (k0_t6 : Fin k0_t6_loop.trips) (v1563 : BitVec 32) (k0_hw32 : k0_chk32 k0_t4 k0_t6 v1563), ∀ (k0_h1 : k0_cond1 k0_t4 k0_t6 = 1#1), ∀ a, (k0_off146 v1563) a + S1x2880.size a ≤ S15000x2880.size a := fun k0_t4 k0_t6 v1563 k0_hw32 k0_h1 => k0_hw32 k0_h1

@[reducible] def k0_t8_loop : Scf.Loop 32 :=
  let c0_i32_283 : BitVec 32 := 0#32
  let c256_i32_284 : BitVec 32 := 256#32
  let v730 : BitVec 32 := Scalar.addi c0_i32_283 c256_i32_284
  let c1_i32_285 : BitVec 32 := 1#32
  ⟨c0_i32_283, v730, c1_i32_285⟩
def k0_off147 (k0_t4 : Fin k0_t4_loop.trips) (k0_t6 : Fin k0_t6_loop.trips) : Fin 1 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_282 : BitVec 32 := 3#32
  let v729 : BitVec 32 := Scalar.remsi v723 c3_i32_282
  ![v729.toNat]
def k0_off148 (k0_t4 : Fin k0_t4_loop.trips) (k0_t6 : Fin k0_t6_loop.trips) (k0_t8 : Fin k0_t8_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_282 : BitVec 32 := 3#32
  let v729 : BitVec 32 := Scalar.remsi v723 c3_i32_282
  let c0_i32_283 : BitVec 32 := 0#32
  let c1_i32_285 : BitVec 32 := 1#32
  let arg23 : BitVec 32 := Scf.iv c0_i32_283 c1_i32_285 k0_t8
  let c0_i32_545 : BitVec 32 := 0#32
  ![v729.toNat, arg23.toNat, 0]
def k0_off149 : Fin 2 → Nat :=
  let c0_i32_543 : BitVec 32 := 0#32
  let c2_i32_544 : BitVec 32 := 2#32
  let v1470 : BitVec 32 := Scalar.shrui c0_i32_543 c2_i32_544
  let c0_i32_546 : BitVec 32 := 0#32
  ![v1470.toNat, 0]
def k0_off150 (k0_t4 : Fin k0_t4_loop.trips) (k0_t6 : Fin k0_t6_loop.trips) (c0_i32_288 : BitVec 32) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c2_i32 : BitVec 32 := 2#32
  let v732 : BitVec 32 := Scalar.muli v723 c2_i32
  let v733 : BitVec 32 := Scalar.addi v732 c0_i32_288
  let v734 : Index := Scalar.indexCast v733
  let c0_289 : Index := 0#32
  let c0_290 : Index := 0#32
  ![v734.toNat, 0, 0]
def k0_mult2 (k0_t6 : Fin k0_t6_loop.trips) : BitVec 32 :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let c0_i32_295 : BitVec 32 := 0#32
  let v747 : BitVec 32 := Scalar.addi v746 c0_i32_295
  v747
def k0_off151 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v749 : Index := Scalar.indexCast v731
  let c0_296 : Index := 0#32
  let c0_297 : Index := 0#32
  ![v749.toNat, 0, 0]
def k0_off152 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v757 : Index := Scalar.indexCast v748
  let c0_299 : Index := 0#32
  ![v757.toNat, 0]
def k0_off153 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v761 : Index := Scalar.indexCast v731
  let c0_300 : Index := 0#32
  let c128_301 : Index := 128#32
  ![v761.toNat, 0, 128]
def k0_off154 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v769 : Index := Scalar.indexCast v748
  let c128_303 : Index := 128#32
  ![v769.toNat, 128]
def k0_off155 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v773 : Index := Scalar.indexCast v731
  let c0_304 : Index := 0#32
  let c256_305 : Index := 256#32
  ![v773.toNat, 0, 256]
def k0_off156 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v781 : Index := Scalar.indexCast v748
  let c256_307 : Index := 256#32
  ![v781.toNat, 256]
def k0_off157 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v785 : Index := Scalar.indexCast v731
  let c0_308 : Index := 0#32
  let c384_309 : Index := 384#32
  ![v785.toNat, 0, 384]
def k0_off158 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v793 : Index := Scalar.indexCast v748
  let c384_311 : Index := 384#32
  ![v793.toNat, 384]
def k0_off159 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v797 : Index := Scalar.indexCast v731
  let c0_312 : Index := 0#32
  let c512_313 : Index := 512#32
  ![v797.toNat, 0, 512]
def k0_off160 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v805 : Index := Scalar.indexCast v748
  let c512_315 : Index := 512#32
  ![v805.toNat, 512]
def k0_off161 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v809 : Index := Scalar.indexCast v731
  let c0_316 : Index := 0#32
  let c640_317 : Index := 640#32
  ![v809.toNat, 0, 640]
def k0_off162 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v817 : Index := Scalar.indexCast v748
  let c640_319 : Index := 640#32
  ![v817.toNat, 640]
def k0_off163 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v821 : Index := Scalar.indexCast v731
  let c0_320 : Index := 0#32
  let c768_321 : Index := 768#32
  ![v821.toNat, 0, 768]
def k0_off164 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v829 : Index := Scalar.indexCast v748
  let c768_323 : Index := 768#32
  ![v829.toNat, 768]
def k0_off165 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v833 : Index := Scalar.indexCast v731
  let c0_324 : Index := 0#32
  let c896_325 : Index := 896#32
  ![v833.toNat, 0, 896]
def k0_off166 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v841 : Index := Scalar.indexCast v748
  let c896_327 : Index := 896#32
  ![v841.toNat, 896]
def k0_off167 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v845 : Index := Scalar.indexCast v731
  let c0_328 : Index := 0#32
  let c1024_329 : Index := 1024#32
  ![v845.toNat, 0, 1024]
def k0_off168 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v853 : Index := Scalar.indexCast v748
  let c1024_331 : Index := 1024#32
  ![v853.toNat, 1024]
def k0_off169 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v857 : Index := Scalar.indexCast v731
  let c0_332 : Index := 0#32
  let c1152_333 : Index := 1152#32
  ![v857.toNat, 0, 1152]
def k0_off170 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v865 : Index := Scalar.indexCast v748
  let c1152_335 : Index := 1152#32
  ![v865.toNat, 1152]
def k0_off171 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v869 : Index := Scalar.indexCast v731
  let c0_336 : Index := 0#32
  let c1280_337 : Index := 1280#32
  ![v869.toNat, 0, 1280]
def k0_off172 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v877 : Index := Scalar.indexCast v748
  let c1280_339 : Index := 1280#32
  ![v877.toNat, 1280]
def k0_off173 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v881 : Index := Scalar.indexCast v731
  let c0_340 : Index := 0#32
  let c1408_341 : Index := 1408#32
  ![v881.toNat, 0, 1408]
def k0_off174 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v889 : Index := Scalar.indexCast v748
  let c1408_343 : Index := 1408#32
  ![v889.toNat, 1408]
def k0_off175 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v893 : Index := Scalar.indexCast v731
  let c0_344 : Index := 0#32
  let c1536_345 : Index := 1536#32
  ![v893.toNat, 0, 1536]
def k0_off176 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v901 : Index := Scalar.indexCast v748
  let c1536_347 : Index := 1536#32
  ![v901.toNat, 1536]
def k0_off177 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v905 : Index := Scalar.indexCast v731
  let c0_348 : Index := 0#32
  let c1664_349 : Index := 1664#32
  ![v905.toNat, 0, 1664]
def k0_off178 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v913 : Index := Scalar.indexCast v748
  let c1664_351 : Index := 1664#32
  ![v913.toNat, 1664]
def k0_off179 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v917 : Index := Scalar.indexCast v731
  let c0_352 : Index := 0#32
  let c1792_353 : Index := 1792#32
  ![v917.toNat, 0, 1792]
def k0_off180 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v925 : Index := Scalar.indexCast v748
  let c1792_355 : Index := 1792#32
  ![v925.toNat, 1792]
def k0_off181 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v929 : Index := Scalar.indexCast v731
  let c0_356 : Index := 0#32
  let c1920_357 : Index := 1920#32
  ![v929.toNat, 0, 1920]
def k0_off182 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v937 : Index := Scalar.indexCast v748
  let c1920_359 : Index := 1920#32
  ![v937.toNat, 1920]
def k0_off183 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v941 : Index := Scalar.indexCast v731
  let c0_360 : Index := 0#32
  let c2048_361 : Index := 2048#32
  ![v941.toNat, 0, 2048]
def k0_off184 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v949 : Index := Scalar.indexCast v748
  let c2048_363 : Index := 2048#32
  ![v949.toNat, 2048]
def k0_off185 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v953 : Index := Scalar.indexCast v731
  let c0_364 : Index := 0#32
  let c2176_365 : Index := 2176#32
  ![v953.toNat, 0, 2176]
def k0_off186 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v961 : Index := Scalar.indexCast v748
  let c2176_367 : Index := 2176#32
  ![v961.toNat, 2176]
def k0_off187 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v965 : Index := Scalar.indexCast v731
  let c0_368 : Index := 0#32
  let c2304_369 : Index := 2304#32
  ![v965.toNat, 0, 2304]
def k0_off188 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v973 : Index := Scalar.indexCast v748
  let c2304_371 : Index := 2304#32
  ![v973.toNat, 2304]
def k0_off189 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v977 : Index := Scalar.indexCast v731
  let c0_372 : Index := 0#32
  let c2432_373 : Index := 2432#32
  ![v977.toNat, 0, 2432]
def k0_off190 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v985 : Index := Scalar.indexCast v748
  let c2432_375 : Index := 2432#32
  ![v985.toNat, 2432]
def k0_off191 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v989 : Index := Scalar.indexCast v731
  let c0_376 : Index := 0#32
  let c2560_377 : Index := 2560#32
  ![v989.toNat, 0, 2560]
def k0_off192 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v997 : Index := Scalar.indexCast v748
  let c2560_379 : Index := 2560#32
  ![v997.toNat, 2560]
def k0_off193 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1001 : Index := Scalar.indexCast v731
  let c0_380 : Index := 0#32
  let c2688_381 : Index := 2688#32
  ![v1001.toNat, 0, 2688]
def k0_off194 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v1009 : Index := Scalar.indexCast v748
  let c2688_383 : Index := 2688#32
  ![v1009.toNat, 2688]
def k0_off195 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1013 : Index := Scalar.indexCast v731
  let c0_384 : Index := 0#32
  let c2816_385 : Index := 2816#32
  ![v1013.toNat, 0, 2816]
def k0_off196 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v1022 : Index := Scalar.indexCast v748
  let c2816_387 : Index := 2816#32
  ![v1022.toNat, 2816]
def k0_off197 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v1079 : Index := Scalar.indexCast v748
  let c0_409 : Index := 0#32
  ![v1079.toNat, 0]
def k0_off198 (k0_t6 : Fin k0_t6_loop.trips) (c0_i32_295 : BitVec 32) : Fin 2 → Nat :=
  let c0_i32_128 : BitVec 32 := 0#32
  let c1_i32_130 : BitVec 32 := 1#32
  let arg22 : BitVec 32 := Scf.iv c0_i32_128 c1_i32_130 k0_t6
  let c256_i32_294 : BitVec 32 := 256#32
  let v746 : BitVec 32 := Scalar.muli arg22 c256_i32_294
  let v747 : BitVec 32 := Scalar.addi v746 c0_i32_295
  let v748 : BitVec 32 := v747
  let v1083 : Index := Scalar.indexCast v748
  let c0_410 : Index := 0#32
  ![v1083.toNat, 0]
def k0_off199 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c128_i32 : BitVec 32 := 128#32
  let v55 : BitVec 32 := Scalar.muli arg21 c128_i32
  let v56 : BitVec 32 := v55
  let v1085 : Index := Scalar.indexCast v56
  let c0_411 : Index := 0#32
  ![v1085.toNat, 0]
def k0_mult3 (k0_t6 : Fin k0_t6_loop.trips) : BitVec 32 :=
  let c0_i32_128 : BitVec 32 := 0#32
  let c1_i32_130 : BitVec 32 := 1#32
  let arg22 : BitVec 32 := Scf.iv c0_i32_128 c1_i32_130 k0_t6
  let c256_i32_422 : BitVec 32 := 256#32
  let v1115 : BitVec 32 := Scalar.muli arg22 c256_i32_422
  let c128_i32_423 : BitVec 32 := 128#32
  let v1116 : BitVec 32 := Scalar.addi v1115 c128_i32_423
  v1116
def k0_off200 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1118 : Index := Scalar.indexCast v731
  let c128_424 : Index := 128#32
  let c0_425 : Index := 0#32
  ![v1118.toNat, 128, 0]
def k0_off201 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1130 : Index := Scalar.indexCast v731
  let c128_428 : Index := 128#32
  let c128_429 : Index := 128#32
  ![v1130.toNat, 128, 128]
def k0_off202 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1142 : Index := Scalar.indexCast v731
  let c128_432 : Index := 128#32
  let c256_433 : Index := 256#32
  ![v1142.toNat, 128, 256]
def k0_off203 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1154 : Index := Scalar.indexCast v731
  let c128_436 : Index := 128#32
  let c384_437 : Index := 384#32
  ![v1154.toNat, 128, 384]
def k0_off204 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1166 : Index := Scalar.indexCast v731
  let c128_440 : Index := 128#32
  let c512_441 : Index := 512#32
  ![v1166.toNat, 128, 512]
def k0_off205 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1178 : Index := Scalar.indexCast v731
  let c128_444 : Index := 128#32
  let c640_445 : Index := 640#32
  ![v1178.toNat, 128, 640]
def k0_off206 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1190 : Index := Scalar.indexCast v731
  let c128_448 : Index := 128#32
  let c768_449 : Index := 768#32
  ![v1190.toNat, 128, 768]
def k0_off207 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1202 : Index := Scalar.indexCast v731
  let c128_452 : Index := 128#32
  let c896_453 : Index := 896#32
  ![v1202.toNat, 128, 896]
def k0_off208 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1214 : Index := Scalar.indexCast v731
  let c128_456 : Index := 128#32
  let c1024_457 : Index := 1024#32
  ![v1214.toNat, 128, 1024]
def k0_off209 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1226 : Index := Scalar.indexCast v731
  let c128_460 : Index := 128#32
  let c1152_461 : Index := 1152#32
  ![v1226.toNat, 128, 1152]
def k0_off210 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1238 : Index := Scalar.indexCast v731
  let c128_464 : Index := 128#32
  let c1280_465 : Index := 1280#32
  ![v1238.toNat, 128, 1280]
def k0_off211 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1250 : Index := Scalar.indexCast v731
  let c128_468 : Index := 128#32
  let c1408_469 : Index := 1408#32
  ![v1250.toNat, 128, 1408]
def k0_off212 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1262 : Index := Scalar.indexCast v731
  let c128_472 : Index := 128#32
  let c1536_473 : Index := 1536#32
  ![v1262.toNat, 128, 1536]
def k0_off213 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1274 : Index := Scalar.indexCast v731
  let c128_476 : Index := 128#32
  let c1664_477 : Index := 1664#32
  ![v1274.toNat, 128, 1664]
def k0_off214 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1286 : Index := Scalar.indexCast v731
  let c128_480 : Index := 128#32
  let c1792_481 : Index := 1792#32
  ![v1286.toNat, 128, 1792]
def k0_off215 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1298 : Index := Scalar.indexCast v731
  let c128_484 : Index := 128#32
  let c1920_485 : Index := 1920#32
  ![v1298.toNat, 128, 1920]
def k0_off216 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1310 : Index := Scalar.indexCast v731
  let c128_488 : Index := 128#32
  let c2048_489 : Index := 2048#32
  ![v1310.toNat, 128, 2048]
def k0_off217 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1322 : Index := Scalar.indexCast v731
  let c128_492 : Index := 128#32
  let c2176_493 : Index := 2176#32
  ![v1322.toNat, 128, 2176]
def k0_off218 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1334 : Index := Scalar.indexCast v731
  let c128_496 : Index := 128#32
  let c2304_497 : Index := 2304#32
  ![v1334.toNat, 128, 2304]
def k0_off219 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1346 : Index := Scalar.indexCast v731
  let c128_500 : Index := 128#32
  let c2432_501 : Index := 2432#32
  ![v1346.toNat, 128, 2432]
def k0_off220 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1358 : Index := Scalar.indexCast v731
  let c128_504 : Index := 128#32
  let c2560_505 : Index := 2560#32
  ![v1358.toNat, 128, 2560]
def k0_off221 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1370 : Index := Scalar.indexCast v731
  let c128_508 : Index := 128#32
  let c2688_509 : Index := 2688#32
  ![v1370.toNat, 128, 2688]
def k0_off222 (k0_t4 : Fin k0_t4_loop.trips) (k0_t6 : Fin k0_t6_loop.trips) : Fin 3 → Nat :=
  let c0_i32_24 : BitVec 32 := 0#32
  let c1_i32_25 : BitVec 32 := 1#32
  let arg21 : BitVec 32 := Scf.iv c0_i32_24 c1_i32_25 k0_t4
  let c8_i32_278 : BitVec 32 := 8#32
  let v722 : BitVec 32 := Scalar.muli arg21 c8_i32_278
  let c0_i32_128 : BitVec 32 := 0#32
  let c1_i32_130 : BitVec 32 := 1#32
  let arg22 : BitVec 32 := Scf.iv c0_i32_128 c1_i32_130 k0_t6
  let v723 : BitVec 32 := Scalar.addi v722 arg22
  let c3_i32_287 : BitVec 32 := 3#32
  let v731 : BitVec 32 := Scalar.remsi v723 c3_i32_287
  let v1382 : Index := Scalar.indexCast v731
  let c128_512 : Index := 128#32
  let c2816_513 : Index := 2816#32
  ![v1382.toNat, 128, 2816]
def k0_mult4 (k0_t4 : Fin k0_t4_loop.trips) : BitVec 32 :=
  let c0_i32_24 : BitVec 32 := 0#32
  let c1_i32_25 : BitVec 32 := 1#32
  let arg21 : BitVec 32 := Scf.iv c0_i32_24 c1_i32_25 k0_t4
  let c2048_i32 : BitVec 32 := 2048#32
  let v427 : BitVec 32 := Scalar.muli arg21 c2048_i32
  v427
def k0_off223 (k0_t4 : Fin k0_t4_loop.trips) : Fin 2 → Nat :=
  let c0_i32_24 : BitVec 32 := 0#32
  let c1_i32_25 : BitVec 32 := 1#32
  let arg21 : BitVec 32 := Scf.iv c0_i32_24 c1_i32_25 k0_t4
  let c2048_i32 : BitVec 32 := 2048#32
  let v427 : BitVec 32 := Scalar.muli arg21 c2048_i32
  let v428 : BitVec 32 := v427
  let v429 : Index := Scalar.indexCast v428
  let c0_144 : Index := 0#32
  ![v429.toNat, 0]
def k0_cond2 (k0_t4 : Fin k0_t4_loop.trips) : BitVec 1 :=
  let c0_i32_24 : BitVec 32 := 0#32
  let c1_i32_25 : BitVec 32 := 1#32
  let arg21 : BitVec 32 := Scf.iv c0_i32_24 c1_i32_25 k0_t4
  let c1_i32_275 : BitVec 32 := 1#32
  let v718 : BitVec 32 := Scalar.addi arg21 c1_i32_275
  let c6_i32_276 : BitVec 32 := 6#32
  let v719 : BitVec 1 := Scalar.cmpi .slt v718 c6_i32_276
  let v720 : BitVec 32 := Scalar.extui v719
  let c0_i32_277 : BitVec 32 := 0#32
  let v721 : BitVec 1 := Scalar.cmpi .ne v720 c0_i32_277
  v721

@[reducible] def k0_t9_loop : Scf.Loop 32 :=
  let c0_i32_279 : BitVec 32 := 0#32
  let c16_i32_280 : BitVec 32 := 16#32
  let v723 : BitVec 32 := Scalar.addi c0_i32_279 c16_i32_280
  let c1_i32_281 : BitVec 32 := 1#32
  ⟨c0_i32_279, v723, c1_i32_281⟩
def k0_off224 (k0_t4 : Fin k0_t4_loop.trips) (k0_t9 : Fin k0_t9_loop.trips) : Fin 1 → Nat :=
  let c0_i32_24 : BitVec 32 := 0#32
  let c1_i32_25 : BitVec 32 := 1#32
  let arg21 : BitVec 32 := Scf.iv c0_i32_24 c1_i32_25 k0_t4
  let c1_i32_278 : BitVec 32 := 1#32
  let v722 : BitVec 32 := Scalar.addi arg21 c1_i32_278
  let c128_i32_285 : BitVec 32 := 128#32
  let v726 : BitVec 32 := Scalar.muli v722 c128_i32_285
  let c0_i32_279 : BitVec 32 := 0#32
  let c1_i32_281 : BitVec 32 := 1#32
  let arg22 : BitVec 32 := Scf.iv c0_i32_279 c1_i32_281 k0_t9
  let c8_i32_283 : BitVec 32 := 8#32
  let v724 : BitVec 32 := Scalar.muli arg22 c8_i32_283
  let c0_i32_284 : BitVec 32 := 0#32
  let v725 : BitVec 32 := Scalar.addi v724 c0_i32_284
  let v727 : BitVec 32 := Scalar.addi v726 v725
  let v728 : Index := Scalar.indexCast v727
  ![v728.toNat]
def k0_off225 (k0_t9 : Fin k0_t9_loop.trips) : Fin 2 → Nat :=
  let c0_i32_279 : BitVec 32 := 0#32
  let c1_i32_281 : BitVec 32 := 1#32
  let arg22 : BitVec 32 := Scf.iv c0_i32_279 c1_i32_281 k0_t9
  let c8_i32_283 : BitVec 32 := 8#32
  let v724 : BitVec 32 := Scalar.muli arg22 c8_i32_283
  let c0_i32_284 : BitVec 32 := 0#32
  let v725 : BitVec 32 := Scalar.addi v724 c0_i32_284
  let c0_i32_286 : BitVec 32 := 0#32
  ![v725.toNat, 0]
def k0_off226 (v729 : BitVec 32) : Fin 2 → Nat :=
  let c2_i32 : BitVec 32 := 2#32
  let v730 : BitVec 32 := Scalar.shrui v729 c2_i32
  let c0_i32_287 : BitVec 32 := 0#32
  ![v730.toNat, 0]

def k0_chk33 (k0_t4 : Fin k0_t4_loop.trips) (v729 : BitVec 32) : Prop :=
  (∀ (k0_h2 : k0_cond2 k0_t4 = 1#1), ∀ a, (k0_off226 v729) a + S1x2880.size a ≤ S15000x2880.size a)
theorem k0_off226_inb : ∀ (k0_t4 : Fin k0_t4_loop.trips) (v729 : BitVec 32) (k0_hw33 : k0_chk33 k0_t4 v729), ∀ (k0_h2 : k0_cond2 k0_t4 = 1#1), ∀ a, (k0_off226 v729) a + S1x2880.size a ≤ S15000x2880.size a := fun k0_t4 v729 k0_hw33 k0_h2 => k0_hw33 k0_h2

def k0_off227 (k0_t4 : Fin k0_t4_loop.trips) (k0_t9 : Fin k0_t9_loop.trips) : Fin 1 → Nat :=
  let c0_i32_24 : BitVec 32 := 0#32
  let c1_i32_25 : BitVec 32 := 1#32
  let arg21 : BitVec 32 := Scf.iv c0_i32_24 c1_i32_25 k0_t4
  let c1_i32_278 : BitVec 32 := 1#32
  let v722 : BitVec 32 := Scalar.addi arg21 c1_i32_278
  let c128_i32_290 : BitVec 32 := 128#32
  let v735 : BitVec 32 := Scalar.muli v722 c128_i32_290
  let c0_i32_279 : BitVec 32 := 0#32
  let c1_i32_281 : BitVec 32 := 1#32
  let arg22 : BitVec 32 := Scf.iv c0_i32_279 c1_i32_281 k0_t9
  let c8_i32_288 : BitVec 32 := 8#32
  let v733 : BitVec 32 := Scalar.muli arg22 c8_i32_288
  let c1_i32_289 : BitVec 32 := 1#32
  let v734 : BitVec 32 := Scalar.addi v733 c1_i32_289
  let v736 : BitVec 32 := Scalar.addi v735 v734
  let v737 : Index := Scalar.indexCast v736
  ![v737.toNat]
def k0_off228 (k0_t9 : Fin k0_t9_loop.trips) : Fin 2 → Nat :=
  let c0_i32_279 : BitVec 32 := 0#32
  let c1_i32_281 : BitVec 32 := 1#32
  let arg22 : BitVec 32 := Scf.iv c0_i32_279 c1_i32_281 k0_t9
  let c8_i32_288 : BitVec 32 := 8#32
  let v733 : BitVec 32 := Scalar.muli arg22 c8_i32_288
  let c1_i32_289 : BitVec 32 := 1#32
  let v734 : BitVec 32 := Scalar.addi v733 c1_i32_289
  let c0_i32_292 : BitVec 32 := 0#32
  ![v734.toNat, 0]
def k0_off229 (v738 : BitVec 32) : Fin 2 → Nat :=
  let c2_i32_291 : BitVec 32 := 2#32
  let v739 : BitVec 32 := Scalar.shrui v738 c2_i32_291
  let c0_i32_293 : BitVec 32 := 0#32
  ![v739.toNat, 0]

def k0_chk34 (k0_t4 : Fin k0_t4_loop.trips) (v738 : BitVec 32) : Prop :=
  (∀ (k0_h2 : k0_cond2 k0_t4 = 1#1), ∀ a, (k0_off229 v738) a + S1x2880.size a ≤ S15000x2880.size a)
theorem k0_off229_inb : ∀ (k0_t4 : Fin k0_t4_loop.trips) (v738 : BitVec 32) (k0_hw34 : k0_chk34 k0_t4 v738), ∀ (k0_h2 : k0_cond2 k0_t4 = 1#1), ∀ a, (k0_off229 v738) a + S1x2880.size a ≤ S15000x2880.size a := fun k0_t4 v738 k0_hw34 k0_h2 => k0_hw34 k0_h2

def k0_off230 (k0_t4 : Fin k0_t4_loop.trips) (k0_t9 : Fin k0_t9_loop.trips) : Fin 1 → Nat :=
  let c0_i32_24 : BitVec 32 := 0#32
  let c1_i32_25 : BitVec 32 := 1#32
  let arg21 : BitVec 32 := Scf.iv c0_i32_24 c1_i32_25 k0_t4
  let c1_i32_278 : BitVec 32 := 1#32
  let v722 : BitVec 32 := Scalar.addi arg21 c1_i32_278
  let c128_i32_296 : BitVec 32 := 128#32
  let v744 : BitVec 32 := Scalar.muli v722 c128_i32_296
  let c0_i32_279 : BitVec 32 := 0#32
  let c1_i32_281 : BitVec 32 := 1#32
  let arg22 : BitVec 32 := Scf.iv c0_i32_279 c1_i32_281 k0_t9
  let c8_i32_294 : BitVec 32 := 8#32
  let v742 : BitVec 32 := Scalar.muli arg22 c8_i32_294
  let c2_i32_295 : BitVec 32 := 2#32
  let v743 : BitVec 32 := Scalar.addi v742 c2_i32_295
  let v745 : BitVec 32 := Scalar.addi v744 v743
  let v746 : Index := Scalar.indexCast v745
  ![v746.toNat]
def k0_off231 (k0_t9 : Fin k0_t9_loop.trips) : Fin 2 → Nat :=
  let c0_i32_279 : BitVec 32 := 0#32
  let c1_i32_281 : BitVec 32 := 1#32
  let arg22 : BitVec 32 := Scf.iv c0_i32_279 c1_i32_281 k0_t9
  let c8_i32_294 : BitVec 32 := 8#32
  let v742 : BitVec 32 := Scalar.muli arg22 c8_i32_294
  let c2_i32_295 : BitVec 32 := 2#32
  let v743 : BitVec 32 := Scalar.addi v742 c2_i32_295
  let c0_i32_298 : BitVec 32 := 0#32
  ![v743.toNat, 0]
def k0_off232 (v747 : BitVec 32) : Fin 2 → Nat :=
  let c2_i32_297 : BitVec 32 := 2#32
  let v748 : BitVec 32 := Scalar.shrui v747 c2_i32_297
  let c0_i32_299 : BitVec 32 := 0#32
  ![v748.toNat, 0]

def k0_chk35 (k0_t4 : Fin k0_t4_loop.trips) (v747 : BitVec 32) : Prop :=
  (∀ (k0_h2 : k0_cond2 k0_t4 = 1#1), ∀ a, (k0_off232 v747) a + S1x2880.size a ≤ S15000x2880.size a)
theorem k0_off232_inb : ∀ (k0_t4 : Fin k0_t4_loop.trips) (v747 : BitVec 32) (k0_hw35 : k0_chk35 k0_t4 v747), ∀ (k0_h2 : k0_cond2 k0_t4 = 1#1), ∀ a, (k0_off232 v747) a + S1x2880.size a ≤ S15000x2880.size a := fun k0_t4 v747 k0_hw35 k0_h2 => k0_hw35 k0_h2

def k0_off233 (k0_t4 : Fin k0_t4_loop.trips) (k0_t9 : Fin k0_t9_loop.trips) : Fin 1 → Nat :=
  let c0_i32_24 : BitVec 32 := 0#32
  let c1_i32_25 : BitVec 32 := 1#32
  let arg21 : BitVec 32 := Scf.iv c0_i32_24 c1_i32_25 k0_t4
  let c1_i32_278 : BitVec 32 := 1#32
  let v722 : BitVec 32 := Scalar.addi arg21 c1_i32_278
  let c128_i32_302 : BitVec 32 := 128#32
  let v753 : BitVec 32 := Scalar.muli v722 c128_i32_302
  let c0_i32_279 : BitVec 32 := 0#32
  let c1_i32_281 : BitVec 32 := 1#32
  let arg22 : BitVec 32 := Scf.iv c0_i32_279 c1_i32_281 k0_t9
  let c8_i32_300 : BitVec 32 := 8#32
  let v751 : BitVec 32 := Scalar.muli arg22 c8_i32_300
  let c3_i32_301 : BitVec 32 := 3#32
  let v752 : BitVec 32 := Scalar.addi v751 c3_i32_301
  let v754 : BitVec 32 := Scalar.addi v753 v752
  let v755 : Index := Scalar.indexCast v754
  ![v755.toNat]
def k0_off234 (k0_t9 : Fin k0_t9_loop.trips) : Fin 2 → Nat :=
  let c0_i32_279 : BitVec 32 := 0#32
  let c1_i32_281 : BitVec 32 := 1#32
  let arg22 : BitVec 32 := Scf.iv c0_i32_279 c1_i32_281 k0_t9
  let c8_i32_300 : BitVec 32 := 8#32
  let v751 : BitVec 32 := Scalar.muli arg22 c8_i32_300
  let c3_i32_301 : BitVec 32 := 3#32
  let v752 : BitVec 32 := Scalar.addi v751 c3_i32_301
  let c0_i32_304 : BitVec 32 := 0#32
  ![v752.toNat, 0]
def k0_off235 (v756 : BitVec 32) : Fin 2 → Nat :=
  let c2_i32_303 : BitVec 32 := 2#32
  let v757 : BitVec 32 := Scalar.shrui v756 c2_i32_303
  let c0_i32_305 : BitVec 32 := 0#32
  ![v757.toNat, 0]

def k0_chk36 (k0_t4 : Fin k0_t4_loop.trips) (v756 : BitVec 32) : Prop :=
  (∀ (k0_h2 : k0_cond2 k0_t4 = 1#1), ∀ a, (k0_off235 v756) a + S1x2880.size a ≤ S15000x2880.size a)
theorem k0_off235_inb : ∀ (k0_t4 : Fin k0_t4_loop.trips) (v756 : BitVec 32) (k0_hw36 : k0_chk36 k0_t4 v756), ∀ (k0_h2 : k0_cond2 k0_t4 = 1#1), ∀ a, (k0_off235 v756) a + S1x2880.size a ≤ S15000x2880.size a := fun k0_t4 v756 k0_hw36 k0_h2 => k0_hw36 k0_h2

def k0_off236 (k0_t4 : Fin k0_t4_loop.trips) (k0_t9 : Fin k0_t9_loop.trips) : Fin 1 → Nat :=
  let c0_i32_24 : BitVec 32 := 0#32
  let c1_i32_25 : BitVec 32 := 1#32
  let arg21 : BitVec 32 := Scf.iv c0_i32_24 c1_i32_25 k0_t4
  let c1_i32_278 : BitVec 32 := 1#32
  let v722 : BitVec 32 := Scalar.addi arg21 c1_i32_278
  let c128_i32_307 : BitVec 32 := 128#32
  let v762 : BitVec 32 := Scalar.muli v722 c128_i32_307
  let c0_i32_279 : BitVec 32 := 0#32
  let c1_i32_281 : BitVec 32 := 1#32
  let arg22 : BitVec 32 := Scf.iv c0_i32_279 c1_i32_281 k0_t9
  let c8_i32_306 : BitVec 32 := 8#32
  let v760 : BitVec 32 := Scalar.muli arg22 c8_i32_306
  let c4_i32 : BitVec 32 := 4#32
  let v761 : BitVec 32 := Scalar.addi v760 c4_i32
  let v763 : BitVec 32 := Scalar.addi v762 v761
  let v764 : Index := Scalar.indexCast v763
  ![v764.toNat]
def k0_off237 (k0_t9 : Fin k0_t9_loop.trips) : Fin 2 → Nat :=
  let c0_i32_279 : BitVec 32 := 0#32
  let c1_i32_281 : BitVec 32 := 1#32
  let arg22 : BitVec 32 := Scf.iv c0_i32_279 c1_i32_281 k0_t9
  let c8_i32_306 : BitVec 32 := 8#32
  let v760 : BitVec 32 := Scalar.muli arg22 c8_i32_306
  let c4_i32 : BitVec 32 := 4#32
  let v761 : BitVec 32 := Scalar.addi v760 c4_i32
  let c0_i32_309 : BitVec 32 := 0#32
  ![v761.toNat, 0]
def k0_off238 (v765 : BitVec 32) : Fin 2 → Nat :=
  let c2_i32_308 : BitVec 32 := 2#32
  let v766 : BitVec 32 := Scalar.shrui v765 c2_i32_308
  let c0_i32_310 : BitVec 32 := 0#32
  ![v766.toNat, 0]

def k0_chk37 (k0_t4 : Fin k0_t4_loop.trips) (v765 : BitVec 32) : Prop :=
  (∀ (k0_h2 : k0_cond2 k0_t4 = 1#1), ∀ a, (k0_off238 v765) a + S1x2880.size a ≤ S15000x2880.size a)
theorem k0_off238_inb : ∀ (k0_t4 : Fin k0_t4_loop.trips) (v765 : BitVec 32) (k0_hw37 : k0_chk37 k0_t4 v765), ∀ (k0_h2 : k0_cond2 k0_t4 = 1#1), ∀ a, (k0_off238 v765) a + S1x2880.size a ≤ S15000x2880.size a := fun k0_t4 v765 k0_hw37 k0_h2 => k0_hw37 k0_h2

def k0_off239 (k0_t4 : Fin k0_t4_loop.trips) (k0_t9 : Fin k0_t9_loop.trips) : Fin 1 → Nat :=
  let c0_i32_24 : BitVec 32 := 0#32
  let c1_i32_25 : BitVec 32 := 1#32
  let arg21 : BitVec 32 := Scf.iv c0_i32_24 c1_i32_25 k0_t4
  let c1_i32_278 : BitVec 32 := 1#32
  let v722 : BitVec 32 := Scalar.addi arg21 c1_i32_278
  let c128_i32_312 : BitVec 32 := 128#32
  let v771 : BitVec 32 := Scalar.muli v722 c128_i32_312
  let c0_i32_279 : BitVec 32 := 0#32
  let c1_i32_281 : BitVec 32 := 1#32
  let arg22 : BitVec 32 := Scf.iv c0_i32_279 c1_i32_281 k0_t9
  let c8_i32_311 : BitVec 32 := 8#32
  let v769 : BitVec 32 := Scalar.muli arg22 c8_i32_311
  let c5_i32 : BitVec 32 := 5#32
  let v770 : BitVec 32 := Scalar.addi v769 c5_i32
  let v772 : BitVec 32 := Scalar.addi v771 v770
  let v773 : Index := Scalar.indexCast v772
  ![v773.toNat]
def k0_off240 (k0_t9 : Fin k0_t9_loop.trips) : Fin 2 → Nat :=
  let c0_i32_279 : BitVec 32 := 0#32
  let c1_i32_281 : BitVec 32 := 1#32
  let arg22 : BitVec 32 := Scf.iv c0_i32_279 c1_i32_281 k0_t9
  let c8_i32_311 : BitVec 32 := 8#32
  let v769 : BitVec 32 := Scalar.muli arg22 c8_i32_311
  let c5_i32 : BitVec 32 := 5#32
  let v770 : BitVec 32 := Scalar.addi v769 c5_i32
  let c0_i32_314 : BitVec 32 := 0#32
  ![v770.toNat, 0]
def k0_off241 (v774 : BitVec 32) : Fin 2 → Nat :=
  let c2_i32_313 : BitVec 32 := 2#32
  let v775 : BitVec 32 := Scalar.shrui v774 c2_i32_313
  let c0_i32_315 : BitVec 32 := 0#32
  ![v775.toNat, 0]

def k0_chk38 (k0_t4 : Fin k0_t4_loop.trips) (v774 : BitVec 32) : Prop :=
  (∀ (k0_h2 : k0_cond2 k0_t4 = 1#1), ∀ a, (k0_off241 v774) a + S1x2880.size a ≤ S15000x2880.size a)
theorem k0_off241_inb : ∀ (k0_t4 : Fin k0_t4_loop.trips) (v774 : BitVec 32) (k0_hw38 : k0_chk38 k0_t4 v774), ∀ (k0_h2 : k0_cond2 k0_t4 = 1#1), ∀ a, (k0_off241 v774) a + S1x2880.size a ≤ S15000x2880.size a := fun k0_t4 v774 k0_hw38 k0_h2 => k0_hw38 k0_h2

def k0_off242 (k0_t4 : Fin k0_t4_loop.trips) (k0_t9 : Fin k0_t9_loop.trips) : Fin 1 → Nat :=
  let c0_i32_24 : BitVec 32 := 0#32
  let c1_i32_25 : BitVec 32 := 1#32
  let arg21 : BitVec 32 := Scf.iv c0_i32_24 c1_i32_25 k0_t4
  let c1_i32_278 : BitVec 32 := 1#32
  let v722 : BitVec 32 := Scalar.addi arg21 c1_i32_278
  let c128_i32_318 : BitVec 32 := 128#32
  let v780 : BitVec 32 := Scalar.muli v722 c128_i32_318
  let c0_i32_279 : BitVec 32 := 0#32
  let c1_i32_281 : BitVec 32 := 1#32
  let arg22 : BitVec 32 := Scf.iv c0_i32_279 c1_i32_281 k0_t9
  let c8_i32_316 : BitVec 32 := 8#32
  let v778 : BitVec 32 := Scalar.muli arg22 c8_i32_316
  let c6_i32_317 : BitVec 32 := 6#32
  let v779 : BitVec 32 := Scalar.addi v778 c6_i32_317
  let v781 : BitVec 32 := Scalar.addi v780 v779
  let v782 : Index := Scalar.indexCast v781
  ![v782.toNat]
def k0_off243 (k0_t9 : Fin k0_t9_loop.trips) : Fin 2 → Nat :=
  let c0_i32_279 : BitVec 32 := 0#32
  let c1_i32_281 : BitVec 32 := 1#32
  let arg22 : BitVec 32 := Scf.iv c0_i32_279 c1_i32_281 k0_t9
  let c8_i32_316 : BitVec 32 := 8#32
  let v778 : BitVec 32 := Scalar.muli arg22 c8_i32_316
  let c6_i32_317 : BitVec 32 := 6#32
  let v779 : BitVec 32 := Scalar.addi v778 c6_i32_317
  let c0_i32_320 : BitVec 32 := 0#32
  ![v779.toNat, 0]
def k0_off244 (v783 : BitVec 32) : Fin 2 → Nat :=
  let c2_i32_319 : BitVec 32 := 2#32
  let v784 : BitVec 32 := Scalar.shrui v783 c2_i32_319
  let c0_i32_321 : BitVec 32 := 0#32
  ![v784.toNat, 0]

def k0_chk39 (k0_t4 : Fin k0_t4_loop.trips) (v783 : BitVec 32) : Prop :=
  (∀ (k0_h2 : k0_cond2 k0_t4 = 1#1), ∀ a, (k0_off244 v783) a + S1x2880.size a ≤ S15000x2880.size a)
theorem k0_off244_inb : ∀ (k0_t4 : Fin k0_t4_loop.trips) (v783 : BitVec 32) (k0_hw39 : k0_chk39 k0_t4 v783), ∀ (k0_h2 : k0_cond2 k0_t4 = 1#1), ∀ a, (k0_off244 v783) a + S1x2880.size a ≤ S15000x2880.size a := fun k0_t4 v783 k0_hw39 k0_h2 => k0_hw39 k0_h2

def k0_off245 (k0_t4 : Fin k0_t4_loop.trips) (k0_t9 : Fin k0_t9_loop.trips) : Fin 1 → Nat :=
  let c0_i32_24 : BitVec 32 := 0#32
  let c1_i32_25 : BitVec 32 := 1#32
  let arg21 : BitVec 32 := Scf.iv c0_i32_24 c1_i32_25 k0_t4
  let c1_i32_278 : BitVec 32 := 1#32
  let v722 : BitVec 32 := Scalar.addi arg21 c1_i32_278
  let c128_i32_324 : BitVec 32 := 128#32
  let v789 : BitVec 32 := Scalar.muli v722 c128_i32_324
  let c0_i32_279 : BitVec 32 := 0#32
  let c1_i32_281 : BitVec 32 := 1#32
  let arg22 : BitVec 32 := Scf.iv c0_i32_279 c1_i32_281 k0_t9
  let c8_i32_322 : BitVec 32 := 8#32
  let v787 : BitVec 32 := Scalar.muli arg22 c8_i32_322
  let c7_i32_323 : BitVec 32 := 7#32
  let v788 : BitVec 32 := Scalar.addi v787 c7_i32_323
  let v790 : BitVec 32 := Scalar.addi v789 v788
  let v791 : Index := Scalar.indexCast v790
  ![v791.toNat]
def k0_off246 (k0_t9 : Fin k0_t9_loop.trips) : Fin 2 → Nat :=
  let c0_i32_279 : BitVec 32 := 0#32
  let c1_i32_281 : BitVec 32 := 1#32
  let arg22 : BitVec 32 := Scf.iv c0_i32_279 c1_i32_281 k0_t9
  let c8_i32_322 : BitVec 32 := 8#32
  let v787 : BitVec 32 := Scalar.muli arg22 c8_i32_322
  let c7_i32_323 : BitVec 32 := 7#32
  let v788 : BitVec 32 := Scalar.addi v787 c7_i32_323
  let c0_i32_326 : BitVec 32 := 0#32
  ![v788.toNat, 0]
def k0_off247 (v792 : BitVec 32) : Fin 2 → Nat :=
  let c2_i32_325 : BitVec 32 := 2#32
  let v793 : BitVec 32 := Scalar.shrui v792 c2_i32_325
  let c0_i32_327 : BitVec 32 := 0#32
  ![v793.toNat, 0]

def k0_chk40 (k0_t4 : Fin k0_t4_loop.trips) (v792 : BitVec 32) : Prop :=
  (∀ (k0_h2 : k0_cond2 k0_t4 = 1#1), ∀ a, (k0_off247 v792) a + S1x2880.size a ≤ S15000x2880.size a)
theorem k0_off247_inb : ∀ (k0_t4 : Fin k0_t4_loop.trips) (v792 : BitVec 32) (k0_hw40 : k0_chk40 k0_t4 v792), ∀ (k0_h2 : k0_cond2 k0_t4 = 1#1), ∀ a, (k0_off247 v792) a + S1x2880.size a ≤ S15000x2880.size a := fun k0_t4 v792 k0_hw40 k0_h2 => k0_hw40 k0_h2

abbrev stage0_0 : Fin 1 → Memref sig .tc .smem S12288 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S768 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x2880 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768x2880 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== KernelIdeal.lean ====
variable {F : FTy → Type} [FloatOps F]
-- ==== ReferenceIdeal.lean ====
abbrev S6x128x2880 : Shape := ⟨3, ![6, 128, 2880]⟩
abbrev S60000x2880 : Shape := ⟨2, ![60000, 2880]⟩
abbrev S60000 : Shape := ⟨1, ![60000]⟩
abbrev S6x2048 : Shape := ⟨2, ![6, 2048]⟩
abbrev S6x128 : Shape := ⟨2, ![6, 128]⟩
abbrev S_ : Shape := ⟨0, ![]⟩
abbrev S6x2048x1 : Shape := ⟨3, ![6, 2048, 1]⟩
abbrev S6x2048x2880 : Shape := ⟨3, ![6, 2048, 2880]⟩
abbrev S6x128x1 : Shape := ⟨3, ![6, 128, 1]⟩
abbrev S6x128x2048 : Shape := ⟨3, ![6, 128, 2048]⟩
abbrev S6x1x2048 : Shape := ⟨3, ![6, 1, 2048]⟩
abbrev S6x2048x128 : Shape := ⟨3, ![6, 2048, 128]⟩
abbrev S12288x128 : Shape := ⟨2, ![12288, 128]⟩
abbrev S6x1x128 : Shape := ⟨3, ![6, 1, 128]⟩
abbrev S768x2880 : Shape := ⟨2, ![768, 2880]⟩

abbrev nBuf : Space → Nat
  | .hbm => 144
  | .vmem => 0
  | .smem => 0
  | _ => 0

abbrev hbmTy0_0 (i : Nat) : BufTy := match i % 128 with
  | 0 => ⟨S6x128x2880, .bf16⟩
  | 1 => ⟨S60000x2880, .i8⟩
  | 2 => ⟨S60000, .f32⟩
  | 3 => ⟨S60000, .f32⟩
  | 4 => ⟨S6x2048, .i32⟩
  | 5 => ⟨S6x128, .i32⟩
  | 6 => ⟨S6x128, .f32⟩
  | 7 => ⟨S_, .i32⟩
  | 8 => ⟨S6x2048, .i32⟩
  | 9 => ⟨S6x2048, .i1⟩
  | 10 => ⟨S_, .i32⟩
  | 11 => ⟨S6x2048, .i32⟩
  | 12 => ⟨S6x2048, .i32⟩
  | 13 => ⟨S6x2048, .i32⟩
  | 14 => ⟨S6x2048x1, .i32⟩
  | 15 => ⟨S6x2048x2880, .i8⟩
  | 16 => ⟨S6x2048x2880, .i32⟩
  | 17 => ⟨S6x2048x2880, .f32⟩
  | 18 => ⟨S6x2048x2880, .bf16⟩
  | 19 => ⟨S_, .i32⟩
  | 20 => ⟨S6x2048, .i32⟩
  | 21 => ⟨S6x2048, .i1⟩
  | 22 => ⟨S_, .i32⟩
  | 23 => ⟨S6x2048, .i32⟩
  | 24 => ⟨S6x2048, .i32⟩
  | 25 => ⟨S6x2048, .i32⟩
  | 26 => ⟨S6x2048x1, .i32⟩
  | 27 => ⟨S6x2048, .f32⟩
  | 28 => ⟨S_, .i32⟩
  | 29 => ⟨S6x2048, .i32⟩
  | 30 => ⟨S6x2048, .i1⟩
  | 31 => ⟨S_, .i32⟩
  | 32 => ⟨S6x2048, .i32⟩
  | 33 => ⟨S6x2048, .i32⟩
  | 34 => ⟨S6x2048, .i32⟩
  | 35 => ⟨S6x2048x1, .i32⟩
  | 36 => ⟨S6x2048, .f32⟩
  | 37 => ⟨S_, .i32⟩
  | 38 => ⟨S6x128, .i32⟩
  | 39 => ⟨S6x128, .i1⟩
  | 40 => ⟨S_, .i32⟩
  | 41 => ⟨S6x128, .i32⟩
  | 42 => ⟨S6x128, .i32⟩
  | 43 => ⟨S6x128, .i32⟩
  | 44 => ⟨S6x128x1, .i32⟩
  | 45 => ⟨S6x128x2880, .i8⟩
  | 46 => ⟨S6x128x2880, .i32⟩
  | 47 => ⟨S6x128x2880, .f32⟩
  | 48 => ⟨S_, .i32⟩
  | 49 => ⟨S6x128, .i32⟩
  | 50 => ⟨S6x128, .i1⟩
  | 51 => ⟨S_, .i32⟩
  | 52 => ⟨S6x128, .i32⟩
  | 53 => ⟨S6x128, .i32⟩
  | 54 => ⟨S6x128, .i32⟩
  | 55 => ⟨S6x128x1, .i32⟩
  | 56 => ⟨S6x128, .f32⟩
  | 57 => ⟨S_, .i32⟩
  | 58 => ⟨S6x128, .i32⟩
  | 59 => ⟨S6x128, .i1⟩
  | 60 => ⟨S_, .i32⟩
  | 61 => ⟨S6x128, .i32⟩
  | 62 => ⟨S6x128, .i32⟩
  | 63 => ⟨S6x128, .i32⟩
  | 64 => ⟨S6x128x1, .i32⟩
  | 65 => ⟨S6x128, .f32⟩
  | 66 => ⟨S6x128x2048, .f32⟩
  | 67 => ⟨S6x1x2048, .i32⟩
  | 68 => ⟨S6x128x1, .i32⟩
  | 69 => ⟨S6x128x2048, .i32⟩
  | 70 => ⟨S6x128x2048, .i32⟩
  | 71 => ⟨S6x128x2048, .i1⟩
  | 72 => ⟨S6x1x2048, .f32⟩
  | 73 => ⟨S6x128x2048, .f32⟩
  | 74 => ⟨S6x128x2048, .f32⟩
  | 75 => ⟨S6x1x2048, .f32⟩
  | 76 => ⟨S6x128x2048, .f32⟩
  | 77 => ⟨S6x128x2048, .f32⟩
  | 78 => ⟨S_, .f32⟩
  | 79 => ⟨S_, .f32⟩
  | 80 => ⟨S6x128x2048, .f32⟩
  | 81 => ⟨S6x128x2048, .f32⟩
  | 82 => ⟨S6x128x2880, .bf16⟩
  | 83 => ⟨S6x128, .f32⟩
  | 84 => ⟨S6x128, .f32⟩
  | 85 => ⟨S6x128, .f32⟩
  | 86 => ⟨S_, .f32⟩
  | 87 => ⟨S6x128, .f32⟩
  | 88 => ⟨S6x128, .f32⟩
  | 89 => ⟨S_, .f32⟩
  | 90 => ⟨S6x128, .f32⟩
  | 91 => ⟨S6x128, .i1⟩
  | 92 => ⟨S_, .f32⟩
  | 93 => ⟨S_, .f32⟩
  | 94 => ⟨S6x128, .f32⟩
  | 95 => ⟨S6x128, .f32⟩
  | 96 => ⟨S6x128x1, .f32⟩
  | 97 => ⟨S6x128x2048, .f32⟩
  | 98 => ⟨S6x128x2048, .f32⟩
  | 99 => ⟨S6x128x2048, .f32⟩
  | 100 => ⟨S_, .f32⟩
  | 101 => ⟨S6x128, .f32⟩
  | 102 => ⟨S6x128, .f32⟩
  | 103 => ⟨S6x128, .f32⟩
  | 104 => ⟨S6x128, .f32⟩
  | 105 => ⟨S6x128, .f32⟩
  | 106 => ⟨S6x128, .i1⟩
  | 107 => ⟨S6x128, .f32⟩
  | 108 => ⟨S6x128, .f32⟩
  | 109 => ⟨S6x128, .f32⟩
  | 110 => ⟨S6x128, .f32⟩
  | 111 => ⟨S6x128, .f32⟩
  | 112 => ⟨S6x128, .f32⟩
  | 113 => ⟨S6x128, .f32⟩
  | 114 => ⟨S6x128x1, .f32⟩
  | 115 => ⟨S6x128x2048, .f32⟩
  | 116 => ⟨S6x128x2048, .f32⟩
  | 117 => ⟨S6x128x2048, .f32⟩
  | 118 => ⟨S6x128, .f32⟩
  | 119 => ⟨S6x128, .f32⟩
  | 120 => ⟨S6x128, .f32⟩
  | 121 => ⟨S6x128x1, .f32⟩
  | 122 => ⟨S6x128x2048, .f32⟩
  | 123 => ⟨S6x128x2048, .f32⟩
  | 124 => ⟨S_, .f32⟩
  | 125 => ⟨S6x128, .f32⟩
  | 126 => ⟨S6x128, .f32⟩
  | 127 => ⟨S6x128, .f32⟩
  | _ => ⟨S6x128x2880, .bf16⟩

abbrev hbmTy0_1 (i : Nat) : BufTy := match i % 128 with
  | 0 => ⟨S6x1x2048, .f32⟩
  | 1 => ⟨S6x128x2048, .f32⟩
  | 2 => ⟨S6x128x2048, .f32⟩
  | 3 => ⟨S6x128x2048, .bf16⟩
  | 4 => ⟨S6x128x2880, .f32⟩
  | 5 => ⟨S6x128, .f32⟩
  | 6 => ⟨S6x128x1, .f32⟩
  | 7 => ⟨S6x128x2880, .f32⟩
  | 8 => ⟨S6x128x2880, .f32⟩
  | 9 => ⟨S6x128x2880, .f32⟩
  | 10 => ⟨S6x128x2880, .bf16⟩
  | 11 => ⟨S6x2048x128, .f32⟩
  | 12 => ⟨S12288x128, .f32⟩
  | 13 => ⟨S6x1x128, .f32⟩
  | 14 => ⟨S768x2880, .bf16⟩
  | 15 => ⟨S6x1x128, .f32⟩
  | _ => ⟨S6x128x2880, .bf16⟩

abbrev hbmTy (i : Nat) : BufTy := match i / 128 with
  | 0 => hbmTy0_0 i
  | 1 => hbmTy0_1 i
  | _ => ⟨S6x128x2880, .bf16⟩

abbrev bufTy : (tb : Table) → Fin (tcTables nBuf tb) → BufTy
  | .hbm, ⟨i, _⟩ => hbmTy i
  | _, _ => ⟨S6x128x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst : Ref sig .tc := ⟨.hbm, 78, rfl⟩
abbrev main_call0_v0 : Ref sig .tc := ⟨.hbm, 79, rfl⟩
abbrev main_call0_v1 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_call1_v0 : Ref sig .tc := ⟨.hbm, 93, rfl⟩
abbrev main_call1_v1 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_15 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩

abbrev nD : Nat := 1
abbrev τ : Topo := Topo.v7x

variable {F : FTy → Type} [FloatOps F]
-- ==== Proof.Pre.lean ====
/-
  Hand-written. What the precondition on the ids says: every row name lies below 60000.
-/
module

public import proofs.«01_k».proof.Defs
public import Idealize.ShloMosaic.Lib.ReduceAll
public import Idealize.ShloMosaic.Lib.Affine

@[expose] public section

namespace Cert.Pre_in_range

open Idealize.ShloMosaic

instance facts : Facts where
  bcast_S_S6x2048 := by decide
  reducesTo_S6x2048_S_d0_1 := by decide
  h_S_ := by decide
  bcast_S_S6x128 := by decide
  reducesTo_S6x128_S_d0_1 := by decide

end Cert.Pre_in_range

namespace Cert.PreHand

open Idealize.ShloMosaic

/-- A word between 0 and 60000 as a signed number is below 60000 as a natural one. -/
theorem word_lt {x : BitVec 32} (h : IntOp.andi (IntOp.cmpi .sge x 0#32) (IntOp.cmpi .slt x 60000#32) = 1#1) : x.toNat < 60000 := by
  obtain ⟨h1, h2⟩ := IntOp.andi_eq_one.1 h
  have h1 := IntOp.cmpi_sge.1 h1
  have h2 := IntOp.cmpi_slt.1 h2
  simp only [BitVec.toInt, BitVec.toNat_ofNat] at h1 h2
  omega

open Cert.Pre_in_range in
theorem in_range_lt {F : FTy → Type} [FloatOps F] (a0 : FVec F S6x128x2880 .bf16) (a1 : IVec S60000x2880 8) (a2 a3 : FVec F S60000 .f32)
    (a4 : IVec S6x2048 32) (a5 : IVec S6x128 32) (a6 : FVec F S6x128 .f32)
    (h : Cert.Pre_in_range.fn (F := F) a0 a1 a2 a3 a4 a5 a6 = fun _ => 1#1) :
    (∀ i, (a4 i).toNat < 60000) ∧ (∀ i, (a5 i).toNat < 60000) := by
  have e := congrFun h (Shape.Idx.first Facts.h_S_)
  dsimp only [Cert.Pre_in_range.fn] at e
  obtain ⟨e1, e2⟩ := IntOp.andi_eq_one.1 e
  exact ⟨fun i => word_lt (Host.reduce_andi_all _ _ _ _ _ e1 i), fun i => word_lt (Host.reduce_andi_all _ _ _ _ _ e2 i)⟩

end Cert.PreHand
-- ==== Proof.Dma.lean ====
/-
  Hand-written. One transfer of a batch whose source is lent by a share of its WHOLE buffer, and whose
  delivery is stated over a fixed contents of the destination: what the row gathers of this kernel need
  (many rows of one array in flight at once, each landing in a row of a buffer whose final contents are known).
-/
module

public import Idealize.ShloMosaic.Lib.Batch
public import Idealize.ShloMosaic.Lib.Ring
public import Idealize.ShloMosaic.Lib.Tactic

@[expose] public section

noncomputable section

namespace Cert.Dma

open Idealize.ShloMosaic Idealize.ShloMosaic.Transfers
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable (EC : UEmb Counters (MT nD τ sig Ix Val Name U Lvl))

/-- Writing a view with what the view reads of `G` leaves `G` on the view's elements. -/
theorem write_read_eq {κ : Kind} {sp : Space} {s : Shape} {e : EltTy} (v : View sig κ sp s e) (f G : v.ty.Contents Val)
    (i : v.ty.shape.Idx) (hi : i ∈ v.set) : v.write Val f (v.read Val G) Finset.univ i = G i := by
  obtain ⟨x, -, rfl⟩ := Finset.mem_map.mp hi
  have h := congrFun (View.read_write_univ (v := v) f (v.read Val G)) x
  simp only [View.read_apply] at h
  exact (cast_inj _).mp h

variable [Preorder Lvl] {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy} {n : ℕ}

/-- One transfer of a batch: the source buffer lent whole at a share, the destination's elements held at any
    contents, the delivery the same elements at the fixed contents `G` beside the source's share. -/
theorem wp_dmaRow [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {Sd : Finset (Idx (dst.view.loc c))} {fd G : Buf Val (dst.view.loc c)} {D : Fin n → sProp 𝕄} {j u : ℕ}
    (ι : Ix) (N : ℕ) (hN : dst.view.amount sm = N) (hSd : dst.view.set = Sd) (hj : j < n) (hu : u ≤ j * N)
    (hG : dst.view.read Val G = src.view.read Val fs)
    (hD : iprop((dst.view.loc c ↦[Sd]{fullShare} G) ∗ (src.view.loc c ↦{q} fs)) ⊢ D ⟨j, hj⟩) :
    iprop((src.view.loc c ↦{q} fs) ∗ (dst.view.loc c ↦[Sd]{fullShare} fd) ∗ Batch EC c sm ι N D j u)
      ⊢ iprop((Batch EC c sm ι N D (j + 1) u -∗ wp frame (wpE defs 𝒱 c bd) Set.univ (k ⟨⟩) Q)
          -∗ wp frame (wpE defs 𝒱 c bd) Set.univ (.op (.enqueueDma src (.here dst) sm hsrc hdst hsem) k) Q) := by
  subst hSd
  unfold Batch
  iintro ⟨Hs, Hd, ⟨%γ, %γ₀, %κ, #Hinv, HI, H0, Hcred⟩⟩ Hk
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  ihave Hs' := (pointsTo_split_subset (q := q) (f := fs) (Finset.subset_univ src.view.set)).1 $$ Hs
  icases Hs' with ⟨Hs, Hrest⟩
  iapply (wp_enqueueDmaAs 𝒱 c bd Set.univ ι N hN) $$ [Hs Hd] [Ht Hrest]
  · isplitl [Hs]; · iexact Hs
    iapply (pointsTo_writeUpdate c (Finset.Subset.refl _)) $$ Hd
  · iapply (batch_creditUpdate_with EC (put := iprop(src.view.loc c ↦[Finset.univ \ src.view.set]{q} fs)) ⟨j, hj⟩ ?hres)
    case hres =>
      refine Entails.trans ?_ hD
      iintro ⟨Hr, Hd, Hs⟩
      isplitl [Hd]
      · iapply (Entails.of_eq (pointsTo_congr (q := fullShare) (I := dst.view.set) fun i hi => ?_)) $$ Hd
        · show dst.view.write Val fd (src.view.read Val fs) Finset.univ i = G i
          rw [← hG]; exact write_read_eq dst.view fd G i hi
      · iapply (pointsTo_split_subset (q := q) (f := fs) (Finset.subset_univ src.view.set)).2
        isplitl [Hs] <;> iassumption
    isplitr; · iexact Hinv
    isplitl [Ht] <;> iassumption
  iintro Hcred'; iapply Hk; iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

end Cert.Dma
-- ==== Proof.Rows.lean ====
/-
  Hand-written. The row gathers of the kernel: the rows of the ring and of the target buffer as sets of elements,
  what each row holds once its transfer has landed, and one issue of each kind.
-/
module

public import proofs.«01_k».proof.Proof.Gen.Kernel.Launch
public import proofs.«01_k».proof.Proof.Gen.Kernel.Skeleton
public import Idealize.ShloMosaic.Lib.Pipeline.FrameBody
public import proofs.«01_k».proof.Proof.Dma

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The counters' place in the proof's algebra. -/
abbrev EC : UEmb Counters (MT nD τ sig Unit (Elt F) ℕ (Pipeline.UD sig nD τ) ℕ) := countersEmb (U := Pipeline.UD sig nD τ)

/-- The packed code table in HBM, the ring of code rows and the buffer of target rows. -/
abbrev hbW : Memref sig .tc .hbm S15000x2880 .i32 := Memref.whole main_v12
abbrev mRing : Memref sig .tc .vmem S3x256x2880 .i32 := Memref.whole cc0_scratch0
abbrev mT : Memref sig .tc .vmem S128x2880 .i32 := Memref.whole cc0_scratch1

/-- The packed row that holds row `n` of the code table, as an index. -/
def wix (n : ℕ) (j : Fin 2880) : S15000x2880.Idx := Shape.pair (d := S15000x2880.size) ⟨n / 4 % 15000, Nat.mod_lt _ (by decide)⟩ j

/-- The ring once row `id r` of the table has landed at row `r` of a slot (the same in every slot). -/
def ringG (w : S15000x2880.Idx → Elt F .i32) (id : ℕ → BitVec 32) : S3x256x2880.Idx → Elt F .i32 :=
  fun y => w (wix (id (y 1).val).toNat (y 2))
/-- The target buffer once row `id r` of the table has landed at row `r`. -/
def tgtG (w : S15000x2880.Idx → Elt F .i32) (id : ℕ → BitVec 32) : S128x2880.Idx → Elt F .i32 :=
  fun y => w (wix (id (y 0).val).toNat (y 1))

/-- Row `r` of slot `s` of the ring; slot `s`; row `r` of the target buffer. -/
def ringRow (s r : ℕ) : Finset S3x256x2880.Idx := Finset.univ.filter fun y => (y 0).val = s ∧ (y 1).val = r
def slotSet (s : ℕ) : Finset S3x256x2880.Idx := Finset.univ.filter fun y => (y 0).val = s
def tRow (r : ℕ) : Finset S128x2880.Idx := Finset.univ.filter fun y => (y 0).val = r

/-- The ring's semaphore of slot `s`, and the target buffer's. -/
def ringSem (s : Fin 3) : DmaSem sig := ⟨12 + s.val, by have := s.isLt; show 12 + s.val < 16; omega⟩
def tSem : DmaSem sig := ⟨15, by decide⟩

/-- The units one row transfer credits. -/
def rowCredit : ℕ := 368
theorem rowCredit_pos : 0 < rowCredit := by decide
theorem ring_credit : cc0_scratch0.dmaCredit S1x2880 .i32 = rowCredit := by decide +kernel
theorem tgt_credit : cc0_scratch1.dmaCredit S1x2880 .i32 = rowCredit := by decide +kernel

variable (c : Dev nD)

/-- The packed table under a share; a row of the ring, a row of the target buffer, at contents. -/
abbrev wordsPt (q : PosShare TreeShare) (w : S15000x2880.Idx → Elt F .i32) : sProp 𝕄 :=
  hbW.view.loc (c : Thread nD τ) ↦{q} w
abbrev ringPt (S : Finset S3x256x2880.Idx) (f : S3x256x2880.Idx → Elt F .i32) : sProp 𝕄 :=
  mRing.view.loc (c : Thread nD τ) ↦[S]{fullShare} f
abbrev tPt (S : Finset S128x2880.Idx) (f : S128x2880.Idx → Elt F .i32) : sProp 𝕄 :=
  mT.view.loc (c : Thread nD τ) ↦[S]{fullShare} f

/-- What transfer `t` into slot `s` hands back: its row at the table's row `id t`, and its token of the table. -/
def ringD (q : PosShare TreeShare) (w : S15000x2880.Idx → Elt F .i32) (id : ℕ → BitVec 32) (s : ℕ) (t : Fin 256) : sProp 𝕄 :=
  iprop(ringPt c (ringRow s t.val) (ringG w id) ∗ wordsPt c (shareTokN q t.val) w)
def tgtD (q : PosShare TreeShare) (w : S15000x2880.Idx → Elt F .i32) (id : ℕ → BitVec 32) (t : Fin 128) : sProp 𝕄 :=
  iprop(tPt c (tRow t.val) (tgtG w id) ∗ wordsPt c (shareTokN q t.val) w)

instance ringD_storable (q : PosShare TreeShare) (w : S15000x2880.Idx → Elt F .i32) (id : ℕ → BitVec 32) (s : ℕ) (t : Fin 256) :
    Storable (upEmb : UEmb _ 𝕄) (ringD c q w id s t) := by unfold ringD; infer_instance
instance tgtD_storable (q : PosShare TreeShare) (w : S15000x2880.Idx → Elt F .i32) (id : ℕ → BitVec 32) (t : Fin 128) :
    Storable (upEmb : UEmb _ 𝕄) (tgtD c q w id t) := by unfold tgtD; infer_instance

/-- The batch of a slot's 256 rows, and of the 128 target rows: `j` issued, `u` units consumed. -/
abbrev ringB (q : PosShare TreeShare) (w : S15000x2880.Idx → Elt F .i32) (id : ℕ → BitVec 32) (s : Fin 3) (j u : ℕ) : sProp 𝕄 :=
  Batch EC (c : Thread nD τ) (.dma (ringSem s)) () rowCredit (ringD c q w id s.val) j u
abbrev tgtB (q : PosShare TreeShare) (w : S15000x2880.Idx → Elt F .i32) (id : ℕ → BitVec 32) (j u : ℕ) : sProp 𝕄 :=
  Batch EC (c : Thread nD τ) (.dma tSem) () rowCredit (tgtD c q w id) j u

theorem mem_row2 {o : Fin 2 → ℕ} (r : ℕ) (e : o = ![r, 0]) (inb : ∀ a, o a + S1x2880.size a ≤ S128x2880.size a) :
    (Rect.unit (s := S128x2880) o S1x2880.size inb).set = tRow r := by
  subst e; ext y
  rw [Rect.mem_set_unit]; simp only [tRow, Finset.mem_filter, Finset.mem_univ, true_and]
  have h1 : (y 1).val < 2880 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 2880; omega

theorem mem_row3 {o : Fin 3 → ℕ} (s r : ℕ) (e : o = ![s, r, 0]) (inb : ∀ a, o a + S1x1x2880.size a ≤ S3x256x2880.size a) :
    (Rect.unit (s := S3x256x2880) o S1x1x2880.size inb).set = ringRow s r := by
  subst e; ext y
  rw [Rect.mem_set_unit]; simp only [ringRow, Finset.mem_filter, Finset.mem_univ, true_and]
  have h2 : (y 2).val < 2880 := (y 2).isLt
  constructor
  · intro H
    have a0 : s ≤ (y 0).val ∧ (y 0).val < s + 1 := H 0
    have a1 : r ≤ (y 1).val ∧ (y 1).val < r + 1 := H 1
    omega
  · intro H a; fin_cases a
    · show s ≤ (y 0).val ∧ (y 0).val < s + 1; omega
    · show r ≤ (y 1).val ∧ (y 1).val < r + 1; omega
    · show 0 ≤ (y 2).val ∧ (y 2).val < 0 + 2880; omega

/-- What a row of the table reads, whatever its offsets are called. -/
theorem words_emb {o : Fin 2 → ℕ} (n : ℕ) (hn : n < 60000) (e : o = ![n / 4, 0]) (inb : ∀ a, o a + S1x2880.size a ≤ S15000x2880.size a)
    (j : S1x2880.Idx) : (Rect.unit (s := S15000x2880) o S1x2880.size inb).emb j = wix n (j 1) := by
  subst e
  have h0 : (j 0).val < 1 := (j 0).isLt
  funext a; apply Fin.ext
  fin_cases a
  · show n / 4 + 1 * (j 0).val = n / 4 % 15000; omega
  · show 0 + 1 * (j 1).val = (j 1).val; omega

theorem chk_of (v : BitVec 32) (hv : v.toNat < 60000) (o : Fin 2 → ℕ) (e : o = ![(Scalar.shrui v 2#32).toNat, 0]) :
    o = ![v.toNat / 4, 0] ∧ ∀ a, o a + S1x2880.size a ≤ S15000x2880.size a := by
  have h : (Scalar.shrui v 2#32).toNat = v.toNat / 4 := by
    simp [Scalar.shrui, IntOp.shrui, BitVec.toNat_ushiftRight, Nat.shiftRight_eq_div_pow]
  rw [h] at e; subst e
  refine ⟨rfl, fun a => ?_⟩
  fin_cases a
  · show v.toNat / 4 + 1 ≤ 15000; omega
  · show 0 + 2880 ≤ 2880; omega

section Issue

variable {α : Type} {Q : α → sProp (MT nD τ sig Unit (Elt F) ℕ (Pipeline.UD sig nD τ) ℕ)} {k : PUnit → Prog (TpuEff nD τ sig (Elt F) Λ₀ .tc) α}
variable (q : PosShare TreeShare) (w : S15000x2880.Idx → Elt F .i32) (id : ℕ → BitVec 32)

/-- One row of slot `s` issued. -/
theorem issue_ring (s : Fin 3) (t : ℕ) (ht : t < 256) {v : BitVec 32} (hv : v = id t) (hid : (id t).toNat < 60000)
    {o : Fin 3 → ℕ} {inb : ∀ a, o a + S1x1x2880.size a ≤ S3x256x2880.size a} (e : o = ![s.val, t, 0])
    {o' : Fin 2 → ℕ} {inb' : ∀ a, o' a + S1x2880.size a ≤ S15000x2880.size a} (e' : o' = ![v.toNat / 4, 0])
    {sm : DmaSem sig} (hsm : sm = ringSem s) {p1 p2 p3} :
    iprop(wordsPt c (shareTokN q t) w ∗ (∃ f, ringPt c (ringRow s.val t) f) ∗ ringB c q w id s t 0)
      ⊢ iprop((ringB c q w id s (t + 1) 0 -∗ wp frame (wpE defs₀ Variants.none (c : Thread nD τ) none) Set.univ (k ⟨⟩) Q)
        -∗ wp frame (wpE defs₀ Variants.none (c : Thread nD τ) none) Set.univ
          (.op (.enqueueDma (hbW.slice (Rect.unit (s := S15000x2880) o' S1x2880.size inb') (fun _ => rfl))
            (.here ((mRing.slice (Rect.unit (s := S3x256x2880) o S1x1x2880.size inb) (fun _ => rfl)).squeeze S1x2880 squeezes_S1x1x2880_S1x2880))
            (.dma sm) p1 p2 p3) k) Q) := by
  subst hsm; subst hv
  iintro ⟨Hw, ⟨%f, Hr⟩, HB⟩ Hk
  iapply (Cert.Dma.wp_dmaRow EC Variants.none (c : Thread nD τ) none
    (src := hbW.slice (Rect.unit (s := S15000x2880) o' S1x2880.size inb') (fun _ => rfl))
    (dst := (mRing.slice (Rect.unit (s := S3x256x2880) o S1x1x2880.size inb) (fun _ => rfl)).squeeze S1x2880 squeezes_S1x1x2880_S1x2880)
    (sm := .dma (ringSem s)) (Sd := ringRow s.val t) (G := ringG w id) (fd := f) (fs := w) (q := shareTokN q t)
    (D := ringD c q w id s.val) (n := 256) (j := t) (u := 0) () rowCredit ring_credit ?hset ht (Nat.zero_le _) ?hG ?hD) $$ [Hw Hr HB] Hk
  case hset => exact ((View.set_reshape _ _).trans (View.set_slice_whole _ _)).trans (mem_row3 s.val t e inb)
  case hG =>
    funext j
    show ringG w id ((Rect.unit (s := S3x256x2880) o S1x1x2880.size inb).emb (Shape.reshapeEquiv _ j)) = w ((Rect.unit (s := S15000x2880) o' S1x2880.size inb').emb j)
    rw [words_emb _ hid e' inb' j]
    subst e
    have hz : Shape.reshapeEquiv (s := S1x1x2880) (s' := S1x2880) (by decide) j = Fin.cons ⟨0, Nat.one_pos⟩ j := Shape.reshapeEquiv_cons_one _ j
    have h0 : (j 0).val < 1 := (j 0).isLt
    unfold ringG
    congr 1
    have e1 : ((Rect.unit (s := S3x256x2880) ![s.val, t, 0] S1x1x2880.size inb).emb (Shape.reshapeEquiv (s := S1x1x2880) (s' := S1x2880) (by decide) j) 1).val = t := by
      rw [hz]; show t + 1 * (j 0).val = t; omega
    have e2 : (Rect.unit (s := S3x256x2880) ![s.val, t, 0] S1x1x2880.size inb).emb (Shape.reshapeEquiv (s := S1x1x2880) (s' := S1x2880) (by decide) j) 2 = j 1 := by
      rw [hz]; apply Fin.ext; show 0 + 1 * (j 1).val = (j 1).val; omega
    exact congr (congrArg (fun n => wix (id n).toNat) e1) e2
  case hD => unfold ringD; iintro ⟨H1, H2⟩; isplitl [H1]; · iexact H1
             iexact H2
  isplitl [Hw]; · iexact Hw
  isplitl [Hr]; · iexact Hr
  iexact HB

/-- One target row issued. -/
theorem issue_tgt (t : ℕ) (ht : t < 128) {v : BitVec 32} (hv : v = id t) (hid : (id t).toNat < 60000)
    {o : Fin 2 → ℕ} {inb : ∀ a, o a + S1x2880.size a ≤ S128x2880.size a} (e : o = ![t, 0])
    {o' : Fin 2 → ℕ} {inb' : ∀ a, o' a + S1x2880.size a ≤ S15000x2880.size a} (e' : o' = ![v.toNat / 4, 0])
    {sm : DmaSem sig} (hsm : sm = tSem) {p1 p2 p3} :
    iprop(wordsPt c (shareTokN q t) w ∗ (∃ f, tPt c (tRow t) f) ∗ tgtB c q w id t 0)
      ⊢ iprop((tgtB c q w id (t + 1) 0 -∗ wp frame (wpE defs₀ Variants.none (c : Thread nD τ) none) Set.univ (k ⟨⟩) Q)
        -∗ wp frame (wpE defs₀ Variants.none (c : Thread nD τ) none) Set.univ
          (.op (.enqueueDma (hbW.slice (Rect.unit (s := S15000x2880) o' S1x2880.size inb') (fun _ => rfl))
            (.here (mT.slice (Rect.unit (s := S128x2880) o S1x2880.size inb) (fun _ => rfl)))
            (.dma sm) p1 p2 p3) k) Q) := by
  subst hsm; subst hv
  iintro ⟨Hw, ⟨%f, Hr⟩, HB⟩ Hk
  iapply (Cert.Dma.wp_dmaRow EC Variants.none (c : Thread nD τ) none
    (src := hbW.slice (Rect.unit (s := S15000x2880) o' S1x2880.size inb') (fun _ => rfl))
    (dst := mT.slice (Rect.unit (s := S128x2880) o S1x2880.size inb) (fun _ => rfl))
    (sm := .dma tSem) (Sd := tRow t) (G := tgtG w id) (fd := f) (fs := w) (q := shareTokN q t)
    (D := tgtD c q w id) (n := 128) (j := t) (u := 0) () rowCredit tgt_credit ?hset ht (Nat.zero_le _) ?hG ?hD) $$ [Hw Hr HB] Hk
  case hset => exact (View.set_slice_whole _ _).trans (mem_row2 t e inb)
  case hG =>
    funext j
    show tgtG w id ((Rect.unit (s := S128x2880) o S1x2880.size inb).emb j) = w ((Rect.unit (s := S15000x2880) o' S1x2880.size inb').emb j)
    rw [words_emb _ hid e' inb' j]
    subst e
    have h0 : (j 0).val < 1 := (j 0).isLt
    unfold tgtG
    congr 1
    have e1 : ((Rect.unit (s := S128x2880) ![t, 0] S1x2880.size inb).emb j 0).val = t := by
      show t + 1 * (j 0).val = t; omega
    have e2 : (Rect.unit (s := S128x2880) ![t, 0] S1x2880.size inb).emb j 1 = j 1 := by
      apply Fin.ext; show 0 + 1 * (j 1).val = (j 1).val; omega
    exact congr (congrArg (fun n => wix (id n).toNat) e1) e2
  case hD => unfold tgtD; iintro ⟨H1, H2⟩; isplitl [H1]; · iexact H1
             iexact H2
  isplitl [Hw]; · iexact Hw
  isplitl [Hr]; · iexact Hr
  iexact HB

end Issue

end Cert.Kernel.Hand
-- ==== Proof.Issue.lean ====
/-
  Hand-written. One issue of the gathers as the kernel makes it (the row's number read from scalar memory, checked,
  the transfer started), and the five loops of issues.
-/
module

public import proofs.«01_k».proof.Proof.Rows

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

abbrev mIds : Memref sig .tc .smem S12288 .i32 := Memref.whole cc0_stg0_0
abbrev mTids : Memref sig .tc .smem S768 .i32 := Memref.whole cc0_stg1_0

/-- Word `n` of the two lists of ids, as an index. -/
def at12288 (n : ℕ) : S12288.Idx := fun | 0 => ⟨n % 12288, Nat.mod_lt _ (by decide)⟩
def at768 (n : ℕ) : S768.Idx := fun | 0 => ⟨n % 768, Nat.mod_lt _ (by decide)⟩

/-- The `r`-th class of chunk `ch` of the sampled ids, and of batch `b` of the targets. -/
def sid (ids : S12288.Idx → BitVec 32) (ch r : ℕ) : BitVec 32 := ids (at12288 (256 * ch + r))
def tid (tids : S768.Idx → BitVec 32) (b r : ℕ) : BitVec 32 := tids (at768 (128 * b + r))

variable (c : Dev nD)

abbrev idsPt (ids : S12288.Idx → BitVec 32) : sProp 𝕄 := mIds.view.loc (c : Thread nD τ) ↦{fullShare} ids
abbrev tidsPt (tids : S768.Idx → BitVec 32) : sProp 𝕄 := mTids.view.loc (c : Thread nD τ) ↦{fullShare} tids

/-- The rows still to be issued, each with its token of the table. -/
abbrev ringRes (q : PosShare TreeShare) (w : S15000x2880.Idx → Elt F .i32) (s : ℕ) (r : Fin 256) : sProp 𝕄 :=
  iprop((∃ f, ringPt c (ringRow s r.val) f) ∗ wordsPt c (shareTokN q r.val) w)
abbrev tgtRes (q : PosShare TreeShare) (w : S15000x2880.Idx → Elt F .i32) (r : Fin 128) : sProp 𝕄 :=
  iprop((∃ f, tPt c (tRow r.val) f) ∗ wordsPt c (shareTokN q r.val) w)

/-- `t` rows issued, the others in hand. -/
def ringIss (q : PosShare TreeShare) (w : S15000x2880.Idx → Elt F .i32) (ids : S12288.Idx → BitVec 32) (ch : ℕ) (s : Fin 3) (t : ℕ) : sProp 𝕄 :=
  iprop(ringB c q w (sid ids ch) s t 0 ∗ bigSep (Ring.rangeSet 256 t 256) (ringRes c q w s.val) ∗ idsPt c ids)
def tgtIss (q : PosShare TreeShare) (w : S15000x2880.Idx → Elt F .i32) (tids : S768.Idx → BitVec 32) (b : ℕ) (t : ℕ) : sProp 𝕄 :=
  iprop(tgtB c q w (tid tids b) t 0 ∗ bigSep (Ring.rangeSet 128 t 128) (tgtRes c q w) ∗ tidsPt c tids)

theorem tSem_eq : SemArray.sem cc0_scratch7 = tSem := by decide +kernel
theorem ringSem_eq (s : Fin 3) {o : Fin 1 → ℕ} (e : o = ![s.val]) (inb : ∀ a, o a + S1.size a ≤ S3.size a) :
    SemArray.sem ((SemArray.slice cc0_scratch6 (Rect.unit (s := S3) o S1.size inb)).squeeze S_ squeezes_S1_S_) = ringSem s := by
  subst e; revert inb; revert s; decide +kernel

section Step

variable {α : Type} {Q : α → sProp (MT nD τ sig Unit (Elt F) ℕ (Pipeline.UD sig nD τ) ℕ)}
variable (q : PosShare TreeShare) (w : S15000x2880.Idx → Elt F .i32)
variable {chk : BitVec 32 → Prop} {dec : ∀ v, Decidable (chk v)} {k : (v : BitVec 32) → PLift (chk v) → PUnit → Prog (TpuEff nD τ sig (Elt F) Λ₀ .tc) α}
variable {o1 : Fin 1 → ℕ} {o3 : BitVec 32 → Fin 2 → ℕ} {inb3 : ∀ v, PLift (chk v) → ∀ a, o3 v a + S1x2880.size a ≤ S15000x2880.size a}

/-- One issue into the target buffer. -/
theorem tgt_step (tids : S768.Idx → BitVec 32) (hid : ∀ i, (tids i).toNat < 60000) (b t : ℕ) (hb : b < 6) (ht : t < 128)
    {inb1 : ∀ a, o1 a + S1.size a ≤ S768.size a} {hw hp} {o2 : Fin 2 → ℕ} {inb2 : ∀ a, o2 a + S1x2880.size a ≤ S128x2880.size a}
    (n : ℕ) (e1 : o1 = ![n]) (e2 : o2 = ![t, 0]) (e3 : ∀ v, o3 v = ![(Scalar.shrui v 2#32).toNat, 0]) (hn : n = 128 * b + t)
    (hchk : ∀ v, (∀ a, o3 v a + S1x2880.size a ≤ S15000x2880.size a) → chk v)
    {p1 : ∀ v h, (hbW.slice (Rect.unit (s := S15000x2880) (o3 v) S1x2880.size (inb3 v h)) (fun _ => rfl)).view.WordExact} {p2 : (DmaTarget.here (nD := nD) (τ := τ) (p := .tc) (mT.slice (Rect.unit (s := S128x2880) o2 S1x2880.size inb2) (fun _ => rfl))).view.WordExact}
    {p3 : DmaTarget.Typed (nD := nD) (τ := τ) (p := .tc) Space.hbm (SemLoc.dma (SemArray.sem cc0_scratch7)) (.here (mT.slice (Rect.unit (s := S128x2880) o2 S1x2880.size inb2) (fun _ => rfl)))} :
    tgtIss c q w tids b t
      ⊢ iprop((∀ v h, tgtIss c q w tids b (t + 1) -∗ wp frame (wpE defs₀ Variants.none (c : Thread nD τ) none) Set.univ (k v h ⟨⟩) Q)
        -∗ wp frame (wpE defs₀ Variants.none (c : Thread nD τ) none) Set.univ
          (smemLoadElt (Val := Elt F) mTids (Rect.unit (s := S768) o1 S1.size inb1) hw (Shape.Idx.first hp) fun v =>
            .op (TpuEff.assume (chk v) (dec v)) fun h =>
              .op (.enqueueDma (hbW.slice (Rect.unit (s := S15000x2880) (o3 v) S1x2880.size (inb3 v h)) (fun _ => rfl))
                (.here (mT.slice (Rect.unit (s := S128x2880) o2 S1x2880.size inb2) (fun _ => rfl)))
                (.dma (SemArray.sem cc0_scratch7)) (p1 v h) p2 p3) (k v h)) Q) := by
  unfold tgtIss
  rw [Ring.bigSep_rangeSet_head (Φ := tgtRes c q w) ht ht]
  iintro ⟨HB, ⟨⟨Hr, Hw⟩, Hrest⟩, Hs⟩ Hk
  iapply (wp_smemLoadElt_named Variants.none (c : Thread nD τ) none Set.univ (m := mTids) (r := Rect.unit (s := S768) o1 S1.size inb1) (S := Finset.univ) (q := fullShare) (f := tids) (Finset.subset_univ _)) $$ Hs
  iintro Hs %v %hv
  have hv' : v = tid tids b t := by
    rw [hv]
    show tids ((Rect.unit (s := S768) o1 S1.size inb1).emb (Shape.Idx.first hp)) = _
    unfold tid; congr 1; funext a; apply Fin.ext
    fin_cases a
    subst e1; show n + 1 * 0 = (128 * b + t) % 768; omega
  have hlt : (tid tids b t).toNat < 60000 := hid _
  have hlt' : v.toNat < 60000 := by rw [hv']; exact hlt
  obtain ⟨e3', hin⟩ := chk_of v hlt' (o3 v) (e3 v)
  iapply (wp_assume Variants.none (c : Thread nD τ) none Set.univ (hchk v hin))
  iapply (issue_tgt c q w (tid tids b) t ht hv' hlt e2 e3' tSem_eq) $$ [Hw Hr HB]
  · isplitl [Hw]; · iexact Hw
    isplitl [Hr]; · iexact Hr
    iexact HB
  iintro HB
  iapply Hk
  isplitl [HB]; · iexact HB
  isplitl [Hrest]; · iexact Hrest
  iexact Hs

/-- One issue into slot `s` of the ring. -/
theorem ring_step (ids : S12288.Idx → BitVec 32) (hid : ∀ i, (ids i).toNat < 60000) (ch : ℕ) (s : Fin 3) (t : ℕ) (hb : ch < 48) (ht : t < 256)
    {inb1 : ∀ a, o1 a + S1.size a ≤ S12288.size a} {hw hp} {o2 : Fin 3 → ℕ} {inb2 : ∀ a, o2 a + S1x1x2880.size a ≤ S3x256x2880.size a}
    {os : Fin 1 → ℕ} {inbs : ∀ a, os a + S1.size a ≤ S3.size a}
    (n : ℕ) (e1 : o1 = ![n]) (es : os = ![s.val]) (e2 : o2 = ![s.val, t, 0]) (e3 : ∀ v, o3 v = ![(Scalar.shrui v 2#32).toNat, 0]) (hn : n = 256 * ch + t)
    (hchk : ∀ v, (∀ a, o3 v a + S1x2880.size a ≤ S15000x2880.size a) → chk v)
    {p1 : ∀ v h, (hbW.slice (Rect.unit (s := S15000x2880) (o3 v) S1x2880.size (inb3 v h)) (fun _ => rfl)).view.WordExact} {p2 : (DmaTarget.here (nD := nD) (τ := τ) (p := .tc) ((mRing.slice (Rect.unit (s := S3x256x2880) o2 S1x1x2880.size inb2) (fun _ => rfl)).squeeze S1x2880 squeezes_S1x1x2880_S1x2880)).view.WordExact}
    {p3 : DmaTarget.Typed (nD := nD) (τ := τ) (p := .tc) Space.hbm (SemLoc.dma (SemArray.sem ((SemArray.slice cc0_scratch6 (Rect.unit (s := S3) os S1.size inbs)).squeeze S_ squeezes_S1_S_))) (.here ((mRing.slice (Rect.unit (s := S3x256x2880) o2 S1x1x2880.size inb2) (fun _ => rfl)).squeeze S1x2880 squeezes_S1x1x2880_S1x2880))} :
    ringIss c q w ids ch s t
      ⊢ iprop((∀ v h, ringIss c q w ids ch s (t + 1) -∗ wp frame (wpE defs₀ Variants.none (c : Thread nD τ) none) Set.univ (k v h ⟨⟩) Q)
        -∗ wp frame (wpE defs₀ Variants.none (c : Thread nD τ) none) Set.univ
          (smemLoadElt (Val := Elt F) mIds (Rect.unit (s := S12288) o1 S1.size inb1) hw (Shape.Idx.first hp) fun v =>
            .op (TpuEff.assume (chk v) (dec v)) fun h =>
              .op (.enqueueDma (hbW.slice (Rect.unit (s := S15000x2880) (o3 v) S1x2880.size (inb3 v h)) (fun _ => rfl))
                (.here ((mRing.slice (Rect.unit (s := S3x256x2880) o2 S1x1x2880.size inb2) (fun _ => rfl)).squeeze S1x2880 squeezes_S1x1x2880_S1x2880))
                (.dma (SemArray.sem ((SemArray.slice cc0_scratch6 (Rect.unit (s := S3) os S1.size inbs)).squeeze S_ squeezes_S1_S_))) (p1 v h) p2 p3) (k v h)) Q) := by
  unfold ringIss
  rw [Ring.bigSep_rangeSet_head (Φ := ringRes c q w s.val) ht ht]
  iintro ⟨HB, ⟨⟨Hr, Hw⟩, Hrest⟩, Hs⟩ Hk
  iapply (wp_smemLoadElt_named Variants.none (c : Thread nD τ) none Set.univ (m := mIds) (r := Rect.unit (s := S12288) o1 S1.size inb1) (S := Finset.univ) (q := fullShare) (f := ids) (Finset.subset_univ _)) $$ Hs
  iintro Hs %v %hv
  have hv' : v = sid ids ch t := by
    rw [hv]
    show ids ((Rect.unit (s := S12288) o1 S1.size inb1).emb (Shape.Idx.first hp)) = _
    unfold sid; congr 1; funext a; apply Fin.ext
    fin_cases a
    subst e1; show n + 1 * 0 = (256 * ch + t) % 12288; omega
  have hlt : (sid ids ch t).toNat < 60000 := hid _
  have hlt' : v.toNat < 60000 := by rw [hv']; exact hlt
  obtain ⟨e3', hin⟩ := chk_of v hlt' (o3 v) (e3 v)
  iapply (wp_assume Variants.none (c : Thread nD τ) none Set.univ (hchk v hin))
  iapply (issue_ring c q w (sid ids ch) s t ht hv' hlt e2 e3' (ringSem_eq s es inbs)) $$ [Hw Hr HB]
  · isplitl [Hw]; · iexact Hw
    isplitl [Hr]; · iexact Hr
    iexact HB
  iintro HB
  iapply Hk
  isplitl [HB]; · iexact HB
  isplitl [Hrest]; · iexact Hrest
  iexact Hs

end Step

end Cert.Kernel.Hand
-- ==== Proof.Loops.lean ====
/-
  Hand-written. The five loops of issues: each trip issues eight rows.
-/
module

public import proofs.«01_k».proof.Proof.Issue

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (q : PosShare TreeShare) (w : S15000x2880.Idx → Elt F .i32)

/-- The ring slot of chunk `n`. -/
def slotOf (n : ℕ) : Fin 3 := ⟨n % 3, Nat.mod_lt _ (by decide)⟩

theorem t1_trips : k0_t1_loop.trips = 16 := by decide +kernel
theorem t2_trips : k0_t2_loop.trips = 32 := by decide +kernel
theorem t3_trips : k0_t3_loop.trips = 32 := by decide +kernel
theorem t7_trips : k0_t7_loop.trips = 32 := by decide +kernel
theorem t9_trips : k0_t9_loop.trips = 16 := by decide +kernel
theorem t4_trips : k0_t4_loop.trips = 6 := by decide +kernel
theorem t6_trips : k0_t6_loop.trips = 8 := by decide +kernel
theorem cond1_iff (a : Fin k0_t4_loop.trips) (b : Fin k0_t6_loop.trips) : k0_cond1 a b = 1#1 ↔ 8 * a.val + b.val + 2 < 48 := by
  revert a b; decide +kernel
theorem cond2_iff (a : Fin k0_t4_loop.trips) : k0_cond2 a = 1#1 ↔ a.val + 1 < 6 := by
  revert a; decide +kernel

theorem t1_trip (ids : S768.Idx → BitVec 32) (hid : ∀ i, (ids i).toNat < 60000) (k : Fin k0_t1_loop.trips) :
    tgtIss c q w ids 0 (8 * k.val) ⊢ wp frame (wpE defs₀ Variants.none (c : Thread nD τ) none) Set.univ
      (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 k ()) (fun _ => tgtIss c q w ids 0 (8 * (k.val + 1))) := by
  have hk : k.val < 16 := lt_of_lt_of_eq k.isLt t1_trips
  unfold k0_t1_body
  rw [k0_part1_eq_skeleton, k0_part2_eq_skeleton]
  unfold k0_part1_skel k0_part2_skel smemLoad
  simp only [Prog.bind_assoc, Prog.bind_lift, Prog.bind_ret, Prog.bind_op, smemLoadElt_bind, pure_bind, bind_assoc]
  iintro H
  iapply (tgt_step c q w ids hid 0 (8 * k.val) (by decide) (by omega) _ (k0_off1_eq k) (k0_off2_eq k) (fun _ => rfl) (by omega) (fun _ h => h)) $$ H
  iintro %v %h H
  iapply (tgt_step c q w ids hid 0 (8 * k.val + 1) (by decide) (by omega) _ (k0_off4_eq k) (k0_off5_eq k) (fun _ => rfl) (by omega) (fun _ h => h)) $$ H
  iintro %v %h H
  iapply (tgt_step c q w ids hid 0 (8 * k.val + 2) (by decide) (by omega) _ (k0_off7_eq k) (k0_off8_eq k) (fun _ => rfl) (by omega) (fun _ h => h)) $$ H
  iintro %v %h H
  iapply (tgt_step c q w ids hid 0 (8 * k.val + 3) (by decide) (by omega) _ (k0_off10_eq k) (k0_off11_eq k) (fun _ => rfl) (by omega) (fun _ h => h)) $$ H
  iintro %v %h H
  iapply (tgt_step c q w ids hid 0 (8 * k.val + 4) (by decide) (by omega) _ (k0_off13_eq k) (k0_off14_eq k) (fun _ => rfl) (by omega) (fun _ h => h)) $$ H
  iintro %v %h H
  iapply (tgt_step c q w ids hid 0 (8 * k.val + 5) (by decide) (by omega) _ (k0_off16_eq k) (k0_off17_eq k) (fun _ => rfl) (by omega) (fun _ h => h)) $$ H
  iintro %v %h H
  iapply (tgt_step c q w ids hid 0 (8 * k.val + 6) (by decide) (by omega) _ (k0_off19_eq k) (k0_off20_eq k) (fun _ => rfl) (by omega) (fun _ h => h)) $$ H
  iintro %v %h H
  iapply (tgt_step c q w ids hid 0 (8 * k.val + 7) (by decide) (by omega) _ (k0_off22_eq k) (k0_off23_eq k) (fun _ => rfl) (by omega) (fun _ h => h)) $$ H
  iintro %v %h H
  rw [wp_pure]
  imodintro
  iexact H

theorem t2_trip (ids : S12288.Idx → BitVec 32) (hid : ∀ i, (ids i).toNat < 60000) (k : Fin k0_t2_loop.trips) :
    ringIss c q w ids 0 0 (8 * k.val) ⊢ wp frame (wpE defs₀ Variants.none (c : Thread nD τ) none) Set.univ
      (k0_t2_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 k ()) (fun _ => ringIss c q w ids 0 0 (8 * (k.val + 1))) := by
  have hk : k.val < 32 := lt_of_lt_of_eq k.isLt t2_trips
  unfold k0_t2_body
  rw [k0_part3_eq_skeleton, k0_part4_eq_skeleton]
  unfold k0_part3_skel k0_part4_skel smemLoad
  simp only [Prog.bind_assoc, Prog.bind_lift, Prog.bind_ret, Prog.bind_op, smemLoadElt_bind, pure_bind, bind_assoc]
  iintro H
  iapply (ring_step c q w ids hid 0 0 (8 * k.val) (by decide) (by omega) _ (k0_off25_eq k) (k0_off26_eq ) (k0_off27_eq k) (fun _ => rfl) (by omega) (fun _ h => h)) $$ H
  iintro %v %h H
  iapply (ring_step c q w ids hid 0 0 (8 * k.val + 1) (by decide) (by omega) _ (k0_off29_eq k) (k0_off30_eq ) (k0_off31_eq k) (fun _ => rfl) (by omega) (fun _ h => h)) $$ H
  iintro %v %h H
  iapply (ring_step c q w ids hid 0 0 (8 * k.val + 2) (by decide) (by omega) _ (k0_off33_eq k) (k0_off34_eq ) (k0_off35_eq k) (fun _ => rfl) (by omega) (fun _ h => h)) $$ H
  iintro %v %h H
  iapply (ring_step c q w ids hid 0 0 (8 * k.val + 3) (by decide) (by omega) _ (k0_off37_eq k) (k0_off38_eq ) (k0_off39_eq k) (fun _ => rfl) (by omega) (fun _ h => h)) $$ H
  iintro %v %h H
  iapply (ring_step c q w ids hid 0 0 (8 * k.val + 4) (by decide) (by omega) _ (k0_off41_eq k) (k0_off42_eq ) (k0_off43_eq k) (fun _ => rfl) (by omega) (fun _ h => h)) $$ H
  iintro %v %h H
  iapply (ring_step c q w ids hid 0 0 (8 * k.val + 5) (by decide) (by omega) _ (k0_off45_eq k) (k0_off46_eq ) (k0_off47_eq k) (fun _ => rfl) (by omega) (fun _ h => h)) $$ H
  iintro %v %h H
  iapply (ring_step c q w ids hid 0 0 (8 * k.val + 6) (by decide) (by omega) _ (k0_off49_eq k) (k0_off50_eq ) (k0_off51_eq k) (fun _ => rfl) (by omega) (fun _ h => h)) $$ H
  iintro %v %h H
  iapply (ring_step c q w ids hid 0 0 (8 * k.val + 7) (by decide) (by omega) _ (k0_off53_eq k) (k0_off54_eq ) (k0_off55_eq k) (fun _ => rfl) (by omega) (fun _ h => h)) $$ H
  iintro %v %h H
  rw [wp_pure]
  imodintro
  iexact H

theorem t3_trip (ids : S12288.Idx → BitVec 32) (hid : ∀ i, (ids i).toNat < 60000) (k : Fin k0_t3_loop.trips) :
    ringIss c q w ids 1 1 (8 * k.val) ⊢ wp frame (wpE defs₀ Variants.none (c : Thread nD τ) none) Set.univ
      (k0_t3_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 k ()) (fun _ => ringIss c q w ids 1 1 (8 * (k.val + 1))) := by
  have hk : k.val < 32 := lt_of_lt_of_eq k.isLt t3_trips
  unfold k0_t3_body
  rw [k0_part5_eq_skeleton, k0_part6_eq_skeleton]
  unfold k0_part5_skel k0_part6_skel smemLoad
  simp only [Prog.bind_assoc, Prog.bind_lift, Prog.bind_ret, Prog.bind_op, smemLoadElt_bind, pure_bind, bind_assoc]
  iintro H
  iapply (ring_step c q w ids hid 1 1 (8 * k.val) (by decide) (by omega) _ (k0_off57_eq k) (k0_off58_eq ) (k0_off59_eq k) (fun _ => rfl) (by omega) (fun _ h => h)) $$ H
  iintro %v %h H
  iapply (ring_step c q w ids hid 1 1 (8 * k.val + 1) (by decide) (by omega) _ (k0_off61_eq k) (k0_off62_eq ) (k0_off63_eq k) (fun _ => rfl) (by omega) (fun _ h => h)) $$ H
  iintro %v %h H
  iapply (ring_step c q w ids hid 1 1 (8 * k.val + 2) (by decide) (by omega) _ (k0_off65_eq k) (k0_off66_eq ) (k0_off67_eq k) (fun _ => rfl) (by omega) (fun _ h => h)) $$ H
  iintro %v %h H
  iapply (ring_step c q w ids hid 1 1 (8 * k.val + 3) (by decide) (by omega) _ (k0_off69_eq k) (k0_off70_eq ) (k0_off71_eq k) (fun _ => rfl) (by omega) (fun _ h => h)) $$ H
  iintro %v %h H
  iapply (ring_step c q w ids hid 1 1 (8 * k.val + 4) (by decide) (by omega) _ (k0_off73_eq k) (k0_off74_eq ) (k0_off75_eq k) (fun _ => rfl) (by omega) (fun _ h => h)) $$ H
  iintro %v %h H
  iapply (ring_step c q w ids hid 1 1 (8 * k.val + 5) (by decide) (by omega) _ (k0_off77_eq k) (k0_off78_eq ) (k0_off79_eq k) (fun _ => rfl) (by omega) (fun _ h => h)) $$ H
  iintro %v %h H
  iapply (ring_step c q w ids hid 1 1 (8 * k.val + 6) (by decide) (by omega) _ (k0_off81_eq k) (k0_off82_eq ) (k0_off83_eq k) (fun _ => rfl) (by omega) (fun _ h => h)) $$ H
  iintro %v %h H
  iapply (ring_step c q w ids hid 1 1 (8 * k.val + 7) (by decide) (by omega) _ (k0_off85_eq k) (k0_off86_eq ) (k0_off87_eq k) (fun _ => rfl) (by omega) (fun _ h => h)) $$ H
  iintro %v %h H
  rw [wp_pure]
  imodintro
  iexact H

theorem t7_trip (ids : S12288.Idx → BitVec 32) (hid : ∀ i, (ids i).toNat < 60000) (a : Fin k0_t4_loop.trips) (b : Fin k0_t6_loop.trips) (x1 x2 x3 x4 : BitVec 32) (h1 : k0_cond1 a b = 1#1) (k : Fin k0_t7_loop.trips) :
    ringIss c q w ids (8 * a.val + b.val + 2) (slotOf (8 * a.val + b.val + 2)) (8 * k.val) ⊢ wp frame (wpE defs₀ Variants.none (c : Thread nD τ) none) Set.univ
      (k0_t7_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 x2 x3 b h1 x4 k ()) (fun _ => ringIss c q w ids (8 * a.val + b.val + 2) (slotOf (8 * a.val + b.val + 2)) (8 * (k.val + 1))) := by
  have hk : k.val < 32 := lt_of_lt_of_eq k.isLt t7_trips
  have hb : 8 * a.val + b.val + 2 < 48 := (cond1_iff a b).mp h1
  unfold k0_t7_body
  rw [k0_part7_eq_skeleton, k0_part8_eq_skeleton]
  unfold k0_part7_skel k0_part8_skel smemLoad
  simp only [Prog.bind_assoc, Prog.bind_lift, Prog.bind_ret, Prog.bind_op, smemLoadElt_bind, pure_bind, bind_assoc]
  iintro H
  iapply (ring_step c q w ids hid (8 * a.val + b.val + 2) (slotOf (8 * a.val + b.val + 2)) (8 * k.val) hb (by omega) _ (k0_off115_eq a b k) (k0_off116_eq a b) (k0_off117_eq a b k) (fun _ => rfl) (by omega) (fun _ h _ => h)) $$ H
  iintro %v %h H
  iapply (ring_step c q w ids hid (8 * a.val + b.val + 2) (slotOf (8 * a.val + b.val + 2)) (8 * k.val + 1) hb (by omega) _ (k0_off119_eq a b k) (k0_off120_eq a b) (k0_off121_eq a b k) (fun _ => rfl) (by omega) (fun _ h _ => h)) $$ H
  iintro %v %h H
  iapply (ring_step c q w ids hid (8 * a.val + b.val + 2) (slotOf (8 * a.val + b.val + 2)) (8 * k.val + 2) hb (by omega) _ (k0_off123_eq a b k) (k0_off124_eq a b) (k0_off125_eq a b k) (fun _ => rfl) (by omega) (fun _ h _ => h)) $$ H
  iintro %v %h H
  iapply (ring_step c q w ids hid (8 * a.val + b.val + 2) (slotOf (8 * a.val + b.val + 2)) (8 * k.val + 3) hb (by omega) _ (k0_off127_eq a b k) (k0_off128_eq a b) (k0_off129_eq a b k) (fun _ => rfl) (by omega) (fun _ h _ => h)) $$ H
  iintro %v %h H
  iapply (ring_step c q w ids hid (8 * a.val + b.val + 2) (slotOf (8 * a.val + b.val + 2)) (8 * k.val + 4) hb (by omega) _ (k0_off131_eq a b k) (k0_off132_eq a b) (k0_off133_eq a b k) (fun _ => rfl) (by omega) (fun _ h _ => h)) $$ H
  iintro %v %h H
  iapply (ring_step c q w ids hid (8 * a.val + b.val + 2) (slotOf (8 * a.val + b.val + 2)) (8 * k.val + 5) hb (by omega) _ (k0_off135_eq a b k) (k0_off136_eq a b) (k0_off137_eq a b k) (fun _ => rfl) (by omega) (fun _ h _ => h)) $$ H
  iintro %v %h H
  iapply (ring_step c q w ids hid (8 * a.val + b.val + 2) (slotOf (8 * a.val + b.val + 2)) (8 * k.val + 6) hb (by omega) _ (k0_off139_eq a b k) (k0_off140_eq a b) (k0_off141_eq a b k) (fun _ => rfl) (by omega) (fun _ h _ => h)) $$ H
  iintro %v %h H
  iapply (ring_step c q w ids hid (8 * a.val + b.val + 2) (slotOf (8 * a.val + b.val + 2)) (8 * k.val + 7) hb (by omega) _ (k0_off143_eq a b k) (k0_off144_eq a b) (k0_off145_eq a b k) (fun _ => rfl) (by omega) (fun _ h _ => h)) $$ H
  iintro %v %h H
  rw [wp_pure]
  imodintro
  iexact H

theorem t9_trip (ids : S768.Idx → BitVec 32) (hid : ∀ i, (ids i).toNat < 60000) (a : Fin k0_t4_loop.trips) (x1 : BitVec 32) (h2 : k0_cond2 a = 1#1) (k : Fin k0_t9_loop.trips) :
    tgtIss c q w ids (a.val + 1) (8 * k.val) ⊢ wp frame (wpE defs₀ Variants.none (c : Thread nD τ) none) Set.univ
      (k0_t9_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a h2 x1 k ()) (fun _ => tgtIss c q w ids (a.val + 1) (8 * (k.val + 1))) := by
  have hk : k.val < 16 := lt_of_lt_of_eq k.isLt t9_trips
  have hb : a.val + 1 < 6 := (cond2_iff a).mp h2
  unfold k0_t9_body
  rw [k0_part27_eq_skeleton, k0_part28_eq_skeleton]
  unfold k0_part27_skel k0_part28_skel smemLoad
  simp only [Prog.bind_assoc, Prog.bind_lift, Prog.bind_ret, Prog.bind_op, smemLoadElt_bind, pure_bind, bind_assoc]
  iintro H
  iapply (tgt_step c q w ids hid (a.val + 1) (8 * k.val) hb (by omega) _ (k0_off224_eq a k) (k0_off225_eq k) (fun _ => rfl) (by omega) (fun _ h _ => h)) $$ H
  iintro %v %h H
  iapply (tgt_step c q w ids hid (a.val + 1) (8 * k.val + 1) hb (by omega) _ (k0_off227_eq a k) (k0_off228_eq k) (fun _ => rfl) (by omega) (fun _ h _ => h)) $$ H
  iintro %v %h H
  iapply (tgt_step c q w ids hid (a.val + 1) (8 * k.val + 2) hb (by omega) _ (k0_off230_eq a k) (k0_off231_eq k) (fun _ => rfl) (by omega) (fun _ h _ => h)) $$ H
  iintro %v %h H
  iapply (tgt_step c q w ids hid (a.val + 1) (8 * k.val + 3) hb (by omega) _ (k0_off233_eq a k) (k0_off234_eq k) (fun _ => rfl) (by omega) (fun _ h _ => h)) $$ H
  iintro %v %h H
  iapply (tgt_step c q w ids hid (a.val + 1) (8 * k.val + 4) hb (by omega) _ (k0_off236_eq a k) (k0_off237_eq k) (fun _ => rfl) (by omega) (fun _ h _ => h)) $$ H
  iintro %v %h H
  iapply (tgt_step c q w ids hid (a.val + 1) (8 * k.val + 5) hb (by omega) _ (k0_off239_eq a k) (k0_off240_eq k) (fun _ => rfl) (by omega) (fun _ h _ => h)) $$ H
  iintro %v %h H
  iapply (tgt_step c q w ids hid (a.val + 1) (8 * k.val + 6) hb (by omega) _ (k0_off242_eq a k) (k0_off243_eq k) (fun _ => rfl) (by omega) (fun _ h _ => h)) $$ H
  iintro %v %h H
  iapply (tgt_step c q w ids hid (a.val + 1) (8 * k.val + 7) hb (by omega) _ (k0_off245_eq a k) (k0_off246_eq k) (fun _ => rfl) (by omega) (fun _ h _ => h)) $$ H
  iintro %v %h H
  rw [wp_pure]
  imodintro
  iexact H

end Cert.Kernel.Hand
-- ==== Proof.Slots.lean ====
/-
  Hand-written. A slot of the ring and the target buffer between transfers and in flight: a batch of row transfers
  opened over the slot's rows, its waits, and the rows joined again once all have landed.
-/
module

public import proofs.«01_k».proof.Proof.Loops
public import Idealize.SL.ProofMode.BigOp

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (q : PosShare TreeShare) (w : S15000x2880.Idx → Elt F .i32)

theorem slot_biUnion (s : ℕ) : slotSet s = Finset.univ.biUnion fun t : Fin 256 => ringRow s t.val := by
  ext y
  simp only [slotSet, ringRow, Finset.mem_filter, Finset.mem_univ, true_and, Finset.mem_biUnion]
  constructor
  · intro h; exact ⟨y 1, h, rfl⟩
  · rintro ⟨t, h, -⟩; exact h
theorem slot_disj (s : ℕ) : ∀ t ∈ (Finset.univ : Finset (Fin 256)), ∀ t' ∈ (Finset.univ : Finset (Fin 256)), t ≠ t' →
    Disjoint (ringRow s t.val) (ringRow s t'.val) := by
  intro t _ t' _ h
  rw [Finset.disjoint_left]; intro y h1 h2
  simp only [ringRow, Finset.mem_filter, Finset.mem_univ, true_and] at h1 h2
  exact h (Fin.ext (h1.2.symm.trans h2.2))
theorem tgt_biUnion : (Finset.univ : Finset S128x2880.Idx) = Finset.univ.biUnion fun t : Fin 128 => tRow t.val := by
  ext y
  simp only [tRow, Finset.mem_filter, Finset.mem_univ, true_and, Finset.mem_biUnion]
  exact ⟨fun _ => ⟨y 0, rfl⟩, fun _ => trivial⟩
theorem tgt_disj : ∀ t ∈ (Finset.univ : Finset (Fin 128)), ∀ t' ∈ (Finset.univ : Finset (Fin 128)), t ≠ t' →
    Disjoint (tRow t.val) (tRow t'.val) := by
  intro t _ t' _ h
  rw [Finset.disjoint_left]; intro y h1 h2
  simp only [tRow, Finset.mem_filter, Finset.mem_univ, true_and] at h1 h2
  exact h (Fin.ext (h1.symm.trans h2))

/-- A slot at rest: its semaphore at zero, its rows at some contents, its share of the table. -/
def ringFree (s : Fin 3) : sProp 𝕄 :=
  iprop(semVal ((c : Thread nD τ), SemLoc.dma (ringSem s)) 0 ∗ (∃ f, ringPt c (slotSet s.val) f) ∗ wordsPt c q w)
/-- A slot in flight: every row's transfer issued and none waited for, and what is left of its share of the table. -/
def ringFly (id : ℕ → BitVec 32) (s : Fin 3) : sProp 𝕄 :=
  iprop(ringB c q w id s 256 0 ∗ wordsPt c (shareDrop q 256) w)
def tgtFree : sProp 𝕄 :=
  iprop(semVal ((c : Thread nD τ), SemLoc.dma tSem) 0 ∗ (∃ f, tPt c Finset.univ f) ∗ wordsPt c q w)
def tgtFly (id : ℕ → BitVec 32) : sProp 𝕄 :=
  iprop(tgtB c q w id 128 0 ∗ wordsPt c (shareDrop q 128) w)

theorem rows_aux {α : Type} (P : α → sProp (MT nD τ sig Unit (Elt F) ℕ (Pipeline.UD sig nD τ) ℕ)) (f : α) : P f ⊢ (iprop(∃ f, P f) : sProp 𝕄) := by
  iintro H
  iexists f
  iexact H

theorem ring_back (id : ℕ → BitVec 32) (s : ℕ) :
    (bigSep Finset.univ fun t : Fin 256 => ringD c q w id s t)
      ⊢ (iprop(ringPt c (slotSet s) (ringG w id) ∗ bigSep Finset.univ fun t : Fin 256 => wordsPt c (shareTok q 256 t) w) : sProp 𝕄) := by
  unfold ringD
  rw [BI.bigSep_sep']
  unfold ringPt
  rw [slot_biUnion, pointsTo_biUnion _ _ (slot_disj s)]

theorem tgt_back (id : ℕ → BitVec 32) :
    (bigSep Finset.univ fun t : Fin 128 => tgtD c q w id t)
      ⊢ (iprop(tPt c Finset.univ (tgtG w id) ∗ bigSep Finset.univ fun t : Fin 128 => wordsPt c (shareTok q 128 t) w) : sProp 𝕄) := by
  unfold tgtD
  rw [BI.bigSep_sep']
  unfold tPt
  rw [tgt_biUnion, pointsTo_biUnion _ _ tgt_disj]

theorem ring_rows (s : ℕ) (f : S3x256x2880.Idx → Elt F .i32) :
    ringPt c (slotSet s) f ⊢ (bigSep Finset.univ fun t : Fin 256 => iprop(∃ f, ringPt c (ringRow s t.val) f) : sProp 𝕄) := by
  unfold ringPt
  rw [slot_biUnion, pointsTo_biUnion _ _ (slot_disj s)]
  exact BI.bigSep_mono (fun t _ => rows_aux _ f)

theorem tgt_rows (f : S128x2880.Idx → Elt F .i32) :
    tPt c Finset.univ f ⊢ (bigSep Finset.univ fun t : Fin 128 => iprop(∃ f, tPt c (tRow t.val) f) : sProp 𝕄) := by
  unfold tPt
  rw [tgt_biUnion, pointsTo_biUnion _ _ tgt_disj]
  exact BI.bigSep_mono (fun t _ => rows_aux _ f)

theorem ring_open (ids : S12288.Idx → BitVec 32) (ch : ℕ) (s : Fin 3) :
    iprop(ringFree c q w s ∗ idsPt c ids) ⊢ (|={Set.univ}=> iprop(ringIss c q w ids ch s 0 ∗ wordsPt c (shareDrop q 256) w) : sProp 𝕄) := by
  unfold ringFree ringIss
  iintro ⟨⟨Hv, ⟨%f, Hr⟩, Hw⟩, Hs⟩
  imod (batch_alloc' EC (c : Thread nD τ) () rowCredit (ringD c q w (sid ids ch) s.val)) $$ Hv with HB
  ihave Hw := (pointsTo_toks q 256).1 $$ Hw
  icases Hw with ⟨Hw, Ht⟩
  imodintro
  isplitr [Hw]
  · isplitl [HB]; · iexact HB
    isplitr [Hs]
    · rw [Ring.rangeSet_univ]
      rw [BI.bigSep_sep']
      isplitl [Hr]
      · iapply (ring_rows c s.val f) $$ Hr
      · iexact Ht
    · iexact Hs
  · iexact Hw

theorem tgt_open (tids : S768.Idx → BitVec 32) (b : ℕ) :
    iprop(tgtFree c q w ∗ tidsPt c tids) ⊢ (|={Set.univ}=> iprop(tgtIss c q w tids b 0 ∗ wordsPt c (shareDrop q 128) w) : sProp 𝕄) := by
  unfold tgtFree tgtIss
  iintro ⟨⟨Hv, ⟨%f, Hr⟩, Hw⟩, Hs⟩
  imod (batch_alloc' EC (c : Thread nD τ) () rowCredit (tgtD c q w (tid tids b))) $$ Hv with HB
  ihave Hw := (pointsTo_toks q 128).1 $$ Hw
  icases Hw with ⟨Hw, Ht⟩
  imodintro
  isplitr [Hw]
  · isplitl [HB]; · iexact HB
    isplitr [Hs]
    · rw [Ring.rangeSet_univ]
      rw [BI.bigSep_sep']
      isplitl [Hr]
      · iapply (tgt_rows c f) $$ Hr
      · iexact Ht
    · iexact Hs
  · iexact Hw

theorem ring_close (id : ℕ → BitVec 32) (s : Fin 3) :
    iprop(ringB c q w id s 256 (rowCredit * 256) ∗ wordsPt c (shareDrop q 256) w)
      ⊢ (|={Set.univ}=> iprop(semVal ((c : Thread nD τ), SemLoc.dma (ringSem s)) 0 ∗ ringPt c (slotSet s.val) (ringG w id) ∗ wordsPt c q w) : sProp 𝕄) := by
  iintro ⟨HB, Hw⟩
  imod (batch_collect' EC (c : Thread nD τ) rowCredit_pos) $$ HB with ⟨HD, Hv⟩
  imodintro
  isplitl [Hv]; · iexact Hv
  ihave HD := (ring_back c q w id s.val) $$ HD
  icases HD with ⟨HD, Ht⟩
  isplitl [HD]; · iexact HD
  · iapply (pointsTo_toks q 256).2
    isplitl [Hw]; · iexact Hw
    iexact Ht

theorem tgt_close (id : ℕ → BitVec 32) :
    iprop(tgtB c q w id 128 (rowCredit * 128) ∗ wordsPt c (shareDrop q 128) w)
      ⊢ (|={Set.univ}=> iprop(semVal ((c : Thread nD τ), SemLoc.dma tSem) 0 ∗ tPt c Finset.univ (tgtG w id) ∗ wordsPt c q w) : sProp 𝕄) := by
  iintro ⟨HB, Hw⟩
  imod (batch_collect' EC (c : Thread nD τ) rowCredit_pos) $$ HB with ⟨HD, Hv⟩
  imodintro
  isplitl [Hv]; · iexact Hv
  ihave HD := (tgt_back c q w id) $$ HD
  icases HD with ⟨HD, Ht⟩
  isplitl [HD]; · iexact HD
  · iapply (pointsTo_toks q 128).2
    isplitl [Hw]; · iexact Hw
    iexact Ht

theorem t8_trips : k0_t8_loop.trips = 256 := by decide +kernel
theorem t5_trips : k0_t5_loop.trips = 128 := by decide +kernel

/-- The waits of a slot: `k` of its 256 rows waited for. -/
def ringWait (id : ℕ → BitVec 32) (s : Fin 3) (k : ℕ) : sProp 𝕄 :=
  iprop(ringB c q w id s 256 (rowCredit * k) ∗ ∃ W, owes (c : Thread nD τ) 0 W)
def tgtWait (id : ℕ → BitVec 32) (k : ℕ) : sProp 𝕄 :=
  iprop(tgtB c q w id 128 (rowCredit * k) ∗ ∃ W, owes (c : Thread nD τ) 0 W)

theorem t8_trip (id : ℕ → BitVec 32) (a : Fin k0_t4_loop.trips) (b : Fin k0_t6_loop.trips) (x1 x2 x3 : BitVec 32) (k : Fin k0_t8_loop.trips) :
    ringWait c q w id (slotOf (8 * a.val + b.val)) k.val ⊢ wp frame (wpE defs₀ Variants.none (c : Thread nD τ) none) Set.univ
      (k0_t8_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 x2 x3 b k ()) (fun _ => ringWait c q w id (slotOf (8 * a.val + b.val)) (k.val + 1)) := by
  have hk : k.val < 256 := lt_of_lt_of_eq k.isLt t8_trips
  unfold k0_t8_body ringWait
  simp only [Prog.bind_assoc, Prog.bind_lift, Prog.bind_ret, Prog.bind_op, pure_bind, bind_assoc]
  unfold ringB
  rw [← ringSem_eq (slotOf (8 * a.val + b.val)) (k0_off147_eq a b) (k0_off147_inb a b)]
  iintro ⟨HB, ⟨%W, HO⟩⟩
  iapply (wp_waitBatchMul EC Variants.none (c : Thread nD τ) none (N := rowCredit) (D := ringD c q w id (slotOf (8 * a.val + b.val)).val) (j := 256) (u := rowCredit * k.val) () 1 ((ring_credit).trans (Nat.one_mul _).symm)
    (by rw [Nat.one_mul, ← Nat.mul_succ]; exact Nat.mul_le_mul_left _ hk)) $$ [HB HO]
  · isplitl [HB]; · iexact HB
    iexact HO
  iintro ⟨HB, HO⟩
  rw [wp_pure]
  imodintro
  isplitl [HB]
  · rw [Nat.one_mul, ← Nat.mul_succ]; iexact HB
  · iexists _; iexact HO

theorem t5_trip (id : ℕ → BitVec 32) (a : Fin k0_t4_loop.trips) (x1 x2 : BitVec 32) (k : Fin k0_t5_loop.trips) :
    tgtWait c q w id k.val ⊢ wp frame (wpE defs₀ Variants.none (c : Thread nD τ) none) Set.univ
      (k0_t5_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 x1 x2 a k ()) (fun _ => tgtWait c q w id (k.val + 1)) := by
  have hk : k.val < 128 := lt_of_lt_of_eq k.isLt t5_trips
  unfold k0_t5_body tgtWait
  simp only [Prog.bind_assoc, Prog.bind_lift, Prog.bind_ret, Prog.bind_op, pure_bind, bind_assoc]
  unfold tgtB
  rw [← tSem_eq]
  iintro ⟨HB, ⟨%W, HO⟩⟩
  iapply (wp_waitBatchMul EC Variants.none (c : Thread nD τ) none (N := rowCredit) (D := tgtD c q w id) (j := 128) (u := rowCredit * k.val) () 1 ((tgt_credit).trans (Nat.one_mul _).symm)
    (by rw [Nat.one_mul, ← Nat.mul_succ]; exact Nat.mul_le_mul_left _ hk)) $$ [HB HO]
  · isplitl [HB]; · iexact HB
    iexact HO
  iintro ⟨HB, HO⟩
  rw [wp_pure]
  imodintro
  isplitl [HB]
  · rw [Nat.one_mul, ← Nat.mul_succ]; iexact HB
  · iexists _; iexact HO

end Cert.Kernel.Hand
-- ==== Proof.Known.lean ====
/-
  Hand-written. A buffer of which some elements are known: what a load reads of it, and what a store adds.
-/
module

public import Idealize.ShloMosaic.Lib.Writes
public import Idealize.ShloMosaic.Lib.Tactic

@[expose] public section

noncomputable section

namespace Cert.Dma

open Idealize.ShloMosaic Idealize.ShloMosaic.Tactic
open Idealize.SL Idealize.SL.RA
open Idealize.SL.BI (sProp)
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ}

local notation "𝕄" => MT nD τ sig Ix Val Name U Lvl

variable {cs : CoreSpace} {s : Shape} {e : EltTy}

/-- The buffer behind `m` with, on the elements of `D`, the contents `G`. -/
def Known (c : Thread nD τ) (m : Memref sig c.2.kind cs s e) (S : Finset (Idx (m.view.loc c))) (q : PosShare TreeShare)
    (G : s.Idx → Val e) (D : s.Idx → Prop) : sProp 𝕄 :=
  iprop(∃ f, (m.view.loc c ↦[S]{q} f) ∗ ⌜∀ y, D y → m.view.read Val f y = G y⌝)

variable (𝒱 : Variants) (c : Thread nD τ) (bd : Option 𝒱.V) (E : Set Name)
variable {α : Type} {Q : α → sProp (MT nD τ sig Ix Val Name U Lvl)}

/-- What is known may be restated: fewer elements, other contents that agree there. -/
theorem known_mono {m : Memref sig c.2.kind cs s e} {S : Finset (Idx (m.view.loc c))} {q : PosShare TreeShare}
    {G G' : s.Idx → Val e} {D D' : s.Idx → Prop} (h : ∀ y, D' y → D y ∧ G y = G' y) :
    Known c m S q G D ⊢ (Known c m S q G' D' : sProp 𝕄) := by
  unfold Known
  iintro ⟨%f, H, %hf⟩
  iexists f
  isplitl [H]; · iexact H
  ipureintro
  exact fun y hy => (hf y (h y hy).1).trans (h y hy).2

/-- A load of a buffer that is known on `D`: what it reads is known where the rectangle meets `D`. -/
theorem wp_known_load {m : Memref sig c.2.kind cs s e} {r : Rect s} {hl : m.view.LoadsAt r.toLoadRect}
    {k : (r.shape.Idx → Val e) → Prog (TpuEff nD τ sig Val Λ c.2) α} {S : Finset (Idx (m.view.loc c))} {q : PosShare TreeShare}
    {G : s.Idx → Val e} {D : s.Idx → Prop} (hS : (m.access r).set ⊆ S) :
    Known c m S q G D
      ⊢ iprop((∀ v : r.shape.Idx → Val e, ⌜∀ x, D (r.emb x) → v x = G (r.emb x)⌝ -∗ Known c m S q G D
            -∗ wp frame (wpE defs 𝒱 c bd) E (k v) Q)
        -∗ wp frame (wpE defs 𝒱 c bd) E (.op (.load m r.toLoadRect hl) k) Q) := by
  unfold Known
  iintro ⟨%f, H, %hf⟩ Hk
  iapply (wp_load_rect 𝒱 c bd E (m := m) (r := r) (hl := hl) (S := S) hS) $$ H
  iintro H
  iapply Hk $$ %((m.access r).read Val f) [] [H]
  · ipureintro
    exact fun x hx => hf _ hx
  · iexists f
    isplitl [H]; · iexact H
    ipureintro; exact hf

/-- A store of contents that agree with `G` adds the rectangle to what is known. -/
theorem wp_known_store {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α}
    {G : s.Idx → Val e} {D : s.Idx → Prop} (D' : s.Idx → Prop) (hw : ∀ x, w x = G (r.emb x)) (hD : ∀ y, D' y → D y ∨ y ∈ r.set) :
    Known c m Finset.univ fullShare G D
      ⊢ iprop((Known c m Finset.univ fullShare G D' -∗ wp frame (wpE defs 𝒱 c bd) E (k ⟨⟩) Q)
        -∗ wp frame (wpE defs 𝒱 c bd) E (.op (.store m r w Finset.univ hx hm) k) Q) := by
  unfold Known
  iintro ⟨%f, H, %hf⟩ Hk
  iapply (wp_store_writes₀ 𝒱 c bd E (m := m) (r := r) (w := w) (hx := hx) (hm := hm) (k := k) (S := Finset.univ) (f := f) (Q := Q) (Finset.subset_univ _)) $$ H
  iintro H
  iapply Hk
  iexists (m.view.writes Val f [⟨r, w⟩])
  isplitl [H]; · iexact H
  ipureintro
  intro y hy
  by_cases hr : y ∈ r.set
  · obtain ⟨x, hx⟩ := LoadRect.exists_idx_of_mem r.toLoadRect hr
    have hx : r.emb x = y := hx
    subst hx
    rw [View.read_writes_cons_emb, hw]
  · rw [View.read_writes_cons_miss m.view f ⟨r, w⟩ [] y hr]
    exact hf y ((hD y hy).resolve_right hr)

/-- A load of known elements, whose values the caller names. -/
theorem wp_known_load_eq {m : Memref sig c.2.kind cs s e} {r : Rect s} {hl : m.view.LoadsAt r.toLoadRect}
    {k : (r.shape.Idx → Val e) → Prog (TpuEff nD τ sig Val Λ c.2) α} {S : Finset (Idx (m.view.loc c))} {q : PosShare TreeShare}
    {G : s.Idx → Val e} {D : s.Idx → Prop} (T : r.shape.Idx → Val e) (hS : (m.access r).set ⊆ S) (hD : ∀ x, D (r.emb x))
    (hT : ∀ x, G (r.emb x) = T x) :
    Known c m S q G D
      ⊢ iprop((Known c m S q G D -∗ wp frame (wpE defs 𝒱 c bd) E (k T) Q)
        -∗ wp frame (wpE defs 𝒱 c bd) E (.op (.load m r.toLoadRect hl) k) Q) := by
  iintro H Hk
  iapply (wp_known_load 𝒱 c bd E (m := m) (r := r) (hl := hl) (S := S) hS) $$ H
  iintro %v %hv H
  have hv' : v = T := funext fun x => (hv x (hD x)).trans (hT x)
  subst hv'
  iapply Hk $$ H

/-- A load that only precedes a store of the same elements. -/
theorem wp_known_load_any {m : Memref sig c.2.kind cs s e} {r : Rect s} {hl : m.view.LoadsAt r.toLoadRect}
    {k : (r.shape.Idx → Val e) → Prog (TpuEff nD τ sig Val Λ c.2) α} {q : PosShare TreeShare}
    {G : s.Idx → Val e} {D : s.Idx → Prop} :
    Known c m Finset.univ q G D
      ⊢ iprop((∀ v : r.shape.Idx → Val e, Known c m Finset.univ q G D -∗ wp frame (wpE defs 𝒱 c bd) E (k v) Q)
        -∗ wp frame (wpE defs 𝒱 c bd) E (.op (.load m r.toLoadRect hl) k) Q) := by
  iintro H Hk
  iapply (wp_known_load 𝒱 c bd E (m := m) (r := r) (hl := hl) (S := Finset.univ) (Finset.subset_univ _)) $$ H
  iintro %v %hv H
  iapply Hk $$ %v H

/-- A load and a store of the same rectangle: the load's value is not used. -/
theorem wp_known_put {m : Memref sig c.2.kind cs s e} {r : Rect s} {hl : m.view.LoadsAt r.toLoadRect} {w : r.shape.Idx → Val e}
    {hx : (m.access r).Stores Finset.univ} {hm : Finset.univ = Finset.univ ∨ ∀ a, r.stride a = 1}
    {k : PUnit → Prog (TpuEff nD τ sig Val Λ c.2) α}
    {G : s.Idx → Val e} {D : s.Idx → Prop} (D' : s.Idx → Prop) (hD : ∀ y, D' y → D y ∨ y ∈ r.set) :
    Known c m Finset.univ fullShare G D
      ⊢ iprop(⌜∀ x, w x = G (r.emb x)⌝ -∗ (Known c m Finset.univ fullShare G D' -∗ wp frame (wpE defs 𝒱 c bd) E (k ⟨⟩) Q)
        -∗ wp frame (wpE defs 𝒱 c bd) E (.op (.load m r.toLoadRect hl) fun _ => .op (.store m r w Finset.univ hx hm) k) Q) := by
  iintro H %hw Hk
  iapply (wp_known_load_any 𝒱 c bd E (m := m) (r := r) (hl := hl)) $$ H
  iintro %v H
  iapply (wp_known_store 𝒱 c bd E (m := m) (r := r) (w := w) (hx := hx) (hm := hm) (k := k) D' hw hD) $$ H
  iexact Hk

end Cert.Dma
-- ==== Proof.Spec.lean ====
/-
  Hand-written. The contents of every buffer of the kernel, as functions of the kernel's inputs: what each store
  writes and what each load reads, in the payloads' own terms.
-/
module

public import proofs.«01_k».proof.Proof.Slots
public import proofs.«01_k».proof.Proof.Known
public import Idealize.ShloMosaic.Lib.ValueLayout

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

open Idealize.ShloMosaic.ValueIdx Cert.Dma

/-- Indices by natural coordinates, each taken modulo its extent. -/
abbrev i2 {n0 n1 : ℕ} [NeZero n0] [NeZero n1] (a b : ℕ) : (⟨2, ![n0, n1]⟩ : Shape).Idx := ix2 (Fin.ofNat n0 a) (Fin.ofNat n1 b)
abbrev i3 {n0 n1 n2 : ℕ} [NeZero n0] [NeZero n1] [NeZero n2] (a b d : ℕ) : (⟨3, ![n0, n1, n2]⟩ : Shape).Idx :=
  ix3 (Fin.ofNat n0 a) (Fin.ofNat n1 b) (Fin.ofNat n2 d)

theorem emb2 {n0 n1 m0 m1 : ℕ} [NeZero n0] [NeZero n1] {off : Fin 2 → ℕ} {R C : ℕ} (e : off = ![R, C])
    (inb : ∀ a, off a + (![m0, m1] : Fin 2 → ℕ) a ≤ (⟨2, ![n0, n1]⟩ : Shape).size a) (x : (⟨2, ![m0, m1]⟩ : Shape).Idx) :
    (Rect.unit (s := ⟨2, ![n0, n1]⟩) off ![m0, m1] inb).emb x = i2 (R + (x 0).val) (C + (x 1).val) := by
  subst e
  have h0 : (x 0).val < m0 := (x 0).isLt
  have h1 : (x 1).val < m1 := (x 1).isLt
  have b0 : R + m0 ≤ n0 := inb 0
  have b1 : C + m1 ≤ n1 := inb 1
  funext a
  match a with
  | ⟨0, _⟩ => exact Fin.ext (by show R + 1 * (x 0).val = (R + (x 0).val) % n0; rw [Nat.mod_eq_of_lt (by omega)]; omega)
  | ⟨1, _⟩ => exact Fin.ext (by show C + 1 * (x 1).val = (C + (x 1).val) % n1; rw [Nat.mod_eq_of_lt (by omega)]; omega)

theorem emb3 {n0 n1 n2 m0 m1 m2 : ℕ} [NeZero n0] [NeZero n1] [NeZero n2] {off : Fin 3 → ℕ} {R C D : ℕ} (e : off = ![R, C, D])
    (inb : ∀ a, off a + (![m0, m1, m2] : Fin 3 → ℕ) a ≤ (⟨3, ![n0, n1, n2]⟩ : Shape).size a) (x : (⟨3, ![m0, m1, m2]⟩ : Shape).Idx) :
    (Rect.unit (s := ⟨3, ![n0, n1, n2]⟩) off ![m0, m1, m2] inb).emb x = i3 (R + (x 0).val) (C + (x 1).val) (D + (x 2).val) := by
  subst e
  have h0 : (x 0).val < m0 := (x 0).isLt
  have h1 : (x 1).val < m1 := (x 1).isLt
  have h2 : (x 2).val < m2 := (x 2).isLt
  have b0 : R + m0 ≤ n0 := inb 0
  have b1 : C + m1 ≤ n1 := inb 1
  have b2 : D + m2 ≤ n2 := inb 2
  funext a
  match a with
  | ⟨0, _⟩ => exact Fin.ext (by show R + 1 * (x 0).val = (R + (x 0).val) % n0; rw [Nat.mod_eq_of_lt (by omega)]; omega)
  | ⟨1, _⟩ => exact Fin.ext (by show C + 1 * (x 1).val = (C + (x 1).val) % n1; rw [Nat.mod_eq_of_lt (by omega)]; omega)
  | ⟨2, _⟩ => exact Fin.ext (by show D + 1 * (x 2).val = (D + (x 2).val) % n2; rw [Nat.mod_eq_of_lt (by omega)]; omega)

/-- What the kernel reads: the packed table, the ids and targets (as scalars and as rows), the hidden states, the
    padded scale and log-probability tables, the cotangents. -/
structure Ins (F : FTy → Type) where
  w : S15000x2880.Idx → Elt F .i32
  ids : S12288.Idx → BitVec 32
  tids : S768.Idx → BitVec 32
  idv : S96x1x128.Idx → Elt F .i32
  tgv : S6x1x128.Idx → Elt F .i32
  x : S768x2880.Idx → Elt F .bf16
  tsc : S512x128.Idx → Elt F .f32
  tlq : S512x128.Idx → Elt F .f32
  g : S6x1x128.Idx → Elt F .f32

variable (A : Ins F)

/-- The lane numbers. -/
abbrev iot : IVec S128x128 32 := iota .tc S128x128 32 [1] iota_S128x128_d1_w32

/-- Row `n` of the sampled ids, row `a` of the targets and of the cotangents. -/
def idRow (n : ℕ) : S1x1x128.Idx → Elt F .i32 := fun i => A.idv (i3 n 0 (i 2).val)
def tgRow (a : ℕ) : S1x1x128.Idx → Elt F .i32 := fun i => A.tgv (i3 a 0 (i 2).val)
def gRow (a : ℕ) : S1x1x128.Idx → Elt F .f32 := fun i => A.g (i3 a 0 (i 2).val)

/-- Tiles of the ring's slot of chunk `n`, of the target buffer, and of the hidden states of batch `a`. -/
def ringT {m0 m1 : ℕ} (n R C : ℕ) : (⟨3, ![1, m0, m1]⟩ : Shape).Idx → Elt F .i32 :=
  fun i => ringG A.w (sid A.ids n) (i3 0 (R + (i 1).val) (C + (i 2).val))
def tgtT {m0 m1 : ℕ} (a C : ℕ) : (⟨2, ![m0, m1]⟩ : Shape).Idx → Elt F .i32 :=
  fun i => tgtG A.w (tid A.tids a) (i2 (i 0).val (C + (i 1).val))
def xT {m0 m1 : ℕ} (a C : ℕ) : (⟨2, ![m0, m1]⟩ : Shape).Idx → Elt F .bf16 :=
  fun i => A.x (i2 (128 * a + (i 0).val) (C + (i 1).val))

/-- The sampled codes of batch `a`, unpacked, and their tiles. -/
def CBn (a r col : ℕ) : Elt F .bf16 :=
  k0_pay12 (k0_pay9 (F := F) (idRow A (16 * a + r / 128)))
    (fun _ => ringG A.w (sid A.ids (8 * a + r / 256)) (i3 0 (r % 256) col)) (i2 (r % 128) 0)
def CB (a : ℕ) : S2048x2880.Idx → Elt F .bf16 := fun y => CBn A a (y 0).val (y 1).val
def cbT {m0 m1 : ℕ} (a R C : ℕ) : (⟨2, ![m0, m1]⟩ : Shape).Idx → Elt F .bf16 :=
  fun i => CBn A a (R + (i 0).val) (C + (i 1).val)

/-- The table of scales and log-probabilities in three pieces each. -/
def TP : S512x768.Idx → Elt F .bf16 := fun y =>
  let j : S512x128.Idx := i2 (y 0).val ((y 1).val % 128)
  if (y 1).val < 128 then k0_pay1 (k0_pay155 A.tsc) j
  else if (y 1).val < 256 then k0_pay2 (k0_pay156 A.tsc) j
  else if (y 1).val < 384 then k0_pay3 (k0_pay157 A.tsc) j
  else if (y 1).val < 512 then k0_pay4 (k0_pay163 A.tlq) j
  else if (y 1).val < 640 then k0_pay5 (k0_pay161 A.tlq) j
  else k0_pay6 (k0_pay162 A.tlq) j

/-- The scales and the logits of block `j` of batch `a`. -/
def scN (a j : ℕ) : S128x128.Idx → Elt F .f32 :=
  let d := k0_pay8 (F := F) (idRow A (16 * a + j))
  k0_pay47 iot d (k0_pay38 iot d) (k0_pay39 iot d) (k0_pay40 iot d) (k0_pay41 iot d) k0_pay42 k0_pay43 (TP A)
def zN (a j : ℕ) : S128x128.Idx → Elt F .f32 :=
  let d := k0_pay8 (F := F) (idRow A (16 * a + j))
  k0_pay49 (k0_pay48 iot (k0_pay86 (F := F) (tgRow A a)) d (k0_pay38 iot d) (k0_pay39 iot d) (k0_pay40 iot d) (k0_pay41 iot d) k0_pay42 k0_pay43 (TP A)
    (cbT A a (128 * j) 0) (xT A a 0))
def SC (a : ℕ) : S2048x128.Idx → Elt F .f32 := fun y => scN A a ((y 0).val / 128) (i2 ((y 0).val % 128) (y 1).val)
def ZZ (a : ℕ) : S2048x128.Idx → Elt F .f32 := fun y => zN A a ((y 0).val / 128) (i2 ((y 0).val % 128) (y 1).val)

/-- The targets' row, shifts and table look-ups of batch `a`, and the targets' dots, chunk by chunk. -/
def tcol (a : ℕ) : IVec S128x128 32 := k0_pay87 (F := F) (tgRow A a)
def tsh (a : ℕ) : IVec S128x128 32 := k0_pay88 (F := F) (tgRow A a)
def acc0 (a : ℕ) : FVec F S128x128 .f32 := k0_pay89 (tgRow A a) (tgtT A a 0) (xT A a 0) (tgtT A a 128) (xT A a 128)
def acc1 (a : ℕ) : FVec F S128x128 .f32 := k0_pay90 (tsh A a) (acc0 A a) (tgtT A a 256) (xT A a 256) (tgtT A a 384) (xT A a 384) (tgtT A a 512) (xT A a 512) (tgtT A a 640) (xT A a 640)
def acc2 (a : ℕ) : FVec F S128x128 .f32 := k0_pay91 (tsh A a) (acc1 A a) (tgtT A a 768) (xT A a 768) (tgtT A a 896) (xT A a 896) (tgtT A a 1024) (xT A a 1024) (tgtT A a 1152) (xT A a 1152)
def acc3 (a : ℕ) : FVec F S128x128 .f32 := k0_pay92 (tsh A a) (acc2 A a) (tgtT A a 1280) (xT A a 1280) (tgtT A a 1408) (xT A a 1408) (tgtT A a 1536) (xT A a 1536) (tgtT A a 1664) (xT A a 1664)
def acc4 (a : ℕ) : FVec F S128x128 .f32 := k0_pay93 (tsh A a) (acc3 A a) (tgtT A a 1792) (xT A a 1792) (tgtT A a 1920) (xT A a 1920) (tgtT A a 2048) (xT A a 2048) (tgtT A a 2176) (xT A a 2176)
def acc5 (a : ℕ) : FVec F S128x128 .f32 := k0_pay94 (tsh A a) (acc4 A a) (tgtT A a 2304) (xT A a 2304) (tgtT A a 2432) (xT A a 2432) (tgtT A a 2560) (xT A a 2560) (tgtT A a 2688) (xT A a 2688)
def acc6 (a : ℕ) : FVec F S128x128 .f32 := k0_pay95 (tsh A a) (acc5 A a) (tgtT A a 2816) (xT A a 2816)
def hot (a : ℕ) : FVec F S128x512 .bf16 := k0_pay96 (F := F) iot (tcol A a)

/-- Batch `a`'s target scale, target logit, and the softmax's maximum and correction. -/
def tscale (a : ℕ) : FVec F S128x1 .f32 := k0_pay99 iot (tcol A a) (hot A a) (TP A)
def zt (a : ℕ) : FVec F S1x128 .f32 := k0_pay100 iot (tcol A a) (acc6 A a) (hot A a) (TP A)
def v396 (a : ℕ) : FVec F S1x128 .f32 := k0_pay102 (ZZ A a)
def v397 (a : ℕ) : FVec F S1x128 .f32 := k0_pay103 iot (tcol A a) (acc6 A a) (hot A a) (TP A) (ZZ A a)

/-- What batch `a` writes: the loss, the target's and the samples' gradient, and the hidden states' gradient. -/
def lossN (a : ℕ) : S1x1x128.Idx → Elt F .f32 := k0_pay107 (zt A a) (v396 A a) (v397 A a)
def dztN (a : ℕ) : S1x1x128.Idx → Elt F .f32 := k0_pay108 (zt A a) (v396 A a) (v397 A a) (gRow A a)
def dzN (a : ℕ) : S2048x128.Idx → Elt F .f32 := k0_pay109 (zt A a) (ZZ A a) (v396 A a) (v397 A a) (gRow A a)
def dzs (a : ℕ) : FVec F S128x2048 .bf16 := k0_pay110 (zt A a) (ZZ A a) (v396 A a) (v397 A a) (gRow A a) (SC A a)
def coef (a : ℕ) : FVec F S128x128 .f32 := k0_pay111 (tscale A a) (zt A a) (v396 A a) (v397 A a) (gRow A a)
def dhA (a C : ℕ) : S128x128.Idx → Elt F .bf16 := k0_pay113 (tsh A a) (dzs A a) (coef A a) (cbT A a 0 C) (tgtT A a C)
def dhB (a C : ℕ) : S128x128.Idx → Elt F .bf16 := k0_pay114 (tsh A a) (dzs A a) (coef A a) (cbT A a 0 C) (tgtT A a (C + 128))
def dhC (a : ℕ) : S128x64.Idx → Elt F .bf16 := k0_pay7 (k0_pay149 (dzs A a) (cbT A a 0 2816)) (k0_pay150 (tsh A a) (coef A a) (tgtT A a 2816))

def LOSS : S6x1x128.Idx → Elt F .f32 := fun y => lossN A (y 0).val (i3 0 0 (y 2).val)
def DZT : S6x1x128.Idx → Elt F .f32 := fun y => dztN A (y 0).val (i3 0 0 (y 2).val)
def DZ : S12288x128.Idx → Elt F .f32 := fun y => dzN A ((y 0).val / 2048) (i2 ((y 0).val % 2048) (y 1).val)
def DH : S768x2880.Idx → Elt F .bf16 := fun y =>
  if (y 1).val < 2816 then
    if (y 1).val % 256 < 128 then dhA A ((y 0).val / 128) (256 * ((y 1).val / 256)) (i2 ((y 0).val % 128) ((y 1).val % 256))
    else dhB A ((y 0).val / 128) (256 * ((y 1).val / 256)) (i2 ((y 0).val % 128) ((y 1).val % 256 - 128))
  else dhC A ((y 0).val / 128) (i2 ((y 0).val % 128) ((y 1).val - 2816))

/-! ## The unpacked tiles -/

theorem pay8_apply (v : S1x1x128.Idx → Elt F .i32) (i j : Fin 128) : k0_pay8 (F := F) v (ix2 i j) = v (ix3 0 0 i) := by
  unfold k0_pay8
  simp only [shapeCast_self]
  rw [transpose_ix2_apply, broadcastTo_1b_ab_apply, shapeCast_1ab_ab_apply]

theorem pay12_apply (S : IVec S128x128 32) (V : S1x128x128.Idx → Elt F .i32) (i j : Fin 128) :
    k0_pay12 (F := F) S V (ix2 i j)
      = FloatOps.truncf .bf16 bitsLt_bf16_f32 (FloatOps.sitofp .f32 (IntOp.shrsi .vector (IntOp.shli .vector (V (ix3 0 i j)) (S (ix2 i j))) 24#32)) := by
  unfold k0_pay12
  simp only [shapeCast_self]
  simp only [truncf, sitofp, shrsi, shli, broadcast]
  rw [shapeCast_1ab_ab_apply]

theorem pay36_apply (S : IVec S128x128 32) (V : S1x128x64.Idx → Elt F .i32) (i : Fin 128) (j : Fin 64) :
    k0_pay36 (F := F) S V (ix2 i j)
      = FloatOps.truncf .bf16 bitsLt_bf16_f32 (FloatOps.sitofp .f32 (IntOp.shrsi .vector (IntOp.shli .vector (V (ix3 0 i j)) (S (ix2 i ⟨j.val, by omega⟩))) 24#32)) := by
  unfold k0_pay36
  simp only [shapeCast_self]
  simp only [truncf, sitofp, shrsi, shli, broadcast]
  rw [shapeCast_1ab_ab_apply]
  congr 4
  unfold extractStridedSlice
  congr 1
  funext a
  match a with
  | ⟨0, _⟩ => exact Fin.ext (Nat.zero_add _)
  | ⟨1, _⟩ => exact Fin.ext (Nat.zero_add _)

theorem pay9_apply (v : S1x1x128.Idx → Elt F .i32) (i j j' : Fin 128) : k0_pay9 (F := F) v (ix2 i j) = k0_pay9 (F := F) v (ix2 i j') := by
  unfold k0_pay9
  simp only [subi, muli, andi, broadcast]
  rw [pay8_apply, pay8_apply]

theorem cb_tile_core (a b h C : ℕ) (hh : h < 2) (i j : Fin 128) :
    k0_pay12 (k0_pay9 (F := F) (idRow A (16 * a + 2 * b + h))) (ringT A (8 * a + b) (128 * h) C) (ix2 i j)
      = CBn A a (256 * b + 128 * h + i.val) (C + j.val) := by
  have h0 : i.val < 128 := i.isLt
  unfold CBn
  rw [pay12_apply, pay12_apply]
  have q1 : (256 * b + 128 * h + i.val) / 128 = 2 * b + h := by omega
  have q2 : (256 * b + 128 * h + i.val) / 256 = b := by omega
  have q3 : (256 * b + 128 * h + i.val) % 256 = 128 * h + i.val := by omega
  have q4 : (256 * b + 128 * h + i.val) % 128 = i.val := by omega
  rw [q1, q2, q3, q4, ← Nat.add_assoc]
  have q5 : Fin.ofNat 128 i.val = i := Fin.ext (Nat.mod_eq_of_lt h0)
  rw [q5, pay9_apply _ i (Fin.ofNat 128 0) j]
  rfl

theorem cb_tile64_core (a b h : ℕ) (hh : h < 2) (i : Fin 128) (j : Fin 64) :
    k0_pay36 (k0_pay9 (F := F) (idRow A (16 * a + 2 * b + h))) (ringT A (8 * a + b) (128 * h) 2816) (ix2 i j)
      = CBn A a (256 * b + 128 * h + i.val) (2816 + j.val) := by
  have h := cb_tile_core A a b h 2816 hh i ⟨j.val, by omega⟩
  rw [pay12_apply] at h
  rw [pay36_apply]
  exact h

theorem i2_val {n0 n1 : ℕ} [NeZero n0] [NeZero n1] {a b : ℕ} (ha : a < n0) (hb : b < n1) :
    ((i2 (n0 := n0) (n1 := n1) a b) 0).val = a ∧ ((i2 (n0 := n0) (n1 := n1) a b) 1).val = b :=
  ⟨Nat.mod_eq_of_lt ha, Nat.mod_eq_of_lt hb⟩

theorem CB_i2 (a r col : ℕ) (hr : r < 2048) (hc : col < 2880) : CB A a (i2 r col) = CBn A a r col := by
  have h := i2_val (n0 := 2048) (n1 := 2880) hr hc
  unfold CB
  rw [h.1, h.2]

/-- A tile unpacked from the ring's slot is the unpacked codes' tile. -/
theorem cb_tile (a b h C : ℕ) (hb : b < 8) (hh : h < 2) (hC : C + 128 ≤ 2880) (x : S128x128.Idx) :
    k0_pay12 (k0_pay9 (F := F) (idRow A (16 * a + 2 * b + h))) (ringT A (8 * a + b) (128 * h) C) x
      = CB A a (i2 (256 * b + 128 * h + (x 0).val) (C + (x 1).val)) := by
  have h0 : (x 0).val < 128 := (x 0).isLt
  have h1 : (x 1).val < 128 := (x 1).isLt
  rw [CB_i2 A a _ _ (by omega) (by omega)]
  exact (congrArg _ (eq_ix2 x)).trans (cb_tile_core A a b h C hh (x 0) (x 1))

theorem cb_tile64 (a b h : ℕ) (hb : b < 8) (hh : h < 2) (x : S128x64.Idx) :
    k0_pay36 (k0_pay9 (F := F) (idRow A (16 * a + 2 * b + h))) (ringT A (8 * a + b) (128 * h) 2816) x
      = CB A a (i2 (256 * b + 128 * h + (x 0).val) (2816 + (x 1).val)) := by
  have h0 : (x 0).val < 128 := (x 0).isLt
  have h1 : (x 1).val < 64 := (x 1).isLt
  rw [CB_i2 A a _ _ (by omega) (by omega)]
  exact (congrArg _ (eq_ix2 x)).trans (cb_tile64_core A a b h hh (x 0) (x 1))

end Cert.Kernel.Hand
-- ==== Proof.Steps.lean ====
/-
  Hand-written. One step of the kernel on each of its buffers: what a load reads and what a store adds.
-/
module

public import proofs.«01_k».proof.Proof.Spec

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

open Idealize.ShloMosaic.ValueIdx Cert.Dma

variable (c : Dev nD) (A : Ins F)

abbrev mIdv : Memref sig .tc .vmem S96x1x128 .i32 := Memref.whole cc0_stg2_0
abbrev mTgv : Memref sig .tc .vmem S6x1x128 .i32 := Memref.whole cc0_stg3_0
abbrev mX : Memref sig .tc .vmem S768x2880 .bf16 := Memref.whole cc0_stg4_0
abbrev mG : Memref sig .tc .vmem S6x1x128 .f32 := Memref.whole cc0_stg7_0
abbrev mCB : Memref sig .tc .vmem S2048x2880 .bf16 := Memref.whole cc0_scratch2
abbrev mZ : Memref sig .tc .vmem S2048x128 .f32 := Memref.whole cc0_scratch3
abbrev mSC : Memref sig .tc .vmem S2048x128 .f32 := Memref.whole cc0_scratch4
abbrev mTP : Memref sig .tc .vmem S512x768 .bf16 := Memref.whole cc0_scratch5

/-- Row by row, and column by column in the row block under way, what is done of a matrix. -/
def upTo {n0 n1 : ℕ} (H R C : ℕ) : (⟨2, ![n0, n1]⟩ : Shape).Idx → Prop :=
  fun y => (y 0).val < R ∨ ((y 0).val < R + H ∧ (y 1).val < C)

abbrev kRing (n : ℕ) : sProp 𝕄 := Known (c : Thread nD τ) mRing (slotSet (n % 3)) fullShare (ringG A.w (sid A.ids n)) (fun _ => True)
abbrev kIdv (q : PosShare TreeShare) : sProp 𝕄 := Known (c : Thread nD τ) mIdv Finset.univ q A.idv (fun _ => True)
abbrev kX (q : PosShare TreeShare) : sProp 𝕄 := Known (c : Thread nD τ) mX Finset.univ q A.x (fun _ => True)
abbrev kTP : sProp 𝕄 := Known (c : Thread nD τ) mTP Finset.univ fullShare (TP A) (upTo 512 0 768)
abbrev kZ (a R C : ℕ) : sProp 𝕄 := Known (c : Thread nD τ) mZ Finset.univ fullShare (ZZ A a) (upTo 128 R C)
abbrev kSC (a R C : ℕ) : sProp 𝕄 := Known (c : Thread nD τ) mSC Finset.univ fullShare (SC A a) (upTo 128 R C)
abbrev kCB (a R C : ℕ) : sProp 𝕄 := Known (c : Thread nD τ) mCB Finset.univ fullShare (CB A a) (upTo 128 R C)

variable {α : Type} {Q : α → sProp (MT nD τ sig Unit (Elt F) ℕ (Pipeline.UD sig nD τ) ℕ)}

theorem upTo_step {n0 n1 m0 m1 : ℕ} {off : Fin 2 → ℕ} {R C : ℕ} (e : off = ![R, C])
    (inb : ∀ a, off a + (![m0, m1] : Fin 2 → ℕ) a ≤ (⟨2, ![n0, n1]⟩ : Shape).size a) (y : (⟨2, ![n0, n1]⟩ : Shape).Idx)
    (h : upTo m0 R (C + m1) y) : upTo m0 R C y ∨ y ∈ (Rect.unit (s := ⟨2, ![n0, n1]⟩) off ![m0, m1] inb).set := by
  subst e
  rw [Rect.mem_set_unit]
  unfold upTo at h ⊢
  by_cases h0 : (y 0).val < R
  · exact .inl (.inl h0)
  by_cases h1 : (y 1).val < C
  · exact .inl (.inr ⟨by omega, h1⟩)
  refine .inr fun a => ?_
  match a with
  | ⟨0, _⟩ => exact ⟨by show R ≤ (y 0).val; omega, by show (y 0).val < R + m0; omega⟩
  | ⟨1, _⟩ => exact ⟨by show C ≤ (y 1).val; omega, by show (y 1).val < C + m1; omega⟩

theorem ring_sub {m1 : ℕ} {off : Fin 3 → ℕ} {n R C : ℕ} (e : off = ![n, R, C])
    (inb : ∀ a, off a + (![1, 128, m1] : Fin 3 → ℕ) a ≤ S3x256x2880.size a) :
    (mRing.access (Rect.unit (s := S3x256x2880) off ![1, 128, m1] inb)).set ⊆ slotSet n := by
  subst e
  show ((View.whole cc0_scratch0).slice (Rect.unit (s := S3x256x2880) ![n, R, C] ![1, 128, m1] inb)).set ⊆ _
  rw [View.set_slice_whole]
  intro y hy
  have hy := (Rect.mem_set_unit.mp hy) 0
  have h1 : n ≤ (y 0).val := hy.1
  have h2 : (y 0).val < n + 1 := hy.2
  simp only [slotSet, Finset.mem_filter, Finset.mem_univ, true_and]
  omega

/-- A tile of the ring's slot of chunk `n` read. -/
theorem ring_ld (n R C : ℕ) {off : Fin 3 → ℕ} [h : ClosedOff off] (e : h.form = ![n % 3, R, C]) {inb : ∀ a, off a + S1x128x128.size a ≤ S3x256x2880.size a}
    {hl} {k : _ → Prog (TpuEff nD τ sig (Elt F) Λ₀ .tc) α} :
    kRing c A n ⊢ iprop((kRing c A n -∗ wp frame (wpE defs₀ Variants.none (c : Thread nD τ) none) Set.univ (k (ringT A n R C)) Q)
      -∗ wp frame (wpE defs₀ Variants.none (c : Thread nD τ) none) Set.univ (.op (.load mRing (Rect.unit (s := S3x256x2880) off S1x128x128.size inb).toLoadRect hl) k) Q) := by
  have e' := h.eq.trans e
  refine wp_known_load_eq Variants.none (c : Thread nD τ) none Set.univ (m := mRing) (hl := hl) (k := k) (ringT A n R C) (ring_sub e' inb) (fun _ => trivial) fun x => ?_
  exact (congrArg (ringG A.w (sid A.ids n)) (emb3 e' inb x)).trans rfl

/-- The last, half-wide tile of the ring's slot of chunk `n` read. -/
theorem ring_ld64 (n R C : ℕ) {off : Fin 3 → ℕ} [h : ClosedOff off] (e : h.form = ![n % 3, R, C]) {inb : ∀ a, off a + S1x128x64.size a ≤ S3x256x2880.size a}
    {hl} {k : _ → Prog (TpuEff nD τ sig (Elt F) Λ₀ .tc) α} :
    kRing c A n ⊢ iprop((kRing c A n -∗ wp frame (wpE defs₀ Variants.none (c : Thread nD τ) none) Set.univ (k (ringT A n R C)) Q)
      -∗ wp frame (wpE defs₀ Variants.none (c : Thread nD τ) none) Set.univ (.op (.load mRing (Rect.unit (s := S3x256x2880) off S1x128x64.size inb).toLoadRect hl) k) Q) := by
  have e' := h.eq.trans e
  refine wp_known_load_eq Variants.none (c : Thread nD τ) none Set.univ (m := mRing) (hl := hl) (k := k) (ringT A n R C) (ring_sub e' inb) (fun _ => trivial) fun x => ?_
  exact (congrArg (ringG A.w (sid A.ids n)) (emb3 e' inb x)).trans rfl

/-- A tile of the table values written. -/
theorem cb_put (a R C : ℕ) {off : Fin 2 → ℕ} [h : ClosedOff off] (e : h.form = ![R, C]) {inb : ∀ a, off a + S128x128.size a ≤ S2048x2880.size a}
    {hl hx hm} {w : S128x128.Idx → Elt F .bf16} {k : _ → Prog (TpuEff nD τ sig (Elt F) Λ₀ .tc) α} :
    kCB c A a R C ⊢ iprop(⌜∀ x, w x = CB A a (i2 (R + (x 0).val) (C + (x 1).val))⌝ -∗ (kCB c A a R (C + 128) -∗ wp frame (wpE defs₀ Variants.none (c : Thread nD τ) none) Set.univ (k ⟨⟩) Q)
      -∗ wp frame (wpE defs₀ Variants.none (c : Thread nD τ) none) Set.univ (.op (.load mCB (Rect.unit (s := S2048x2880) off S128x128.size inb).toLoadRect hl) fun _ =>
        .op (.store mCB (Rect.unit (s := S2048x2880) off S128x128.size inb) w Finset.univ hx hm) k) Q) := by
  have e' := h.eq.trans e
  iintro H %hw
  iapply (wp_known_put Variants.none (c : Thread nD τ) none Set.univ (m := mCB) (hl := hl) (hx := hx) (hm := hm) (w := w) (k := k) (upTo 128 R (C + 128)) (upTo_step e' inb)) $$ H
  ipureintro
  exact fun x => (hw x).trans (congrArg _ (emb2 e' inb x).symm)

/-- The last, half-wide tile of a row block of the table values written. -/
theorem cb_put64 (a R C : ℕ) {off : Fin 2 → ℕ} [h : ClosedOff off] (e : h.form = ![R, C]) {inb : ∀ a, off a + S128x64.size a ≤ S2048x2880.size a}
    {hl hx hm} {w : S128x64.Idx → Elt F .bf16} {k : _ → Prog (TpuEff nD τ sig (Elt F) Λ₀ .tc) α} :
    kCB c A a R C ⊢ iprop(⌜∀ x, w x = CB A a (i2 (R + (x 0).val) (C + (x 1).val))⌝ -∗ (kCB c A a R (C + 64) -∗ wp frame (wpE defs₀ Variants.none (c : Thread nD τ) none) Set.univ (k ⟨⟩) Q)
      -∗ wp frame (wpE defs₀ Variants.none (c : Thread nD τ) none) Set.univ (.op (.load mCB (Rect.unit (s := S2048x2880) off S128x64.size inb).toLoadRect hl) fun _ =>
        .op (.store mCB (Rect.unit (s := S2048x2880) off S128x64.size inb) w Finset.univ hx hm) k) Q) := by
  have e' := h.eq.trans e
  iintro H %hw
  iapply (wp_known_put Variants.none (c : Thread nD τ) none Set.univ (m := mCB) (hl := hl) (hx := hx) (hm := hm) (w := w) (k := k) (upTo 128 R (C + 64)) (upTo_step e' inb)) $$ H
  ipureintro
  exact fun x => (hw x).trans (congrArg _ (emb2 e' inb x).symm)

/-- An offset that is already a literal is its own closed form. -/
instance (priority := low) closedOffLit {n : ℕ} (f : Fin n → ℕ) : ClosedOff f := ⟨f, rfl⟩

/-- A rectangle of a matrix read. -/
theorem ld2 {cs : CoreSpace} {n0 n1 m0 m1 : ℕ} [NeZero n0] [NeZero n1] {et : EltTy} {m : Memref sig .tc (.core cs) ⟨2, ![n0, n1]⟩ et} {q : PosShare TreeShare}
    {G : (⟨2, ![n0, n1]⟩ : Shape).Idx → Elt F et} {D : (⟨2, ![n0, n1]⟩ : Shape).Idx → Prop} (T : (⟨2, ![m0, m1]⟩ : Shape).Idx → Elt F et) (R C : ℕ)
    {off : Fin 2 → ℕ} [h : ClosedOff off] (e : h.form = ![R, C]) {inb : ∀ a, off a + (![m0, m1] : Fin 2 → ℕ) a ≤ (⟨2, ![n0, n1]⟩ : Shape).size a} {hl : m.view.LoadsAt (Rect.unit (s := ⟨2, ![n0, n1]⟩) off ![m0, m1] inb).toLoadRect}
    {k : _ → Prog (TpuEff nD τ sig (Elt F) Λ₀ .tc) α}
    (hD : ∀ (i : Fin m0) (j : Fin m1), R + i.val < n0 → C + j.val < n1 → D (i2 (R + i.val) (C + j.val)))
    (hT : ∀ (i : Fin m0) (j : Fin m1), R + i.val < n0 → C + j.val < n1 → G (i2 (R + i.val) (C + j.val)) = T (ix2 i j)) :
    Known (c : Thread nD τ) m Finset.univ q G D ⊢ iprop((Known (c : Thread nD τ) m Finset.univ q G D -∗ wp frame (wpE defs₀ Variants.none (c : Thread nD τ) none) Set.univ (k T) Q)
      -∗ wp frame (wpE defs₀ Variants.none (c : Thread nD τ) none) Set.univ (.op (.load m (Rect.unit (s := ⟨2, ![n0, n1]⟩) off ![m0, m1] inb).toLoadRect hl) k) Q) := by
  have e' := h.eq.trans e
  have hin : ∀ x : (⟨2, ![m0, m1]⟩ : Shape).Idx, R + (x 0).val < n0 ∧ C + (x 1).val < n1 := fun x => by
    have h0 : (x 0).val < m0 := (x 0).isLt
    have h1 : (x 1).val < m1 := (x 1).isLt
    have b0 : off 0 + m0 ≤ n0 := inb 0
    have b1 : off 1 + m1 ≤ n1 := inb 1
    rw [e'] at b0 b1
    have b0 : R + m0 ≤ n0 := b0
    have b1 : C + m1 ≤ n1 := b1
    exact ⟨by omega, by omega⟩
  refine wp_known_load_eq Variants.none (c : Thread nD τ) none Set.univ (m := m) (hl := hl) (k := k) T (Finset.subset_univ _) (fun x => ?_) fun x => ?_
  · rw [emb2 e' inb x]
    exact hD (x 0) (x 1) (hin x).1 (hin x).2
  · rw [emb2 e' inb x]
    exact (hT (x 0) (x 1) (hin x).1 (hin x).2).trans (congrArg T (eq_ix2 x).symm)

/-- A row of a stack of rows read. -/
theorem ld3 {cs : CoreSpace} {n0 : ℕ} [NeZero n0] {et : EltTy} {m : Memref sig .tc (.core cs) ⟨3, ![n0, 1, 128]⟩ et} {q : PosShare TreeShare}
    {G : (⟨3, ![n0, 1, 128]⟩ : Shape).Idx → Elt F et} (R : ℕ)
    {off : Fin 3 → ℕ} [h : ClosedOff off] (e : h.form = ![R, 0, 0]) {inb : ∀ a, off a + S1x1x128.size a ≤ (⟨3, ![n0, 1, 128]⟩ : Shape).size a} {hl : m.view.LoadsAt (Rect.unit (s := ⟨3, ![n0, 1, 128]⟩) off S1x1x128.size inb).toLoadRect}
    {k : _ → Prog (TpuEff nD τ sig (Elt F) Λ₀ .tc) α} :
    Known (c : Thread nD τ) m Finset.univ q G (fun _ => True) ⊢ iprop((Known (c : Thread nD τ) m Finset.univ q G (fun _ => True) -∗ wp frame (wpE defs₀ Variants.none (c : Thread nD τ) none) Set.univ (k fun i => G (i3 R 0 (i 2).val)) Q)
      -∗ wp frame (wpE defs₀ Variants.none (c : Thread nD τ) none) Set.univ (.op (.load m (Rect.unit (s := ⟨3, ![n0, 1, 128]⟩) off S1x1x128.size inb).toLoadRect hl) k) Q) := by
  have e' := h.eq.trans e
  refine wp_known_load_eq Variants.none (c : Thread nD τ) none Set.univ (m := m) (hl := hl) (k := k) (fun i => G (i3 R 0 (i 2).val)) (Finset.subset_univ _) (fun x => trivial) fun x => ?_
  rw [emb3 e' inb x]
  have h0 : (x 0).val < 1 := (x 0).isLt
  have h1 : (x 1).val < 1 := (x 1).isLt
  have q0 : R + (x 0).val = R := by omega
  have q1 : 0 + (x 1).val = 0 := by omega
  rw [q0, q1, Nat.zero_add]

/-- A rectangle of a matrix written, the next one in the row block under way. -/
theorem put2 {cs : CoreSpace} {n0 n1 m0 m1 : ℕ} [NeZero n0] [NeZero n1] {et : EltTy} {m : Memref sig .tc (.core cs) ⟨2, ![n0, n1]⟩ et}
    {G : (⟨2, ![n0, n1]⟩ : Shape).Idx → Elt F et} (R C : ℕ) {off : Fin 2 → ℕ} [h : ClosedOff off] (e : h.form = ![R, C])
    {inb : ∀ a, off a + (![m0, m1] : Fin 2 → ℕ) a ≤ (⟨2, ![n0, n1]⟩ : Shape).size a}
    {hl : m.view.LoadsAt (Rect.unit (s := ⟨2, ![n0, n1]⟩) off ![m0, m1] inb).toLoadRect} {hx : (m.access (Rect.unit (s := ⟨2, ![n0, n1]⟩) off ![m0, m1] inb)).Stores Finset.univ} {hm} {w : (⟨2, ![m0, m1]⟩ : Shape).Idx → Elt F et} {k : _ → Prog (TpuEff nD τ sig (Elt F) Λ₀ .tc) α} :
    Known (c : Thread nD τ) m Finset.univ fullShare G (upTo m0 R C)
      ⊢ iprop(⌜∀ (i : Fin m0) (j : Fin m1), R + i.val < n0 → C + j.val < n1 → w (ix2 i j) = G (i2 (R + i.val) (C + j.val))⌝ -∗ (Known (c : Thread nD τ) m Finset.univ fullShare G (upTo m0 R (C + m1)) -∗ wp frame (wpE defs₀ Variants.none (c : Thread nD τ) none) Set.univ (k ⟨⟩) Q)
      -∗ wp frame (wpE defs₀ Variants.none (c : Thread nD τ) none) Set.univ (.op (.load m (Rect.unit (s := ⟨2, ![n0, n1]⟩) off ![m0, m1] inb).toLoadRect hl) fun _ =>
        .op (.store m (Rect.unit (s := ⟨2, ![n0, n1]⟩) off ![m0, m1] inb) w Finset.univ hx hm) k) Q) := by
  have e' := h.eq.trans e
  iintro H %hw
  iapply (wp_known_put Variants.none (c : Thread nD τ) none Set.univ (m := m) (hl := hl) (hx := hx) (hm := hm) (w := w) (k := k) (upTo m0 R (C + m1)) (upTo_step e' inb)) $$ H
  ipureintro
  intro x
  have h0 : (x 0).val < m0 := (x 0).isLt
  have h1 : (x 1).val < m1 := (x 1).isLt
  have b0 : off 0 + m0 ≤ n0 := inb 0
  have b1 : off 1 + m1 ≤ n1 := inb 1
  rw [e'] at b0 b1
  have b0 : R + m0 ≤ n0 := b0
  have b1 : C + m1 ≤ n1 := b1
  exact (congrArg w (eq_ix2 x)).trans ((hw (x 0) (x 1) (by omega) (by omega)).trans (congrArg _ (emb2 e' inb x).symm))

/-- A row of a stack of rows written, the next one. -/
theorem put3 {cs : CoreSpace} {n0 : ℕ} [NeZero n0] {et : EltTy} {m : Memref sig .tc (.core cs) ⟨3, ![n0, 1, 128]⟩ et}
    {G : (⟨3, ![n0, 1, 128]⟩ : Shape).Idx → Elt F et} (R : ℕ) {off : Fin 3 → ℕ} [h : ClosedOff off] (e : h.form = ![R, 0, 0])
    {inb : ∀ a, off a + S1x1x128.size a ≤ (⟨3, ![n0, 1, 128]⟩ : Shape).size a}
    {hl : m.view.LoadsAt (Rect.unit (s := ⟨3, ![n0, 1, 128]⟩) off S1x1x128.size inb).toLoadRect} {hx : (m.access (Rect.unit (s := ⟨3, ![n0, 1, 128]⟩) off S1x1x128.size inb)).Stores Finset.univ} {hm} {w : S1x1x128.Idx → Elt F et} {k : _ → Prog (TpuEff nD τ sig (Elt F) Λ₀ .tc) α} :
    Known (c : Thread nD τ) m Finset.univ fullShare G (fun y => (y 0).val < R)
      ⊢ iprop(⌜∀ x : S1x1x128.Idx, w x = G (i3 R 0 (x 2).val)⌝ -∗ (Known (c : Thread nD τ) m Finset.univ fullShare G (fun y => (y 0).val < R + 1) -∗ wp frame (wpE defs₀ Variants.none (c : Thread nD τ) none) Set.univ (k ⟨⟩) Q)
      -∗ wp frame (wpE defs₀ Variants.none (c : Thread nD τ) none) Set.univ (.op (.load m (Rect.unit (s := ⟨3, ![n0, 1, 128]⟩) off S1x1x128.size inb).toLoadRect hl) fun _ =>
        .op (.store m (Rect.unit (s := ⟨3, ![n0, 1, 128]⟩) off S1x1x128.size inb) w Finset.univ hx hm) k) Q) := by
  have e' := h.eq.trans e
  iintro H %hw
  iapply (wp_known_put Variants.none (c : Thread nD τ) none Set.univ (m := m) (hl := hl) (hx := hx) (hm := hm) (w := w) (k := k) (fun y => (y 0).val < R + 1) fun y hy => ?_) $$ H
  · subst e'
    by_cases h0 : (y 0).val < R
    · exact .inl h0
    refine .inr ((Rect.mem_set_unit).mpr fun a => ?_)
    have y1 : (y 1).val < 1 := (y 1).isLt
    have y2 : (y 2).val < 128 := (y 2).isLt
    match a with
    | ⟨0, _⟩ => exact ⟨by show R ≤ (y 0).val; omega, by show (y 0).val < R + 1; omega⟩
    | ⟨1, _⟩ => exact ⟨by show 0 ≤ (y 1).val; omega, by show (y 1).val < 0 + 1; omega⟩
    | ⟨2, _⟩ => exact ⟨by show 0 ≤ (y 2).val; omega, by show (y 2).val < 0 + 128; omega⟩
  ipureintro
  intro x
  have h0 : (x 0).val < 1 := (x 0).isLt
  have h1 : (x 1).val < 1 := (x 1).isLt
  have q0 : R + (x 0).val = R := by omega
  have q1 : 0 + (x 1).val = 0 := by omega
  rw [hw x, emb3 e' inb x, q0, q1, Nat.zero_add]

/-- The row block under way done, the next one starts. -/
theorem next {cs : CoreSpace} {n0 n1 : ℕ} {et : EltTy} {m : Memref sig .tc (.core cs) ⟨2, ![n0, n1]⟩ et} {q : PosShare TreeShare}
    {G : (⟨2, ![n0, n1]⟩ : Shape).Idx → Elt F et} {H R C : ℕ} (R' H' : ℕ) (hC : n1 ≤ C) (hR : R' = R + H) :
    Known (c : Thread nD τ) m Finset.univ q G (upTo H R C) ⊢ (Known (c : Thread nD τ) m Finset.univ q G (upTo H' R' 0) : sProp 𝕄) := by
  refine known_mono (c : Thread nD τ) fun y hy => ⟨?_, rfl⟩
  have h1 : (y 1).val < n1 := (y 1).isLt
  unfold upTo at hy ⊢
  omega

theorem i2_fin {n0 n1 : ℕ} [NeZero n0] [NeZero n1] (i : Fin n0) (j : Fin n1) : i2 i.val j.val = ix2 i j := by
  have h0 : Fin.ofNat n0 i.val = i := Fin.ext (Nat.mod_eq_of_lt i.isLt)
  have h1 : Fin.ofNat n1 j.val = j := Fin.ext (Nat.mod_eq_of_lt j.isLt)
  unfold i2
  rw [h0, h1]

/-- What the loads of whole blocks find done. -/
theorem tp_done (i : Fin 512) (j : Fin 768) : upTo (n0 := 512) (n1 := 768) 512 0 768 (i2 (0 + i.val) (0 + j.val)) := by
  have h := i2_val (n0 := 512) (n1 := 768) (a := 0 + i.val) (b := 0 + j.val) (by omega) (by omega)
  unfold upTo
  rw [h.1, h.2]
  omega

theorem tp_whole (i : Fin 512) (j : Fin 768) : TP A (i2 (0 + i.val) (0 + j.val)) = TP A (ix2 i j) := by
  rw [Nat.zero_add, Nat.zero_add]
  rw [i2_fin]

theorem cb_done (R : ℕ) (i : Fin 128) (j : Fin 2880) (hR : R + i.val < 2048) : upTo (n0 := 2048) (n1 := 2880) 128 R 2880 (i2 (R + i.val) (0 + j.val)) := by
  have h := i2_val (n0 := 2048) (n1 := 2880) (a := R + i.val) (b := 0 + j.val) hR (by omega)
  unfold upTo
  rw [h.1, h.2]
  omega

theorem SC_i2 (a b h : ℕ) (hh : h < 2) (i j : Fin 128) (hR : 256 * b + 128 * h + i.val < 2048) :
    SC A a (i2 (256 * b + 128 * h + i.val) (0 + j.val)) = scN A a (2 * b + h) (ix2 i j) := by
  have e := i2_val (n0 := 2048) (n1 := 128) (a := 256 * b + 128 * h + i.val) (b := 0 + j.val) hR (by omega)
  unfold SC
  rw [e.1, e.2, show (256 * b + 128 * h + i.val) / 128 = 2 * b + h by omega, show (256 * b + 128 * h + i.val) % 128 = i.val by omega, Nat.zero_add]
  rw [i2_fin]

theorem ZZ_i2 (a b h : ℕ) (hh : h < 2) (i j : Fin 128) (hR : 256 * b + 128 * h + i.val < 2048) :
    ZZ A a (i2 (256 * b + 128 * h + i.val) (0 + j.val)) = zN A a (2 * b + h) (ix2 i j) := by
  have e := i2_val (n0 := 2048) (n1 := 128) (a := 256 * b + 128 * h + i.val) (b := 0 + j.val) hR (by omega)
  unfold ZZ
  rw [e.1, e.2, show (256 * b + 128 * h + i.val) / 128 = 2 * b + h by omega, show (256 * b + 128 * h + i.val) % 128 = i.val by omega, Nat.zero_add]
  rw [i2_fin]

end Cert.Kernel.Hand
-- ==== Proof.Chunk.lean ====
/-
  Hand-written. One chunk of 256 sampled rows: its table rows unpacked, its scales and its logits.
-/
module

public import proofs.«01_k».proof.Proof.Steps

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

open Idealize.ShloMosaic.ValueIdx Cert.Dma

variable (c : Dev nD) (A : Ins F)
variable {α : Type} {Q : α → sProp (MT nD τ sig Unit (Elt F) ℕ (Pipeline.UD sig nD τ) ℕ)}

set_option maxHeartbeats 4000000

/-- The first 128 rows of the chunk unpacked. -/
theorem half0 (a : Fin k0_t4_loop.trips) (b : Fin k0_t6_loop.trips) (hb : b.val < 8) (w1 w2 : BitVec 32) {k : _ → Prog (TpuEff nD τ sig (Elt F) Λ₀ .tc) α} :
    iprop(kRing c A (8 * a.val + b.val) ∗ kCB c A a.val (256 * b.val + 128 * 0) 0)
      ⊢ iprop((kRing c A (8 * a.val + b.val) -∗ kCB c A a.val (256 * b.val + 128 * 0) 2880 -∗ wp frame (wpE defs₀ Variants.none (c : Thread nD τ) none) Set.univ (k ⟨k0_pay38 (F := F) iot (k0_pay8 (F := F) (idRow A (16 * a.val + 2 * b.val + 0))), k0_pay39 (F := F) iot (k0_pay8 (F := F) (idRow A (16 * a.val + 2 * b.val + 0))), k0_pay40 (F := F) iot (k0_pay8 (F := F) (idRow A (16 * a.val + 2 * b.val + 0))), k0_pay41 iot (k0_pay8 (F := F) (idRow A (16 * a.val + 2 * b.val + 0))), k0_pay42 (F := F), k0_pay43 (F := F)⟩) Q) -∗
      wp frame (wpE defs₀ Variants.none (c : Thread nD τ) none) Set.univ (do
        k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w1 (k0_pay9 (F := F) (idRow A (16 * a.val + 2 * b.val + 0))) w2 (k0_pay10 (idRow A (16 * a.val + 2 * b.val + 0)) (ringT A (8 * a.val + b.val) (128 * 0) 0))
        let v840 ← k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w1 (k0_pay9 (F := F) (idRow A (16 * a.val + 2 * b.val + 0))) w2
        k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w1 (k0_pay9 (F := F) (idRow A (16 * a.val + 2 * b.val + 0))) w2 v840
        let v924 ← k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w1 (k0_pay9 (F := F) (idRow A (16 * a.val + 2 * b.val + 0))) w2
        let v966 ← k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w1 (k0_pay9 (F := F) (idRow A (16 * a.val + 2 * b.val + 0))) w2 v924
        let v1008 ← k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w1 (k0_pay9 (F := F) (idRow A (16 * a.val + 2 * b.val + 0))) w2 v966
        let r ← k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 iot a b w1 (k0_pay8 (F := F) (idRow A (16 * a.val + 2 * b.val + 0))) (k0_pay9 (F := F) (idRow A (16 * a.val + 2 * b.val + 0))) w2 v1008
        k r) Q) := by
  iintro ⟨HR, HC⟩ Hk
  rw [k0_part10_eq_skeleton, k0_part11_eq_skeleton, k0_part12_eq_skeleton, k0_part13_eq_skeleton, k0_part14_eq_skeleton, k0_part15_eq_skeleton, k0_part16_eq_skeleton]
  unfold k0_part10_skel k0_part11_skel k0_part12_skel k0_part13_skel k0_part14_skel k0_part15_skel k0_part16_skel
  simp only [Prog.bind_assoc, Prog.bind_lift, Prog.bind_ret, Prog.bind_op, pure_bind, bind_assoc]
  iterate 1
    iapply (cb_put c A a.val (256 * b.val + 128 * 0) _ rfl) $$ HC []
    · ipureintro
      exact cb_tile A a.val b.val 0 _ hb (by omega) (by omega)
    iintro HC
  iterate 21
    iapply (ring_ld c A (8 * a.val + b.val) (128 * 0) _ rfl) $$ HR
    iintro HR
    iapply (cb_put c A a.val (256 * b.val + 128 * 0) _ rfl) $$ HC []
    · ipureintro
      exact cb_tile A a.val b.val 0 _ hb (by omega) (by omega)
    iintro HC
  iterate 1
    iapply (ring_ld64 c A (8 * a.val + b.val) (128 * 0) _ rfl) $$ HR
    iintro HR
    iapply (cb_put64 c A a.val (256 * b.val + 128 * 0) _ rfl) $$ HC []
    · ipureintro
      exact cb_tile64 A a.val b.val 0 hb (by omega)
    iintro HC
  iapply Hk $$ HR HC

/-- The scales of the first 128 rows, and their dots with the hidden states. -/
theorem mid0 (a : Fin k0_t4_loop.trips) (b : Fin k0_t6_loop.trips) (hb : b.val < 8) (w1 w2 : BitVec 32) {q : PosShare TreeShare} {k : _ → Prog (TpuEff nD τ sig (Elt F) Λ₀ .tc) α} :
    iprop(kTP c A ∗ kX c A q ∗ kCB c A a.val (256 * b.val + 128 * 0) 2880 ∗ kSC c A a.val (256 * b.val + 128 * 0) 0 ∗ kZ c A a.val (256 * b.val + 128 * 0) 0)
      ⊢ iprop((kTP c A -∗ kX c A q -∗ kCB c A a.val (256 * b.val + 128 * 0) 2880 -∗ kSC c A a.val (256 * b.val + 128 * 0) 128 -∗ kZ c A a.val (256 * b.val + 128 * 0) 0 -∗ wp frame (wpE defs₀ Variants.none (c : Thread nD τ) none) Set.univ (k (k0_pay48 iot (k0_pay86 (F := F) (tgRow A a.val)) (k0_pay8 (F := F) (idRow A (16 * a.val + 2 * b.val + 0))) (k0_pay38 (F := F) iot (k0_pay8 (F := F) (idRow A (16 * a.val + 2 * b.val + 0)))) (k0_pay39 (F := F) iot (k0_pay8 (F := F) (idRow A (16 * a.val + 2 * b.val + 0)))) (k0_pay40 (F := F) iot (k0_pay8 (F := F) (idRow A (16 * a.val + 2 * b.val + 0)))) (k0_pay41 iot (k0_pay8 (F := F) (idRow A (16 * a.val + 2 * b.val + 0)))) (k0_pay42 (F := F)) (k0_pay43 (F := F)) (TP A)
    (cbT A a.val (256 * b.val + 128 * 0) 0) (xT A a.val 0))) Q) -∗
      wp frame (wpE defs₀ Variants.none (c : Thread nD τ) none) Set.univ (do
        let r ← k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 iot a w1 (k0_pay86 (F := F) (tgRow A a.val)) b (k0_pay8 (F := F) (idRow A (16 * a.val + 2 * b.val + 0))) w2 (k0_pay38 (F := F) iot (k0_pay8 (F := F) (idRow A (16 * a.val + 2 * b.val + 0)))) (k0_pay39 (F := F) iot (k0_pay8 (F := F) (idRow A (16 * a.val + 2 * b.val + 0)))) (k0_pay40 (F := F) iot (k0_pay8 (F := F) (idRow A (16 * a.val + 2 * b.val + 0)))) (k0_pay41 iot (k0_pay8 (F := F) (idRow A (16 * a.val + 2 * b.val + 0)))) (k0_pay42 (F := F)) (k0_pay43 (F := F))
        k r) Q) := by
  iintro ⟨HT, HX, HC, HS, HZ⟩ Hk
  rw [k0_part17_eq_skeleton]
  unfold k0_part17_skel
  simp only [Prog.bind_assoc, Prog.bind_lift, Prog.bind_ret, Prog.bind_op, pure_bind, bind_assoc]
  iapply (ld2 c (m := mTP) (TP A) 0 0 rfl (fun i j h1 h2 => tp_done i j) (fun i j h1 h2 => tp_whole A i j)) $$ HT
  iintro HT
  iapply (put2 c (m := mSC) (256 * b.val + 128 * 0) 0 rfl) $$ HS []
  · ipureintro
    exact fun i j h1 h2 => (SC_i2 A a.val b.val 0 (by omega) i j h1).symm
  iintro HS
  iapply (ld2 c (m := mCB) (cbT A a.val (256 * b.val + 128 * 0) 0) _ 0 rfl (fun i j h1 h2 => cb_done _ i j h1) (fun i j h1 h2 => CB_i2 A a.val _ _ h1 h2)) $$ HC
  iintro HC
  iapply (ld2 c (m := mX) (xT A a.val 0) (128 * a.val) 0 rfl (fun _ _ _ _ => trivial) (fun _ _ _ _ => rfl)) $$ HX
  iintro HX
  iapply Hk $$ HT HX HC HS HZ

/-- The logits, as the program has them. -/
theorem zN_eq (a b h : ℕ) : zN A a (2 * b + h) = k0_pay49 (k0_pay48 iot (k0_pay86 (F := F) (tgRow A a)) (k0_pay8 (F := F) (idRow A (16 * a + 2 * b + h))) (k0_pay38 (F := F) iot (k0_pay8 (F := F) (idRow A (16 * a + 2 * b + h)))) (k0_pay39 (F := F) iot (k0_pay8 (F := F) (idRow A (16 * a + 2 * b + h)))) (k0_pay40 (F := F) iot (k0_pay8 (F := F) (idRow A (16 * a + 2 * b + h)))) (k0_pay41 iot (k0_pay8 (F := F) (idRow A (16 * a + 2 * b + h)))) (k0_pay42 (F := F)) (k0_pay43 (F := F)) (TP A)
    (cbT A a (256 * b + 128 * h) 0) (xT A a 0)) := by
  unfold zN
  rw [← Nat.add_assoc, show 128 * (2 * b + h) = 256 * b + 128 * h by omega]

/-- The first 128 rows' logits written, and the second 128 rows' unpacking begun. -/
theorem begin1 (a : Fin k0_t4_loop.trips) (b : Fin k0_t6_loop.trips) (hb : b.val < 8) (w1 w2 w3 w4 : BitVec 32) {q : PosShare TreeShare} {k : _ → Prog (TpuEff nD τ sig (Elt F) Λ₀ .tc) α} :
    iprop(kRing c A (8 * a.val + b.val) ∗ kIdv c A q ∗ kCB c A a.val (256 * b.val + 128 * 1) 0 ∗ kZ c A a.val (256 * b.val + 128 * 0) 0)
      ⊢ iprop((∀ u, kRing c A (8 * a.val + b.val) -∗ kIdv c A q -∗ kCB c A a.val (256 * b.val + 128 * 1) 128 -∗ kZ c A a.val (256 * b.val + 128 * 0) 128 -∗ wp frame (wpE defs₀ Variants.none (c : Thread nD τ) none) Set.univ (k ⟨(k0_pay50 (F := F) (idRow A (16 * a.val + 2 * b.val + 1))), (k0_pay51 (F := F) (idRow A (16 * a.val + 2 * b.val + 1))), u, k0_pay53 (idRow A (16 * a.val + 2 * b.val + 1)) (ringT A (8 * a.val + b.val) (128 * 1) 128)⟩) Q) -∗
      wp frame (wpE defs₀ Variants.none (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w1 w2 w3 w4 (k0_pay48 iot (k0_pay86 (F := F) (tgRow A a.val)) (k0_pay8 (F := F) (idRow A (16 * a.val + 2 * b.val + 0))) (k0_pay38 (F := F) iot (k0_pay8 (F := F) (idRow A (16 * a.val + 2 * b.val + 0)))) (k0_pay39 (F := F) iot (k0_pay8 (F := F) (idRow A (16 * a.val + 2 * b.val + 0)))) (k0_pay40 (F := F) iot (k0_pay8 (F := F) (idRow A (16 * a.val + 2 * b.val + 0)))) (k0_pay41 iot (k0_pay8 (F := F) (idRow A (16 * a.val + 2 * b.val + 0)))) (k0_pay42 (F := F)) (k0_pay43 (F := F)) (TP A) (cbT A a.val (256 * b.val + 128 * 0) 0) (xT A a.val 0)) >>= k) Q) := by
  iintro ⟨HR, HI, HC, HZ⟩ Hk
  rw [k0_part18_eq_skeleton]
  unfold k0_part18_skel
  simp only [Prog.bind_assoc, Prog.bind_lift, Prog.bind_ret, Prog.bind_op, pure_bind, bind_assoc]
  iapply (put2 c (m := mZ) (256 * b.val + 128 * 0) 0 rfl) $$ HZ []
  · ipureintro
    exact fun i j h1 h2 => (congrFun (zN_eq A a.val b.val 0).symm (ix2 i j)).trans (ZZ_i2 A a.val b.val 0 (by omega) i j h1).symm
  iintro HZ
  iapply (ld3 c (m := mIdv) (16 * a.val + 2 * b.val + 1) rfl) $$ HI
  iintro HI
  iterate 1
    iapply (ring_ld c A (8 * a.val + b.val) (128 * 1) _ rfl) $$ HR
    iintro HR
    iapply (cb_put c A a.val (256 * b.val + 128 * 1) _ rfl) $$ HC []
    · ipureintro
      exact cb_tile A a.val b.val 1 _ hb (by omega) (by omega)
    iintro HC
  iapply (ring_ld c A (8 * a.val + b.val) (128 * 1) _ rfl) $$ HR
  iintro HR
  iapply Hk $$ %_ HR HI HC HZ

/-- The second 128 rows of the chunk unpacked. -/
theorem half1 (a : Fin k0_t4_loop.trips) (b : Fin k0_t6_loop.trips) (hb : b.val < 8) (w1 w3 : BitVec 32) {k : _ → Prog (TpuEff nD τ sig (Elt F) Λ₀ .tc) α} :
    iprop(kRing c A (8 * a.val + b.val) ∗ kTP c A ∗ kCB c A a.val (256 * b.val + 128 * 1) 128)
      ⊢ iprop((kRing c A (8 * a.val + b.val) -∗ kTP c A -∗ kCB c A a.val (256 * b.val + 128 * 1) 2880 -∗ wp frame (wpE defs₀ Variants.none (c : Thread nD τ) none) Set.univ (k ⟨k0_pay80 iot (k0_pay50 (F := F) (idRow A (16 * a.val + 2 * b.val + 1))) (TP A), k0_pay81 iot (k0_pay50 (F := F) (idRow A (16 * a.val + 2 * b.val + 1))), k0_pay82 iot (k0_pay50 (F := F) (idRow A (16 * a.val + 2 * b.val + 1))) (TP A), Scalar.ofBits .f32 0x00000000#32⟩) Q) -∗
      wp frame (wpE defs₀ Variants.none (c : Thread nD τ) none) Set.univ (do
        k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w3 (k0_pay51 (F := F) (idRow A (16 * a.val + 2 * b.val + 1))) w1 (k0_pay53 (idRow A (16 * a.val + 2 * b.val + 1)) (ringT A (8 * a.val + b.val) (128 * 1) 128))
        let v1221 ← k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w3 (k0_pay51 (F := F) (idRow A (16 * a.val + 2 * b.val + 1))) w1
        let v1263 ← k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w3 (k0_pay51 (F := F) (idRow A (16 * a.val + 2 * b.val + 1))) w1 v1221
        let v1305 ← k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w3 (k0_pay51 (F := F) (idRow A (16 * a.val + 2 * b.val + 1))) w1 v1263
        let v1348 ← k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w3 (k0_pay51 (F := F) (idRow A (16 * a.val + 2 * b.val + 1))) w1 v1305
        let v1390 ← k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w3 (k0_pay51 (F := F) (idRow A (16 * a.val + 2 * b.val + 1))) w1 v1348
        let r ← k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 iot b (k0_pay50 (F := F) (idRow A (16 * a.val + 2 * b.val + 1))) v1390
        k r) Q) := by
  iintro ⟨HR, HT, HC⟩ Hk
  rw [k0_part19_eq_skeleton, k0_part20_eq_skeleton, k0_part21_eq_skeleton, k0_part22_eq_skeleton, k0_part23_eq_skeleton, k0_part24_eq_skeleton, k0_part25_eq_skeleton]
  unfold k0_part19_skel k0_part20_skel k0_part21_skel k0_part22_skel k0_part23_skel k0_part24_skel k0_part25_skel
  simp only [Prog.bind_assoc, Prog.bind_lift, Prog.bind_ret, Prog.bind_op, pure_bind, bind_assoc]
  iterate 1
    iapply (cb_put c A a.val (256 * b.val + 128 * 1) _ rfl) $$ HC []
    · ipureintro
      exact cb_tile A a.val b.val 1 _ hb (by omega) (by omega)
    iintro HC
  iterate 20
    iapply (ring_ld c A (8 * a.val + b.val) (128 * 1) _ rfl) $$ HR
    iintro HR
    iapply (cb_put c A a.val (256 * b.val + 128 * 1) _ rfl) $$ HC []
    · ipureintro
      exact cb_tile A a.val b.val 1 _ hb (by omega) (by omega)
    iintro HC
  iterate 1
    iapply (ring_ld64 c A (8 * a.val + b.val) (128 * 1) _ rfl) $$ HR
    iintro HR
    iapply (cb_put64 c A a.val (256 * b.val + 128 * 1) _ rfl) $$ HC []
    · ipureintro
      exact cb_tile64 A a.val b.val 1 hb (by omega)
    iintro HC
  iapply (ld2 c (m := mTP) (TP A) 0 0 rfl (fun i j h1 h2 => tp_done i j) (fun i j h1 h2 => tp_whole A i j)) $$ HT
  iintro HT
  iapply Hk $$ HR HT HC

/-- The second half's scales and logits are the same functions, as the program splits them. -/
theorem sc1 (a b : ℕ) : k0_pay84 (k0_pay81 iot (k0_pay50 (F := F) (idRow A (16 * a + 2 * b + 1)))) (k0_pay82 iot (k0_pay50 (F := F) (idRow A (16 * a + 2 * b + 1))) (TP A)) (Scalar.ofBits .f32 0x00000000#32) = scN A a (2 * b + 1) := by
  unfold scN
  rw [← Nat.add_assoc]
  rfl

theorem z1 (a b : ℕ) : k0_pay101 (k0_pay85 (k0_pay86 (F := F) (tgRow A a)) (k0_pay50 (F := F) (idRow A (16 * a + 2 * b + 1))) (k0_pay80 iot (k0_pay50 (F := F) (idRow A (16 * a + 2 * b + 1))) (TP A)) (k0_pay81 iot (k0_pay50 (F := F) (idRow A (16 * a + 2 * b + 1)))) (k0_pay82 iot (k0_pay50 (F := F) (idRow A (16 * a + 2 * b + 1))) (TP A)) (Scalar.ofBits .f32 0x00000000#32) (cbT A a (256 * b + 128 * 1) 0) (xT A a 0)) = zN A a (2 * b + 1) := by
  rw [zN_eq]
  rfl

end Cert.Kernel.Hand
-- ==== Proof.Stream.lean ====
/-
  Hand-written. The two streams of table rows, slot by slot: a slot's transfers issued, and waited for.
-/
module

public import proofs.«01_k».proof.Proof.Steps
public import proofs.«01_k».proof.Proof.Loops

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

open Idealize.ShloMosaic.ValueIdx Cert.Dma

variable (c : Dev nD) (A : Ins F) (hid : ∀ i, (A.ids i).toNat < 60000) (htd : ∀ i, (A.tids i).toNat < 60000)
variable {α : Type} {Q : α → sProp (MT nD τ sig Unit (Elt F) ℕ (Pipeline.UD sig nD τ) ℕ)}

abbrev kT (a : ℕ) : sProp 𝕄 := Known (c : Thread nD τ) mT Finset.univ fullShare (tgtG A.w (tid A.tids a)) (fun _ => True)
abbrev kOwes : sProp 𝕄 := iprop((∃ W, owes (c : Thread nD τ) 0 W))

/-- All of a slot's rows issued: the slot is in flight. -/
theorem iss_fly (q : PosShare TreeShare) (w : S15000x2880.Idx → Elt F .i32) (ids : S12288.Idx → BitVec 32) (n : ℕ) (s : Fin 3) :
    iprop(ringIss c q w ids n s 256 ∗ wordsPt c (shareDrop q 256) w) ⊢ (iprop(ringFly c q w (sid ids n) s ∗ idsPt c ids) : sProp 𝕄) := by
  unfold ringIss ringFly
  iintro ⟨⟨HB, HE, HS⟩, HW⟩
  isplitr [HS]
  · isplitl [HB]; · iexact HB
    iexact HW
  · iexact HS

theorem iss_tfly (q : PosShare TreeShare) (w : S15000x2880.Idx → Elt F .i32) (ids : S768.Idx → BitVec 32) (n : ℕ) :
    iprop(tgtIss c q w ids n 128 ∗ wordsPt c (shareDrop q 128) w) ⊢ (iprop(tgtFly c q w (tid ids n) ∗ tidsPt c ids) : sProp 𝕄) := by
  unfold tgtIss tgtFly
  iintro ⟨⟨HB, HE, HS⟩, HW⟩
  isplitr [HS]
  · isplitl [HB]; · iexact HB
    iexact HW
  · iexact HS

include htd in
theorem t1_loop (q : PosShare TreeShare)  {k : _ → Prog (TpuEff nD τ sig (Elt F) Λ₀ .tc) α} :
    iprop(tgtFree c q A.w ∗ tidsPt c A.tids)
      ⊢ iprop((tgtFly c q A.w (tid A.tids 0) -∗ tidsPt c A.tids -∗ wp frame (wpE defs₀ Variants.none (c : Thread nD τ) none) Set.univ (k ⟨⟩) Q) -∗
      wp frame (wpE defs₀ Variants.none (c : Thread nD τ) none) Set.univ (Scf.Loop.for k0_t1_loop (k0_t1_ok) ⟨⟩ (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) >>= k) Q) := by
  iintro ⟨HF, HS⟩ Hk
  imod (tgt_open c q A.w A.tids 0) $$ [HF HS] with ⟨HI, HW⟩
  · isplitl [HF]; · iexact HF
    iexact HS
  iapply (Scf.wp_for_bind Idealize.ShloMosaic.frame (wpE defs₀ Variants.none (c : Thread nD τ) none) Set.univ _ _ _ (k0_t1_ok) ⟨⟩ _ (fun j _ => tgtIss c q A.w A.tids 0 (8 * j)) (fun k _ => t1_trip c q A.w A.tids htd k)) $$ HI
  iintro %acc HI
  ihave HI := (iss_tfly c q A.w A.tids 0) $$ [HI HW]
  · isplitl [HI]; · iexact HI
    iexact HW
  icases HI with ⟨HF, HS⟩
  iapply Hk $$ HF HS

include hid in
theorem t2_loop (q : PosShare TreeShare)  {k : _ → Prog (TpuEff nD τ sig (Elt F) Λ₀ .tc) α} :
    iprop(ringFree c q A.w 0 ∗ idsPt c A.ids)
      ⊢ iprop((ringFly c q A.w (sid A.ids 0) 0 -∗ idsPt c A.ids -∗ wp frame (wpE defs₀ Variants.none (c : Thread nD τ) none) Set.univ (k ⟨⟩) Q) -∗
      wp frame (wpE defs₀ Variants.none (c : Thread nD τ) none) Set.univ (Scf.Loop.for k0_t2_loop (k0_t2_ok) ⟨⟩ (k0_t2_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) >>= k) Q) := by
  iintro ⟨HF, HS⟩ Hk
  imod (ring_open c q A.w A.ids 0 0) $$ [HF HS] with ⟨HI, HW⟩
  · isplitl [HF]; · iexact HF
    iexact HS
  iapply (Scf.wp_for_bind Idealize.ShloMosaic.frame (wpE defs₀ Variants.none (c : Thread nD τ) none) Set.univ _ _ _ (k0_t2_ok) ⟨⟩ _ (fun j _ => ringIss c q A.w A.ids 0 0 (8 * j)) (fun k _ => t2_trip c q A.w A.ids hid k)) $$ HI
  iintro %acc HI
  ihave HI := (iss_fly c q A.w A.ids 0 0) $$ [HI HW]
  · isplitl [HI]; · iexact HI
    iexact HW
  icases HI with ⟨HF, HS⟩
  iapply Hk $$ HF HS

include hid in
theorem t3_loop (q : PosShare TreeShare)  {k : _ → Prog (TpuEff nD τ sig (Elt F) Λ₀ .tc) α} :
    iprop(ringFree c q A.w 1 ∗ idsPt c A.ids)
      ⊢ iprop((ringFly c q A.w (sid A.ids 1) 1 -∗ idsPt c A.ids -∗ wp frame (wpE defs₀ Variants.none (c : Thread nD τ) none) Set.univ (k ⟨⟩) Q) -∗
      wp frame (wpE defs₀ Variants.none (c : Thread nD τ) none) Set.univ (Scf.Loop.for k0_t3_loop (k0_t3_ok) ⟨⟩ (k0_t3_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) >>= k) Q) := by
  iintro ⟨HF, HS⟩ Hk
  imod (ring_open c q A.w A.ids 1 1) $$ [HF HS] with ⟨HI, HW⟩
  · isplitl [HF]; · iexact HF
    iexact HS
  iapply (Scf.wp_for_bind Idealize.ShloMosaic.frame (wpE defs₀ Variants.none (c : Thread nD τ) none) Set.univ _ _ _ (k0_t3_ok) ⟨⟩ _ (fun j _ => ringIss c q A.w A.ids 1 1 (8 * j)) (fun k _ => t3_trip c q A.w A.ids hid k)) $$ HI
  iintro %acc HI
  ihave HI := (iss_fly c q A.w A.ids 1 1) $$ [HI HW]
  · isplitl [HI]; · iexact HI
    iexact HW
  icases HI with ⟨HF, HS⟩
  iapply Hk $$ HF HS

include hid in
theorem t7_loop (q : PosShare TreeShare) (a : Fin k0_t4_loop.trips) (b : Fin k0_t6_loop.trips) (x1 x2 x3 x4 : BitVec 32) (h1 : k0_cond1 a b = 1#1) {k : _ → Prog (TpuEff nD τ sig (Elt F) Λ₀ .tc) α} :
    iprop(ringFree c q A.w (slotOf (8 * a.val + b.val + 2)) ∗ idsPt c A.ids)
      ⊢ iprop((ringFly c q A.w (sid A.ids (8 * a.val + b.val + 2)) (slotOf (8 * a.val + b.val + 2)) -∗ idsPt c A.ids -∗ wp frame (wpE defs₀ Variants.none (c : Thread nD τ) none) Set.univ (k ⟨⟩) Q) -∗
      wp frame (wpE defs₀ Variants.none (c : Thread nD τ) none) Set.univ (Scf.Loop.for k0_t7_loop (k0_t7_ok a b h1) ⟨⟩ (k0_t7_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 x2 x3 b h1 x4) >>= k) Q) := by
  iintro ⟨HF, HS⟩ Hk
  imod (ring_open c q A.w A.ids (8 * a.val + b.val + 2) (slotOf (8 * a.val + b.val + 2))) $$ [HF HS] with ⟨HI, HW⟩
  · isplitl [HF]; · iexact HF
    iexact HS
  iapply (Scf.wp_for_bind Idealize.ShloMosaic.frame (wpE defs₀ Variants.none (c : Thread nD τ) none) Set.univ _ _ _ (k0_t7_ok a b h1) ⟨⟩ _ (fun j _ => ringIss c q A.w A.ids (8 * a.val + b.val + 2) (slotOf (8 * a.val + b.val + 2)) (8 * j)) (fun k _ => t7_trip c q A.w A.ids hid a b x1 x2 x3 x4 h1 k)) $$ HI
  iintro %acc HI
  ihave HI := (iss_fly c q A.w A.ids (8 * a.val + b.val + 2) (slotOf (8 * a.val + b.val + 2))) $$ [HI HW]
  · isplitl [HI]; · iexact HI
    iexact HW
  icases HI with ⟨HF, HS⟩
  iapply Hk $$ HF HS

include htd in
theorem t9_loop (q : PosShare TreeShare) (a : Fin k0_t4_loop.trips) (x1 : BitVec 32) (h2 : k0_cond2 a = 1#1) {k : _ → Prog (TpuEff nD τ sig (Elt F) Λ₀ .tc) α} :
    iprop(tgtFree c q A.w ∗ tidsPt c A.tids)
      ⊢ iprop((tgtFly c q A.w (tid A.tids (a.val + 1)) -∗ tidsPt c A.tids -∗ wp frame (wpE defs₀ Variants.none (c : Thread nD τ) none) Set.univ (k ⟨⟩) Q) -∗
      wp frame (wpE defs₀ Variants.none (c : Thread nD τ) none) Set.univ (Scf.Loop.for k0_t9_loop (k0_t9_ok a h2) ⟨⟩ (k0_t9_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a h2 x1) >>= k) Q) := by
  iintro ⟨HF, HS⟩ Hk
  imod (tgt_open c q A.w A.tids (a.val + 1)) $$ [HF HS] with ⟨HI, HW⟩
  · isplitl [HF]; · iexact HF
    iexact HS
  iapply (Scf.wp_for_bind Idealize.ShloMosaic.frame (wpE defs₀ Variants.none (c : Thread nD τ) none) Set.univ _ _ _ (k0_t9_ok a h2) ⟨⟩ _ (fun j _ => tgtIss c q A.w A.tids (a.val + 1) (8 * j)) (fun k _ => t9_trip c q A.w A.tids htd a x1 h2 k)) $$ HI
  iintro %acc HI
  ihave HI := (iss_tfly c q A.w A.tids (a.val + 1)) $$ [HI HW]
  · isplitl [HI]; · iexact HI
    iexact HW
  icases HI with ⟨HF, HS⟩
  iapply Hk $$ HF HS

/-- A slot's rows waited for: they hold their rows of the table. -/
theorem t8_loop (q : PosShare TreeShare) (a : Fin k0_t4_loop.trips) (b : Fin k0_t6_loop.trips) (x1 x2 x3 : BitVec 32) {k : _ → Prog (TpuEff nD τ sig (Elt F) Λ₀ .tc) α} :
    iprop(ringFly c q A.w (sid A.ids (8 * a.val + b.val)) (slotOf (8 * a.val + b.val)) ∗ kOwes c)
      ⊢ iprop((semVal ((c : Thread nD τ), SemLoc.dma (ringSem (slotOf (8 * a.val + b.val)))) 0 -∗ kRing c A (8 * a.val + b.val) -∗ wordsPt c q A.w -∗ kOwes c -∗ wp frame (wpE defs₀ Variants.none (c : Thread nD τ) none) Set.univ (k ⟨⟩) Q) -∗
      wp frame (wpE defs₀ Variants.none (c : Thread nD τ) none) Set.univ (Scf.Loop.for k0_t8_loop k0_t8_ok ⟨⟩ (k0_t8_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 x2 x3 b) >>= k) Q) := by
  unfold ringFly
  iintro ⟨⟨HF, HW⟩, HO⟩ Hk
  iapply (Scf.wp_for_bind Idealize.ShloMosaic.frame (wpE defs₀ Variants.none (c : Thread nD τ) none) Set.univ _ _ _ k0_t8_ok ⟨⟩ _ (fun j _ => ringWait c q A.w (sid A.ids (8 * a.val + b.val)) (slotOf (8 * a.val + b.val)) j) (fun k _ => t8_trip c q A.w (sid A.ids (8 * a.val + b.val)) a b x1 x2 x3 k)) $$ [HF HO]
  · unfold ringWait
    isplitl [HF]; · iexact HF
    iexact HO
  iintro %acc HI
  unfold ringWait
  icases HI with ⟨HF, HO⟩
  imod (ring_close c q A.w (sid A.ids (8 * a.val + b.val)) (slotOf (8 * a.val + b.val))) $$ [HF HW] with ⟨HV, HR, HW⟩
  · isplitl [HF]; · iexact HF
    iexact HW
  iapply Hk $$ HV [HR] HW HO
  unfold kRing Known
  iexists _
  isplitl [HR]; · iexact HR
  ipureintro
  exact fun y _ => rfl

/-- The target rows waited for. -/
theorem t5_loop (q : PosShare TreeShare) (a : Fin k0_t4_loop.trips) (x1 x2 : BitVec 32) {k : _ → Prog (TpuEff nD τ sig (Elt F) Λ₀ .tc) α} :
    iprop(tgtFly c q A.w (tid A.tids a.val) ∗ kOwes c)
      ⊢ iprop((semVal ((c : Thread nD τ), SemLoc.dma tSem) 0 -∗ kT c A a.val -∗ wordsPt c q A.w -∗ kOwes c -∗ wp frame (wpE defs₀ Variants.none (c : Thread nD τ) none) Set.univ (k ⟨⟩) Q) -∗
      wp frame (wpE defs₀ Variants.none (c : Thread nD τ) none) Set.univ (Scf.Loop.for k0_t5_loop k0_t5_ok ⟨⟩ (k0_t5_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 x1 x2 a) >>= k) Q) := by
  unfold tgtFly
  iintro ⟨⟨HF, HW⟩, HO⟩ Hk
  iapply (Scf.wp_for_bind Idealize.ShloMosaic.frame (wpE defs₀ Variants.none (c : Thread nD τ) none) Set.univ _ _ _ k0_t5_ok ⟨⟩ _ (fun j _ => tgtWait c q A.w (tid A.tids a.val) j) (fun k _ => t5_trip c q A.w (tid A.tids a.val) a x1 x2 k)) $$ [HF HO]
  · unfold tgtWait
    isplitl [HF]; · iexact HF
    iexact HO
  iintro %acc HI
  unfold tgtWait
  icases HI with ⟨HF, HO⟩
  imod (tgt_close c q A.w (tid A.tids a.val)) $$ [HF HW] with ⟨HV, HR, HW⟩
  · isplitl [HF]; · iexact HF
    iexact HW
  iapply Hk $$ HV [HR] HW HO
  unfold kT Known
  iexists _
  isplitl [HR]; · iexact HR
  ipureintro
  exact fun y _ => rfl

/-- What is left of a slot once its rows are used. -/
theorem ring_free (q : PosShare TreeShare) (n : ℕ) :
    iprop(semVal ((c : Thread nD τ), SemLoc.dma (ringSem (slotOf n))) 0 ∗ kRing c A n ∗ wordsPt c q A.w) ⊢ (ringFree c q A.w (slotOf n) : sProp 𝕄) := by
  unfold ringFree kRing Known
  iintro ⟨HV, ⟨%f, HR, %hf⟩, HW⟩
  isplitl [HV]; · iexact HV
  isplitl [HR]
  · iexists f
    iexact HR
  · iexact HW

theorem tgt_free (q : PosShare TreeShare) (a : ℕ) :
    iprop(semVal ((c : Thread nD τ), SemLoc.dma tSem) 0 ∗ kT c A a ∗ wordsPt c q A.w) ⊢ (tgtFree c q A.w : sProp 𝕄) := by
  unfold tgtFree kT Known
  iintro ⟨HV, ⟨%f, HR, %hf⟩, HW⟩
  isplitl [HV]; · iexact HV
  isplitl [HR]
  · iexists f
    iexact HR
  · iexact HW

/-- The slot of chunk `n`: in flight, or at rest past the last chunk. -/
def cell (qs : Fin 3 → PosShare TreeShare) (n : ℕ) : sProp 𝕄 :=
  if n < 48 then ringFly c (qs (slotOf n)) A.w (sid A.ids n) (slotOf n) else ringFree c (qs (slotOf n)) A.w (slotOf n)

include hid in
/-- The start of a chunk: the chunk after next issued, this one waited for, and its first rows read. -/
theorem part9 (qs : Fin 3 → PosShare TreeShare) {q : PosShare TreeShare} (a : Fin k0_t4_loop.trips) (b : Fin k0_t6_loop.trips) (hab : (8 * a.val + b.val) < 48) (w0 w1 w2 : BitVec 32) {k : _ → Prog (TpuEff nD τ sig (Elt F) Λ₀ .tc) α} :
    iprop(cell c A qs (8 * a.val + b.val) ∗ ringFree c (qs (slotOf (8 * a.val + b.val + 2))) A.w (slotOf (8 * a.val + b.val + 2)) ∗ idsPt c A.ids ∗ kOwes c ∗ kIdv c A q)
      ⊢ iprop((∀ u0 u1 u2 u3, cell c A qs (8 * a.val + b.val + 2) -∗ idsPt c A.ids -∗ kOwes c -∗ kIdv c A q -∗ semVal ((c : Thread nD τ), SemLoc.dma (ringSem (slotOf (8 * a.val + b.val)))) 0 -∗ kRing c A (8 * a.val + b.val) -∗ wordsPt c (qs (slotOf (8 * a.val + b.val))) A.w
        -∗ wp frame (wpE defs₀ Variants.none (c : Thread nD τ) none) Set.univ (k ⟨u0, u1, u2, k0_pay8 (F := F) (idRow A (16 * a.val + 2 * b.val + 0)), k0_pay9 (F := F) (idRow A (16 * a.val + 2 * b.val + 0)), u3, k0_pay10 (idRow A (16 * a.val + 2 * b.val + 0)) (ringT A (8 * a.val + b.val) (128 * 0) 0)⟩) Q) -∗
      wp frame (wpE defs₀ Variants.none (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a w0 w1 w2 b >>= k) Q) := by
  rw [k0_part9_eq_skeleton]
  unfold k0_part9_skel
  rw [show cell c A qs (8 * a.val + b.val) = ringFly c (qs (slotOf (8 * a.val + b.val))) A.w (sid A.ids (8 * a.val + b.val)) (slotOf (8 * a.val + b.val)) from if_pos hab]
  by_cases h1 : k0_cond1 a b = 1#1
  · rw [dif_pos h1]
    have h1' := (cond1_iff a b).mp h1
    rw [show cell c A qs (8 * a.val + b.val + 2) = ringFly c (qs (slotOf (8 * a.val + b.val + 2))) A.w (sid A.ids (8 * a.val + b.val + 2)) (slotOf (8 * a.val + b.val + 2)) from if_pos h1']
    simp only [Prog.bind_assoc, Prog.bind_lift, Prog.bind_ret, Prog.bind_op, pure_bind, bind_assoc]
    iintro ⟨HC, HF, HS, HO, HI⟩ Hk
    iapply (t7_loop c A hid (qs (slotOf (8 * a.val + b.val + 2))) a b _ _ _ _ h1) $$ [HF HS]
    · isplitl [HF]; · iexact HF
      iexact HS
    iintro HF HS
    iapply (t8_loop c A (qs (slotOf (8 * a.val + b.val))) a b) $$ [HC HO]
    · isplitl [HC]; · iexact HC
      iexact HO
    iintro HV HR HW HO
    iapply (ld3 c (m := mIdv) (16 * a.val + 2 * b.val + 0) rfl) $$ HI
    iintro HI
    iapply (ring_ld c A (8 * a.val + b.val) (128 * 0) _ rfl) $$ HR
    iintro HR
    iapply Hk $$ %_ %_ %_ %_ HF HS HO HI HV HR HW
  · rw [dif_neg h1]
    have h1' : ¬ (8 * a.val + b.val + 2) < 48 := fun h => h1 ((cond1_iff a b).mpr h)
    rw [show cell c A qs (8 * a.val + b.val + 2) = ringFree c (qs (slotOf (8 * a.val + b.val + 2))) A.w (slotOf (8 * a.val + b.val + 2)) from if_neg h1']
    simp only [Prog.bind_assoc, Prog.bind_lift, Prog.bind_ret, Prog.bind_op, pure_bind, bind_assoc]
    iintro ⟨HC, HF, HS, HO, HI⟩ Hk
    iapply (t8_loop c A (qs (slotOf (8 * a.val + b.val))) a b) $$ [HC HO]
    · isplitl [HC]; · iexact HC
      iexact HO
    iintro HV HR HW HO
    iapply (ld3 c (m := mIdv) (16 * a.val + 2 * b.val + 0) rfl) $$ HI
    iintro HI
    iapply (ring_ld c A (8 * a.val + b.val) (128 * 0) _ rfl) $$ HR
    iintro HR
    iapply Hk $$ %_ %_ %_ %_ HF HS HO HI HV HR HW

end Cert.Kernel.Hand
-- ==== Proof.Trip6.lean ====
/-
  Hand-written. A chunk's trip: the stream's steps, the unpacking, the scales and the logits.
-/
module

public import proofs.«01_k».proof.Proof.Chunk
public import proofs.«01_k».proof.Proof.Stream

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

open Idealize.ShloMosaic.ValueIdx Cert.Dma

variable (c : Dev nD) (A : Ins F) (hid : ∀ i, (A.ids i).toNat < 60000) (qs : Fin 3 → PosShare TreeShare) (q1 q2 : PosShare TreeShare)

set_option maxHeartbeats 4000000

theorem slotOf_three (n : ℕ) : slotOf (n + 3) = slotOf n := Fin.ext (Nat.add_mod_right n 3)

/-- Before chunk `b` of batch `a`. -/
def I6 (a b : ℕ) : sProp 𝕄 :=
  iprop(cell c A qs (8 * a + b) ∗ cell c A qs (8 * a + b + 1) ∗ ringFree c (qs (slotOf (8 * a + b + 2))) A.w (slotOf (8 * a + b + 2))
    ∗ idsPt c A.ids ∗ kOwes c ∗ kIdv c A q1 ∗ kTP c A ∗ kX c A q2
    ∗ kCB c A a (256 * b + 128 * 0) 0 ∗ kSC c A a (256 * b + 128 * 0) 0 ∗ kZ c A a (256 * b + 128 * 0) 0)

include hid in
theorem t6_trip (a : Fin k0_t4_loop.trips) (x1 x2 : BitVec 32) (y1 : IVec S128x128 32) (y2 : FVec F S128x128 .f32) (y3 : FVec F S128x512 .bf16) (b : Fin k0_t6_loop.trips) :
    I6 c A qs q1 q2 a.val b.val ⊢ wp frame (wpE defs₀ Variants.none (c : Thread nD τ) none) Set.univ (k0_t6_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 iot a x1 x2 (k0_pay86 (F := F) (tgRow A a.val)) y1 y2 y3 b ()) (fun _ => I6 c A qs q1 q2 a.val (b.val + 1)) := by
  have hb : b.val < 8 := lt_of_lt_of_eq b.isLt t6_trips
  have ha : a.val < 6 := lt_of_lt_of_eq a.isLt t4_trips
  unfold I6 k0_t6_body
  rw [k0_part26_eq_skeleton]
  unfold k0_part26_skel
  rw [bind_assoc]
  iintro ⟨HC, HC1, HF, HS, HO, HI, HT, HX, HB, HSC, HZ⟩
  iapply (part9 c A hid qs a b (by omega)) $$ [HC HF HS HO HI]
  · isplitl [HC]; · iexact HC
    isplitl [HF]; · iexact HF
    isplitl [HS]; · iexact HS
    isplitl [HO]; · iexact HO
    iexact HI
  iintro %u0 %u1 %u2 %u3 HC2 HS HO HI HV HR HW
  simp only [bind_assoc]
  iapply (half0 c A a b hb u2 u3) $$ [HR HB]
  · isplitl [HR]; · iexact HR
    iexact HB
  iintro HR HB
  simp only []
  iapply (mid0 c A a b hb) $$ [HT HX HB HSC HZ]
  · isplitl [HT]; · iexact HT
    isplitl [HX]; · iexact HX
    isplitl [HB]; · iexact HB
    isplitl [HSC]; · iexact HSC
    iexact HZ
  iintro HT HX HB HSC HZ
  ihave HB := (next c (m := mCB) (256 * b.val + 128 * 1) 128 (le_refl _) (by omega)) $$ HB
  iapply (begin1 c A a b hb) $$ [HR HI HB HZ]
  · isplitl [HR]; · iexact HR
    isplitl [HI]; · iexact HI
    isplitl [HB]; · iexact HB
    iexact HZ
  iintro %u4 HR HI HB HZ
  simp only []
  iapply (half1 c A a b hb) $$ [HR HT HB]
  · isplitl [HR]; · iexact HR
    isplitl [HT]; · iexact HT
    iexact HB
  iintro HR HT HB
  ihave HZ := (next c (m := mZ) (256 * b.val + 128 * 1) 128 (le_refl _) (by omega)) $$ HZ
  ihave HSC := (next c (m := mSC) (256 * b.val + 128 * 1) 128 (le_refl _) (by omega)) $$ HSC
  simp only [Prog.bind_assoc, Prog.bind_lift, Prog.bind_ret, Prog.bind_op, pure_bind, bind_assoc]
  iapply (put2 c (m := mSC) (256 * b.val + 128 * 1) 0 rfl) $$ HSC []
  · ipureintro
    exact fun i j h1 h2 => (congrFun (sc1 A a.val b.val) (ix2 i j)).trans (SC_i2 A a.val b.val 1 (by omega) i j h1).symm
  iintro HSC
  iapply (ld2 c (m := mCB) (cbT A a.val (256 * b.val + 128 * 1) 0) _ 0 rfl (fun i j h1 h2 => cb_done _ i j h1) (fun i j h1 h2 => CB_i2 A a.val _ _ h1 h2)) $$ HB
  iintro HB
  iapply (ld2 c (m := mX) (xT A a.val 0) (128 * a.val) 0 rfl (fun _ _ _ _ => trivial) (fun _ _ _ _ => rfl)) $$ HX
  iintro HX
  iapply (put2 c (m := mZ) (256 * b.val + 128 * 1) 0 rfl) $$ HZ []
  · ipureintro
    exact fun i j h1 h2 => (congrFun (z1 A a.val b.val) (ix2 i j)).trans (ZZ_i2 A a.val b.val 1 (by omega) i j h1).symm
  iintro HZ
  ihave HB := (next c (m := mCB) (256 * (b.val + 1) + 128 * 0) 128 (le_refl _) (by omega)) $$ HB
  ihave HZ := (next c (m := mZ) (256 * (b.val + 1) + 128 * 0) 128 (le_refl _) (by omega)) $$ HZ
  ihave HSC := (next c (m := mSC) (256 * (b.val + 1) + 128 * 0) 128 (le_refl _) (by omega)) $$ HSC
  ihave HF := (ring_free c A (qs (slotOf (8 * a.val + b.val))) (8 * a.val + b.val)) $$ [HV HR HW]
  · isplitl [HV]; · iexact HV
    isplitl [HR]; · iexact HR
    iexact HW
  rw [wp_pure]
  imodintro
  rw [show 8 * a.val + (b.val + 1) + 2 = (8 * a.val + b.val) + 3 by omega, slotOf_three, show 8 * a.val + (b.val + 1) = (8 * a.val + b.val) + 1 by omega]
  isplitl [HC1]; · iexact HC1
  isplitl [HC2]; · iexact HC2
  isplitl [HF]; · iexact HF
  isplitl [HS]; · iexact HS
  isplitl [HO]; · iexact HO
  isplitl [HI]; · iexact HI
  isplitl [HT]; · iexact HT
  isplitl [HX]; · iexact HX
  isplitl [HB]; · iexact HB
  isplitl [HSC]; · iexact HSC
  iexact HZ

end Cert.Kernel.Hand
-- ==== Proof.Batch.lean ====
/-
  Hand-written. A batch's trip.
-/
module

public import proofs.«01_k».proof.Proof.Trip6

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

open Idealize.ShloMosaic.ValueIdx Cert.Dma

variable (c : Dev nD) (A : Ins F) (hid : ∀ i, (A.ids i).toNat < 60000) (htd : ∀ i, (A.tids i).toNat < 60000) (qs : Fin 3 → PosShare TreeShare) (q q1 q2 q3 q4 : PosShare TreeShare)

variable {α : Type} {Q : α → sProp (MT nD τ sig Unit (Elt F) ℕ (Pipeline.UD sig nD τ) ℕ)}

set_option maxHeartbeats 4000000

abbrev mDZ : Memref sig .tc .vmem S12288x128 .f32 := Memref.whole cc0_stg8_0
abbrev mDZT : Memref sig .tc .vmem S6x1x128 .f32 := Memref.whole cc0_stg9_0
abbrev mDH : Memref sig .tc .vmem S768x2880 .bf16 := Memref.whole cc0_stg10_0
abbrev mLOSS : Memref sig .tc .vmem S6x1x128 .f32 := Memref.whole cc0_stg11_0

abbrev kTgv : sProp 𝕄 := Known (c : Thread nD τ) mTgv Finset.univ q3 A.tgv (fun _ => True)
abbrev kG : sProp 𝕄 := Known (c : Thread nD τ) mG Finset.univ q4 A.g (fun _ => True)
abbrev kLoss (a : ℕ) : sProp 𝕄 := Known (c : Thread nD τ) mLOSS Finset.univ fullShare (LOSS A) (fun y => (y 0).val < a)
abbrev kDzt (a : ℕ) : sProp 𝕄 := Known (c : Thread nD τ) mDZT Finset.univ fullShare (DZT A) (fun y => (y 0).val < a)
abbrev kDz (R C : ℕ) : sProp 𝕄 := Known (c : Thread nD τ) mDZ Finset.univ fullShare (DZ A) (upTo 2048 R C)
abbrev kDh (R C : ℕ) : sProp 𝕄 := Known (c : Thread nD τ) mDH Finset.univ fullShare (DH A) (upTo 128 R C)

/-! ## The loads -/

theorem tg_ld {m1 : ℕ} (a C : ℕ) {off : Fin 2 → ℕ} [h : ClosedOff off] (e : h.form = ![0, C]) {inb : ∀ a, off a + (![128, m1] : Fin 2 → ℕ) a ≤ S128x2880.size a}
    {hl : (mT).view.LoadsAt (Rect.unit (s := S128x2880) off ![128, m1] inb).toLoadRect} {k : _ → Prog (TpuEff nD τ sig (Elt F) Λ₀ .tc) α} :
    kT c A a ⊢ iprop((kT c A a -∗ wp frame (wpE defs₀ Variants.none (c : Thread nD τ) none) Set.univ (k (tgtT A a C)) Q) -∗ wp frame (wpE defs₀ Variants.none (c : Thread nD τ) none) Set.univ (.op (.load mT (Rect.unit (s := S128x2880) off ![128, m1] inb).toLoadRect hl) k) Q) :=
  ld2 c (m := mT) (tgtT A a C) 0 C e (fun _ _ _ _ => trivial) (fun i j _ _ => by rw [Nat.zero_add]; rfl)

theorem x_ld {m1 : ℕ} (a C : ℕ) {off : Fin 2 → ℕ} [h : ClosedOff off] (e : h.form = ![128 * a, C]) {inb : ∀ a, off a + (![128, m1] : Fin 2 → ℕ) a ≤ S768x2880.size a}
    {hl : (mX).view.LoadsAt (Rect.unit (s := S768x2880) off ![128, m1] inb).toLoadRect} {k : _ → Prog (TpuEff nD τ sig (Elt F) Λ₀ .tc) α} :
    kX c A q2 ⊢ iprop((kX c A q2 -∗ wp frame (wpE defs₀ Variants.none (c : Thread nD τ) none) Set.univ (k (xT A a C)) Q) -∗ wp frame (wpE defs₀ Variants.none (c : Thread nD τ) none) Set.univ (.op (.load mX (Rect.unit (s := S768x2880) off ![128, m1] inb).toLoadRect hl) k) Q) :=
  ld2 c (m := mX) (xT A a C) (128 * a) C e (fun _ _ _ _ => trivial) (fun i j _ _ => rfl)

theorem all_done {n0 n1 : ℕ} [NeZero n0] [NeZero n1] {H R : ℕ} (i j : ℕ) (hi : i < n0) (hR : n0 ≤ R) : upTo (n0 := n0) (n1 := n1) H R 0 (i2 i j) := by
  refine .inl ?_
  show i % n0 < R
  rw [Nat.mod_eq_of_lt hi]
  omega

theorem cb_ld (a C : ℕ) {off : Fin 2 → ℕ} [h : ClosedOff off] (e : h.form = ![0, C]) {inb : ∀ a, off a + S2048x256.size a ≤ S2048x2880.size a}
    {hl : (mCB).view.LoadsAt (Rect.unit (s := S2048x2880) off S2048x256.size inb).toLoadRect} {k : _ → Prog (TpuEff nD τ sig (Elt F) Λ₀ .tc) α} :
    kCB c A a 2048 0 ⊢ iprop((kCB c A a 2048 0 -∗ wp frame (wpE defs₀ Variants.none (c : Thread nD τ) none) Set.univ (k (cbT A a 0 C)) Q) -∗ wp frame (wpE defs₀ Variants.none (c : Thread nD τ) none) Set.univ (.op (.load mCB (Rect.unit (s := S2048x2880) off S2048x256.size inb).toLoadRect hl) k) Q) :=
  ld2 c (m := mCB) (cbT A a 0 C) 0 C e (fun i j h1 h2 => all_done _ _ h1 le_rfl) (fun i j h1 h2 => CB_i2 A a _ _ h1 h2)

theorem cb_ld64 (a C : ℕ) {off : Fin 2 → ℕ} [h : ClosedOff off] (e : h.form = ![0, C]) {inb : ∀ a, off a + S2048x64.size a ≤ S2048x2880.size a}
    {hl : (mCB).view.LoadsAt (Rect.unit (s := S2048x2880) off S2048x64.size inb).toLoadRect} {k : _ → Prog (TpuEff nD τ sig (Elt F) Λ₀ .tc) α} :
    kCB c A a 2048 0 ⊢ iprop((kCB c A a 2048 0 -∗ wp frame (wpE defs₀ Variants.none (c : Thread nD τ) none) Set.univ (k (cbT A a 0 C)) Q) -∗ wp frame (wpE defs₀ Variants.none (c : Thread nD τ) none) Set.univ (.op (.load mCB (Rect.unit (s := S2048x2880) off S2048x64.size inb).toLoadRect hl) k) Q) :=
  ld2 c (m := mCB) (cbT A a 0 C) 0 C e (fun i j h1 h2 => all_done _ _ h1 le_rfl) (fun i j h1 h2 => CB_i2 A a _ _ h1 h2)

theorem z_ld (a : ℕ) {off : Fin 2 → ℕ} [h : ClosedOff off] (e : h.form = ![0, 0]) {inb : ∀ a, off a + S2048x128.size a ≤ S2048x128.size a}
    {hl : (mZ).view.LoadsAt (Rect.unit (s := S2048x128) off S2048x128.size inb).toLoadRect} {k : _ → Prog (TpuEff nD τ sig (Elt F) Λ₀ .tc) α} :
    kZ c A a 2048 0 ⊢ iprop((kZ c A a 2048 0 -∗ wp frame (wpE defs₀ Variants.none (c : Thread nD τ) none) Set.univ (k (ZZ A a)) Q) -∗ wp frame (wpE defs₀ Variants.none (c : Thread nD τ) none) Set.univ (.op (.load mZ (Rect.unit (s := S2048x128) off S2048x128.size inb).toLoadRect hl) k) Q) :=
  ld2 c (m := mZ) (ZZ A a) 0 0 e (fun i j h1 h2 => all_done _ _ h1 le_rfl) (fun i j h1 h2 => by rw [Nat.zero_add, Nat.zero_add, i2_fin])

theorem sc_ld (a : ℕ) {off : Fin 2 → ℕ} [h : ClosedOff off] (e : h.form = ![0, 0]) {inb : ∀ a, off a + S2048x128.size a ≤ S2048x128.size a}
    {hl : (mSC).view.LoadsAt (Rect.unit (s := S2048x128) off S2048x128.size inb).toLoadRect} {k : _ → Prog (TpuEff nD τ sig (Elt F) Λ₀ .tc) α} :
    kSC c A a 2048 0 ⊢ iprop((kSC c A a 2048 0 -∗ wp frame (wpE defs₀ Variants.none (c : Thread nD τ) none) Set.univ (k (SC A a)) Q) -∗ wp frame (wpE defs₀ Variants.none (c : Thread nD τ) none) Set.univ (.op (.load mSC (Rect.unit (s := S2048x128) off S2048x128.size inb).toLoadRect hl) k) Q) :=
  ld2 c (m := mSC) (SC A a) 0 0 e (fun i j h1 h2 => all_done _ _ h1 le_rfl) (fun i j h1 h2 => by rw [Nat.zero_add, Nat.zero_add, i2_fin])

/-! ## What the outputs hold, block by block -/

theorem DH_val (r col : ℕ) (hr : r < 768) (hc : col < 2880) : DH A (i2 r col) =
    if col < 2816 then
      if col % 256 < 128 then dhA A (r / 128) (256 * (col / 256)) (i2 (r % 128) (col % 256))
      else dhB A (r / 128) (256 * (col / 256)) (i2 (r % 128) (col % 256 - 128))
    else dhC A (r / 128) (i2 (r % 128) (col - 2816)) := by
  have e := i2_val (n0 := 768) (n1 := 2880) hr hc
  unfold DH
  rw [e.1, e.2]

theorem dhA_put (a C : ℕ) (hC : C % 256 = 0) (hC' : C < 2816) {w : S128x128.Idx → Elt F .bf16} (hw : w = dhA A a C) (i j : Fin 128)
    (h1 : 128 * a + i.val < 768) (h2 : C + j.val < 2880) : w (ix2 i j) = DH A (i2 (128 * a + i.val) (C + j.val)) := by
  rw [hw, DH_val A _ _ h1 h2, if_pos (by omega), if_pos (by omega), show (128 * a + i.val) / 128 = a by omega, show 256 * ((C + j.val) / 256) = C by omega,
    show (128 * a + i.val) % 128 = i.val by omega, show (C + j.val) % 256 = j.val by omega, i2_fin]

theorem dhB_put (a C : ℕ) (hC : C % 256 = 0) (hC' : C < 2816) {w : S128x128.Idx → Elt F .bf16} (hw : w = dhB A a C) (i j : Fin 128)
    (h1 : 128 * a + i.val < 768) (h2 : (C + 128) + j.val < 2880) : w (ix2 i j) = DH A (i2 (128 * a + i.val) ((C + 128) + j.val)) := by
  rw [hw, DH_val A _ _ h1 h2, if_pos (by omega), if_neg (by omega), show (128 * a + i.val) / 128 = a by omega, show 256 * ((C + 128 + j.val) / 256) = C by omega,
    show (128 * a + i.val) % 128 = i.val by omega, show (C + 128 + j.val) % 256 - 128 = j.val by omega, i2_fin]

theorem dhC_put (a : ℕ) {w : S128x64.Idx → Elt F .bf16} (hw : w = dhC A a) (i : Fin 128) (j : Fin 64)
    (h1 : 128 * a + i.val < 768) (h2 : 2816 + j.val < 2880) : w (ix2 i j) = DH A (i2 (128 * a + i.val) (2816 + j.val)) := by
  rw [hw, DH_val A _ _ h1 h2, if_neg (by omega), show (128 * a + i.val) / 128 = a by omega,
    show (128 * a + i.val) % 128 = i.val by omega, show 2816 + j.val - 2816 = j.val by omega, i2_fin]

theorem dz_put (a : ℕ) (i : Fin 2048) (j : Fin 128)
    (h1 : 2048 * a + i.val < 12288) (h2 : 0 + j.val < 128) : dzN A a (ix2 i j) = DZ A (i2 (2048 * a + i.val) (0 + j.val)) := by
  have e := i2_val (n0 := 12288) (n1 := 128) h1 h2
  unfold DZ
  rw [e.1, e.2, show (2048 * a + i.val) / 2048 = a by omega, show (2048 * a + i.val) % 2048 = i.val by omega, Nat.zero_add, i2_fin]

theorem i3_row (a j : ℕ) (ha : a < 6) (hj : j < 128) : ((i3 (n0 := 6) (n1 := 1) (n2 := 128) a 0 j) 0).val = a ∧ ((i3 (n0 := 6) (n1 := 1) (n2 := 128) a 0 j) 2).val = j :=
  ⟨Nat.mod_eq_of_lt ha, Nat.mod_eq_of_lt hj⟩

theorem row_eta (x : S1x1x128.Idx) : i3 (n0 := 1) (n1 := 1) (n2 := 128) 0 0 (x 2).val = x := by
  have h0 : (x 0).val < 1 := (x 0).isLt
  have h1 : (x 1).val < 1 := (x 1).isLt
  have h2 : (x 2).val < 128 := (x 2).isLt
  funext d
  match d with
  | ⟨0, _⟩ => exact Fin.ext (by show 0 % 1 = (x 0).val; omega)
  | ⟨1, _⟩ => exact Fin.ext (by show 0 % 1 = (x 1).val; omega)
  | ⟨2, _⟩ => exact Fin.ext (by show (x 2).val % 128 = (x 2).val; omega)

theorem loss_put (a : ℕ) (ha : a < 6) (x : S1x1x128.Idx) : lossN A a x = LOSS A (i3 a 0 (x 2).val) := by
  have e := i3_row a (x 2).val ha (x 2).isLt
  unfold LOSS
  rw [e.1, e.2, row_eta]

theorem dzt_put (a : ℕ) (ha : a < 6) (x : S1x1x128.Idx) : dztN A a x = DZT A (i3 a 0 (x 2).val) := by
  have e := i3_row a (x 2).val ha (x 2).isLt
  unfold DZT
  rw [e.1, e.2, row_eta]

/-! ## The trip, stretch by stretch -/

/-- The targets' rows waited for, and the first two tiles of their dots. -/
theorem dots0 (a : Fin k0_t4_loop.trips) (x1 x2 : BitVec 32) {k : _ → Prog (TpuEff nD τ sig (Elt F) Λ₀ .tc) α} :
    iprop(tgtFly c q A.w (tid A.tids a.val) ∗ kTgv c A q3 ∗ kX c A q2 ∗ kOwes c)
      ⊢ iprop((∀ u0 u1, semVal ((c : Thread nD τ), SemLoc.dma tSem) 0 -∗ kT c A a.val -∗ wordsPt c q A.w -∗ kTgv c A q3 -∗ kX c A q2 -∗ kOwes c -∗
        wp frame (wpE defs₀ Variants.none (c : Thread nD τ) none) Set.univ (k ⟨u0, u1, (k0_pay86 (F := F) (tgRow A a.val)), tcol A a.val, tsh A a.val, acc0 A a.val⟩) Q) -∗
      wp frame (wpE defs₀ Variants.none (c : Thread nD τ) none) Set.univ (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 x1 x2 a >>= k) Q) := by
  rw [k0_part29_eq_skeleton]
  unfold k0_part29_skel
  simp only [Prog.bind_assoc, Prog.bind_lift, Prog.bind_ret, Prog.bind_op, pure_bind, bind_assoc]
  iintro ⟨HF, HV, HX, HO⟩ Hk
  iapply (ld3 c (m := mTgv) a.val rfl) $$ HV
  iintro HV
  iapply (t5_loop c A q a x1 x2) $$ [HF HO]
  · isplitl [HF]; · iexact HF
    iexact HO
  iintro HS HT HW HO
  iapply (tg_ld c A a.val 0 rfl) $$ HT
  iintro HT
  iapply (x_ld c A q2 a.val 0 rfl) $$ HX
  iintro HX
  iapply (tg_ld c A a.val 128 rfl) $$ HT
  iintro HT
  iapply (x_ld c A q2 a.val 128 rfl) $$ HX
  iintro HX
  iapply Hk $$ %_ %_ HS HT HW HV HX HO

/-- The rest of the targets' dots. -/
theorem dots1 (a : Fin k0_t4_loop.trips) (w : BitVec 32) {k : _ → Prog (TpuEff nD τ sig (Elt F) Λ₀ .tc) α} :
    iprop(kT c A a.val ∗ kX c A q2)
      ⊢ iprop((kT c A a.val -∗ kX c A q2 -∗ wp frame (wpE defs₀ Variants.none (c : Thread nD τ) none) Set.univ (k ⟨acc6 A a.val, hot A a.val⟩) Q) -∗
      wp frame (wpE defs₀ Variants.none (c : Thread nD τ) none) Set.univ (do
        let v136 ← k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a w (tsh A a.val) (acc0 A a.val)
        let v180 ← k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a w (tsh A a.val) v136
        let v224 ← k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a w (tsh A a.val) v180
        let v268 ← k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a w (tsh A a.val) v224
        let v312 ← k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a w (tsh A a.val) v268
        let r ← k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 iot a w (tcol A a.val) (tsh A a.val) v312
        k r) Q) := by
  rw [k0_part30_eq_skeleton, k0_part31_eq_skeleton, k0_part32_eq_skeleton, k0_part33_eq_skeleton, k0_part34_eq_skeleton, k0_part35_eq_skeleton]
  unfold k0_part30_skel k0_part31_skel k0_part32_skel k0_part33_skel k0_part34_skel k0_part35_skel
  simp only [Prog.bind_assoc, Prog.bind_lift, Prog.bind_ret, Prog.bind_op, pure_bind, bind_assoc]
  iintro ⟨HT, HX⟩ Hk
  iapply (tg_ld c A a.val 256 rfl) $$ HT
  iintro HT
  iapply (x_ld c A q2 a.val 256 rfl) $$ HX
  iintro HX
  iapply (tg_ld c A a.val 384 rfl) $$ HT
  iintro HT
  iapply (x_ld c A q2 a.val 384 rfl) $$ HX
  iintro HX
  iapply (tg_ld c A a.val 512 rfl) $$ HT
  iintro HT
  iapply (x_ld c A q2 a.val 512 rfl) $$ HX
  iintro HX
  iapply (tg_ld c A a.val 640 rfl) $$ HT
  iintro HT
  iapply (x_ld c A q2 a.val 640 rfl) $$ HX
  iintro HX
  iapply (tg_ld c A a.val 768 rfl) $$ HT
  iintro HT
  iapply (x_ld c A q2 a.val 768 rfl) $$ HX
  iintro HX
  iapply (tg_ld c A a.val 896 rfl) $$ HT
  iintro HT
  iapply (x_ld c A q2 a.val 896 rfl) $$ HX
  iintro HX
  iapply (tg_ld c A a.val 1024 rfl) $$ HT
  iintro HT
  iapply (x_ld c A q2 a.val 1024 rfl) $$ HX
  iintro HX
  iapply (tg_ld c A a.val 1152 rfl) $$ HT
  iintro HT
  iapply (x_ld c A q2 a.val 1152 rfl) $$ HX
  iintro HX
  iapply (tg_ld c A a.val 1280 rfl) $$ HT
  iintro HT
  iapply (x_ld c A q2 a.val 1280 rfl) $$ HX
  iintro HX
  iapply (tg_ld c A a.val 1408 rfl) $$ HT
  iintro HT
  iapply (x_ld c A q2 a.val 1408 rfl) $$ HX
  iintro HX
  iapply (tg_ld c A a.val 1536 rfl) $$ HT
  iintro HT
  iapply (x_ld c A q2 a.val 1536 rfl) $$ HX
  iintro HX
  iapply (tg_ld c A a.val 1664 rfl) $$ HT
  iintro HT
  iapply (x_ld c A q2 a.val 1664 rfl) $$ HX
  iintro HX
  iapply (tg_ld c A a.val 1792 rfl) $$ HT
  iintro HT
  iapply (x_ld c A q2 a.val 1792 rfl) $$ HX
  iintro HX
  iapply (tg_ld c A a.val 1920 rfl) $$ HT
  iintro HT
  iapply (x_ld c A q2 a.val 1920 rfl) $$ HX
  iintro HX
  iapply (tg_ld c A a.val 2048 rfl) $$ HT
  iintro HT
  iapply (x_ld c A q2 a.val 2048 rfl) $$ HX
  iintro HX
  iapply (tg_ld c A a.val 2176 rfl) $$ HT
  iintro HT
  iapply (x_ld c A q2 a.val 2176 rfl) $$ HX
  iintro HX
  iapply (tg_ld c A a.val 2304 rfl) $$ HT
  iintro HT
  iapply (x_ld c A q2 a.val 2304 rfl) $$ HX
  iintro HX
  iapply (tg_ld c A a.val 2432 rfl) $$ HT
  iintro HT
  iapply (x_ld c A q2 a.val 2432 rfl) $$ HX
  iintro HX
  iapply (tg_ld c A a.val 2560 rfl) $$ HT
  iintro HT
  iapply (x_ld c A q2 a.val 2560 rfl) $$ HX
  iintro HX
  iapply (tg_ld c A a.val 2688 rfl) $$ HT
  iintro HT
  iapply (x_ld c A q2 a.val 2688 rfl) $$ HX
  iintro HX
  iapply (tg_ld c A a.val 2816 rfl) $$ HT
  iintro HT
  iapply (x_ld c A q2 a.val 2816 rfl) $$ HX
  iintro HX
  iapply Hk $$ HT HX

include hid in
/-- The batch's chunks, and the softmax's maximum and correction. -/
theorem chunks (a : Fin k0_t4_loop.trips) (x1 x2 : BitVec 32) {k : _ → Prog (TpuEff nD τ sig (Elt F) Λ₀ .tc) α} :
    I6 c A qs q1 q2 a.val 0
      ⊢ iprop((I6 c A qs q1 q2 a.val 8 -∗ wp frame (wpE defs₀ Variants.none (c : Thread nD τ) none) Set.univ (k ⟨tscale A a.val, zt A a.val, ZZ A a.val, v396 A a.val, v397 A a.val⟩) Q) -∗
      wp frame (wpE defs₀ Variants.none (c : Thread nD τ) none) Set.univ (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 iot a x1 x2 (k0_pay86 (F := F) (tgRow A a.val)) (tcol A a.val) (acc6 A a.val) (hot A a.val) >>= k) Q) := by
  rw [k0_part36_eq_skeleton]
  unfold k0_part36_skel
  simp only [Prog.bind_assoc, Prog.bind_lift, Prog.bind_ret, Prog.bind_op, pure_bind, bind_assoc]
  unfold I6
  iintro ⟨H1, H2, H3, H4, H5, H6, HT, H7⟩ Hk
  iapply (ld2 c (m := mTP) (TP A) 0 0 rfl (fun i j h1 h2 => tp_done i j) (fun i j h1 h2 => tp_whole A i j)) $$ HT
  iintro HT
  iapply (Scf.wp_for_bind Idealize.ShloMosaic.frame (wpE defs₀ Variants.none (c : Thread nD τ) none) Set.univ _ _ _ k0_t6_ok ⟨⟩ _ (fun j _ => I6 c A qs q1 q2 a.val j) (fun b _ => t6_trip c A hid qs q1 q2 a x1 x2 (tcol A a.val) (acc6 A a.val) (hot A a.val) b)) $$ [H1 H2 H3 H4 H5 H6 HT H7]
  · unfold I6
    isplitl [H1]; · iexact H1
    isplitl [H2]; · iexact H2
    isplitl [H3]; · iexact H3
    isplitl [H4]; · iexact H4
    isplitl [H5]; · iexact H5
    isplitl [H6]; · iexact H6
    isplitl [HT]; · iexact HT
    iexact H7
  iintro %acc HI
  rw [show Scf.trips k0_t6_loop.lb k0_t6_loop.ub k0_t6_loop.st = 8 from t6_trips]
  unfold I6
  icases HI with ⟨H1, H2, H3, H4, H5, H6, HT, HX, HB, HSC, HZ⟩
  iapply (z_ld c A a.val rfl) $$ HZ
  iintro HZ
  iapply Hk
  isplitl [H1]; · iexact H1
  isplitl [H2]; · iexact H2
  isplitl [H3]; · iexact H3
  isplitl [H4]; · iexact H4
  isplitl [H5]; · iexact H5
  isplitl [H6]; · iexact H6
  isplitl [HT]; · iexact HT
  isplitl [HX]; · iexact HX
  isplitl [HB]; · iexact HB
  isplitl [HSC]; · iexact HSC
  iexact HZ

/-- The loss and the gradients of the logits written. -/
theorem grads (a : Fin k0_t4_loop.trips) (x1 : BitVec 32) {k : _ → Prog (TpuEff nD τ sig (Elt F) Λ₀ .tc) α} :
    iprop(kG c A q4 ∗ kLoss c A a.val ∗ kDzt c A a.val ∗ kDz c A (2048 * a.val) 0 ∗ kSC c A a.val 2048 0 ∗ kCB c A a.val 2048 0)
      ⊢ iprop((kG c A q4 -∗ kLoss c A (a.val + 1) -∗ kDzt c A (a.val + 1) -∗ kDz c A (2048 * a.val) (0 + 128) -∗ kSC c A a.val 2048 0 -∗ kCB c A a.val 2048 0 -∗
        wp frame (wpE defs₀ Variants.none (c : Thread nD τ) none) Set.univ (k ⟨dzs A a.val, coef A a.val, cbT A a.val 0 0⟩) Q) -∗
      wp frame (wpE defs₀ Variants.none (c : Thread nD τ) none) Set.univ (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tscale A a.val) (zt A a.val) (ZZ A a.val) (v396 A a.val) (v397 A a.val) >>= k) Q) := by
  have ha : a.val < 6 := lt_of_lt_of_eq a.isLt t4_trips
  rw [k0_part37_eq_skeleton]
  unfold k0_part37_skel
  simp only [Prog.bind_assoc, Prog.bind_lift, Prog.bind_ret, Prog.bind_op, pure_bind, bind_assoc]
  iintro ⟨HG, HL, HD, HZ, HSC, HB⟩ Hk
  iapply (ld3 c (m := mG) a.val rfl) $$ HG
  iintro HG
  iapply (put3 c (m := mLOSS) a.val rfl) $$ HL []
  · ipureintro
    exact fun x => loss_put A a.val ha x
  iintro HL
  iapply (put3 c (m := mDZT) a.val rfl) $$ HD []
  · ipureintro
    exact fun x => dzt_put A a.val ha x
  iintro HD
  iapply (put2 c (m := mDZ) (2048 * a.val) 0 rfl) $$ HZ []
  · ipureintro
    exact fun i j h1 h2 => dz_put A a.val i j h1 h2
  iintro HZ
  iapply (sc_ld c A a.val rfl) $$ HSC
  iintro HSC
  iapply (cb_ld c A a.val 0 rfl) $$ HB
  iintro HB
  iapply Hk $$ HG HL HD HZ HSC HB

/-- The gradient of the hidden states written, tile by tile. -/
theorem tiles (a : Fin k0_t4_loop.trips) (x1 : BitVec 32) {k : PUnit → Prog (TpuEff nD τ sig (Elt F) Λ₀ .tc) α} :
    iprop(kT c A a.val ∗ kCB c A a.val 2048 0 ∗ kDh c A (128 * a.val) 0)
      ⊢ iprop((kT c A a.val -∗ kCB c A a.val 2048 0 -∗ kDh c A (128 * a.val) (2816 + 64) -∗ wp frame (wpE defs₀ Variants.none (c : Thread nD τ) none) Set.univ (k ⟨⟩) Q) -∗
      wp frame (wpE defs₀ Variants.none (c : Thread nD τ) none) Set.univ (do
        let ⟨v465, v478, cst⟩ : Σ' (v465 : FVec F S128x256 .f32) (v478 : IVec S128x128 32), BitVec 32 ← k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tsh A a.val) (dzs A a.val) (coef A a.val) (cbT A a.val 0 0)
        let ⟨v513, v517⟩ : Σ' (v513 : FVec F S128x256 .f32), IVec S128x128 32 ← k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tsh A a.val) (dzs A a.val) (coef A a.val) v465 v478 cst
        let v557 ← k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tsh A a.val) (dzs A a.val) (coef A a.val) v513 v517
        let v585 ← k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tsh A a.val) (dzs A a.val) (coef A a.val) v557
        let v633 ← k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tsh A a.val) (dzs A a.val) (coef A a.val) v585
        let ⟨v673, v674⟩ : Σ' (v673 : FVec F S128x128 .f32), FVec F S128x128 .f32 ← k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tsh A a.val) (dzs A a.val) (coef A a.val) v633
        let ⟨v705, v713⟩ : Σ' (v705 : FVec F S128x64 .f32), FVec F S128x64 .f32 ← k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tsh A a.val) (dzs A a.val) (coef A a.val) v673 v674
        let _ : Vec F S128x64 .bf16 ← Prog.lift (.load mDH (Rect.unit (s := S768x2880) (k0_off114 a) S128x64.size (k0_off114_inb a)).toLoadRect (View.loadsAt_vmem h_S128x64))
        let r ← Prog.lift (.store mDH (Rect.unit (s := S768x2880) (k0_off114 a) S128x64.size (k0_off114_inb a)) (k0_pay7 v705 v713) Finset.univ (View.stores_vmem h_S128x64 ((Memref.isWhole_whole _).storeExact_slice rfl _ (k0_off114_packedbf16 a)) (fun _ => rfl)) (.inl rfl))
        k r) Q) := by
  rw [k0_part38_eq_skeleton, k0_part39_eq_skeleton, k0_part40_eq_skeleton, k0_part41_eq_skeleton, k0_part42_eq_skeleton, k0_part43_eq_skeleton, k0_part44_eq_skeleton]
  unfold k0_part38_skel k0_part39_skel k0_part40_skel k0_part41_skel k0_part42_skel k0_part43_skel k0_part44_skel
  simp only [Prog.bind_assoc, Prog.bind_lift, Prog.bind_ret, Prog.bind_op, pure_bind, bind_assoc]
  iintro ⟨HT, HB, HD⟩ Hk
  iapply (tg_ld c A a.val 0 rfl) $$ HT
  iintro HT
  iapply (put2 c (m := mDH) (128 * a.val) 0 rfl) $$ HD []
  · ipureintro
    exact dhA_put A a.val 0 rfl (by decide) rfl
  iintro HD
  iapply (tg_ld c A a.val 128 rfl) $$ HT
  iintro HT
  iapply (put2 c (m := mDH) (128 * a.val) 128 rfl) $$ HD []
  · ipureintro
    exact dhB_put A a.val 0 rfl (by decide) rfl
  iintro HD
  iapply (cb_ld c A a.val 256 rfl) $$ HB
  iintro HB
  iapply (tg_ld c A a.val 256 rfl) $$ HT
  iintro HT
  iapply (put2 c (m := mDH) (128 * a.val) 256 rfl) $$ HD []
  · ipureintro
    exact dhA_put A a.val 256 rfl (by decide) rfl
  iintro HD
  iapply (tg_ld c A a.val 384 rfl) $$ HT
  iintro HT
  iapply (put2 c (m := mDH) (128 * a.val) 384 rfl) $$ HD []
  · ipureintro
    exact dhB_put A a.val 256 rfl (by decide) rfl
  iintro HD
  iapply (cb_ld c A a.val 512 rfl) $$ HB
  iintro HB
  iapply (tg_ld c A a.val 512 rfl) $$ HT
  iintro HT
  iapply (put2 c (m := mDH) (128 * a.val) 512 rfl) $$ HD []
  · ipureintro
    exact dhA_put A a.val 512 rfl (by decide) rfl
  iintro HD
  iapply (tg_ld c A a.val 640 rfl) $$ HT
  iintro HT
  iapply (put2 c (m := mDH) (128 * a.val) 640 rfl) $$ HD []
  · ipureintro
    exact dhB_put A a.val 512 rfl (by decide) rfl
  iintro HD
  iapply (cb_ld c A a.val 768 rfl) $$ HB
  iintro HB
  iapply (tg_ld c A a.val 768 rfl) $$ HT
  iintro HT
  iapply (put2 c (m := mDH) (128 * a.val) 768 rfl) $$ HD []
  · ipureintro
    exact dhA_put A a.val 768 rfl (by decide) rfl
  iintro HD
  iapply (tg_ld c A a.val 896 rfl) $$ HT
  iintro HT
  iapply (put2 c (m := mDH) (128 * a.val) 896 rfl) $$ HD []
  · ipureintro
    exact dhB_put A a.val 768 rfl (by decide) rfl
  iintro HD
  iapply (cb_ld c A a.val 1024 rfl) $$ HB
  iintro HB
  iapply (tg_ld c A a.val 1024 rfl) $$ HT
  iintro HT
  iapply (put2 c (m := mDH) (128 * a.val) 1024 rfl) $$ HD []
  · ipureintro
    exact dhA_put A a.val 1024 rfl (by decide) rfl
  iintro HD
  iapply (tg_ld c A a.val 1152 rfl) $$ HT
  iintro HT
  iapply (put2 c (m := mDH) (128 * a.val) 1152 rfl) $$ HD []
  · ipureintro
    exact dhB_put A a.val 1024 rfl (by decide) rfl
  iintro HD
  iapply (cb_ld c A a.val 1280 rfl) $$ HB
  iintro HB
  iapply (tg_ld c A a.val 1280 rfl) $$ HT
  iintro HT
  iapply (put2 c (m := mDH) (128 * a.val) 1280 rfl) $$ HD []
  · ipureintro
    exact dhA_put A a.val 1280 rfl (by decide) rfl
  iintro HD
  iapply (tg_ld c A a.val 1408 rfl) $$ HT
  iintro HT
  iapply (put2 c (m := mDH) (128 * a.val) 1408 rfl) $$ HD []
  · ipureintro
    exact dhB_put A a.val 1280 rfl (by decide) rfl
  iintro HD
  iapply (cb_ld c A a.val 1536 rfl) $$ HB
  iintro HB
  iapply (tg_ld c A a.val 1536 rfl) $$ HT
  iintro HT
  iapply (put2 c (m := mDH) (128 * a.val) 1536 rfl) $$ HD []
  · ipureintro
    exact dhA_put A a.val 1536 rfl (by decide) rfl
  iintro HD
  iapply (tg_ld c A a.val 1664 rfl) $$ HT
  iintro HT
  iapply (put2 c (m := mDH) (128 * a.val) 1664 rfl) $$ HD []
  · ipureintro
    exact dhB_put A a.val 1536 rfl (by decide) rfl
  iintro HD
  iapply (cb_ld c A a.val 1792 rfl) $$ HB
  iintro HB
  iapply (tg_ld c A a.val 1792 rfl) $$ HT
  iintro HT
  iapply (put2 c (m := mDH) (128 * a.val) 1792 rfl) $$ HD []
  · ipureintro
    exact dhA_put A a.val 1792 rfl (by decide) rfl
  iintro HD
  iapply (tg_ld c A a.val 1920 rfl) $$ HT
  iintro HT
  iapply (put2 c (m := mDH) (128 * a.val) 1920 rfl) $$ HD []
  · ipureintro
    exact dhB_put A a.val 1792 rfl (by decide) rfl
  iintro HD
  iapply (cb_ld c A a.val 2048 rfl) $$ HB
  iintro HB
  iapply (tg_ld c A a.val 2048 rfl) $$ HT
  iintro HT
  iapply (put2 c (m := mDH) (128 * a.val) 2048 rfl) $$ HD []
  · ipureintro
    exact dhA_put A a.val 2048 rfl (by decide) rfl
  iintro HD
  iapply (tg_ld c A a.val 2176 rfl) $$ HT
  iintro HT
  iapply (put2 c (m := mDH) (128 * a.val) 2176 rfl) $$ HD []
  · ipureintro
    exact dhB_put A a.val 2048 rfl (by decide) rfl
  iintro HD
  iapply (cb_ld c A a.val 2304 rfl) $$ HB
  iintro HB
  iapply (tg_ld c A a.val 2304 rfl) $$ HT
  iintro HT
  iapply (put2 c (m := mDH) (128 * a.val) 2304 rfl) $$ HD []
  · ipureintro
    exact dhA_put A a.val 2304 rfl (by decide) rfl
  iintro HD
  iapply (tg_ld c A a.val 2432 rfl) $$ HT
  iintro HT
  iapply (put2 c (m := mDH) (128 * a.val) 2432 rfl) $$ HD []
  · ipureintro
    exact dhB_put A a.val 2304 rfl (by decide) rfl
  iintro HD
  iapply (cb_ld c A a.val 2560 rfl) $$ HB
  iintro HB
  iapply (tg_ld c A a.val 2560 rfl) $$ HT
  iintro HT
  iapply (put2 c (m := mDH) (128 * a.val) 2560 rfl) $$ HD []
  · ipureintro
    exact dhA_put A a.val 2560 rfl (by decide) rfl
  iintro HD
  iapply (tg_ld c A a.val 2688 rfl) $$ HT
  iintro HT
  iapply (put2 c (m := mDH) (128 * a.val) 2688 rfl) $$ HD []
  · ipureintro
    exact dhB_put A a.val 2560 rfl (by decide) rfl
  iintro HD
  iapply (cb_ld64 c A a.val 2816 rfl) $$ HB
  iintro HB
  iapply (tg_ld c A a.val 2816 rfl) $$ HT
  iintro HT
  iapply (put2 c (m := mDH) (128 * a.val) 2816 rfl) $$ HD []
  · ipureintro
    exact dhC_put A a.val rfl
  iintro HD
  iapply Hk $$ HT HB HD

end Cert.Kernel.Hand
-- ==== Proof.Body.lean ====
/-
  Hand-written. The kernel's run.
-/
module

public import proofs.«01_k».proof.Proof.Batch

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

open Idealize.ShloMosaic.ValueIdx Cert.Dma

variable (c : Dev nD) (A : Ins F) (hid : ∀ i, (A.ids i).toNat < 60000) (htd : ∀ i, (A.tids i).toNat < 60000) (qs : Fin 3 → PosShare TreeShare) (q q1 q2 q3 q4 : PosShare TreeShare)

set_option maxHeartbeats 4000000

/-- Before batch `a`. -/
def I4 (a : ℕ) : sProp 𝕄 :=
  iprop((if a < 6 then tgtFly c q A.w (tid A.tids a) else tgtFree c q A.w) ∗ tidsPt c A.tids ∗ kTgv c A q3 ∗ kG c A q4
    ∗ kLoss c A a ∗ kDzt c A a ∗ kDz c A (2048 * a) 0 ∗ kDh c A (128 * a) 0 ∗ I6 c A qs q1 q2 a 0)

/-- Nothing of a matrix is known. -/
theorem forget2 {cs : CoreSpace} {n0 n1 : ℕ} {et : EltTy} {m : Memref sig .tc (.core cs) ⟨2, ![n0, n1]⟩ et} {p : PosShare TreeShare}
    {G : (⟨2, ![n0, n1]⟩ : Shape).Idx → Elt F et} {D : (⟨2, ![n0, n1]⟩ : Shape).Idx → Prop} (G' : (⟨2, ![n0, n1]⟩ : Shape).Idx → Elt F et) (H : ℕ) :
    Known (c : Thread nD τ) m Finset.univ p G D ⊢ (Known (c : Thread nD τ) m Finset.univ p G' (upTo H 0 0) : sProp 𝕄) := by
  refine known_mono (c : Thread nD τ) fun y hy => ?_
  unfold upTo at hy
  exact absurd hy (by omega)

include hid htd in
theorem t4_trip (a : Fin k0_t4_loop.trips) :
    I4 c A qs q q1 q2 q3 q4 a.val ⊢ wp frame (wpE defs₀ Variants.none (c : Thread nD τ) none) Set.univ (k0_t4_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 iot a ()) (fun _ => I4 c A qs q q1 q2 q3 q4 (a.val + 1)) := by
  have ha : a.val < 6 := lt_of_lt_of_eq a.isLt t4_trips
  unfold I4 k0_t4_body
  rw [if_pos ha]
  iintro ⟨HF, HTS, HTV, HG, HL, HDT, HDZ, HDH, HI6⟩
  unfold I6
  icases HI6 with ⟨H1, H2, H3, H4, HO, H6, HTP, HX, HB, HSC, HZ⟩
  iapply (dots0 c A q q2 q3 a _ _) $$ [HF HTV HX HO]
  · isplitl [HF]; · iexact HF
    isplitl [HTV]; · iexact HTV
    isplitl [HX]; · iexact HX
    iexact HO
  iintro %u0 %u1 HS HT HW HTV HX HO
  simp only []
  iapply (dots1 c A q2 a _) $$ [HT HX]
  · isplitl [HT]; · iexact HT
    iexact HX
  iintro HT HX
  simp only []
  iapply (chunks c A hid qs q1 q2 a _ _) $$ [H1 H2 H3 H4 HO H6 HTP HX HB HSC HZ]
  · unfold I6
    isplitl [H1]; · iexact H1
    isplitl [H2]; · iexact H2
    isplitl [H3]; · iexact H3
    isplitl [H4]; · iexact H4
    isplitl [HO]; · iexact HO
    isplitl [H6]; · iexact H6
    isplitl [HTP]; · iexact HTP
    isplitl [HX]; · iexact HX
    isplitl [HB]; · iexact HB
    isplitl [HSC]; · iexact HSC
    iexact HZ
  iintro HI6
  simp only []
  unfold I6
  icases HI6 with ⟨H1, H2, H3, H4, HO, H6, HTP, HX, HB, HSC, HZ⟩
  iapply (grads c A q4 a _) $$ [HG HL HDT HDZ HSC HB]
  · isplitl [HG]; · iexact HG
    isplitl [HL]; · iexact HL
    isplitl [HDT]; · iexact HDT
    isplitl [HDZ]; · iexact HDZ
    isplitl [HSC]; · iexact HSC
    iexact HB
  iintro HG HL HDT HDZ HSC HB
  simp only []
  iapply (tiles c A a _) $$ [HT HB HDH]
  · isplitl [HT]; · iexact HT
    isplitl [HB]; · iexact HB
    iexact HDH
  iintro HT HB HDH
  simp only []
  ihave HB := (forget2 c (m := mCB) (CB A (a.val + 1)) 128) $$ HB
  ihave HSC := (forget2 c (m := mSC) (SC A (a.val + 1)) 128) $$ HSC
  ihave HZ := (forget2 c (m := mZ) (ZZ A (a.val + 1)) 128) $$ HZ
  ihave HDZ := (next c (m := mDZ) (2048 * (a.val + 1)) 2048 (le_refl _) (by omega)) $$ HDZ
  ihave HDH := (next c (m := mDH) (128 * (a.val + 1)) 128 (le_refl _) (by omega)) $$ HDH
  ihave HF := (tgt_free c A q a.val) $$ [HS HT HW]
  · isplitl [HS]; · iexact HS
    isplitl [HT]; · iexact HT
    iexact HW
  by_cases h2 : k0_cond2 a = 1#1
  · have h6 : a.val + 1 < 6 := (cond2_iff a).mp h2
    rw [dif_pos h2, if_pos h6]
    simp only [Prog.bind_assoc, Prog.bind_lift, Prog.bind_ret, Prog.bind_op, pure_bind, bind_assoc]
    iapply (t9_loop c A htd q a _ h2) $$ [HF HTS]
    · isplitl [HF]; · iexact HF
      iexact HTS
    iintro HF HTS
    rw [wp_pure]
    imodintro
    isplitl [HF]; · iexact HF
    isplitl [HTS]; · iexact HTS
    isplitl [HTV]; · iexact HTV
    isplitl [HG]; · iexact HG
    isplitl [HL]; · iexact HL
    isplitl [HDT]; · iexact HDT
    isplitl [HDZ]; · iexact HDZ
    isplitl [HDH]; · iexact HDH
    isplitl [H1]; · iexact H1
    isplitl [H2]; · iexact H2
    isplitl [H3]; · iexact H3
    isplitl [H4]; · iexact H4
    isplitl [HO]; · iexact HO
    isplitl [H6]; · iexact H6
    isplitl [HTP]; · iexact HTP
    isplitl [HX]; · iexact HX
    isplitl [HB]; · iexact HB
    isplitl [HSC]; · iexact HSC
    iexact HZ
  · have h6 : ¬ a.val + 1 < 6 := fun h => h2 ((cond2_iff a).mpr h)
    rw [dif_neg h2, if_neg h6]
    simp only [Prog.bind_assoc, Prog.bind_lift, Prog.bind_ret, Prog.bind_op, pure_bind, bind_assoc]
    rw [wp_pure]
    imodintro
    isplitl [HF]; · iexact HF
    isplitl [HTS]; · iexact HTS
    isplitl [HTV]; · iexact HTV
    isplitl [HG]; · iexact HG
    isplitl [HL]; · iexact HL
    isplitl [HDT]; · iexact HDT
    isplitl [HDZ]; · iexact HDZ
    isplitl [HDH]; · iexact HDH
    isplitl [H1]; · iexact H1
    isplitl [H2]; · iexact H2
    isplitl [H3]; · iexact H3
    isplitl [H4]; · iexact H4
    isplitl [HO]; · iexact HO
    isplitl [H6]; · iexact H6
    isplitl [HTP]; · iexact HTP
    isplitl [HX]; · iexact HX
    isplitl [HB]; · iexact HB
    isplitl [HSC]; · iexact HSC
    iexact HZ

/-! ## The table's columns -/

theorem TP_0 (i : Fin 512) (j : Fin 128) : TP A (i2 (0 + i.val) (0 + j.val)) = k0_pay1 (k0_pay155 A.tsc) (ix2 i j) := by
  have e := i2_val (n0 := 512) (n1 := 768) (a := 0 + i.val) (b := 0 + j.val) (by omega) (by omega)
  have e3 : (0 + j.val) % 128 = j.val := by omega
  unfold TP
  rw [e.1, e.2, Nat.zero_add, e3, i2_fin]
  simp only []
  rw [if_pos (show 0 + j.val < 128 by omega)]

theorem TP_1 (i : Fin 512) (j : Fin 128) : TP A (i2 (0 + i.val) (128 + j.val)) = k0_pay2 (k0_pay156 A.tsc) (ix2 i j) := by
  have e := i2_val (n0 := 512) (n1 := 768) (a := 0 + i.val) (b := 128 + j.val) (by omega) (by omega)
  have e3 : (128 + j.val) % 128 = j.val := by omega
  unfold TP
  rw [e.1, e.2, Nat.zero_add, e3, i2_fin]
  simp only []
  rw [if_neg (show ¬ 128 + j.val < 128 by omega), if_pos (show 128 + j.val < 256 by omega)]

theorem TP_2 (i : Fin 512) (j : Fin 128) : TP A (i2 (0 + i.val) (256 + j.val)) = k0_pay3 (k0_pay157 A.tsc) (ix2 i j) := by
  have e := i2_val (n0 := 512) (n1 := 768) (a := 0 + i.val) (b := 256 + j.val) (by omega) (by omega)
  have e3 : (256 + j.val) % 128 = j.val := by omega
  unfold TP
  rw [e.1, e.2, Nat.zero_add, e3, i2_fin]
  simp only []
  rw [if_neg (show ¬ 256 + j.val < 128 by omega), if_neg (show ¬ 256 + j.val < 256 by omega), if_pos (show 256 + j.val < 384 by omega)]

theorem TP_3 (i : Fin 512) (j : Fin 128) : TP A (i2 (0 + i.val) (384 + j.val)) = k0_pay4 (k0_pay163 A.tlq) (ix2 i j) := by
  have e := i2_val (n0 := 512) (n1 := 768) (a := 0 + i.val) (b := 384 + j.val) (by omega) (by omega)
  have e3 : (384 + j.val) % 128 = j.val := by omega
  unfold TP
  rw [e.1, e.2, Nat.zero_add, e3, i2_fin]
  simp only []
  rw [if_neg (show ¬ 384 + j.val < 128 by omega), if_neg (show ¬ 384 + j.val < 256 by omega), if_neg (show ¬ 384 + j.val < 384 by omega), if_pos (show 384 + j.val < 512 by omega)]

theorem TP_4 (i : Fin 512) (j : Fin 128) : TP A (i2 (0 + i.val) (512 + j.val)) = k0_pay5 (k0_pay161 A.tlq) (ix2 i j) := by
  have e := i2_val (n0 := 512) (n1 := 768) (a := 0 + i.val) (b := 512 + j.val) (by omega) (by omega)
  have e3 : (512 + j.val) % 128 = j.val := by omega
  unfold TP
  rw [e.1, e.2, Nat.zero_add, e3, i2_fin]
  simp only []
  rw [if_neg (show ¬ 512 + j.val < 128 by omega), if_neg (show ¬ 512 + j.val < 256 by omega), if_neg (show ¬ 512 + j.val < 384 by omega), if_neg (show ¬ 512 + j.val < 512 by omega), if_pos (show 512 + j.val < 640 by omega)]

theorem TP_5 (i : Fin 512) (j : Fin 128) : TP A (i2 (0 + i.val) (640 + j.val)) = k0_pay6 (k0_pay162 A.tlq) (ix2 i j) := by
  have e := i2_val (n0 := 512) (n1 := 768) (a := 0 + i.val) (b := 640 + j.val) (by omega) (by omega)
  have e3 : (640 + j.val) % 128 = j.val := by omega
  unfold TP
  rw [e.1, e.2, Nat.zero_add, e3, i2_fin]
  simp only []
  rw [if_neg (show ¬ 640 + j.val < 128 by omega), if_neg (show ¬ 640 + j.val < 256 by omega), if_neg (show ¬ 640 + j.val < 384 by omega), if_neg (show ¬ 640 + j.val < 512 by omega), if_neg (show ¬ 640 + j.val < 640 by omega)]

theorem whole2 {n0 n1 : ℕ} [NeZero n0] [NeZero n1] {et : EltTy} (G : (⟨2, ![n0, n1]⟩ : Shape).Idx → Elt F et) (i : Fin n0) (j : Fin n1) :
    G (i2 (0 + i.val) (0 + j.val)) = G (ix2 i j) := by
  rw [Nat.zero_add, Nat.zero_add, i2_fin]

abbrev mTsc : Memref sig .tc .vmem S512x128 .f32 := Memref.whole cc0_stg5_0
abbrev mTlq : Memref sig .tc .vmem S512x128 .f32 := Memref.whole cc0_stg6_0
abbrev kTsc (p : PosShare TreeShare) : sProp 𝕄 := Known (c : Thread nD τ) mTsc Finset.univ p A.tsc (fun _ => True)
abbrev kTlq (p : PosShare TreeShare) : sProp 𝕄 := Known (c : Thread nD τ) mTlq Finset.univ p A.tlq (fun _ => True)

include hid htd in
/-- The kernel: what it reads is unchanged, and the four outputs hold the values of `Spec`. -/
theorem fwd_run (p5 p6 : PosShare TreeShare) :
    iprop(tgtFree c q A.w ∗ ringFree c (qs 0) A.w 0 ∗ ringFree c (qs 1) A.w 1 ∗ ringFree c (qs 2) A.w 2 ∗ idsPt c A.ids ∗ tidsPt c A.tids ∗ kOwes c
      ∗ kIdv c A q1 ∗ kTgv c A q3 ∗ kX c A q2 ∗ kG c A q4 ∗ kTsc c A p5 ∗ kTlq c A p6
      ∗ Known (c : Thread nD τ) mTP Finset.univ fullShare (TP A) (upTo 512 0 0) ∗ kCB c A 0 0 0 ∗ kSC c A 0 0 0 ∗ kZ c A 0 0 0
      ∗ kLoss c A 0 ∗ kDzt c A 0 ∗ kDz c A 0 0 ∗ kDh c A 0 0)
      ⊢ wp frame (wpE defs₀ Variants.none (c : Thread nD τ) none) Set.univ (cc0_fwd (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) (fun _ => iprop(I4 c A qs q q1 q2 q3 q4 6 ∗ kTsc c A p5 ∗ kTlq c A p6)) := by
  rw [cc0_fwd_eq_skeleton]
  unfold cc0_fwd_skel
  rw [k0_part45_eq_skeleton]
  unfold k0_part45_skel
  simp only [Prog.bind_assoc, Prog.bind_lift, Prog.bind_ret, Prog.bind_op, pure_bind, bind_assoc]
  iintro ⟨HF, HR0, HR1, HR2, HS, HTS, HO, HV, HTV, HX, HG, H5, H6, HT, HB, HSC, HZ, HL, HDT, HDZ, HDH⟩
  iapply (t1_loop c A htd q) $$ [HF HTS]
  · isplitl [HF]; · iexact HF
    iexact HTS
  iintro HF HTS
  iapply (t2_loop c A hid (qs 0)) $$ [HR0 HS]
  · isplitl [HR0]; · iexact HR0
    iexact HS
  iintro HR0 HS
  iapply (t3_loop c A hid (qs 1)) $$ [HR1 HS]
  · isplitl [HR1]; · iexact HR1
    iexact HS
  iintro HR1 HS
  iapply (ld2 c (m := mTsc) A.tsc 0 0 rfl (fun _ _ _ _ => trivial) (fun i j _ _ => whole2 A.tsc i j)) $$ H5
  iintro H5
  iapply (ld2 c (m := mTlq) A.tlq 0 0 rfl (fun _ _ _ _ => trivial) (fun i j _ _ => whole2 A.tlq i j)) $$ H6
  iintro H6
  iapply (put2 c (m := mTP) 0 0 rfl) $$ HT []
  · ipureintro
    exact fun i j h1 h2 => (TP_0 A i j).symm
  iintro HT
  iapply (put2 c (m := mTP) 0 128 rfl) $$ HT []
  · ipureintro
    exact fun i j h1 h2 => (TP_1 A i j).symm
  iintro HT
  iapply (put2 c (m := mTP) 0 256 rfl) $$ HT []
  · ipureintro
    exact fun i j h1 h2 => (TP_2 A i j).symm
  iintro HT
  iapply (put2 c (m := mTP) 0 384 rfl) $$ HT []
  · ipureintro
    exact fun i j h1 h2 => (TP_3 A i j).symm
  iintro HT
  iapply (put2 c (m := mTP) 0 512 rfl) $$ HT []
  · ipureintro
    exact fun i j h1 h2 => (TP_4 A i j).symm
  iintro HT
  iapply (put2 c (m := mTP) 0 640 rfl) $$ HT []
  · ipureintro
    exact fun i j h1 h2 => (TP_5 A i j).symm
  iintro HT
  iapply (Scf.wp_for_bind Idealize.ShloMosaic.frame (wpE defs₀ Variants.none (c : Thread nD τ) none) Set.univ _ _ _ k0_t4_ok ⟨⟩ _ (fun j _ => I4 c A qs q q1 q2 q3 q4 j) (fun a _ => t4_trip c A hid htd qs q q1 q2 q3 q4 a)) $$ [HF HTS HTV HG HL HDT HDZ HDH HR0 HR1 HR2 HS HO HV HT HX HB HSC HZ]
  · unfold I4 I6 cell
    rw [if_pos (by decide), if_pos (by decide), if_pos (by decide)]
    isplitl [HF]; · iexact HF
    isplitl [HTS]; · iexact HTS
    isplitl [HTV]; · iexact HTV
    isplitl [HG]; · iexact HG
    isplitl [HL]; · iexact HL
    isplitl [HDT]; · iexact HDT
    isplitl [HDZ]; · iexact HDZ
    isplitl [HDH]; · iexact HDH
    isplitl [HR0]; · iexact HR0
    isplitl [HR1]; · iexact HR1
    isplitl [HR2]; · iexact HR2
    isplitl [HS]; · iexact HS
    isplitl [HO]; · iexact HO
    isplitl [HV]; · iexact HV
    isplitl [HT]; · iexact HT
    isplitl [HX]; · iexact HX
    isplitl [HB]; · iexact HB
    isplitl [HSC]; · iexact HSC
    iexact HZ
  iintro %acc HI
  rw [show Scf.trips k0_t4_loop.lb k0_t4_loop.ub k0_t4_loop.st = 6 from t4_trips]
  rw [wp_pure]
  imodintro
  isplitl [HI]; · iexact HI
  isplitl [H5]; · iexact H5
  iexact H6

end Cert.Kernel.Hand
-- ==== Proof.Launch.lean ====
/-
  Hand-written. The launch: the program runs, its arguments and semaphores end as they began, and the outputs are the
  values of `Spec`.
-/
module

public import proofs.«01_k».proof.Proof.Body
public import proofs.«01_k».proof.Proof.Gen.Kernel.Frame
public import Idealize.ShloMosaic.Lib.Pipeline.FrameBody
public import Idealize.ShloMosaic.Lib.Pipeline.ValueKit.Geometry

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

open Idealize.ShloMosaic.Rounds
open Idealize.ShloMosaic.Pipeline (Dat Cfg Window BodyObligation cellOf)
open Cert.Dma

/-! ## Between a whole buffer and what is known of it -/

theorem known_owns (c : Dev nD) {cs : CoreSpace} {s : Shape} {e : EltTy} (m : Memref sig .tc (.core cs) s e) (hs : m.view.set = Finset.univ)
    (p : PosShare TreeShare) (G : s.Idx → Elt F e) (D : s.Idx → Prop) (hD : ∀ y, D y) :
    Known (c : Thread nD τ) m Finset.univ p G D ⊢ (owns (c : Thread nD τ) m p G : sProp 𝕄) := by
  unfold Known owns
  rw [hs]
  iintro ⟨%f, H, %hf⟩
  iexists f
  isplitr
  · ipureintro
    exact funext fun y => hf y (hD y)
  iexact H

theorem owns_known (c : Dev nD) {cs : CoreSpace} {s : Shape} {e : EltTy} (m : Memref sig .tc (.core cs) s e) (hs : m.view.set = Finset.univ)
    (p : PosShare TreeShare) (G : s.Idx → Elt F e) :
    owns (c : Thread nD τ) m p G ⊢ (Known (c : Thread nD τ) m Finset.univ p G (fun _ => True) : sProp 𝕄) := by
  unfold Known owns
  rw [hs]
  iintro ⟨%f, %hf, H⟩
  iexists f
  isplitl [H]; · iexact H
  ipureintro
  intro y _
  rw [hf]

theorem owns_none (c : Dev nD) {cs : CoreSpace} {s : Shape} {e : EltTy} (m : Memref sig .tc (.core cs) s e) (hs : m.view.set = Finset.univ)
    (p : PosShare TreeShare) (G G' : s.Idx → Elt F e) (D : s.Idx → Prop) (hD : ∀ y, ¬ D y) :
    owns (c : Thread nD τ) m p G' ⊢ (Known (c : Thread nD τ) m Finset.univ p G D : sProp 𝕄) :=
  (owns_known c m hs p G').trans (known_mono (c : Thread nD τ) fun y hy => absurd hy (hD y))

theorem pt_none (c : Dev nD) {cs : CoreSpace} {s : Shape} {e : EltTy} (m : Memref sig .tc (.core cs) s e)
    (p : PosShare TreeShare) (f : Buf (Elt F) (m.view.loc (c : Thread nD τ))) (G : s.Idx → Elt F e) (D : s.Idx → Prop) (hD : ∀ y, ¬ D y) :
    (m.view.loc (c : Thread nD τ) ↦{p} f) ⊢ (Known (c : Thread nD τ) m Finset.univ p G D : sProp 𝕄) := by
  unfold Known
  iintro H
  iexists f
  isplitl [H]; · iexact H
  ipureintro
  exact fun y hy => absurd hy (hD y)

theorem known_any (c : Dev nD) {cs : CoreSpace} {s : Shape} {e : EltTy} (m : Memref sig .tc (.core cs) s e)
    (p : PosShare TreeShare) (G : s.Idx → Elt F e) (D : s.Idx → Prop) :
    Known (c : Thread nD τ) m Finset.univ p G D ⊢ (iprop(∃ f, m.view.loc (c : Thread nD τ) ↦{p} f) : sProp 𝕄) := by
  unfold Known
  iintro ⟨%f, H, -⟩
  iexists f
  iexact H

/-! ## The ring's three slots, and the shares of the code table -/

theorem slots_disj : ∀ t ∈ (Finset.univ : Finset (Fin 3)), ∀ t' ∈ (Finset.univ : Finset (Fin 3)), t ≠ t' →
    Disjoint (slotSet t.val) (slotSet t'.val) := by
  intro t _ t' _ h
  rw [Finset.disjoint_left]; intro y h1 h2
  simp only [slotSet, Finset.mem_filter, Finset.mem_univ, true_and] at h1 h2
  exact h (Fin.ext (h1.symm.trans h2))

theorem slots_univ : (Finset.univ : Finset S3x256x2880.Idx) = Finset.univ.biUnion fun t : Fin 3 => slotSet t.val := by
  ext y
  simp only [slotSet, Finset.mem_filter, Finset.mem_univ, true_and, Finset.mem_biUnion, true_iff]
  exact ⟨y 0, rfl⟩

theorem three (Φ : Fin 3 → sProp (MT nD τ sig Unit (Elt F) ℕ (Pipeline.UD sig nD τ) ℕ)) :
    bigSep Finset.univ Φ = (iprop(Φ 0 ∗ Φ 1 ∗ Φ 2) : sProp 𝕄) := by
  rw [Idealize.SL.BI.bigSep_univ_eq_bigSepL [(0 : Fin 3), 1, 2] (by decide) (by decide)]; rfl

theorem ring_split (c : Dev nD) (f : S3x256x2880.Idx → Elt F .i32) :
    ringPt c Finset.univ f ⊢ (iprop(ringPt c (slotSet 0) f ∗ ringPt c (slotSet 1) f ∗ ringPt c (slotSet 2) f) : sProp 𝕄) := by
  have h := three (F := F) (fun t => ringPt c (slotSet t.val) f)
  unfold ringPt at h ⊢
  rw [slots_univ, pointsTo_biUnion _ _ slots_disj, h]
  exact .rfl

theorem join_aux {ℓ : Loc nD τ sig} {T : Type} (S : Finset T) (K : T → Finset (Idx ℓ)) (p : PosShare TreeShare) (fs : T → Buf (Elt F) ℓ) (f₀ : Buf (Elt F) ℓ)
    (h : ∀ t ∈ S, ∀ t' ∈ S, t ≠ t' → Disjoint (K t) (K t')) (hU : ∀ y, ∃ t ∈ S, y ∈ K t) :
    bigSep S (fun t => ℓ ↦[K t]{p} fs t) ⊢ (iprop(∃ g, ℓ ↦{p} g) : sProp 𝕄) := by
  refine (pointsTo_biUnion_join S K fs f₀ h).trans ?_
  have e : S.biUnion K = Finset.univ := Finset.eq_univ_of_forall fun y => Finset.mem_biUnion.mpr (hU y)
  rw [e]
  iintro ⟨%g, -, H⟩
  iexists g
  iexact H

def pick3 (f0 f1 f2 : S3x256x2880.Idx → Elt F .i32) (t : Fin 3) : S3x256x2880.Idx → Elt F .i32 := match t with
  | 0 => f0
  | 1 => f1
  | 2 => f2

theorem ring_join (c : Dev nD) (f0 f1 f2 : S3x256x2880.Idx → Elt F .i32) :
    iprop(ringPt c (slotSet 0) f0 ∗ ringPt c (slotSet 1) f1 ∗ ringPt c (slotSet 2) f2) ⊢ (iprop(∃ f, ringPt c Finset.univ f) : sProp 𝕄) := by
  have h := three (F := F) (fun t => ringPt c (slotSet t.val) (pick3 f0 f1 f2 t))
  refine Entails.trans (Q := bigSep Finset.univ fun t : Fin 3 => ringPt c (slotSet t.val) (pick3 f0 f1 f2 t)) ?_ ?_
  · rw [h]; exact .rfl
  · exact join_aux (ℓ := mRing.view.loc (c : Thread nD τ)) Finset.univ (fun t : Fin 3 => slotSet t.val) fullShare (pick3 f0 f1 f2) f0 slots_disj
      (fun y => ⟨y 0, Finset.mem_univ _, Finset.mem_filter.mpr ⟨Finset.mem_univ _, rfl⟩⟩)

/-- The share of the code table that slot `s` of the ring transfers from, and the target buffer's. -/
def qsAt (s : Fin 3) : PosShare TreeShare := shareTok fullShare 3 s
def qAt : PosShare TreeShare := shareDrop fullShare 3

theorem words_split (c : Dev nD) (w : S15000x2880.Idx → Elt F .i32) :
    wordsPt c fullShare w ⊢ (iprop(wordsPt c qAt w ∗ wordsPt c (qsAt 0) w ∗ wordsPt c (qsAt 1) w ∗ wordsPt c (qsAt 2) w) : sProp 𝕄) := by
  have h := three (F := F) (fun t => wordsPt c (qsAt t) w)
  refine (pointsTo_toks fullShare 3).1.trans ?_
  exact Idealize.SL.BI.Laws.sep_mono .rfl (by exact h ▸ .rfl)

theorem words_join (c : Dev nD) (w : S15000x2880.Idx → Elt F .i32) :
    iprop(wordsPt c qAt w ∗ wordsPt c (qsAt 0) w ∗ wordsPt c (qsAt 1) w ∗ wordsPt c (qsAt 2) w) ⊢ (wordsPt c fullShare w : sProp 𝕄) := by
  have h := three (F := F) (fun t => wordsPt c (qsAt t) w)
  refine Entails.trans ?_ (pointsTo_toks fullShare 3).2
  exact Idealize.SL.BI.Laws.sep_mono .rfl (by exact h ▸ .rfl)

theorem I4_end (c : Dev nD) (A : Ins F) (qs : Fin 3 → PosShare TreeShare) (q q1 q2 q3 q4 : PosShare TreeShare) :
    I4 c A qs q q1 q2 q3 q4 6 ⊢ (iprop(tgtFree c q A.w ∗ tidsPt c A.tids ∗ kTgv c A q3 ∗ kG c A q4 ∗ kLoss c A 6 ∗ kDzt c A 6
      ∗ kDz c A 12288 0 ∗ kDh c A 768 0 ∗ ringFree c (qs 0) A.w 0 ∗ ringFree c (qs 1) A.w 1 ∗ ringFree c (qs 2) A.w 2
      ∗ idsPt c A.ids ∗ kOwes c ∗ kIdv c A q1 ∗ kTP c A ∗ kX c A q2 ∗ kCB c A 6 0 0 ∗ kSC c A 6 0 0 ∗ kZ c A 6 0 0) : sProp 𝕄) := by
  unfold I4 I6 cell
  rw [if_neg (by decide), if_neg (by decide), if_neg (by decide)]
  exact .rfl

theorem set_2 : mIdv.view.set = Finset.univ := View.set_whole _
theorem set_3 : mTgv.view.set = Finset.univ := View.set_whole _
theorem set_4 : mX.view.set = Finset.univ := View.set_whole _
theorem set_5 : mTsc.view.set = Finset.univ := View.set_whole _
theorem set_6 : mTlq.view.set = Finset.univ := View.set_whole _
theorem set_7 : mG.view.set = Finset.univ := View.set_whole _
theorem set_8 : mDZ.view.set = Finset.univ := View.set_whole _
theorem set_9 : mDZT.view.set = Finset.univ := View.set_whole _
theorem set_10 : mDH.view.set = Finset.univ := View.set_whole _
theorem set_11 : mLOSS.view.set = Finset.univ := View.set_whole _
theorem not_upTo {n0 n1 : ℕ} {H : ℕ} (y : (⟨2, ![n0, n1]⟩ : Shape).Idx) : ¬ upTo (n0 := n0) (n1 := n1) H 0 0 y := by
  unfold upTo; omega
theorem done_8 (y : S12288x128.Idx) : upTo (n0 := 12288) (n1 := 128) 2048 12288 0 y := Or.inl (y 0).isLt
theorem done_9 (y : S6x1x128.Idx) : (y 0).val < 6 := (y 0).isLt
theorem done_10 (y : S768x2880.Idx) : upTo (n0 := 768) (n1 := 2880) 128 768 0 y := Or.inl (y 0).isLt
theorem done_11 (y : S6x1x128.Idx) : (y 0).val < 6 := (y 0).isLt

theorem owns_eq0 (c : Dev nD) (X : S12288.Idx → BitVec 32) :
    (owns (c : Thread nD τ) mIds fullShare (X : S12288.Idx → Elt F .i32) : sProp 𝕄) = idsPt c X := owns_whole (Val := Elt F) (c : Thread nD τ) cc0_stg0_0 fullShare X
theorem owns_pt0 (c : Dev nD) (X : S12288.Idx → BitVec 32) :
    (owns (c : Thread nD τ) mIds fullShare (X : S12288.Idx → Elt F .i32) : sProp 𝕄) ⊢ idsPt c X := by rw [owns_eq0]
theorem pt_owns0 (c : Dev nD) (X : S12288.Idx → BitVec 32) :
    idsPt c X ⊢ (owns (c : Thread nD τ) mIds fullShare (X : S12288.Idx → Elt F .i32) : sProp 𝕄) := by rw [owns_eq0]
theorem owns_eq1 (c : Dev nD) (X : S768.Idx → BitVec 32) :
    (owns (c : Thread nD τ) mTids fullShare (X : S768.Idx → Elt F .i32) : sProp 𝕄) = tidsPt c X := owns_whole (Val := Elt F) (c : Thread nD τ) cc0_stg1_0 fullShare X
theorem owns_pt1 (c : Dev nD) (X : S768.Idx → BitVec 32) :
    (owns (c : Thread nD τ) mTids fullShare (X : S768.Idx → Elt F .i32) : sProp 𝕄) ⊢ tidsPt c X := by rw [owns_eq1]
theorem pt_owns1 (c : Dev nD) (X : S768.Idx → BitVec 32) :
    tidsPt c X ⊢ (owns (c : Thread nD τ) mTids fullShare (X : S768.Idx → Elt F .i32) : sProp 𝕄) := by rw [owns_eq1]

/-! ## The launch -/

variable (m : (ℓ : Loc nD τ sig) → Buf (Elt F) ℓ) (ρ : Dev nD → PrngReg)

/-- What the kernel reads on device `c`. -/
def insAt (c : Dev nD) : Ins F where
  w := V m c main_v12
  ids := V m c main_v1
  tids := V m c main_v2
  idv := V m c main_v7
  tgv := V m c main_v8
  x := V m c main_v0
  tsc := V m c main_v4
  tlq := V m c main_v6
  g := V m c main_v9

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The kernel's own semaphores: the ring's three, and the target buffer's. -/
abbrev osem0 : Fin 4 → SemLoc sig := fun j => (![SemLoc.dma 12, SemLoc.dma 13, SemLoc.dma 14, SemLoc.dma 15] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (ringSem 0)) 0 ∗ semVal ((c : Thread nD τ), SemLoc.dma (ringSem 1)) 0
          ∗ semVal ((c : Thread nD τ), SemLoc.dma (ringSem 2)) 0 ∗ semVal ((c : Thread nD τ), SemLoc.dma tSem) 0) := by
  rw [Pipeline.ownSems0_eq_of_list c osem0 [0, 1, 2, 3] (by decide) (by decide)]; rfl
/-- The code table stays in HBM. -/
def H0 : Finset (Ref sig .tc) := {main_v12}
theorem H0_sub : H0 ⊆ Pipeline.restRefs sig spec0 := by decide
theorem hbmPts0_eq (c : Dev nD) :
    (bigSep H0 (fun b => ((c : Thread nD τ).loc b) ↦{fullShare} V m c b) : sProp 𝕄) = wordsPt c fullShare (insAt m c).w := by
  rw [Idealize.SL.BI.bigSep_eq_bigSepL_of_eq [main_v12] (by decide) (by decide)]; rfl

theorem PhiD0_eq (c : Dev nD) :
    (Pipeline.ΦD osem0 spec0 H0 (V m) c : sProp 𝕄)
      = iprop(iprop((∃ f, ringPt c Finset.univ f) ∗ (∃ f, tPt c Finset.univ f)
                ∗ (∃ f : Buf (Elt F) (mCB.view.loc (c : Thread nD τ)), mCB.view.loc (c : Thread nD τ) ↦{fullShare} f)
                ∗ (∃ f : Buf (Elt F) (mZ.view.loc (c : Thread nD τ)), mZ.view.loc (c : Thread nD τ) ↦{fullShare} f)
                ∗ (∃ f : Buf (Elt F) (mSC.view.loc (c : Thread nD τ)), mSC.view.loc (c : Thread nD τ) ↦{fullShare} f)
                ∗ (∃ f : Buf (Elt F) (mTP.view.loc (c : Thread nD τ)), mTP.view.loc (c : Thread nD τ) ↦{fullShare} f))
          ∗ (∃ r, prngReg c r)
          ∗ iprop(semVal ((c : Thread nD τ), SemLoc.dma (ringSem 0)) 0 ∗ semVal ((c : Thread nD τ), SemLoc.dma (ringSem 1)) 0
                  ∗ semVal ((c : Thread nD τ), SemLoc.dma (ringSem 2)) 0 ∗ semVal ((c : Thread nD τ), SemLoc.dma tSem) 0)
          ∗ wordsPt c fullShare (insAt m c).w) := by
  rw [Pipeline.ΦD_eq, scopedRest0_eq, ownSems00_eq, hbmPts0_eq]; rfl

/-- The proof data of the one pipeline on core `c`: the arrays as the region finds them, the outputs at the values of
    `Spec`, nothing owed, full shares. -/
def datsD (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => DZ (insAt m c)
    | ⟨9, _⟩ => DZT (insAt m c)
    | ⟨10, _⟩ => DH (insAt m c)
    | ⟨11, _⟩ => LOSS (insAt m c)
  Φ _ := Pipeline.ΦD osem0 spec0 H0 (V m) c
  q _ := fullShare
  owed _ := 0

theorem A_eqD (c : Dev nD) (w : Fin cfg0.W) : (datsD m 0 c).A w = V m c (Pipeline.arrRef spec0 w) := by
  dsimp only [datsD]

theorem iblkD_0 (c : Dev nD) (t : Fin cfg0.N) : (iblk m c 0 t : S12288.Idx → Elt F .i32) = (insAt m c).ids := by
  rw [fin_N0 t]
  funext j
  blk_simp [iblk]
  refine congrArg (V m c main_v1) (funext fun a => Fin.ext ?_)
  blk_simp
  rw [show win0_0.index t0_0 a = 0 from rfl, Nat.zero_mul, Nat.zero_add]
theorem after0_0 (c : Dev nD) (t : Fin cfg0.N) : (datsD m 0 c).after 0 t = (insAt m c).ids :=
  (show (datsD m 0 c).after 0 t = iblk m c 0 t by dsimp only [datsD]).trans (iblkD_0 m c t)
theorem before0_0 (c : Dev nD) (t : Fin cfg0.N) (d) : (datsD m 0 c).before 0 t d = (insAt m c).ids :=
  (((datsD m 0 c).before_in_eq_fetched 0 rfl (fun _ => rfl) (fun _ _ _ => rfl)
      (fun t => by rw [show (datsD m 0 c).after 0 t = iblk m c 0 t by dsimp only [datsD]]; unfold Dat.blockOf iblk; rw [A_eqD]; try rfl) t d).trans
    (by unfold Dat.fetched Dat.blockOf iblk; rw [A_eqD]; try rfl : _ = iblk m c 0 t)).trans (iblkD_0 m c t)
theorem iblkD_1 (c : Dev nD) (t : Fin cfg0.N) : (iblk m c 1 t : S768.Idx → Elt F .i32) = (insAt m c).tids := by
  rw [fin_N0 t]
  funext j
  blk_simp [iblk]
  refine congrArg (V m c main_v2) (funext fun a => Fin.ext ?_)
  blk_simp
  rw [show win0_1.index t0_0 a = 0 from rfl, Nat.zero_mul, Nat.zero_add]
theorem after0_1 (c : Dev nD) (t : Fin cfg0.N) : (datsD m 0 c).after 1 t = (insAt m c).tids :=
  (show (datsD m 0 c).after 1 t = iblk m c 1 t by dsimp only [datsD]).trans (iblkD_1 m c t)
theorem before0_1 (c : Dev nD) (t : Fin cfg0.N) (d) : (datsD m 0 c).before 1 t d = (insAt m c).tids :=
  (((datsD m 0 c).before_in_eq_fetched 1 rfl (fun _ => rfl) (fun _ _ _ => rfl)
      (fun t => by rw [show (datsD m 0 c).after 1 t = iblk m c 1 t by dsimp only [datsD]]; unfold Dat.blockOf iblk; rw [A_eqD]; try rfl) t d).trans
    (by unfold Dat.fetched Dat.blockOf iblk; rw [A_eqD]; try rfl : _ = iblk m c 1 t)).trans (iblkD_1 m c t)
theorem iblkD_2 (c : Dev nD) (t : Fin cfg0.N) : (iblk m c 2 t : S96x1x128.Idx → Elt F .i32) = (insAt m c).idv := by
  rw [fin_N0 t]
  funext j
  blk_simp [iblk]
  refine congrArg (V m c main_v7) (funext fun a => Fin.ext ?_)
  blk_simp
  rw [show win0_2.index t0_0 a = 0 from rfl, Nat.zero_mul, Nat.zero_add]
theorem after0_2 (c : Dev nD) (t : Fin cfg0.N) : (datsD m 0 c).after 2 t = (insAt m c).idv :=
  (show (datsD m 0 c).after 2 t = iblk m c 2 t by dsimp only [datsD]).trans (iblkD_2 m c t)
theorem before0_2 (c : Dev nD) (t : Fin cfg0.N) (d) : (datsD m 0 c).before 2 t d = (insAt m c).idv :=
  (((datsD m 0 c).before_in_eq_fetched 2 rfl (fun _ => rfl) (fun _ _ _ => rfl)
      (fun t => by rw [show (datsD m 0 c).after 2 t = iblk m c 2 t by dsimp only [datsD]]; unfold Dat.blockOf iblk; rw [A_eqD]; try rfl) t d).trans
    (by unfold Dat.fetched Dat.blockOf iblk; rw [A_eqD]; try rfl : _ = iblk m c 2 t)).trans (iblkD_2 m c t)
theorem iblkD_3 (c : Dev nD) (t : Fin cfg0.N) : (iblk m c 3 t : S6x1x128.Idx → Elt F .i32) = (insAt m c).tgv := by
  rw [fin_N0 t]
  funext j
  blk_simp [iblk]
  refine congrArg (V m c main_v8) (funext fun a => Fin.ext ?_)
  blk_simp
  rw [show win0_3.index t0_0 a = 0 from rfl, Nat.zero_mul, Nat.zero_add]
theorem after0_3 (c : Dev nD) (t : Fin cfg0.N) : (datsD m 0 c).after 3 t = (insAt m c).tgv :=
  (show (datsD m 0 c).after 3 t = iblk m c 3 t by dsimp only [datsD]).trans (iblkD_3 m c t)
theorem before0_3 (c : Dev nD) (t : Fin cfg0.N) (d) : (datsD m 0 c).before 3 t d = (insAt m c).tgv :=
  (((datsD m 0 c).before_in_eq_fetched 3 rfl (fun _ => rfl) (fun _ _ _ => rfl)
      (fun t => by rw [show (datsD m 0 c).after 3 t = iblk m c 3 t by dsimp only [datsD]]; unfold Dat.blockOf iblk; rw [A_eqD]; try rfl) t d).trans
    (by unfold Dat.fetched Dat.blockOf iblk; rw [A_eqD]; try rfl : _ = iblk m c 3 t)).trans (iblkD_3 m c t)
theorem iblkD_4 (c : Dev nD) (t : Fin cfg0.N) : (iblk m c 4 t : S768x2880.Idx → Elt F .bf16) = (insAt m c).x := by
  rw [fin_N0 t]
  funext j
  blk_simp [iblk]
  refine congrArg (V m c main_v0) (funext fun a => Fin.ext ?_)
  blk_simp
  rw [show win0_4.index t0_0 a = 0 from rfl, Nat.zero_mul, Nat.zero_add]
theorem after0_4 (c : Dev nD) (t : Fin cfg0.N) : (datsD m 0 c).after 4 t = (insAt m c).x :=
  (show (datsD m 0 c).after 4 t = iblk m c 4 t by dsimp only [datsD]).trans (iblkD_4 m c t)
theorem before0_4 (c : Dev nD) (t : Fin cfg0.N) (d) : (datsD m 0 c).before 4 t d = (insAt m c).x :=
  (((datsD m 0 c).before_in_eq_fetched 4 rfl (fun _ => rfl) (fun _ _ _ => rfl)
      (fun t => by rw [show (datsD m 0 c).after 4 t = iblk m c 4 t by dsimp only [datsD]]; unfold Dat.blockOf iblk; rw [A_eqD]; try rfl) t d).trans
    (by unfold Dat.fetched Dat.blockOf iblk; rw [A_eqD]; try rfl : _ = iblk m c 4 t)).trans (iblkD_4 m c t)
theorem iblkD_5 (c : Dev nD) (t : Fin cfg0.N) : (iblk m c 5 t : S512x128.Idx → Elt F .f32) = (insAt m c).tsc := by
  rw [fin_N0 t]
  funext j
  blk_simp [iblk]
  refine congrArg (V m c main_v4) (funext fun a => Fin.ext ?_)
  blk_simp
  rw [show win0_5.index t0_0 a = 0 from rfl, Nat.zero_mul, Nat.zero_add]
theorem after0_5 (c : Dev nD) (t : Fin cfg0.N) : (datsD m 0 c).after 5 t = (insAt m c).tsc :=
  (show (datsD m 0 c).after 5 t = iblk m c 5 t by dsimp only [datsD]).trans (iblkD_5 m c t)
theorem before0_5 (c : Dev nD) (t : Fin cfg0.N) (d) : (datsD m 0 c).before 5 t d = (insAt m c).tsc :=
  (((datsD m 0 c).before_in_eq_fetched 5 rfl (fun _ => rfl) (fun _ _ _ => rfl)
      (fun t => by rw [show (datsD m 0 c).after 5 t = iblk m c 5 t by dsimp only [datsD]]; unfold Dat.blockOf iblk; rw [A_eqD]; try rfl) t d).trans
    (by unfold Dat.fetched Dat.blockOf iblk; rw [A_eqD]; try rfl : _ = iblk m c 5 t)).trans (iblkD_5 m c t)
theorem iblkD_6 (c : Dev nD) (t : Fin cfg0.N) : (iblk m c 6 t : S512x128.Idx → Elt F .f32) = (insAt m c).tlq := by
  rw [fin_N0 t]
  funext j
  blk_simp [iblk]
  refine congrArg (V m c main_v6) (funext fun a => Fin.ext ?_)
  blk_simp
  rw [show win0_6.index t0_0 a = 0 from rfl, Nat.zero_mul, Nat.zero_add]
theorem after0_6 (c : Dev nD) (t : Fin cfg0.N) : (datsD m 0 c).after 6 t = (insAt m c).tlq :=
  (show (datsD m 0 c).after 6 t = iblk m c 6 t by dsimp only [datsD]).trans (iblkD_6 m c t)
theorem before0_6 (c : Dev nD) (t : Fin cfg0.N) (d) : (datsD m 0 c).before 6 t d = (insAt m c).tlq :=
  (((datsD m 0 c).before_in_eq_fetched 6 rfl (fun _ => rfl) (fun _ _ _ => rfl)
      (fun t => by rw [show (datsD m 0 c).after 6 t = iblk m c 6 t by dsimp only [datsD]]; unfold Dat.blockOf iblk; rw [A_eqD]; try rfl) t d).trans
    (by unfold Dat.fetched Dat.blockOf iblk; rw [A_eqD]; try rfl : _ = iblk m c 6 t)).trans (iblkD_6 m c t)
theorem iblkD_7 (c : Dev nD) (t : Fin cfg0.N) : (iblk m c 7 t : S6x1x128.Idx → Elt F .f32) = (insAt m c).g := by
  rw [fin_N0 t]
  funext j
  blk_simp [iblk]
  refine congrArg (V m c main_v9) (funext fun a => Fin.ext ?_)
  blk_simp
  rw [show win0_7.index t0_0 a = 0 from rfl, Nat.zero_mul, Nat.zero_add]
theorem after0_7 (c : Dev nD) (t : Fin cfg0.N) : (datsD m 0 c).after 7 t = (insAt m c).g :=
  (show (datsD m 0 c).after 7 t = iblk m c 7 t by dsimp only [datsD]).trans (iblkD_7 m c t)
theorem before0_7 (c : Dev nD) (t : Fin cfg0.N) (d) : (datsD m 0 c).before 7 t d = (insAt m c).g :=
  (((datsD m 0 c).before_in_eq_fetched 7 rfl (fun _ => rfl) (fun _ _ _ => rfl)
      (fun t => by rw [show (datsD m 0 c).after 7 t = iblk m c 7 t by dsimp only [datsD]]; unfold Dat.blockOf iblk; rw [A_eqD]; try rfl) t d).trans
    (by unfold Dat.fetched Dat.blockOf iblk; rw [A_eqD]; try rfl : _ = iblk m c 7 t)).trans (iblkD_7 m c t)
theorem after0_8 (c : Dev nD) (t : Fin cfg0.N) : (datsD m 0 c).after 8 t = DZ (insAt m c) := by dsimp only [datsD]
theorem after0_9 (c : Dev nD) (t : Fin cfg0.N) : (datsD m 0 c).after 9 t = DZT (insAt m c) := by dsimp only [datsD]
theorem after0_10 (c : Dev nD) (t : Fin cfg0.N) : (datsD m 0 c).after 10 t = DH (insAt m c) := by dsimp only [datsD]
theorem after0_11 (c : Dev nD) (t : Fin cfg0.N) : (datsD m 0 c).after 11 t = LOSS (insAt m c) := by dsimp only [datsD]

def bodyPre (c : Dev nD) (t : Fin cfg0.N) : sProp 𝕄 :=
  iprop((datsD m 0 c).Φ t.castSucc ∗ (datsD m 0 c).owesAt () t.castSucc
    ∗ (∃ d, owns (c : Thread nD τ) mIds fullShare ((datsD m 0 c).before 0 t d))
    ∗ (∃ d, owns (c : Thread nD τ) mTids fullShare ((datsD m 0 c).before 1 t d))
    ∗ (∃ d, owns (c : Thread nD τ) mIdv fullShare ((datsD m 0 c).before 2 t d))
    ∗ (∃ d, owns (c : Thread nD τ) mTgv fullShare ((datsD m 0 c).before 3 t d))
    ∗ (∃ d, owns (c : Thread nD τ) mX fullShare ((datsD m 0 c).before 4 t d))
    ∗ (∃ d, owns (c : Thread nD τ) mTsc fullShare ((datsD m 0 c).before 5 t d))
    ∗ (∃ d, owns (c : Thread nD τ) mTlq fullShare ((datsD m 0 c).before 6 t d))
    ∗ (∃ d, owns (c : Thread nD τ) mG fullShare ((datsD m 0 c).before 7 t d))
    ∗ (∃ d, owns (c : Thread nD τ) mDZ fullShare ((datsD m 0 c).before 8 t d))
    ∗ (∃ d, owns (c : Thread nD τ) mDZT fullShare ((datsD m 0 c).before 9 t d))
    ∗ (∃ d, owns (c : Thread nD τ) mDH fullShare ((datsD m 0 c).before 10 t d))
    ∗ (∃ d, owns (c : Thread nD τ) mLOSS fullShare ((datsD m 0 c).before 11 t d)))
def bodyPost (c : Dev nD) (t : Fin cfg0.N) : sProp 𝕄 :=
  iprop((datsD m 0 c).Φ t.succ ∗ (datsD m 0 c).owesAt () t.succ
    ∗ owns (c : Thread nD τ) mIds fullShare ((datsD m 0 c).after 0 t)
    ∗ owns (c : Thread nD τ) mTids fullShare ((datsD m 0 c).after 1 t)
    ∗ owns (c : Thread nD τ) mIdv fullShare ((datsD m 0 c).after 2 t)
    ∗ owns (c : Thread nD τ) mTgv fullShare ((datsD m 0 c).after 3 t)
    ∗ owns (c : Thread nD τ) mX fullShare ((datsD m 0 c).after 4 t)
    ∗ owns (c : Thread nD τ) mTsc fullShare ((datsD m 0 c).after 5 t)
    ∗ owns (c : Thread nD τ) mTlq fullShare ((datsD m 0 c).after 6 t)
    ∗ owns (c : Thread nD τ) mG fullShare ((datsD m 0 c).after 7 t)
    ∗ owns (c : Thread nD τ) mDZ fullShare ((datsD m 0 c).after 8 t)
    ∗ owns (c : Thread nD τ) mDZT fullShare ((datsD m 0 c).after 9 t)
    ∗ owns (c : Thread nD τ) mDH fullShare ((datsD m 0 c).after 10 t)
    ∗ owns (c : Thread nD τ) mLOSS fullShare ((datsD m 0 c).after 11 t))

section Body
variable (c : Dev nD) (hid : ∀ i, ((insAt m c).ids i).toNat < 60000) (htd : ∀ i, ((insAt m c).tids i).toNat < 60000)
include hid htd

theorem sound_body (t : Fin cfg0.N) :
    bodyPre m c t ⊢ wp frame (wpE (defs₀ (F := F)) Variants.none c none) Set.univ (bodyAt0 t) (fun _ => bodyPost m c t) := by
  unfold bodyPre bodyPost bodyAt0
  rw [show (datsD m 0 c).Φ t.succ = (datsD m 0 c).Φ t.castSucc from rfl, after0_0, after0_1, after0_2, after0_3, after0_4, after0_5, after0_6, after0_7, after0_8, after0_9, after0_10, after0_11]
  rw [show (datsD m 0 c).Φ t.castSucc = Pipeline.ΦD osem0 spec0 H0 (V m) c from rfl, PhiD0_eq]
  simp only [before0_0, before0_1, before0_2, before0_3, before0_4, before0_5, before0_6, before0_7]
  unfold Dat.owesAt Pipeline.owesWithin
  rw [show (datsD m 0 c).owed t.castSucc = 0 from rfl, show (datsD m 0 c).owed t.succ = 0 from rfl]
  iintro ⟨⟨⟨⟨%fr, Hr⟩, ⟨%ft, Ht⟩, ⟨%fcb, Hcb⟩, ⟨%fz, Hz⟩, ⟨%fsc, Hsc⟩, ⟨%ftp, Htp⟩⟩, Hg, ⟨Hq0, Hq1, Hq2, Hq3⟩, Hw⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave Hr := (ring_split c fr) $$ Hr
  icases Hr with ⟨Hr0, Hr1, Hr2⟩
  ihave Hw := (words_split c (insAt m c).w) $$ Hw
  icases Hw with ⟨Hw, Hw0, Hw1, Hw2⟩
  ihave Hids := (owns_pt0 c (insAt m c).ids) $$ H0
  ihave Htids := (owns_pt1 c (insAt m c).tids) $$ H1
  ihave Kidv := (owns_known c mIdv set_2 fullShare (insAt m c).idv) $$ H2
  ihave Ktgv := (owns_known c mTgv set_3 fullShare (insAt m c).tgv) $$ H3
  ihave Kx := (owns_known c mX set_4 fullShare (insAt m c).x) $$ H4
  ihave Ktsc := (owns_known c mTsc set_5 fullShare (insAt m c).tsc) $$ H5
  ihave Ktlq := (owns_known c mTlq set_6 fullShare (insAt m c).tlq) $$ H6
  ihave Kg := (owns_known c mG set_7 fullShare (insAt m c).g) $$ H7
  ihave Hcb := (pt_none c mCB fullShare fcb (CB (insAt m c) 0) (upTo 128 0 0) not_upTo) $$ Hcb
  ihave Hz := (pt_none c mZ fullShare fz (ZZ (insAt m c) 0) (upTo 128 0 0) not_upTo) $$ Hz
  ihave Hsc := (pt_none c mSC fullShare fsc (SC (insAt m c) 0) (upTo 128 0 0) not_upTo) $$ Hsc
  ihave Htp := (pt_none c mTP fullShare ftp (TP (insAt m c)) (upTo 512 0 0) not_upTo) $$ Htp
  ihave Kdz := (owns_none c mDZ set_8 fullShare (DZ (insAt m c)) _ (upTo 2048 0 0) not_upTo) $$ H8
  ihave Kdzt := (owns_none c mDZT set_9 fullShare (DZT (insAt m c)) _ (fun y => (y 0).val < 0) (fun _ => Nat.not_lt_zero _)) $$ H9
  ihave Kdh := (owns_none c mDH set_10 fullShare (DH (insAt m c)) _ (upTo 128 0 0) not_upTo) $$ H10
  ihave Kloss := (owns_none c mLOSS set_11 fullShare (LOSS (insAt m c)) _ (fun y => (y 0).val < 0) (fun _ => Nat.not_lt_zero _)) $$ H11
  iapply (wp_wand_r _ _ _)
  isplitl [Hr0 Hr1 Hr2 Ht Hcb Hz Hsc Htp Hq0 Hq1 Hq2 Hq3 Hw Hw0 Hw1 Hw2 HW Hids Htids Kidv Ktgv Kx Ktsc Ktlq Kg Kdz Kdzt Kdh Kloss]
  · iapply (fwd_run c (insAt m c) hid htd qsAt qAt fullShare fullShare fullShare fullShare fullShare fullShare)
    isplitl [Hq3 Ht Hw]
    · unfold tgtFree
      isplitl [Hq3]; · iexact Hq3
      isplitl [Ht]; · iexists ft; iexact Ht
      iexact Hw
    isplitl [Hq0 Hr0 Hw0]
    · unfold ringFree
      isplitl [Hq0]; · iexact Hq0
      isplitl [Hr0]; · iexists fr; iexact Hr0
      iexact Hw0
    isplitl [Hq1 Hr1 Hw1]
    · unfold ringFree
      isplitl [Hq1]; · iexact Hq1
      isplitl [Hr1]; · iexists fr; iexact Hr1
      iexact Hw1
    isplitl [Hq2 Hr2 Hw2]
    · unfold ringFree
      isplitl [Hq2]; · iexact Hq2
      isplitl [Hr2]; · iexists fr; iexact Hr2
      iexact Hw2
    isplitl [Hids]; · iexact Hids
    isplitl [Htids]; · iexact Htids
    isplitl [HW]; · iexists W; iexact HW
    isplitl [Kidv]; · iexact Kidv
    isplitl [Ktgv]; · iexact Ktgv
    isplitl [Kx]; · iexact Kx
    isplitl [Kg]; · iexact Kg
    isplitl [Ktsc]; · iexact Ktsc
    isplitl [Ktlq]; · iexact Ktlq
    isplitl [Htp]; · iexact Htp
    isplitl [Hcb]; · iexact Hcb
    isplitl [Hsc]; · iexact Hsc
    isplitl [Hz]; · iexact Hz
    isplitl [Kloss]; · iexact Kloss
    isplitl [Kdzt]; · iexact Kdzt
    isplitl [Kdz]; · iexact Kdz
    iexact Kdh
  iintro %_ ⟨HI, Ktsc, Ktlq⟩
  ihave HI := (I4_end c (insAt m c) qsAt qAt fullShare fullShare fullShare fullShare) $$ HI
  icases HI with ⟨HT, Htids, Ktgv, Kg, Kloss, Kdzt, Kdz, Kdh, HR0, HR1, HR2, Hids, ⟨%W', HW'⟩, Kidv, Htp, Kx, Hcb, Hsc, Hz⟩
  unfold tgtFree ringFree
  icases HT with ⟨Hq3, Ht, Hw⟩
  icases HR0 with ⟨Hq0, ⟨%f0, Hr0⟩, Hw0⟩
  icases HR1 with ⟨Hq1, ⟨%f1, Hr1⟩, Hw1⟩
  icases HR2 with ⟨Hq2, ⟨%f2, Hr2⟩, Hw2⟩
  isplitl [Hr0 Hr1 Hr2 Ht Hcb Hz Hsc Htp Hq0 Hq1 Hq2 Hq3 Hw Hw0 Hw1 Hw2 Hg]
  · isplitl [Hr0 Hr1 Hr2 Ht Hcb Hz Hsc Htp]
    · isplitl [Hr0 Hr1 Hr2]
      · iapply (ring_join c f0 f1 f2)
        isplitl [Hr0]; · iexact Hr0
        isplitl [Hr1]; · iexact Hr1
        iexact Hr2
      isplitl [Ht]; · iexact Ht
      isplitl [Hcb]; · iapply (known_any c mCB fullShare _ _) $$ Hcb
      isplitl [Hz]; · iapply (known_any c mZ fullShare _ _) $$ Hz
      isplitl [Hsc]; · iapply (known_any c mSC fullShare _ _) $$ Hsc
      iapply (known_any c mTP fullShare _ _) $$ Htp
    isplitl [Hg]; · iexact Hg
    isplitl [Hq0 Hq1 Hq2 Hq3]
    · isplitl [Hq0]; · iexact Hq0
      isplitl [Hq1]; · iexact Hq1
      isplitl [Hq2]; · iexact Hq2
      iexact Hq3
    iapply (words_join c (insAt m c).w)
    isplitl [Hw]; · iexact Hw
    isplitl [Hw0]; · iexact Hw0
    isplitl [Hw1]; · iexact Hw1
    iexact Hw2
  isplitl [HW']
  · iexists W'; isplitr; · ipureintro; exact fun _ _ => Or.inl trivial
    iexact HW'
  isplitl [Hids]; · iapply (pt_owns0 c (insAt m c).ids) $$ Hids
  isplitl [Htids]; · iapply (pt_owns1 c (insAt m c).tids) $$ Htids
  isplitl [Kidv]; · iapply (known_owns c mIdv set_2 fullShare _ _ (fun _ => trivial)) $$ Kidv
  isplitl [Ktgv]; · iapply (known_owns c mTgv set_3 fullShare _ _ (fun _ => trivial)) $$ Ktgv
  isplitl [Kx]; · iapply (known_owns c mX set_4 fullShare _ _ (fun _ => trivial)) $$ Kx
  isplitl [Ktsc]; · iapply (known_owns c mTsc set_5 fullShare _ _ (fun _ => trivial)) $$ Ktsc
  isplitl [Ktlq]; · iapply (known_owns c mTlq set_6 fullShare _ _ (fun _ => trivial)) $$ Ktlq
  isplitl [Kg]; · iapply (known_owns c mG set_7 fullShare _ _ (fun _ => trivial)) $$ Kg
  isplitl [Kdz]; · iapply (known_owns c mDZ set_8 fullShare _ _ done_8) $$ Kdz
  isplitl [Kdzt]; · iapply (known_owns c mDZT set_9 fullShare _ _ done_9) $$ Kdzt
  isplitl [Kdh]; · iapply (known_owns c mDH set_10 fullShare _ _ done_10) $$ Kdh
  iapply (known_owns c mLOSS set_11 fullShare _ _ done_11) $$ Kloss

end Body

theorem defs₀_rowD (t : Fin cfg0.N) :
    defs₀ (F := F) .tc cfg0.body (cfg0.bodyArgs t (cfg0.slots t)) = bodyAt0 t := by
  unfold defs₀; rw [Defs.onTc_tc]

variable (hid : ∀ c i, ((insAt m c).ids i).toNat < 60000) (htd : ∀ c i, ((insAt m c).tids i).toNat < 60000)
include hid htd

theorem body_obligation (c : Dev nD) : BodyObligation (datsD (F := F) m 0 c) (defs₀ (F := F)) Variants.none () Set.univ := fun t => by
  rw [bigSep_W0, bigSep_W0, defs₀_rowD]
  exact triple_restated (sound_body m c (hid c) (htd c) t) rfl .rfl fun _ => .rfl

set_option backward.isDefEq.respectTransparency.types false in
theorem run_main : θ_run defs (onTc (τ := τ) (main (F := F))) (s₀ m ρ) (fun r => Pipeline.FramePost cfgs (datsD m) 0 (V m) r ∧ r.2.sem = fun _ => 0) :=
  Pipeline.θ_run_frame_dma (Q' := _) cfgs (datsD m) (0 : Fin 1) launch0 osem0 defs₀ Variants.none ownSemFacts0 H0 H0_sub m ρ main
    (hbody := fun c => (body_obligation m hid htd c).loose) (hshare := fun c => (datsD m 0 c).share_full fun _ => rfl)
    (howed := fun _ _ => rfl) (V := V m) (hmain := hmainD m Variants.none) (hA := A_eqD m)
    (hin := fun _ => .rfl) (hout := fun _ => .rfl)

end Cert.Kernel.Hand
-- ==== Proof.Frame.lean ====
/-
  Hand-written. The run with its arguments and semaphores as they began, and with its four results named.
-/
module

public import proofs.«01_k».proof.Proof.Launch

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL.Sem

variable {F : FTy → Type} [BitOps F]
variable (m : (ℓ : Loc nD τ sig) → Buf (Elt F) ℓ) (ρ : Dev nD → PrngReg)

theorem V_ids (c : Dev nD) : V m c main_v1 = shapeCast _ (m ((c : Thread nD τ).loc main_arg4)) shapeCasts_S6x2048_S12288 := by
  simp only [V, hostOps0, hostOps0_1, hostOps0_2, hostOps0_3, hostOps0_4, List.flatten_cons, List.flatten_nil, List.append_nil, List.cons_append, List.nil_append]
  after_results
  rfl
theorem V_tids (c : Dev nD) : V m c main_v2 = shapeCast _ (m ((c : Thread nD τ).loc main_arg5)) shapeCasts_S6x128_S768 := by
  simp only [V, hostOps0, hostOps0_1, hostOps0_2, hostOps0_3, hostOps0_4, List.flatten_cons, List.flatten_nil, List.append_nil, List.cons_append, List.nil_append]
  after_results
  rfl

theorem out_8 (c : Dev nD) : (datsD m 0 c).arrAt 8 cfg0.N = DZ (insAt m c) := by
  refine (datsD m 0 c).arrAt_eq_of_after_last 8 t0_0 (by decide +kernel) _ fun j => ?_
  blk_simp
  exact congrFun (after0_8 m c t0_0) j
theorem out_9 (c : Dev nD) : (datsD m 0 c).arrAt 9 cfg0.N = DZT (insAt m c) := by
  refine (datsD m 0 c).arrAt_eq_of_after_last 9 t0_0 (by decide +kernel) _ fun j => ?_
  blk_simp
  exact congrFun (after0_9 m c t0_0) j
theorem out_10 (c : Dev nD) : (datsD m 0 c).arrAt 10 cfg0.N = DH (insAt m c) := by
  refine (datsD m 0 c).arrAt_eq_of_after_last 10 t0_0 (by decide +kernel) _ fun j => ?_
  blk_simp
  exact congrFun (after0_10 m c t0_0) j
theorem out_11 (c : Dev nD) : (datsD m 0 c).arrAt 11 cfg0.N = LOSS (insAt m c) := by
  refine (datsD m 0 c).arrAt_eq_of_after_last 11 t0_0 (by decide +kernel) _ fun j => ?_
  blk_simp
  exact congrFun (after0_11 m c t0_0) j

variable (hid : ∀ c i, (m ((Dev.tc c : Thread nD τ).loc main_arg4) i).toNat < 60000)
  (htd : ∀ c i, (m ((Dev.tc c : Thread nD τ).loc main_arg5) i).toNat < 60000)
include hid htd

theorem frames : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) := by
  refine (θ_run defs _ _).mono (fun r h => ⟨fun c => ?_, h.2⟩) (run_main m ρ ?_ ?_)
  · exact ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩
  · intro c i
    show (V m c main_v1 i).toNat < 60000
    rw [V_ids]
    exact hid c _
  · intro c i
    show (V m c main_v2 i).toNat < 60000
    rw [V_tids]
    exact htd c _

/-- The run ends with its four results at the values of `Spec` and its arguments as they were. -/
theorem values : θ_run defs (onTc (τ := τ) (main (F := F))) ⟨m, fun _ => 0, ρ⟩ (fun r => ∀ c : Dev nD,
    (r.2.mem ((c.tc : Thread nD τ).loc main_v13_0) = DZ (insAt m c)
    ∧ r.2.mem ((c.tc : Thread nD τ).loc main_v13_1) = DZT (insAt m c)
    ∧ r.2.mem ((c.tc : Thread nD τ).loc main_v13_2) = DH (insAt m c)
    ∧ r.2.mem ((c.tc : Thread nD τ).loc main_v13_3) = LOSS (insAt m c))
    ∧ (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))) := by
  refine (θ_run defs _ _).mono (fun r h c => ⟨⟨?_, ?_, ?_, ?_⟩, ?_⟩) (run_main m ρ ?_ ?_)
  · exact ((h.1 c).1 8).trans (out_8 m c)
  · exact ((h.1 c).1 9).trans (out_9 m c)
  · exact ((h.1 c).1 10).trans (out_10 m c)
  · exact ((h.1 c).1 11).trans (out_11 m c)
  · exact ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩
  · intro c i
    show (V m c main_v1 i).toNat < 60000
    rw [V_ids]
    exact hid c _
  · intro c i
    show (V m c main_v2 i).toNat < 60000
    rw [V_tids]
    exact htd c _

end Cert.Kernel.Hand
-- ==== Proof.IRows.lean ====
/-
  Hand-written. The row gathers of the kernel: the rows of the ring and of the target buffer as sets of elements,
  what each row holds once its transfer has landed, and one issue of each kind.
-/
module

public import proofs.«01_k».proof.Proof.Gen.KernelIdeal.Launch
public import proofs.«01_k».proof.Proof.Gen.KernelIdeal.Skeleton
public import Idealize.ShloMosaic.Lib.Pipeline.FrameBody
public import proofs.«01_k».proof.Proof.Dma

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The counters' place in the proof's algebra. -/
abbrev EC : UEmb Counters (MT nD τ sig Unit (Elt F) ℕ (Pipeline.UD sig nD τ) ℕ) := countersEmb (U := Pipeline.UD sig nD τ)

/-- The packed code table in HBM, the ring of code rows and the buffer of target rows. -/
abbrev hbW : Memref sig .tc .hbm S15000x2880 .i32 := Memref.whole main_v12
abbrev mRing : Memref sig .tc .vmem S3x256x2880 .i32 := Memref.whole cc0_scratch0
abbrev mT : Memref sig .tc .vmem S128x2880 .i32 := Memref.whole cc0_scratch1

/-- The packed row that holds row `n` of the code table, as an index. -/
def wix (n : ℕ) (j : Fin 2880) : S15000x2880.Idx := Shape.pair (d := S15000x2880.size) ⟨n / 4 % 15000, Nat.mod_lt _ (by decide)⟩ j

/-- The ring once row `id r` of the table has landed at row `r` of a slot (the same in every slot). -/
def ringG (w : S15000x2880.Idx → Elt F .i32) (id : ℕ → BitVec 32) : S3x256x2880.Idx → Elt F .i32 :=
  fun y => w (wix (id (y 1).val).toNat (y 2))
/-- The target buffer once row `id r` of the table has landed at row `r`. -/
def tgtG (w : S15000x2880.Idx → Elt F .i32) (id : ℕ → BitVec 32) : S128x2880.Idx → Elt F .i32 :=
  fun y => w (wix (id (y 0).val).toNat (y 1))

/-- Row `r` of slot `s` of the ring; slot `s`; row `r` of the target buffer. -/
def ringRow (s r : ℕ) : Finset S3x256x2880.Idx := Finset.univ.filter fun y => (y 0).val = s ∧ (y 1).val = r
def slotSet (s : ℕ) : Finset S3x256x2880.Idx := Finset.univ.filter fun y => (y 0).val = s
def tRow (r : ℕ) : Finset S128x2880.Idx := Finset.univ.filter fun y => (y 0).val = r

/-- The ring's semaphore of slot `s`, and the target buffer's. -/
def ringSem (s : Fin 3) : DmaSem sig := ⟨12 + s.val, by have := s.isLt; show 12 + s.val < 16; omega⟩
def tSem : DmaSem sig := ⟨15, by decide⟩

/-- The units one row transfer credits. -/
def rowCredit : ℕ := 368
theorem rowCredit_pos : 0 < rowCredit := by decide
theorem ring_credit : cc0_scratch0.dmaCredit S1x2880 .i32 = rowCredit := by decide +kernel
theorem tgt_credit : cc0_scratch1.dmaCredit S1x2880 .i32 = rowCredit := by decide +kernel

variable (c : Dev nD)

/-- The packed table under a share; a row of the ring, a row of the target buffer, at contents. -/
abbrev wordsPt (q : PosShare TreeShare) (w : S15000x2880.Idx → Elt F .i32) : sProp 𝕄 :=
  hbW.view.loc (c : Thread nD τ) ↦{q} w
abbrev ringPt (S : Finset S3x256x2880.Idx) (f : S3x256x2880.Idx → Elt F .i32) : sProp 𝕄 :=
  mRing.view.loc (c : Thread nD τ) ↦[S]{fullShare} f
abbrev tPt (S : Finset S128x2880.Idx) (f : S128x2880.Idx → Elt F .i32) : sProp 𝕄 :=
  mT.view.loc (c : Thread nD τ) ↦[S]{fullShare} f

/-- What transfer `t` into slot `s` hands back: its row at the table's row `id t`, and its token of the table. -/
def ringD (q : PosShare TreeShare) (w : S15000x2880.Idx → Elt F .i32) (id : ℕ → BitVec 32) (s : ℕ) (t : Fin 256) : sProp 𝕄 :=
  iprop(ringPt c (ringRow s t.val) (ringG w id) ∗ wordsPt c (shareTokN q t.val) w)
def tgtD (q : PosShare TreeShare) (w : S15000x2880.Idx → Elt F .i32) (id : ℕ → BitVec 32) (t : Fin 128) : sProp 𝕄 :=
  iprop(tPt c (tRow t.val) (tgtG w id) ∗ wordsPt c (shareTokN q t.val) w)

instance ringD_storable (q : PosShare TreeShare) (w : S15000x2880.Idx → Elt F .i32) (id : ℕ → BitVec 32) (s : ℕ) (t : Fin 256) :
    Storable (upEmb : UEmb _ 𝕄) (ringD c q w id s t) := by unfold ringD; infer_instance
instance tgtD_storable (q : PosShare TreeShare) (w : S15000x2880.Idx → Elt F .i32) (id : ℕ → BitVec 32) (t : Fin 128) :
    Storable (upEmb : UEmb _ 𝕄) (tgtD c q w id t) := by unfold tgtD; infer_instance

/-- The batch of a slot's 256 rows, and of the 128 target rows: `j` issued, `u` units consumed. -/
abbrev ringB (q : PosShare TreeShare) (w : S15000x2880.Idx → Elt F .i32) (id : ℕ → BitVec 32) (s : Fin 3) (j u : ℕ) : sProp 𝕄 :=
  Batch EC (c : Thread nD τ) (.dma (ringSem s)) () rowCredit (ringD c q w id s.val) j u
abbrev tgtB (q : PosShare TreeShare) (w : S15000x2880.Idx → Elt F .i32) (id : ℕ → BitVec 32) (j u : ℕ) : sProp 𝕄 :=
  Batch EC (c : Thread nD τ) (.dma tSem) () rowCredit (tgtD c q w id) j u

theorem mem_row2 {o : Fin 2 → ℕ} (r : ℕ) (e : o = ![r, 0]) (inb : ∀ a, o a + S1x2880.size a ≤ S128x2880.size a) :
    (Rect.unit (s := S128x2880) o S1x2880.size inb).set = tRow r := by
  subst e; ext y
  rw [Rect.mem_set_unit]; simp only [tRow, Finset.mem_filter, Finset.mem_univ, true_and]
  have h1 : (y 1).val < 2880 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 2880; omega

theorem mem_row3 {o : Fin 3 → ℕ} (s r : ℕ) (e : o = ![s, r, 0]) (inb : ∀ a, o a + S1x1x2880.size a ≤ S3x256x2880.size a) :
    (Rect.unit (s := S3x256x2880) o S1x1x2880.size inb).set = ringRow s r := by
  subst e; ext y
  rw [Rect.mem_set_unit]; simp only [ringRow, Finset.mem_filter, Finset.mem_univ, true_and]
  have h2 : (y 2).val < 2880 := (y 2).isLt
  constructor
  · intro H
    have a0 : s ≤ (y 0).val ∧ (y 0).val < s + 1 := H 0
    have a1 : r ≤ (y 1).val ∧ (y 1).val < r + 1 := H 1
    omega
  · intro H a; fin_cases a
    · show s ≤ (y 0).val ∧ (y 0).val < s + 1; omega
    · show r ≤ (y 1).val ∧ (y 1).val < r + 1; omega
    · show 0 ≤ (y 2).val ∧ (y 2).val < 0 + 2880; omega

/-- What a row of the table reads, whatever its offsets are called. -/
theorem words_emb {o : Fin 2 → ℕ} (n : ℕ) (hn : n < 60000) (e : o = ![n / 4, 0]) (inb : ∀ a, o a + S1x2880.size a ≤ S15000x2880.size a)
    (j : S1x2880.Idx) : (Rect.unit (s := S15000x2880) o S1x2880.size inb).emb j = wix n (j 1) := by
  subst e
  have h0 : (j 0).val < 1 := (j 0).isLt
  funext a; apply Fin.ext
  fin_cases a
  · show n / 4 + 1 * (j 0).val = n / 4 % 15000; omega
  · show 0 + 1 * (j 1).val = (j 1).val; omega

theorem chk_of (v : BitVec 32) (hv : v.toNat < 60000) (o : Fin 2 → ℕ) (e : o = ![(Scalar.shrui v 2#32).toNat, 0]) :
    o = ![v.toNat / 4, 0] ∧ ∀ a, o a + S1x2880.size a ≤ S15000x2880.size a := by
  have h : (Scalar.shrui v 2#32).toNat = v.toNat / 4 := by
    simp [Scalar.shrui, IntOp.shrui, BitVec.toNat_ushiftRight, Nat.shiftRight_eq_div_pow]
  rw [h] at e; subst e
  refine ⟨rfl, fun a => ?_⟩
  fin_cases a
  · show v.toNat / 4 + 1 ≤ 15000; omega
  · show 0 + 2880 ≤ 2880; omega

section Issue

variable {α : Type} {Q : α → sProp (MT nD τ sig Unit (Elt F) ℕ (Pipeline.UD sig nD τ) ℕ)} {k : PUnit → Prog (TpuEff nD τ sig (Elt F) Λ₀ .tc) α}
variable (q : PosShare TreeShare) (w : S15000x2880.Idx → Elt F .i32) (id : ℕ → BitVec 32)

/-- One row of slot `s` issued. -/
theorem issue_ring (s : Fin 3) (t : ℕ) (ht : t < 256) {v : BitVec 32} (hv : v = id t) (hid : (id t).toNat < 60000)
    {o : Fin 3 → ℕ} {inb : ∀ a, o a + S1x1x2880.size a ≤ S3x256x2880.size a} (e : o = ![s.val, t, 0])
    {o' : Fin 2 → ℕ} {inb' : ∀ a, o' a + S1x2880.size a ≤ S15000x2880.size a} (e' : o' = ![v.toNat / 4, 0])
    {sm : DmaSem sig} (hsm : sm = ringSem s) {p1 p2 p3} :
    iprop(wordsPt c (shareTokN q t) w ∗ (∃ f, ringPt c (ringRow s.val t) f) ∗ ringB c q w id s t 0)
      ⊢ iprop((ringB c q w id s (t + 1) 0 -∗ wp frame (wpE defs₀ Variants.none (c : Thread nD τ) none) Set.univ (k ⟨⟩) Q)
        -∗ wp frame (wpE defs₀ Variants.none (c : Thread nD τ) none) Set.univ
          (.op (.enqueueDma (hbW.slice (Rect.unit (s := S15000x2880) o' S1x2880.size inb') (fun _ => rfl))
            (.here ((mRing.slice (Rect.unit (s := S3x256x2880) o S1x1x2880.size inb) (fun _ => rfl)).squeeze S1x2880 squeezes_S1x1x2880_S1x2880))
            (.dma sm) p1 p2 p3) k) Q) := by
  subst hsm; subst hv
  iintro ⟨Hw, ⟨%f, Hr⟩, HB⟩ Hk
  iapply (Cert.Dma.wp_dmaRow EC Variants.none (c : Thread nD τ) none
    (src := hbW.slice (Rect.unit (s := S15000x2880) o' S1x2880.size inb') (fun _ => rfl))
    (dst := (mRing.slice (Rect.unit (s := S3x256x2880) o S1x1x2880.size inb) (fun _ => rfl)).squeeze S1x2880 squeezes_S1x1x2880_S1x2880)
    (sm := .dma (ringSem s)) (Sd := ringRow s.val t) (G := ringG w id) (fd := f) (fs := w) (q := shareTokN q t)
    (D := ringD c q w id s.val) (n := 256) (j := t) (u := 0) () rowCredit ring_credit ?hset ht (Nat.zero_le _) ?hG ?hD) $$ [Hw Hr HB] Hk
  case hset => exact ((View.set_reshape _ _).trans (View.set_slice_whole _ _)).trans (mem_row3 s.val t e inb)
  case hG =>
    funext j
    show ringG w id ((Rect.unit (s := S3x256x2880) o S1x1x2880.size inb).emb (Shape.reshapeEquiv _ j)) = w ((Rect.unit (s := S15000x2880) o' S1x2880.size inb').emb j)
    rw [words_emb _ hid e' inb' j]
    subst e
    have hz : Shape.reshapeEquiv (s := S1x1x2880) (s' := S1x2880) (by decide) j = Fin.cons ⟨0, Nat.one_pos⟩ j := Shape.reshapeEquiv_cons_one _ j
    have h0 : (j 0).val < 1 := (j 0).isLt
    unfold ringG
    congr 1
    have e1 : ((Rect.unit (s := S3x256x2880) ![s.val, t, 0] S1x1x2880.size inb).emb (Shape.reshapeEquiv (s := S1x1x2880) (s' := S1x2880) (by decide) j) 1).val = t := by
      rw [hz]; show t + 1 * (j 0).val = t; omega
    have e2 : (Rect.unit (s := S3x256x2880) ![s.val, t, 0] S1x1x2880.size inb).emb (Shape.reshapeEquiv (s := S1x1x2880) (s' := S1x2880) (by decide) j) 2 = j 1 := by
      rw [hz]; apply Fin.ext; show 0 + 1 * (j 1).val = (j 1).val; omega
    exact congr (congrArg (fun n => wix (id n).toNat) e1) e2
  case hD => unfold ringD; iintro ⟨H1, H2⟩; isplitl [H1]; · iexact H1
             iexact H2
  isplitl [Hw]; · iexact Hw
  isplitl [Hr]; · iexact Hr
  iexact HB

/-- One target row issued. -/
theorem issue_tgt (t : ℕ) (ht : t < 128) {v : BitVec 32} (hv : v = id t) (hid : (id t).toNat < 60000)
    {o : Fin 2 → ℕ} {inb : ∀ a, o a + S1x2880.size a ≤ S128x2880.size a} (e : o = ![t, 0])
    {o' : Fin 2 → ℕ} {inb' : ∀ a, o' a + S1x2880.size a ≤ S15000x2880.size a} (e' : o' = ![v.toNat / 4, 0])
    {sm : DmaSem sig} (hsm : sm = tSem) {p1 p2 p3} :
    iprop(wordsPt c (shareTokN q t) w ∗ (∃ f, tPt c (tRow t) f) ∗ tgtB c q w id t 0)
      ⊢ iprop((tgtB c q w id (t + 1) 0 -∗ wp frame (wpE defs₀ Variants.none (c : Thread nD τ) none) Set.univ (k ⟨⟩) Q)
        -∗ wp frame (wpE defs₀ Variants.none (c : Thread nD τ) none) Set.univ
          (.op (.enqueueDma (hbW.slice (Rect.unit (s := S15000x2880) o' S1x2880.size inb') (fun _ => rfl))
            (.here (mT.slice (Rect.unit (s := S128x2880) o S1x2880.size inb) (fun _ => rfl)))
            (.dma sm) p1 p2 p3) k) Q) := by
  subst hsm; subst hv
  iintro ⟨Hw, ⟨%f, Hr⟩, HB⟩ Hk
  iapply (Cert.Dma.wp_dmaRow EC Variants.none (c : Thread nD τ) none
    (src := hbW.slice (Rect.unit (s := S15000x2880) o' S1x2880.size inb') (fun _ => rfl))
    (dst := mT.slice (Rect.unit (s := S128x2880) o S1x2880.size inb) (fun _ => rfl))
    (sm := .dma tSem) (Sd := tRow t) (G := tgtG w id) (fd := f) (fs := w) (q := shareTokN q t)
    (D := tgtD c q w id) (n := 128) (j := t) (u := 0) () rowCredit tgt_credit ?hset ht (Nat.zero_le _) ?hG ?hD) $$ [Hw Hr HB] Hk
  case hset => exact (View.set_slice_whole _ _).trans (mem_row2 t e inb)
  case hG =>
    funext j
    show tgtG w id ((Rect.unit (s := S128x2880) o S1x2880.size inb).emb j) = w ((Rect.unit (s := S15000x2880) o' S1x2880.size inb').emb j)
    rw [words_emb _ hid e' inb' j]
    subst e
    have h0 : (j 0).val < 1 := (j 0).isLt
    unfold tgtG
    congr 1
    have e1 : ((Rect.unit (s := S128x2880) ![t, 0] S1x2880.size inb).emb j 0).val = t := by
      show t + 1 * (j 0).val = t; omega
    have e2 : (Rect.unit (s := S128x2880) ![t, 0] S1x2880.size inb).emb j 1 = j 1 := by
      apply Fin.ext; show 0 + 1 * (j 1).val = (j 1).val; omega
    exact congr (congrArg (fun n => wix (id n).toNat) e1) e2
  case hD => unfold tgtD; iintro ⟨H1, H2⟩; isplitl [H1]; · iexact H1
             iexact H2
  isplitl [Hw]; · iexact Hw
  isplitl [Hr]; · iexact Hr
  iexact HB

end Issue

end Cert.KernelIdeal.Hand
-- ==== Proof.IIssue.lean ====
/-
  Hand-written. One issue of the gathers as the kernel makes it (the row's number read from scalar memory, checked,
  the transfer started), and the five loops of issues.
-/
module

public import proofs.«01_k».proof.Proof.IRows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev mIds : Memref sig .tc .smem S12288 .i32 := Memref.whole cc0_stg0_0
abbrev mTids : Memref sig .tc .smem S768 .i32 := Memref.whole cc0_stg1_0

/-- Word `n` of the two lists of ids, as an index. -/
def at12288 (n : ℕ) : S12288.Idx := fun | 0 => ⟨n % 12288, Nat.mod_lt _ (by decide)⟩
def at768 (n : ℕ) : S768.Idx := fun | 0 => ⟨n % 768, Nat.mod_lt _ (by decide)⟩

/-- The `r`-th class of chunk `ch` of the sampled ids, and of batch `b` of the targets. -/
def sid (ids : S12288.Idx → BitVec 32) (ch r : ℕ) : BitVec 32 := ids (at12288 (256 * ch + r))
def tid (tids : S768.Idx → BitVec 32) (b r : ℕ) : BitVec 32 := tids (at768 (128 * b + r))

variable (c : Dev nD)

abbrev idsPt (ids : S12288.Idx → BitVec 32) : sProp 𝕄 := mIds.view.loc (c : Thread nD τ) ↦{fullShare} ids
abbrev tidsPt (tids : S768.Idx → BitVec 32) : sProp 𝕄 := mTids.view.loc (c : Thread nD τ) ↦{fullShare} tids

/-- The rows still to be issued, each with its token of the table. -/
abbrev ringRes (q : PosShare TreeShare) (w : S15000x2880.Idx → Elt F .i32) (s : ℕ) (r : Fin 256) : sProp 𝕄 :=
  iprop((∃ f, ringPt c (ringRow s r.val) f) ∗ wordsPt c (shareTokN q r.val) w)
abbrev tgtRes (q : PosShare TreeShare) (w : S15000x2880.Idx → Elt F .i32) (r : Fin 128) : sProp 𝕄 :=
  iprop((∃ f, tPt c (tRow r.val) f) ∗ wordsPt c (shareTokN q r.val) w)

/-- `t` rows issued, the others in hand. -/
def ringIss (q : PosShare TreeShare) (w : S15000x2880.Idx → Elt F .i32) (ids : S12288.Idx → BitVec 32) (ch : ℕ) (s : Fin 3) (t : ℕ) : sProp 𝕄 :=
  iprop(ringB c q w (sid ids ch) s t 0 ∗ bigSep (Ring.rangeSet 256 t 256) (ringRes c q w s.val) ∗ idsPt c ids)
def tgtIss (q : PosShare TreeShare) (w : S15000x2880.Idx → Elt F .i32) (tids : S768.Idx → BitVec 32) (b : ℕ) (t : ℕ) : sProp 𝕄 :=
  iprop(tgtB c q w (tid tids b) t 0 ∗ bigSep (Ring.rangeSet 128 t 128) (tgtRes c q w) ∗ tidsPt c tids)

theorem tSem_eq : SemArray.sem cc0_scratch7 = tSem := by decide +kernel
theorem ringSem_eq (s : Fin 3) {o : Fin 1 → ℕ} (e : o = ![s.val]) (inb : ∀ a, o a + S1.size a ≤ S3.size a) :
    SemArray.sem ((SemArray.slice cc0_scratch6 (Rect.unit (s := S3) o S1.size inb)).squeeze S_ squeezes_S1_S_) = ringSem s := by
  subst e; revert inb; revert s; decide +kernel

section Step

variable {α : Type} {Q : α → sProp (MT nD τ sig Unit (Elt F) ℕ (Pipeline.UD sig nD τ) ℕ)}
variable (q : PosShare TreeShare) (w : S15000x2880.Idx → Elt F .i32)
variable {chk : BitVec 32 → Prop} {dec : ∀ v, Decidable (chk v)} {k : (v : BitVec 32) → PLift (chk v) → PUnit → Prog (TpuEff nD τ sig (Elt F) Λ₀ .tc) α}
variable {o1 : Fin 1 → ℕ} {o3 : BitVec 32 → Fin 2 → ℕ} {inb3 : ∀ v, PLift (chk v) → ∀ a, o3 v a + S1x2880.size a ≤ S15000x2880.size a}

/-- One issue into the target buffer. -/
theorem tgt_step (tids : S768.Idx → BitVec 32) (hid : ∀ i, (tids i).toNat < 60000) (b t : ℕ) (hb : b < 6) (ht : t < 128)
    {inb1 : ∀ a, o1 a + S1.size a ≤ S768.size a} {hw hp} {o2 : Fin 2 → ℕ} {inb2 : ∀ a, o2 a + S1x2880.size a ≤ S128x2880.size a}
    (n : ℕ) (e1 : o1 = ![n]) (e2 : o2 = ![t, 0]) (e3 : ∀ v, o3 v = ![(Scalar.shrui v 2#32).toNat, 0]) (hn : n = 128 * b + t)
    (hchk : ∀ v, (∀ a, o3 v a + S1x2880.size a ≤ S15000x2880.size a) → chk v)
    {p1 : ∀ v h, (hbW.slice (Rect.unit (s := S15000x2880) (o3 v) S1x2880.size (inb3 v h)) (fun _ => rfl)).view.WordExact} {p2 : (DmaTarget.here (nD := nD) (τ := τ) (p := .tc) (mT.slice (Rect.unit (s := S128x2880) o2 S1x2880.size inb2) (fun _ => rfl))).view.WordExact}
    {p3 : DmaTarget.Typed (nD := nD) (τ := τ) (p := .tc) Space.hbm (SemLoc.dma (SemArray.sem cc0_scratch7)) (.here (mT.slice (Rect.unit (s := S128x2880) o2 S1x2880.size inb2) (fun _ => rfl)))} :
    tgtIss c q w tids b t
      ⊢ iprop((∀ v h, tgtIss c q w tids b (t + 1) -∗ wp frame (wpE defs₀ Variants.none (c : Thread nD τ) none) Set.univ (k v h ⟨⟩) Q)
        -∗ wp frame (wpE defs₀ Variants.none (c : Thread nD τ) none) Set.univ
          (smemLoadElt (Val := Elt F) mTids (Rect.unit (s := S768) o1 S1.size inb1) hw (Shape.Idx.first hp) fun v =>
            .op (TpuEff.assume (chk v) (dec v)) fun h =>
              .op (.enqueueDma (hbW.slice (Rect.unit (s := S15000x2880) (o3 v) S1x2880.size (inb3 v h)) (fun _ => rfl))
                (.here (mT.slice (Rect.unit (s := S128x2880) o2 S1x2880.size inb2) (fun _ => rfl)))
                (.dma (SemArray.sem cc0_scratch7)) (p1 v h) p2 p3) (k v h)) Q) := by
  unfold tgtIss
  rw [Ring.bigSep_rangeSet_head (Φ := tgtRes c q w) ht ht]
  iintro ⟨HB, ⟨⟨Hr, Hw⟩, Hrest⟩, Hs⟩ Hk
  iapply (wp_smemLoadElt_named Variants.none (c : Thread nD τ) none Set.univ (m := mTids) (r := Rect.unit (s := S768) o1 S1.size inb1) (S := Finset.univ) (q := fullShare) (f := tids) (Finset.subset_univ _)) $$ Hs
  iintro Hs %v %hv
  have hv' : v = tid tids b t := by
    rw [hv]
    show tids ((Rect.unit (s := S768) o1 S1.size inb1).emb (Shape.Idx.first hp)) = _
    unfold tid; congr 1; funext a; apply Fin.ext
    fin_cases a
    subst e1; show n + 1 * 0 = (128 * b + t) % 768; omega
  have hlt : (tid tids b t).toNat < 60000 := hid _
  have hlt' : v.toNat < 60000 := by rw [hv']; exact hlt
  obtain ⟨e3', hin⟩ := chk_of v hlt' (o3 v) (e3 v)
  iapply (wp_assume Variants.none (c : Thread nD τ) none Set.univ (hchk v hin))
  iapply (issue_tgt c q w (tid tids b) t ht hv' hlt e2 e3' tSem_eq) $$ [Hw Hr HB]
  · isplitl [Hw]; · iexact Hw
    isplitl [Hr]; · iexact Hr
    iexact HB
  iintro HB
  iapply Hk
  isplitl [HB]; · iexact HB
  isplitl [Hrest]; · iexact Hrest
  iexact Hs

/-- One issue into slot `s` of the ring. -/
theorem ring_step (ids : S12288.Idx → BitVec 32) (hid : ∀ i, (ids i).toNat < 60000) (ch : ℕ) (s : Fin 3) (t : ℕ) (hb : ch < 48) (ht : t < 256)
    {inb1 : ∀ a, o1 a + S1.size a ≤ S12288.size a} {hw hp} {o2 : Fin 3 → ℕ} {inb2 : ∀ a, o2 a + S1x1x2880.size a ≤ S3x256x2880.size a}
    {os : Fin 1 → ℕ} {inbs : ∀ a, os a + S1.size a ≤ S3.size a}
    (n : ℕ) (e1 : o1 = ![n]) (es : os = ![s.val]) (e2 : o2 = ![s.val, t, 0]) (e3 : ∀ v, o3 v = ![(Scalar.shrui v 2#32).toNat, 0]) (hn : n = 256 * ch + t)
    (hchk : ∀ v, (∀ a, o3 v a + S1x2880.size a ≤ S15000x2880.size a) → chk v)
    {p1 : ∀ v h, (hbW.slice (Rect.unit (s := S15000x2880) (o3 v) S1x2880.size (inb3 v h)) (fun _ => rfl)).view.WordExact} {p2 : (DmaTarget.here (nD := nD) (τ := τ) (p := .tc) ((mRing.slice (Rect.unit (s := S3x256x2880) o2 S1x1x2880.size inb2) (fun _ => rfl)).squeeze S1x2880 squeezes_S1x1x2880_S1x2880)).view.WordExact}
    {p3 : DmaTarget.Typed (nD := nD) (τ := τ) (p := .tc) Space.hbm (SemLoc.dma (SemArray.sem ((SemArray.slice cc0_scratch6 (Rect.unit (s := S3) os S1.size inbs)).squeeze S_ squeezes_S1_S_))) (.here ((mRing.slice (Rect.unit (s := S3x256x2880) o2 S1x1x2880.size inb2) (fun _ => rfl)).squeeze S1x2880 squeezes_S1x1x2880_S1x2880))} :
    ringIss c q w ids ch s t
      ⊢ iprop((∀ v h, ringIss c q w ids ch s (t + 1) -∗ wp frame (wpE defs₀ Variants.none (c : Thread nD τ) none) Set.univ (k v h ⟨⟩) Q)
        -∗ wp frame (wpE defs₀ Variants.none (c : Thread nD τ) none) Set.univ
          (smemLoadElt (Val := Elt F) mIds (Rect.unit (s := S12288) o1 S1.size inb1) hw (Shape.Idx.first hp) fun v =>
            .op (TpuEff.assume (chk v) (dec v)) fun h =>
              .op (.enqueueDma (hbW.slice (Rect.unit (s := S15000x2880) (o3 v) S1x2880.size (inb3 v h)) (fun _ => rfl))
                (.here ((mRing.slice (Rect.unit (s := S3x256x2880) o2 S1x1x2880.size inb2) (fun _ => rfl)).squeeze S1x2880 squeezes_S1x1x2880_S1x2880))
                (.dma (SemArray.sem ((SemArray.slice cc0_scratch6 (Rect.unit (s := S3) os S1.size inbs)).squeeze S_ squeezes_S1_S_))) (p1 v h) p2 p3) (k v h)) Q) := by
  unfold ringIss
  rw [Ring.bigSep_rangeSet_head (Φ := ringRes c q w s.val) ht ht]
  iintro ⟨HB, ⟨⟨Hr, Hw⟩, Hrest⟩, Hs⟩ Hk
  iapply (wp_smemLoadElt_named Variants.none (c : Thread nD τ) none Set.univ (m := mIds) (r := Rect.unit (s := S12288) o1 S1.size inb1) (S := Finset.univ) (q := fullShare) (f := ids) (Finset.subset_univ _)) $$ Hs
  iintro Hs %v %hv
  have hv' : v = sid ids ch t := by
    rw [hv]
    show ids ((Rect.unit (s := S12288) o1 S1.size inb1).emb (Shape.Idx.first hp)) = _
    unfold sid; congr 1; funext a; apply Fin.ext
    fin_cases a
    subst e1; show n + 1 * 0 = (256 * ch + t) % 12288; omega
  have hlt : (sid ids ch t).toNat < 60000 := hid _
  have hlt' : v.toNat < 60000 := by rw [hv']; exact hlt
  obtain ⟨e3', hin⟩ := chk_of v hlt' (o3 v) (e3 v)
  iapply (wp_assume Variants.none (c : Thread nD τ) none Set.univ (hchk v hin))
  iapply (issue_ring c q w (sid ids ch) s t ht hv' hlt e2 e3' (ringSem_eq s es inbs)) $$ [Hw Hr HB]
  · isplitl [Hw]; · iexact Hw
    isplitl [Hr]; · iexact Hr
    iexact HB
  iintro HB
  iapply Hk
  isplitl [HB]; · iexact HB
  isplitl [Hrest]; · iexact Hrest
  iexact Hs

end Step

end Cert.KernelIdeal.Hand
-- ==== Proof.ILoops.lean ====
/-
  Hand-written. The five loops of issues: each trip issues eight rows.
-/
module

public import proofs.«01_k».proof.Proof.IIssue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (q : PosShare TreeShare) (w : S15000x2880.Idx → Elt F .i32)

/-- The ring slot of chunk `n`. -/
def slotOf (n : ℕ) : Fin 3 := ⟨n % 3, Nat.mod_lt _ (by decide)⟩

theorem t1_trips : k0_t1_loop.trips = 16 := by decide +kernel
theorem t2_trips : k0_t2_loop.trips = 32 := by decide +kernel
theorem t3_trips : k0_t3_loop.trips = 32 := by decide +kernel
theorem t7_trips : k0_t7_loop.trips = 32 := by decide +kernel
theorem t9_trips : k0_t9_loop.trips = 16 := by decide +kernel
theorem t4_trips : k0_t4_loop.trips = 6 := by decide +kernel
theorem t6_trips : k0_t6_loop.trips = 8 := by decide +kernel
theorem cond1_iff (a : Fin k0_t4_loop.trips) (b : Fin k0_t6_loop.trips) : k0_cond1 a b = 1#1 ↔ 8 * a.val + b.val + 2 < 48 := by
  revert a b; decide +kernel
theorem cond2_iff (a : Fin k0_t4_loop.trips) : k0_cond2 a = 1#1 ↔ a.val + 1 < 6 := by
  revert a; decide +kernel

theorem t1_trip (ids : S768.Idx → BitVec 32) (hid : ∀ i, (ids i).toNat < 60000) (k : Fin k0_t1_loop.trips) :
    tgtIss c q w ids 0 (8 * k.val) ⊢ wp frame (wpE defs₀ Variants.none (c : Thread nD τ) none) Set.univ
      (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 k ()) (fun _ => tgtIss c q w ids 0 (8 * (k.val + 1))) := by
  have hk : k.val < 16 := lt_of_lt_of_eq k.isLt t1_trips
  unfold k0_t1_body
  rw [k0_part1_eq_skeleton, k0_part2_eq_skeleton]
  unfold k0_part1_skel k0_part2_skel smemLoad
  simp only [Prog.bind_assoc, Prog.bind_lift, Prog.bind_ret, Prog.bind_op, smemLoadElt_bind, pure_bind, bind_assoc]
  iintro H
  iapply (tgt_step c q w ids hid 0 (8 * k.val) (by decide) (by omega) _ (k0_off1_eq k) (k0_off2_eq k) (fun _ => rfl) (by omega) (fun _ h => h)) $$ H
  iintro %v %h H
  iapply (tgt_step c q w ids hid 0 (8 * k.val + 1) (by decide) (by omega) _ (k0_off4_eq k) (k0_off5_eq k) (fun _ => rfl) (by omega) (fun _ h => h)) $$ H
  iintro %v %h H
  iapply (tgt_step c q w ids hid 0 (8 * k.val + 2) (by decide) (by omega) _ (k0_off7_eq k) (k0_off8_eq k) (fun _ => rfl) (by omega) (fun _ h => h)) $$ H
  iintro %v %h H
  iapply (tgt_step c q w ids hid 0 (8 * k.val + 3) (by decide) (by omega) _ (k0_off10_eq k) (k0_off11_eq k) (fun _ => rfl) (by omega) (fun _ h => h)) $$ H
  iintro %v %h H
  iapply (tgt_step c q w ids hid 0 (8 * k.val + 4) (by decide) (by omega) _ (k0_off13_eq k) (k0_off14_eq k) (fun _ => rfl) (by omega) (fun _ h => h)) $$ H
  iintro %v %h H
  iapply (tgt_step c q w ids hid 0 (8 * k.val + 5) (by decide) (by omega) _ (k0_off16_eq k) (k0_off17_eq k) (fun _ => rfl) (by omega) (fun _ h => h)) $$ H
  iintro %v %h H
  iapply (tgt_step c q w ids hid 0 (8 * k.val + 6) (by decide) (by omega) _ (k0_off19_eq k) (k0_off20_eq k) (fun _ => rfl) (by omega) (fun _ h => h)) $$ H
  iintro %v %h H
  iapply (tgt_step c q w ids hid 0 (8 * k.val + 7) (by decide) (by omega) _ (k0_off22_eq k) (k0_off23_eq k) (fun _ => rfl) (by omega) (fun _ h => h)) $$ H
  iintro %v %h H
  rw [wp_pure]
  imodintro
  iexact H

theorem t2_trip (ids : S12288.Idx → BitVec 32) (hid : ∀ i, (ids i).toNat < 60000) (k : Fin k0_t2_loop.trips) :
    ringIss c q w ids 0 0 (8 * k.val) ⊢ wp frame (wpE defs₀ Variants.none (c : Thread nD τ) none) Set.univ
      (k0_t2_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 k ()) (fun _ => ringIss c q w ids 0 0 (8 * (k.val + 1))) := by
  have hk : k.val < 32 := lt_of_lt_of_eq k.isLt t2_trips
  unfold k0_t2_body
  rw [k0_part3_eq_skeleton, k0_part4_eq_skeleton]
  unfold k0_part3_skel k0_part4_skel smemLoad
  simp only [Prog.bind_assoc, Prog.bind_lift, Prog.bind_ret, Prog.bind_op, smemLoadElt_bind, pure_bind, bind_assoc]
  iintro H
  iapply (ring_step c q w ids hid 0 0 (8 * k.val) (by decide) (by omega) _ (k0_off25_eq k) (k0_off26_eq ) (k0_off27_eq k) (fun _ => rfl) (by omega) (fun _ h => h)) $$ H
  iintro %v %h H
  iapply (ring_step c q w ids hid 0 0 (8 * k.val + 1) (by decide) (by omega) _ (k0_off29_eq k) (k0_off30_eq ) (k0_off31_eq k) (fun _ => rfl) (by omega) (fun _ h => h)) $$ H
  iintro %v %h H
  iapply (ring_step c q w ids hid 0 0 (8 * k.val + 2) (by decide) (by omega) _ (k0_off33_eq k) (k0_off34_eq ) (k0_off35_eq k) (fun _ => rfl) (by omega) (fun _ h => h)) $$ H
  iintro %v %h H
  iapply (ring_step c q w ids hid 0 0 (8 * k.val + 3) (by decide) (by omega) _ (k0_off37_eq k) (k0_off38_eq ) (k0_off39_eq k) (fun _ => rfl) (by omega) (fun _ h => h)) $$ H
  iintro %v %h H
  iapply (ring_step c q w ids hid 0 0 (8 * k.val + 4) (by decide) (by omega) _ (k0_off41_eq k) (k0_off42_eq ) (k0_off43_eq k) (fun _ => rfl) (by omega) (fun _ h => h)) $$ H
  iintro %v %h H
  iapply (ring_step c q w ids hid 0 0 (8 * k.val + 5) (by decide) (by omega) _ (k0_off45_eq k) (k0_off46_eq ) (k0_off47_eq k) (fun _ => rfl) (by omega) (fun _ h => h)) $$ H
  iintro %v %h H
  iapply (ring_step c q w ids hid 0 0 (8 * k.val + 6) (by decide) (by omega) _ (k0_off49_eq k) (k0_off50_eq ) (k0_off51_eq k) (fun _ => rfl) (by omega) (fun _ h => h)) $$ H
  iintro %v %h H
  iapply (ring_step c q w ids hid 0 0 (8 * k.val + 7) (by decide) (by omega) _ (k0_off53_eq k) (k0_off54_eq ) (k0_off55_eq k) (fun _ => rfl) (by omega) (fun _ h => h)) $$ H
  iintro %v %h H
  rw [wp_pure]
  imodintro
  iexact H

theorem t3_trip (ids : S12288.Idx → BitVec 32) (hid : ∀ i, (ids i).toNat < 60000) (k : Fin k0_t3_loop.trips) :
    ringIss c q w ids 1 1 (8 * k.val) ⊢ wp frame (wpE defs₀ Variants.none (c : Thread nD τ) none) Set.univ
      (k0_t3_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 k ()) (fun _ => ringIss c q w ids 1 1 (8 * (k.val + 1))) := by
  have hk : k.val < 32 := lt_of_lt_of_eq k.isLt t3_trips
  unfold k0_t3_body
  rw [k0_part5_eq_skeleton, k0_part6_eq_skeleton]
  unfold k0_part5_skel k0_part6_skel smemLoad
  simp only [Prog.bind_assoc, Prog.bind_lift, Prog.bind_ret, Prog.bind_op, smemLoadElt_bind, pure_bind, bind_assoc]
  iintro H
  iapply (ring_step c q w ids hid 1 1 (8 * k.val) (by decide) (by omega) _ (k0_off57_eq k) (k0_off58_eq ) (k0_off59_eq k) (fun _ => rfl) (by omega) (fun _ h => h)) $$ H
  iintro %v %h H
  iapply (ring_step c q w ids hid 1 1 (8 * k.val + 1) (by decide) (by omega) _ (k0_off61_eq k) (k0_off62_eq ) (k0_off63_eq k) (fun _ => rfl) (by omega) (fun _ h => h)) $$ H
  iintro %v %h H
  iapply (ring_step c q w ids hid 1 1 (8 * k.val + 2) (by decide) (by omega) _ (k0_off65_eq k) (k0_off66_eq ) (k0_off67_eq k) (fun _ => rfl) (by omega) (fun _ h => h)) $$ H
  iintro %v %h H
  iapply (ring_step c q w ids hid 1 1 (8 * k.val + 3) (by decide) (by omega) _ (k0_off69_eq k) (k0_off70_eq ) (k0_off71_eq k) (fun _ => rfl) (by omega) (fun _ h => h)) $$ H
  iintro %v %h H
  iapply (ring_step c q w ids hid 1 1 (8 * k.val + 4) (by decide) (by omega) _ (k0_off73_eq k) (k0_off74_eq ) (k0_off75_eq k) (fun _ => rfl) (by omega) (fun _ h => h)) $$ H
  iintro %v %h H
  iapply (ring_step c q w ids hid 1 1 (8 * k.val + 5) (by decide) (by omega) _ (k0_off77_eq k) (k0_off78_eq ) (k0_off79_eq k) (fun _ => rfl) (by omega) (fun _ h => h)) $$ H
  iintro %v %h H
  iapply (ring_step c q w ids hid 1 1 (8 * k.val + 6) (by decide) (by omega) _ (k0_off81_eq k) (k0_off82_eq ) (k0_off83_eq k) (fun _ => rfl) (by omega) (fun _ h => h)) $$ H
  iintro %v %h H
  iapply (ring_step c q w ids hid 1 1 (8 * k.val + 7) (by decide) (by omega) _ (k0_off85_eq k) (k0_off86_eq ) (k0_off87_eq k) (fun _ => rfl) (by omega) (fun _ h => h)) $$ H
  iintro %v %h H
  rw [wp_pure]
  imodintro
  iexact H

theorem t7_trip (ids : S12288.Idx → BitVec 32) (hid : ∀ i, (ids i).toNat < 60000) (a : Fin k0_t4_loop.trips) (b : Fin k0_t6_loop.trips) (x1 x2 x3 x4 : BitVec 32) (h1 : k0_cond1 a b = 1#1) (k : Fin k0_t7_loop.trips) :
    ringIss c q w ids (8 * a.val + b.val + 2) (slotOf (8 * a.val + b.val + 2)) (8 * k.val) ⊢ wp frame (wpE defs₀ Variants.none (c : Thread nD τ) none) Set.univ
      (k0_t7_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 x2 x3 b h1 x4 k ()) (fun _ => ringIss c q w ids (8 * a.val + b.val + 2) (slotOf (8 * a.val + b.val + 2)) (8 * (k.val + 1))) := by
  have hk : k.val < 32 := lt_of_lt_of_eq k.isLt t7_trips
  have hb : 8 * a.val + b.val + 2 < 48 := (cond1_iff a b).mp h1
  unfold k0_t7_body
  rw [k0_part7_eq_skeleton, k0_part8_eq_skeleton]
  unfold k0_part7_skel k0_part8_skel smemLoad
  simp only [Prog.bind_assoc, Prog.bind_lift, Prog.bind_ret, Prog.bind_op, smemLoadElt_bind, pure_bind, bind_assoc]
  iintro H
  iapply (ring_step c q w ids hid (8 * a.val + b.val + 2) (slotOf (8 * a.val + b.val + 2)) (8 * k.val) hb (by omega) _ (k0_off115_eq a b k) (k0_off116_eq a b) (k0_off117_eq a b k) (fun _ => rfl) (by omega) (fun _ h _ => h)) $$ H
  iintro %v %h H
  iapply (ring_step c q w ids hid (8 * a.val + b.val + 2) (slotOf (8 * a.val + b.val + 2)) (8 * k.val + 1) hb (by omega) _ (k0_off119_eq a b k) (k0_off120_eq a b) (k0_off121_eq a b k) (fun _ => rfl) (by omega) (fun _ h _ => h)) $$ H
  iintro %v %h H
  iapply (ring_step c q w ids hid (8 * a.val + b.val + 2) (slotOf (8 * a.val + b.val + 2)) (8 * k.val + 2) hb (by omega) _ (k0_off123_eq a b k) (k0_off124_eq a b) (k0_off125_eq a b k) (fun _ => rfl) (by omega) (fun _ h _ => h)) $$ H
  iintro %v %h H
  iapply (ring_step c q w ids hid (8 * a.val + b.val + 2) (slotOf (8 * a.val + b.val + 2)) (8 * k.val + 3) hb (by omega) _ (k0_off127_eq a b k) (k0_off128_eq a b) (k0_off129_eq a b k) (fun _ => rfl) (by omega) (fun _ h _ => h)) $$ H
  iintro %v %h H
  iapply (ring_step c q w ids hid (8 * a.val + b.val + 2) (slotOf (8 * a.val + b.val + 2)) (8 * k.val + 4) hb (by omega) _ (k0_off131_eq a b k) (k0_off132_eq a b) (k0_off133_eq a b k) (fun _ => rfl) (by omega) (fun _ h _ => h)) $$ H
  iintro %v %h H
  iapply (ring_step c q w ids hid (8 * a.val + b.val + 2) (slotOf (8 * a.val + b.val + 2)) (8 * k.val + 5) hb (by omega) _ (k0_off135_eq a b k) (k0_off136_eq a b) (k0_off137_eq a b k) (fun _ => rfl) (by omega) (fun _ h _ => h)) $$ H
  iintro %v %h H
  iapply (ring_step c q w ids hid (8 * a.val + b.val + 2) (slotOf (8 * a.val + b.val + 2)) (8 * k.val + 6) hb (by omega) _ (k0_off139_eq a b k) (k0_off140_eq a b) (k0_off141_eq a b k) (fun _ => rfl) (by omega) (fun _ h _ => h)) $$ H
  iintro %v %h H
  iapply (ring_step c q w ids hid (8 * a.val + b.val + 2) (slotOf (8 * a.val + b.val + 2)) (8 * k.val + 7) hb (by omega) _ (k0_off143_eq a b k) (k0_off144_eq a b) (k0_off145_eq a b k) (fun _ => rfl) (by omega) (fun _ h _ => h)) $$ H
  iintro %v %h H
  rw [wp_pure]
  imodintro
  iexact H

theorem t9_trip (ids : S768.Idx → BitVec 32) (hid : ∀ i, (ids i).toNat < 60000) (a : Fin k0_t4_loop.trips) (x1 : BitVec 32) (h2 : k0_cond2 a = 1#1) (k : Fin k0_t9_loop.trips) :
    tgtIss c q w ids (a.val + 1) (8 * k.val) ⊢ wp frame (wpE defs₀ Variants.none (c : Thread nD τ) none) Set.univ
      (k0_t9_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a h2 x1 k ()) (fun _ => tgtIss c q w ids (a.val + 1) (8 * (k.val + 1))) := by
  have hk : k.val < 16 := lt_of_lt_of_eq k.isLt t9_trips
  have hb : a.val + 1 < 6 := (cond2_iff a).mp h2
  unfold k0_t9_body
  rw [k0_part27_eq_skeleton, k0_part28_eq_skeleton]
  unfold k0_part27_skel k0_part28_skel smemLoad
  simp only [Prog.bind_assoc, Prog.bind_lift, Prog.bind_ret, Prog.bind_op, smemLoadElt_bind, pure_bind, bind_assoc]
  iintro H
  iapply (tgt_step c q w ids hid (a.val + 1) (8 * k.val) hb (by omega) _ (k0_off224_eq a k) (k0_off225_eq k) (fun _ => rfl) (by omega) (fun _ h _ => h)) $$ H
  iintro %v %h H
  iapply (tgt_step c q w ids hid (a.val + 1) (8 * k.val + 1) hb (by omega) _ (k0_off227_eq a k) (k0_off228_eq k) (fun _ => rfl) (by omega) (fun _ h _ => h)) $$ H
  iintro %v %h H
  iapply (tgt_step c q w ids hid (a.val + 1) (8 * k.val + 2) hb (by omega) _ (k0_off230_eq a k) (k0_off231_eq k) (fun _ => rfl) (by omega) (fun _ h _ => h)) $$ H
  iintro %v %h H
  iapply (tgt_step c q w ids hid (a.val + 1) (8 * k.val + 3) hb (by omega) _ (k0_off233_eq a k) (k0_off234_eq k) (fun _ => rfl) (by omega) (fun _ h _ => h)) $$ H
  iintro %v %h H
  iapply (tgt_step c q w ids hid (a.val + 1) (8 * k.val + 4) hb (by omega) _ (k0_off236_eq a k) (k0_off237_eq k) (fun _ => rfl) (by omega) (fun _ h _ => h)) $$ H
  iintro %v %h H
  iapply (tgt_step c q w ids hid (a.val + 1) (8 * k.val + 5) hb (by omega) _ (k0_off239_eq a k) (k0_off240_eq k) (fun _ => rfl) (by omega) (fun _ h _ => h)) $$ H
  iintro %v %h H
  iapply (tgt_step c q w ids hid (a.val + 1) (8 * k.val + 6) hb (by omega) _ (k0_off242_eq a k) (k0_off243_eq k) (fun _ => rfl) (by omega) (fun _ h _ => h)) $$ H
  iintro %v %h H
  iapply (tgt_step c q w ids hid (a.val + 1) (8 * k.val + 7) hb (by omega) _ (k0_off245_eq a k) (k0_off246_eq k) (fun _ => rfl) (by omega) (fun _ h _ => h)) $$ H
  iintro %v %h H
  rw [wp_pure]
  imodintro
  iexact H

end Cert.KernelIdeal.Hand
-- ==== Proof.ISlots.lean ====
/-
  Hand-written. A slot of the ring and the target buffer between transfers and in flight: a batch of row transfers
  opened over the slot's rows, its waits, and the rows joined again once all have landed.
-/
module

public import proofs.«01_k».proof.Proof.ILoops
public import Idealize.SL.ProofMode.BigOp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (q : PosShare TreeShare) (w : S15000x2880.Idx → Elt F .i32)

theorem slot_biUnion (s : ℕ) : slotSet s = Finset.univ.biUnion fun t : Fin 256 => ringRow s t.val := by
  ext y
  simp only [slotSet, ringRow, Finset.mem_filter, Finset.mem_univ, true_and, Finset.mem_biUnion]
  constructor
  · intro h; exact ⟨y 1, h, rfl⟩
  · rintro ⟨t, h, -⟩; exact h
theorem slot_disj (s : ℕ) : ∀ t ∈ (Finset.univ : Finset (Fin 256)), ∀ t' ∈ (Finset.univ : Finset (Fin 256)), t ≠ t' →
    Disjoint (ringRow s t.val) (ringRow s t'.val) := by
  intro t _ t' _ h
  rw [Finset.disjoint_left]; intro y h1 h2
  simp only [ringRow, Finset.mem_filter, Finset.mem_univ, true_and] at h1 h2
  exact h (Fin.ext (h1.2.symm.trans h2.2))
theorem tgt_biUnion : (Finset.univ : Finset S128x2880.Idx) = Finset.univ.biUnion fun t : Fin 128 => tRow t.val := by
  ext y
  simp only [tRow, Finset.mem_filter, Finset.mem_univ, true_and, Finset.mem_biUnion]
  exact ⟨fun _ => ⟨y 0, rfl⟩, fun _ => trivial⟩
theorem tgt_disj : ∀ t ∈ (Finset.univ : Finset (Fin 128)), ∀ t' ∈ (Finset.univ : Finset (Fin 128)), t ≠ t' →
    Disjoint (tRow t.val) (tRow t'.val) := by
  intro t _ t' _ h
  rw [Finset.disjoint_left]; intro y h1 h2
  simp only [tRow, Finset.mem_filter, Finset.mem_univ, true_and] at h1 h2
  exact h (Fin.ext (h1.symm.trans h2))

/-- A slot at rest: its semaphore at zero, its rows at some contents, its share of the table. -/
def ringFree (s : Fin 3) : sProp 𝕄 :=
  iprop(semVal ((c : Thread nD τ), SemLoc.dma (ringSem s)) 0 ∗ (∃ f, ringPt c (slotSet s.val) f) ∗ wordsPt c q w)
/-- A slot in flight: every row's transfer issued and none waited for, and what is left of its share of the table. -/
def ringFly (id : ℕ → BitVec 32) (s : Fin 3) : sProp 𝕄 :=
  iprop(ringB c q w id s 256 0 ∗ wordsPt c (shareDrop q 256) w)
def tgtFree : sProp 𝕄 :=
  iprop(semVal ((c : Thread nD τ), SemLoc.dma tSem) 0 ∗ (∃ f, tPt c Finset.univ f) ∗ wordsPt c q w)
def tgtFly (id : ℕ → BitVec 32) : sProp 𝕄 :=
  iprop(tgtB c q w id 128 0 ∗ wordsPt c (shareDrop q 128) w)

theorem rows_aux {α : Type} (P : α → sProp (MT nD τ sig Unit (Elt F) ℕ (Pipeline.UD sig nD τ) ℕ)) (f : α) : P f ⊢ (iprop(∃ f, P f) : sProp 𝕄) := by
  iintro H
  iexists f
  iexact H

theorem ring_back (id : ℕ → BitVec 32) (s : ℕ) :
    (bigSep Finset.univ fun t : Fin 256 => ringD c q w id s t)
      ⊢ (iprop(ringPt c (slotSet s) (ringG w id) ∗ bigSep Finset.univ fun t : Fin 256 => wordsPt c (shareTok q 256 t) w) : sProp 𝕄) := by
  unfold ringD
  rw [BI.bigSep_sep']
  unfold ringPt
  rw [slot_biUnion, pointsTo_biUnion _ _ (slot_disj s)]

theorem tgt_back (id : ℕ → BitVec 32) :
    (bigSep Finset.univ fun t : Fin 128 => tgtD c q w id t)
      ⊢ (iprop(tPt c Finset.univ (tgtG w id) ∗ bigSep Finset.univ fun t : Fin 128 => wordsPt c (shareTok q 128 t) w) : sProp 𝕄) := by
  unfold tgtD
  rw [BI.bigSep_sep']
  unfold tPt
  rw [tgt_biUnion, pointsTo_biUnion _ _ tgt_disj]

theorem ring_rows (s : ℕ) (f : S3x256x2880.Idx → Elt F .i32) :
    ringPt c (slotSet s) f ⊢ (bigSep Finset.univ fun t : Fin 256 => iprop(∃ f, ringPt c (ringRow s t.val) f) : sProp 𝕄) := by
  unfold ringPt
  rw [slot_biUnion, pointsTo_biUnion _ _ (slot_disj s)]
  exact BI.bigSep_mono (fun t _ => rows_aux _ f)

theorem tgt_rows (f : S128x2880.Idx → Elt F .i32) :
    tPt c Finset.univ f ⊢ (bigSep Finset.univ fun t : Fin 128 => iprop(∃ f, tPt c (tRow t.val) f) : sProp 𝕄) := by
  unfold tPt
  rw [tgt_biUnion, pointsTo_biUnion _ _ tgt_disj]
  exact BI.bigSep_mono (fun t _ => rows_aux _ f)

theorem ring_open (ids : S12288.Idx → BitVec 32) (ch : ℕ) (s : Fin 3) :
    iprop(ringFree c q w s ∗ idsPt c ids) ⊢ (|={Set.univ}=> iprop(ringIss c q w ids ch s 0 ∗ wordsPt c (shareDrop q 256) w) : sProp 𝕄) := by
  unfold ringFree ringIss
  iintro ⟨⟨Hv, ⟨%f, Hr⟩, Hw⟩, Hs⟩
  imod (batch_alloc' EC (c : Thread nD τ) () rowCredit (ringD c q w (sid ids ch) s.val)) $$ Hv with HB
  ihave Hw := (pointsTo_toks q 256).1 $$ Hw
  icases Hw with ⟨Hw, Ht⟩
  imodintro
  isplitr [Hw]
  · isplitl [HB]; · iexact HB
    isplitr [Hs]
    · rw [Ring.rangeSet_univ]
      rw [BI.bigSep_sep']
      isplitl [Hr]
      · iapply (ring_rows c s.val f) $$ Hr
      · iexact Ht
    · iexact Hs
  · iexact Hw

theorem tgt_open (tids : S768.Idx → BitVec 32) (b : ℕ) :
    iprop(tgtFree c q w ∗ tidsPt c tids) ⊢ (|={Set.univ}=> iprop(tgtIss c q w tids b 0 ∗ wordsPt c (shareDrop q 128) w) : sProp 𝕄) := by
  unfold tgtFree tgtIss
  iintro ⟨⟨Hv, ⟨%f, Hr⟩, Hw⟩, Hs⟩
  imod (batch_alloc' EC (c : Thread nD τ) () rowCredit (tgtD c q w (tid tids b))) $$ Hv with HB
  ihave Hw := (pointsTo_toks q 128).1 $$ Hw
  icases Hw with ⟨Hw, Ht⟩
  imodintro
  isplitr [Hw]
  · isplitl [HB]; · iexact HB
    isplitr [Hs]
    · rw [Ring.rangeSet_univ]
      rw [BI.bigSep_sep']
      isplitl [Hr]
      · iapply (tgt_rows c f) $$ Hr
      · iexact Ht
    · iexact Hs
  · iexact Hw

theorem ring_close (id : ℕ → BitVec 32) (s : Fin 3) :
    iprop(ringB c q w id s 256 (rowCredit * 256) ∗ wordsPt c (shareDrop q 256) w)
      ⊢ (|={Set.univ}=> iprop(semVal ((c : Thread nD τ), SemLoc.dma (ringSem s)) 0 ∗ ringPt c (slotSet s.val) (ringG w id) ∗ wordsPt c q w) : sProp 𝕄) := by
  iintro ⟨HB, Hw⟩
  imod (batch_collect' EC (c : Thread nD τ) rowCredit_pos) $$ HB with ⟨HD, Hv⟩
  imodintro
  isplitl [Hv]; · iexact Hv
  ihave HD := (ring_back c q w id s.val) $$ HD
  icases HD with ⟨HD, Ht⟩
  isplitl [HD]; · iexact HD
  · iapply (pointsTo_toks q 256).2
    isplitl [Hw]; · iexact Hw
    iexact Ht

theorem tgt_close (id : ℕ → BitVec 32) :
    iprop(tgtB c q w id 128 (rowCredit * 128) ∗ wordsPt c (shareDrop q 128) w)
      ⊢ (|={Set.univ}=> iprop(semVal ((c : Thread nD τ), SemLoc.dma tSem) 0 ∗ tPt c Finset.univ (tgtG w id) ∗ wordsPt c q w) : sProp 𝕄) := by
  iintro ⟨HB, Hw⟩
  imod (batch_collect' EC (c : Thread nD τ) rowCredit_pos) $$ HB with ⟨HD, Hv⟩
  imodintro
  isplitl [Hv]; · iexact Hv
  ihave HD := (tgt_back c q w id) $$ HD
  icases HD with ⟨HD, Ht⟩
  isplitl [HD]; · iexact HD
  · iapply (pointsTo_toks q 128).2
    isplitl [Hw]; · iexact Hw
    iexact Ht

theorem t8_trips : k0_t8_loop.trips = 256 := by decide +kernel
theorem t5_trips : k0_t5_loop.trips = 128 := by decide +kernel

/-- The waits of a slot: `k` of its 256 rows waited for. -/
def ringWait (id : ℕ → BitVec 32) (s : Fin 3) (k : ℕ) : sProp 𝕄 :=
  iprop(ringB c q w id s 256 (rowCredit * k) ∗ ∃ W, owes (c : Thread nD τ) 0 W)
def tgtWait (id : ℕ → BitVec 32) (k : ℕ) : sProp 𝕄 :=
  iprop(tgtB c q w id 128 (rowCredit * k) ∗ ∃ W, owes (c : Thread nD τ) 0 W)

theorem t8_trip (id : ℕ → BitVec 32) (a : Fin k0_t4_loop.trips) (b : Fin k0_t6_loop.trips) (x1 x2 x3 : BitVec 32) (k : Fin k0_t8_loop.trips) :
    ringWait c q w id (slotOf (8 * a.val + b.val)) k.val ⊢ wp frame (wpE defs₀ Variants.none (c : Thread nD τ) none) Set.univ
      (k0_t8_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 x2 x3 b k ()) (fun _ => ringWait c q w id (slotOf (8 * a.val + b.val)) (k.val + 1)) := by
  have hk : k.val < 256 := lt_of_lt_of_eq k.isLt t8_trips
  unfold k0_t8_body ringWait
  simp only [Prog.bind_assoc, Prog.bind_lift, Prog.bind_ret, Prog.bind_op, pure_bind, bind_assoc]
  unfold ringB
  rw [← ringSem_eq (slotOf (8 * a.val + b.val)) (k0_off147_eq a b) (k0_off147_inb a b)]
  iintro ⟨HB, ⟨%W, HO⟩⟩
  iapply (wp_waitBatchMul EC Variants.none (c : Thread nD τ) none (N := rowCredit) (D := ringD c q w id (slotOf (8 * a.val + b.val)).val) (j := 256) (u := rowCredit * k.val) () 1 ((ring_credit).trans (Nat.one_mul _).symm)
    (by rw [Nat.one_mul, ← Nat.mul_succ]; exact Nat.mul_le_mul_left _ hk)) $$ [HB HO]
  · isplitl [HB]; · iexact HB
    iexact HO
  iintro ⟨HB, HO⟩
  rw [wp_pure]
  imodintro
  isplitl [HB]
  · rw [Nat.one_mul, ← Nat.mul_succ]; iexact HB
  · iexists _; iexact HO

theorem t5_trip (id : ℕ → BitVec 32) (a : Fin k0_t4_loop.trips) (x1 x2 : BitVec 32) (k : Fin k0_t5_loop.trips) :
    tgtWait c q w id k.val ⊢ wp frame (wpE defs₀ Variants.none (c : Thread nD τ) none) Set.univ
      (k0_t5_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 x1 x2 a k ()) (fun _ => tgtWait c q w id (k.val + 1)) := by
  have hk : k.val < 128 := lt_of_lt_of_eq k.isLt t5_trips
  unfold k0_t5_body tgtWait
  simp only [Prog.bind_assoc, Prog.bind_lift, Prog.bind_ret, Prog.bind_op, pure_bind, bind_assoc]
  unfold tgtB
  rw [← tSem_eq]
  iintro ⟨HB, ⟨%W, HO⟩⟩
  iapply (wp_waitBatchMul EC Variants.none (c : Thread nD τ) none (N := rowCredit) (D := tgtD c q w id) (j := 128) (u := rowCredit * k.val) () 1 ((tgt_credit).trans (Nat.one_mul _).symm)
    (by rw [Nat.one_mul, ← Nat.mul_succ]; exact Nat.mul_le_mul_left _ hk)) $$ [HB HO]
  · isplitl [HB]; · iexact HB
    iexact HO
  iintro ⟨HB, HO⟩
  rw [wp_pure]
  imodintro
  isplitl [HB]
  · rw [Nat.one_mul, ← Nat.mul_succ]; iexact HB
  · iexists _; iexact HO

end Cert.KernelIdeal.Hand
-- ==== Proof.ISpec.lean ====
/-
  Hand-written. The contents of every buffer of the kernel, as functions of the kernel's inputs: what each store
  writes and what each load reads, in the payloads' own terms.
-/
module

public import proofs.«01_k».proof.Proof.ISlots
public import proofs.«01_k».proof.Proof.Known
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx Cert.Dma

/-- Indices by natural coordinates, each taken modulo its extent. -/
abbrev i2 {n0 n1 : ℕ} [NeZero n0] [NeZero n1] (a b : ℕ) : (⟨2, ![n0, n1]⟩ : Shape).Idx := ix2 (Fin.ofNat n0 a) (Fin.ofNat n1 b)
abbrev i3 {n0 n1 n2 : ℕ} [NeZero n0] [NeZero n1] [NeZero n2] (a b d : ℕ) : (⟨3, ![n0, n1, n2]⟩ : Shape).Idx :=
  ix3 (Fin.ofNat n0 a) (Fin.ofNat n1 b) (Fin.ofNat n2 d)

theorem emb2 {n0 n1 m0 m1 : ℕ} [NeZero n0] [NeZero n1] {off : Fin 2 → ℕ} {R C : ℕ} (e : off = ![R, C])
    (inb : ∀ a, off a + (![m0, m1] : Fin 2 → ℕ) a ≤ (⟨2, ![n0, n1]⟩ : Shape).size a) (x : (⟨2, ![m0, m1]⟩ : Shape).Idx) :
    (Rect.unit (s := ⟨2, ![n0, n1]⟩) off ![m0, m1] inb).emb x = i2 (R + (x 0).val) (C + (x 1).val) := by
  subst e
  have h0 : (x 0).val < m0 := (x 0).isLt
  have h1 : (x 1).val < m1 := (x 1).isLt
  have b0 : R + m0 ≤ n0 := inb 0
  have b1 : C + m1 ≤ n1 := inb 1
  funext a
  match a with
  | ⟨0, _⟩ => exact Fin.ext (by show R + 1 * (x 0).val = (R + (x 0).val) % n0; rw [Nat.mod_eq_of_lt (by omega)]; omega)
  | ⟨1, _⟩ => exact Fin.ext (by show C + 1 * (x 1).val = (C + (x 1).val) % n1; rw [Nat.mod_eq_of_lt (by omega)]; omega)

theorem emb3 {n0 n1 n2 m0 m1 m2 : ℕ} [NeZero n0] [NeZero n1] [NeZero n2] {off : Fin 3 → ℕ} {R C D : ℕ} (e : off = ![R, C, D])
    (inb : ∀ a, off a + (![m0, m1, m2] : Fin 3 → ℕ) a ≤ (⟨3, ![n0, n1, n2]⟩ : Shape).size a) (x : (⟨3, ![m0, m1, m2]⟩ : Shape).Idx) :
    (Rect.unit (s := ⟨3, ![n0, n1, n2]⟩) off ![m0, m1, m2] inb).emb x = i3 (R + (x 0).val) (C + (x 1).val) (D + (x 2).val) := by
  subst e
  have h0 : (x 0).val < m0 := (x 0).isLt
  have h1 : (x 1).val < m1 := (x 1).isLt
  have h2 : (x 2).val < m2 := (x 2).isLt
  have b0 : R + m0 ≤ n0 := inb 0
  have b1 : C + m1 ≤ n1 := inb 1
  have b2 : D + m2 ≤ n2 := inb 2
  funext a
  match a with
  | ⟨0, _⟩ => exact Fin.ext (by show R + 1 * (x 0).val = (R + (x 0).val) % n0; rw [Nat.mod_eq_of_lt (by omega)]; omega)
  | ⟨1, _⟩ => exact Fin.ext (by show C + 1 * (x 1).val = (C + (x 1).val) % n1; rw [Nat.mod_eq_of_lt (by omega)]; omega)
  | ⟨2, _⟩ => exact Fin.ext (by show D + 1 * (x 2).val = (D + (x 2).val) % n2; rw [Nat.mod_eq_of_lt (by omega)]; omega)

/-- What the kernel reads: the packed table, the ids and targets (as scalars and as rows), the hidden states, the
    padded scale and log-probability tables, the cotangents. -/
structure Ins (F : FTy → Type) where
  w : S15000x2880.Idx → Elt F .i32
  ids : S12288.Idx → BitVec 32
  tids : S768.Idx → BitVec 32
  idv : S96x1x128.Idx → Elt F .i32
  tgv : S6x1x128.Idx → Elt F .i32
  x : S768x2880.Idx → Elt F .bf16
  tsc : S512x128.Idx → Elt F .f32
  tlq : S512x128.Idx → Elt F .f32
  g : S6x1x128.Idx → Elt F .f32

variable (A : Ins F)

/-- The lane numbers. -/
abbrev iot : IVec S128x128 32 := iota .tc S128x128 32 [1] iota_S128x128_d1_w32

/-- Row `n` of the sampled ids, row `a` of the targets and of the cotangents. -/
def idRow (n : ℕ) : S1x1x128.Idx → Elt F .i32 := fun i => A.idv (i3 n 0 (i 2).val)
def tgRow (a : ℕ) : S1x1x128.Idx → Elt F .i32 := fun i => A.tgv (i3 a 0 (i 2).val)
def gRow (a : ℕ) : S1x1x128.Idx → Elt F .f32 := fun i => A.g (i3 a 0 (i 2).val)

/-- Tiles of the ring's slot of chunk `n`, of the target buffer, and of the hidden states of batch `a`. -/
def ringT {m0 m1 : ℕ} (n R C : ℕ) : (⟨3, ![1, m0, m1]⟩ : Shape).Idx → Elt F .i32 :=
  fun i => ringG A.w (sid A.ids n) (i3 0 (R + (i 1).val) (C + (i 2).val))
def tgtT {m0 m1 : ℕ} (a C : ℕ) : (⟨2, ![m0, m1]⟩ : Shape).Idx → Elt F .i32 :=
  fun i => tgtG A.w (tid A.tids a) (i2 (i 0).val (C + (i 1).val))
def xT {m0 m1 : ℕ} (a C : ℕ) : (⟨2, ![m0, m1]⟩ : Shape).Idx → Elt F .bf16 :=
  fun i => A.x (i2 (128 * a + (i 0).val) (C + (i 1).val))

/-- The sampled codes of batch `a`, unpacked, and their tiles. -/
def CBn (a r col : ℕ) : Elt F .bf16 :=
  k0_pay11 (k0_pay8 (F := F) (idRow A (16 * a + r / 128)))
    (fun _ => ringG A.w (sid A.ids (8 * a + r / 256)) (i3 0 (r % 256) col)) (i2 (r % 128) 0)
def CB (a : ℕ) : S2048x2880.Idx → Elt F .bf16 := fun y => CBn A a (y 0).val (y 1).val
def cbT {m0 m1 : ℕ} (a R C : ℕ) : (⟨2, ![m0, m1]⟩ : Shape).Idx → Elt F .bf16 :=
  fun i => CBn A a (R + (i 0).val) (C + (i 1).val)

/-- The table of scales and log-probabilities in three pieces each. -/
def TP : S512x768.Idx → Elt F .bf16 := fun y =>
  let j : S512x128.Idx := i2 (y 0).val ((y 1).val % 128)
  if (y 1).val < 128 then k0_pay163 A.tsc j
  else if (y 1).val < 256 then k0_pay1 (k0_pay154 A.tsc) j
  else if (y 1).val < 384 then k0_pay2 (k0_pay155 A.tsc) j
  else if (y 1).val < 512 then k0_pay3 (k0_pay160 A.tlq) j
  else if (y 1).val < 640 then k0_pay4 (k0_pay161 A.tlq) j
  else k0_pay5 (k0_pay162 A.tlq) j

/-- The scales and the logits of block `j` of batch `a`. -/
def scN (a j : ℕ) : S128x128.Idx → Elt F .f32 :=
  let d := k0_pay7 (F := F) (idRow A (16 * a + j))
  k0_pay46 iot d (k0_pay37 iot d) (k0_pay38 iot d) (k0_pay39 iot d) (k0_pay40 iot d) k0_pay41 k0_pay42 (TP A)
def zN (a j : ℕ) : S128x128.Idx → Elt F .f32 :=
  let d := k0_pay7 (F := F) (idRow A (16 * a + j))
  k0_pay48 (k0_pay47 iot (k0_pay85 (F := F) (tgRow A a)) d (k0_pay37 iot d) (k0_pay38 iot d) (k0_pay39 iot d) (k0_pay40 iot d) k0_pay41 k0_pay42 (TP A)
    (cbT A a (128 * j) 0) (xT A a 0))
def SC (a : ℕ) : S2048x128.Idx → Elt F .f32 := fun y => scN A a ((y 0).val / 128) (i2 ((y 0).val % 128) (y 1).val)
def ZZ (a : ℕ) : S2048x128.Idx → Elt F .f32 := fun y => zN A a ((y 0).val / 128) (i2 ((y 0).val % 128) (y 1).val)

/-- The targets' row, shifts and table look-ups of batch `a`, and the targets' dots, chunk by chunk. -/
def tcol (a : ℕ) : IVec S128x128 32 := k0_pay86 (F := F) (tgRow A a)
def tsh (a : ℕ) : IVec S128x128 32 := k0_pay87 (F := F) (tgRow A a)
def acc0 (a : ℕ) : FVec F S128x128 .f32 := k0_pay88 (tgRow A a) (tgtT A a 0) (xT A a 0) (tgtT A a 128) (xT A a 128)
def acc1 (a : ℕ) : FVec F S128x128 .f32 := k0_pay89 (tsh A a) (acc0 A a) (tgtT A a 256) (xT A a 256) (tgtT A a 384) (xT A a 384) (tgtT A a 512) (xT A a 512) (tgtT A a 640) (xT A a 640)
def acc2 (a : ℕ) : FVec F S128x128 .f32 := k0_pay90 (tsh A a) (acc1 A a) (tgtT A a 768) (xT A a 768) (tgtT A a 896) (xT A a 896) (tgtT A a 1024) (xT A a 1024) (tgtT A a 1152) (xT A a 1152)
def acc3 (a : ℕ) : FVec F S128x128 .f32 := k0_pay91 (tsh A a) (acc2 A a) (tgtT A a 1280) (xT A a 1280) (tgtT A a 1408) (xT A a 1408) (tgtT A a 1536) (xT A a 1536) (tgtT A a 1664) (xT A a 1664)
def acc4 (a : ℕ) : FVec F S128x128 .f32 := k0_pay92 (tsh A a) (acc3 A a) (tgtT A a 1792) (xT A a 1792) (tgtT A a 1920) (xT A a 1920) (tgtT A a 2048) (xT A a 2048) (tgtT A a 2176) (xT A a 2176)
def acc5 (a : ℕ) : FVec F S128x128 .f32 := k0_pay93 (tsh A a) (acc4 A a) (tgtT A a 2304) (xT A a 2304) (tgtT A a 2432) (xT A a 2432) (tgtT A a 2560) (xT A a 2560) (tgtT A a 2688) (xT A a 2688)
def acc6 (a : ℕ) : FVec F S128x128 .f32 := k0_pay94 (tsh A a) (acc5 A a) (tgtT A a 2816) (xT A a 2816)
def hot (a : ℕ) : FVec F S128x512 .bf16 := k0_pay95 (F := F) iot (tcol A a)

/-- Batch `a`'s target scale, target logit, and the softmax's maximum and correction. -/
def tscale (a : ℕ) : FVec F S128x1 .f32 := k0_pay98 iot (tcol A a) (hot A a) (TP A)
def zt (a : ℕ) : FVec F S1x128 .f32 := k0_pay99 iot (tcol A a) (acc6 A a) (hot A a) (TP A)
def v396 (a : ℕ) : FVec F S1x128 .f32 := k0_pay101 (ZZ A a)
def v397 (a : ℕ) : FVec F S1x128 .f32 := k0_pay102 iot (tcol A a) (acc6 A a) (hot A a) (TP A) (ZZ A a)

/-- What batch `a` writes: the loss, the target's and the samples' gradient, and the hidden states' gradient. -/
def lossN (a : ℕ) : S1x1x128.Idx → Elt F .f32 := k0_pay106 (zt A a) (v396 A a) (v397 A a)
def dztN (a : ℕ) : S1x1x128.Idx → Elt F .f32 := k0_pay107 (zt A a) (v396 A a) (v397 A a) (gRow A a)
def dzN (a : ℕ) : S2048x128.Idx → Elt F .f32 := k0_pay108 (zt A a) (ZZ A a) (v396 A a) (v397 A a) (gRow A a)
def dzs (a : ℕ) : FVec F S128x2048 .bf16 := k0_pay109 (zt A a) (ZZ A a) (v396 A a) (v397 A a) (gRow A a) (SC A a)
def coef (a : ℕ) : FVec F S128x128 .f32 := k0_pay110 (tscale A a) (zt A a) (v396 A a) (v397 A a) (gRow A a)
def dhA (a C : ℕ) : S128x128.Idx → Elt F .bf16 := k0_pay112 (tsh A a) (dzs A a) (coef A a) (cbT A a 0 C) (tgtT A a C)
def dhB (a C : ℕ) : S128x128.Idx → Elt F .bf16 := k0_pay113 (tsh A a) (dzs A a) (coef A a) (cbT A a 0 C) (tgtT A a (C + 128))
def dhC (a : ℕ) : S128x64.Idx → Elt F .bf16 := k0_pay6 (k0_pay148 (dzs A a) (cbT A a 0 2816)) (k0_pay149 (tsh A a) (coef A a) (tgtT A a 2816))

def LOSS : S6x1x128.Idx → Elt F .f32 := fun y => lossN A (y 0).val (i3 0 0 (y 2).val)
def DZT : S6x1x128.Idx → Elt F .f32 := fun y => dztN A (y 0).val (i3 0 0 (y 2).val)
def DZ : S12288x128.Idx → Elt F .f32 := fun y => dzN A ((y 0).val / 2048) (i2 ((y 0).val % 2048) (y 1).val)
def DH : S768x2880.Idx → Elt F .bf16 := fun y =>
  if (y 1).val < 2816 then
    if (y 1).val % 256 < 128 then dhA A ((y 0).val / 128) (256 * ((y 1).val / 256)) (i2 ((y 0).val % 128) ((y 1).val % 256))
    else dhB A ((y 0).val / 128) (256 * ((y 1).val / 256)) (i2 ((y 0).val % 128) ((y 1).val % 256 - 128))
  else dhC A ((y 0).val / 128) (i2 ((y 0).val % 128) ((y 1).val - 2816))

/-! ## The unpacked tiles -/

theorem pay8_apply (v : S1x1x128.Idx → Elt F .i32) (i j : Fin 128) : k0_pay7 (F := F) v (ix2 i j) = v (ix3 0 0 i) := by
  unfold k0_pay7
  simp only [shapeCast_self]
  rw [transpose_ix2_apply, broadcastTo_1b_ab_apply, shapeCast_1ab_ab_apply]

theorem pay12_apply (S : IVec S128x128 32) (V : S1x128x128.Idx → Elt F .i32) (i j : Fin 128) :
    k0_pay11 (F := F) S V (ix2 i j)
      = FloatOps.truncf .bf16 bitsLt_bf16_f32 (FloatOps.sitofp .f32 (IntOp.shrsi .vector (IntOp.shli .vector (V (ix3 0 i j)) (S (ix2 i j))) 24#32)) := by
  unfold k0_pay11
  simp only [shapeCast_self]
  simp only [truncf, sitofp, shrsi, shli, broadcast]
  rw [shapeCast_1ab_ab_apply]

theorem pay36_apply (S : IVec S128x128 32) (V : S1x128x64.Idx → Elt F .i32) (i : Fin 128) (j : Fin 64) :
    k0_pay35 (F := F) S V (ix2 i j)
      = FloatOps.truncf .bf16 bitsLt_bf16_f32 (FloatOps.sitofp .f32 (IntOp.shrsi .vector (IntOp.shli .vector (V (ix3 0 i j)) (S (ix2 i ⟨j.val, by omega⟩))) 24#32)) := by
  unfold k0_pay35
  simp only [shapeCast_self]
  simp only [truncf, sitofp, shrsi, shli, broadcast]
  rw [shapeCast_1ab_ab_apply]
  congr 4
  unfold extractStridedSlice
  congr 1
  funext a
  match a with
  | ⟨0, _⟩ => exact Fin.ext (Nat.zero_add _)
  | ⟨1, _⟩ => exact Fin.ext (Nat.zero_add _)

theorem pay9_apply (v : S1x1x128.Idx → Elt F .i32) (i j j' : Fin 128) : k0_pay8 (F := F) v (ix2 i j) = k0_pay8 (F := F) v (ix2 i j') := by
  unfold k0_pay8
  simp only [subi, muli, andi, broadcast]
  rw [pay8_apply, pay8_apply]

theorem cb_tile_core (a b h C : ℕ) (hh : h < 2) (i j : Fin 128) :
    k0_pay11 (k0_pay8 (F := F) (idRow A (16 * a + 2 * b + h))) (ringT A (8 * a + b) (128 * h) C) (ix2 i j)
      = CBn A a (256 * b + 128 * h + i.val) (C + j.val) := by
  have h0 : i.val < 128 := i.isLt
  unfold CBn
  rw [pay12_apply, pay12_apply]
  have q1 : (256 * b + 128 * h + i.val) / 128 = 2 * b + h := by omega
  have q2 : (256 * b + 128 * h + i.val) / 256 = b := by omega
  have q3 : (256 * b + 128 * h + i.val) % 256 = 128 * h + i.val := by omega
  have q4 : (256 * b + 128 * h + i.val) % 128 = i.val := by omega
  rw [q1, q2, q3, q4, ← Nat.add_assoc]
  have q5 : Fin.ofNat 128 i.val = i := Fin.ext (Nat.mod_eq_of_lt h0)
  rw [q5, pay9_apply _ i (Fin.ofNat 128 0) j]
  rfl

theorem cb_tile64_core (a b h : ℕ) (hh : h < 2) (i : Fin 128) (j : Fin 64) :
    k0_pay35 (k0_pay8 (F := F) (idRow A (16 * a + 2 * b + h))) (ringT A (8 * a + b) (128 * h) 2816) (ix2 i j)
      = CBn A a (256 * b + 128 * h + i.val) (2816 + j.val) := by
  have h := cb_tile_core A a b h 2816 hh i ⟨j.val, by omega⟩
  rw [pay12_apply] at h
  rw [pay36_apply]
  exact h

theorem i2_val {n0 n1 : ℕ} [NeZero n0] [NeZero n1] {a b : ℕ} (ha : a < n0) (hb : b < n1) :
    ((i2 (n0 := n0) (n1 := n1) a b) 0).val = a ∧ ((i2 (n0 := n0) (n1 := n1) a b) 1).val = b :=
  ⟨Nat.mod_eq_of_lt ha, Nat.mod_eq_of_lt hb⟩

theorem CB_i2 (a r col : ℕ) (hr : r < 2048) (hc : col < 2880) : CB A a (i2 r col) = CBn A a r col := by
  have h := i2_val (n0 := 2048) (n1 := 2880) hr hc
  unfold CB
  rw [h.1, h.2]

/-- A tile unpacked from the ring's slot is the unpacked codes' tile. -/
theorem cb_tile (a b h C : ℕ) (hb : b < 8) (hh : h < 2) (hC : C + 128 ≤ 2880) (x : S128x128.Idx) :
    k0_pay11 (k0_pay8 (F := F) (idRow A (16 * a + 2 * b + h))) (ringT A (8 * a + b) (128 * h) C) x
      = CB A a (i2 (256 * b + 128 * h + (x 0).val) (C + (x 1).val)) := by
  have h0 : (x 0).val < 128 := (x 0).isLt
  have h1 : (x 1).val < 128 := (x 1).isLt
  rw [CB_i2 A a _ _ (by omega) (by omega)]
  exact (congrArg _ (eq_ix2 x)).trans (cb_tile_core A a b h C hh (x 0) (x 1))

theorem cb_tile64 (a b h : ℕ) (hb : b < 8) (hh : h < 2) (x : S128x64.Idx) :
    k0_pay35 (k0_pay8 (F := F) (idRow A (16 * a + 2 * b + h))) (ringT A (8 * a + b) (128 * h) 2816) x
      = CB A a (i2 (256 * b + 128 * h + (x 0).val) (2816 + (x 1).val)) := by
  have h0 : (x 0).val < 128 := (x 0).isLt
  have h1 : (x 1).val < 64 := (x 1).isLt
  rw [CB_i2 A a _ _ (by omega) (by omega)]
  exact (congrArg _ (eq_ix2 x)).trans (cb_tile64_core A a b h hh (x 0) (x 1))

end Cert.KernelIdeal.Hand
-- ==== Proof.ISteps.lean ====
/-
  Hand-written. One step of the kernel on each of its buffers: what a load reads and what a store adds.
-/
module

public import proofs.«01_k».proof.Proof.ISpec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx Cert.Dma

variable (c : Dev nD) (A : Ins F)

abbrev mIdv : Memref sig .tc .vmem S96x1x128 .i32 := Memref.whole cc0_stg2_0
abbrev mTgv : Memref sig .tc .vmem S6x1x128 .i32 := Memref.whole cc0_stg3_0
abbrev mX : Memref sig .tc .vmem S768x2880 .bf16 := Memref.whole cc0_stg4_0
abbrev mG : Memref sig .tc .vmem S6x1x128 .f32 := Memref.whole cc0_stg7_0
abbrev mCB : Memref sig .tc .vmem S2048x2880 .bf16 := Memref.whole cc0_scratch2
abbrev mZ : Memref sig .tc .vmem S2048x128 .f32 := Memref.whole cc0_scratch3
abbrev mSC : Memref sig .tc .vmem S2048x128 .f32 := Memref.whole cc0_scratch4
abbrev mTP : Memref sig .tc .vmem S512x768 .bf16 := Memref.whole cc0_scratch5

/-- Row by row, and column by column in the row block under way, what is done of a matrix. -/
def upTo {n0 n1 : ℕ} (H R C : ℕ) : (⟨2, ![n0, n1]⟩ : Shape).Idx → Prop :=
  fun y => (y 0).val < R ∨ ((y 0).val < R + H ∧ (y 1).val < C)

abbrev kRing (n : ℕ) : sProp 𝕄 := Known (c : Thread nD τ) mRing (slotSet (n % 3)) fullShare (ringG A.w (sid A.ids n)) (fun _ => True)
abbrev kIdv (q : PosShare TreeShare) : sProp 𝕄 := Known (c : Thread nD τ) mIdv Finset.univ q A.idv (fun _ => True)
abbrev kX (q : PosShare TreeShare) : sProp 𝕄 := Known (c : Thread nD τ) mX Finset.univ q A.x (fun _ => True)
abbrev kTP : sProp 𝕄 := Known (c : Thread nD τ) mTP Finset.univ fullShare (TP A) (upTo 512 0 768)
abbrev kZ (a R C : ℕ) : sProp 𝕄 := Known (c : Thread nD τ) mZ Finset.univ fullShare (ZZ A a) (upTo 128 R C)
abbrev kSC (a R C : ℕ) : sProp 𝕄 := Known (c : Thread nD τ) mSC Finset.univ fullShare (SC A a) (upTo 128 R C)
abbrev kCB (a R C : ℕ) : sProp 𝕄 := Known (c : Thread nD τ) mCB Finset.univ fullShare (CB A a) (upTo 128 R C)

variable {α : Type} {Q : α → sProp (MT nD τ sig Unit (Elt F) ℕ (Pipeline.UD sig nD τ) ℕ)}

theorem upTo_step {n0 n1 m0 m1 : ℕ} {off : Fin 2 → ℕ} {R C : ℕ} (e : off = ![R, C])
    (inb : ∀ a, off a + (![m0, m1] : Fin 2 → ℕ) a ≤ (⟨2, ![n0, n1]⟩ : Shape).size a) (y : (⟨2, ![n0, n1]⟩ : Shape).Idx)
    (h : upTo m0 R (C + m1) y) : upTo m0 R C y ∨ y ∈ (Rect.unit (s := ⟨2, ![n0, n1]⟩) off ![m0, m1] inb).set := by
  subst e
  rw [Rect.mem_set_unit]
  unfold upTo at h ⊢
  by_cases h0 : (y 0).val < R
  · exact .inl (.inl h0)
  by_cases h1 : (y 1).val < C
  · exact .inl (.inr ⟨by omega, h1⟩)
  refine .inr fun a => ?_
  match a with
  | ⟨0, _⟩ => exact ⟨by show R ≤ (y 0).val; omega, by show (y 0).val < R + m0; omega⟩
  | ⟨1, _⟩ => exact ⟨by show C ≤ (y 1).val; omega, by show (y 1).val < C + m1; omega⟩

theorem ring_sub {m1 : ℕ} {off : Fin 3 → ℕ} {n R C : ℕ} (e : off = ![n, R, C])
    (inb : ∀ a, off a + (![1, 128, m1] : Fin 3 → ℕ) a ≤ S3x256x2880.size a) :
    (mRing.access (Rect.unit (s := S3x256x2880) off ![1, 128, m1] inb)).set ⊆ slotSet n := by
  subst e
  show ((View.whole cc0_scratch0).slice (Rect.unit (s := S3x256x2880) ![n, R, C] ![1, 128, m1] inb)).set ⊆ _
  rw [View.set_slice_whole]
  intro y hy
  have hy := (Rect.mem_set_unit.mp hy) 0
  have h1 : n ≤ (y 0).val := hy.1
  have h2 : (y 0).val < n + 1 := hy.2
  simp only [slotSet, Finset.mem_filter, Finset.mem_univ, true_and]
  omega

/-- A tile of the ring's slot of chunk `n` read. -/
theorem ring_ld (n R C : ℕ) {off : Fin 3 → ℕ} [h : ClosedOff off] (e : h.form = ![n % 3, R, C]) {inb : ∀ a, off a + S1x128x128.size a ≤ S3x256x2880.size a}
    {hl} {k : _ → Prog (TpuEff nD τ sig (Elt F) Λ₀ .tc) α} :
    kRing c A n ⊢ iprop((kRing c A n -∗ wp frame (wpE defs₀ Variants.none (c : Thread nD τ) none) Set.univ (k (ringT A n R C)) Q)
      -∗ wp frame (wpE defs₀ Variants.none (c : Thread nD τ) none) Set.univ (.op (.load mRing (Rect.unit (s := S3x256x2880) off S1x128x128.size inb).toLoadRect hl) k) Q) := by
  have e' := h.eq.trans e
  refine wp_known_load_eq Variants.none (c : Thread nD τ) none Set.univ (m := mRing) (hl := hl) (k := k) (ringT A n R C) (ring_sub e' inb) (fun _ => trivial) fun x => ?_
  exact (congrArg (ringG A.w (sid A.ids n)) (emb3 e' inb x)).trans rfl

/-- The last, half-wide tile of the ring's slot of chunk `n` read. -/
theorem ring_ld64 (n R C : ℕ) {off : Fin 3 → ℕ} [h : ClosedOff off] (e : h.form = ![n % 3, R, C]) {inb : ∀ a, off a + S1x128x64.size a ≤ S3x256x2880.size a}
    {hl} {k : _ → Prog (TpuEff nD τ sig (Elt F) Λ₀ .tc) α} :
    kRing c A n ⊢ iprop((kRing c A n -∗ wp frame (wpE defs₀ Variants.none (c : Thread nD τ) none) Set.univ (k (ringT A n R C)) Q)
      -∗ wp frame (wpE defs₀ Variants.none (c : Thread nD τ) none) Set.univ (.op (.load mRing (Rect.unit (s := S3x256x2880) off S1x128x64.size inb).toLoadRect hl) k) Q) := by
  have e' := h.eq.trans e
  refine wp_known_load_eq Variants.none (c : Thread nD τ) none Set.univ (m := mRing) (hl := hl) (k := k) (ringT A n R C) (ring_sub e' inb) (fun _ => trivial) fun x => ?_
  exact (congrArg (ringG A.w (sid A.ids n)) (emb3 e' inb x)).trans rfl

/-- A tile of the table values written. -/
theorem cb_put (a R C : ℕ) {off : Fin 2 → ℕ} [h : ClosedOff off] (e : h.form = ![R, C]) {inb : ∀ a, off a + S128x128.size a ≤ S2048x2880.size a}
    {hl hx hm} {w : S128x128.Idx → Elt F .bf16} {k : _ → Prog (TpuEff nD τ sig (Elt F) Λ₀ .tc) α} :
    kCB c A a R C ⊢ iprop(⌜∀ x, w x = CB A a (i2 (R + (x 0).val) (C + (x 1).val))⌝ -∗ (kCB c A a R (C + 128) -∗ wp frame (wpE defs₀ Variants.none (c : Thread nD τ) none) Set.univ (k ⟨⟩) Q)
      -∗ wp frame (wpE defs₀ Variants.none (c : Thread nD τ) none) Set.univ (.op (.load mCB (Rect.unit (s := S2048x2880) off S128x128.size inb).toLoadRect hl) fun _ =>
        .op (.store mCB (Rect.unit (s := S2048x2880) off S128x128.size inb) w Finset.univ hx hm) k) Q) := by
  have e' := h.eq.trans e
  iintro H %hw
  iapply (wp_known_put Variants.none (c : Thread nD τ) none Set.univ (m := mCB) (hl := hl) (hx := hx) (hm := hm) (w := w) (k := k) (upTo 128 R (C + 128)) (upTo_step e' inb)) $$ H
  ipureintro
  exact fun x => (hw x).trans (congrArg _ (emb2 e' inb x).symm)

/-- The last, half-wide tile of a row block of the table values written. -/
theorem cb_put64 (a R C : ℕ) {off : Fin 2 → ℕ} [h : ClosedOff off] (e : h.form = ![R, C]) {inb : ∀ a, off a + S128x64.size a ≤ S2048x2880.size a}
    {hl hx hm} {w : S128x64.Idx → Elt F .bf16} {k : _ → Prog (TpuEff nD τ sig (Elt F) Λ₀ .tc) α} :
    kCB c A a R C ⊢ iprop(⌜∀ x, w x = CB A a (i2 (R + (x 0).val) (C + (x 1).val))⌝ -∗ (kCB c A a R (C + 64) -∗ wp frame (wpE defs₀ Variants.none (c : Thread nD τ) none) Set.univ (k ⟨⟩) Q)
      -∗ wp frame (wpE defs₀ Variants.none (c : Thread nD τ) none) Set.univ (.op (.load mCB (Rect.unit (s := S2048x2880) off S128x64.size inb).toLoadRect hl) fun _ =>
        .op (.store mCB (Rect.unit (s := S2048x2880) off S128x64.size inb) w Finset.univ hx hm) k) Q) := by
  have e' := h.eq.trans e
  iintro H %hw
  iapply (wp_known_put Variants.none (c : Thread nD τ) none Set.univ (m := mCB) (hl := hl) (hx := hx) (hm := hm) (w := w) (k := k) (upTo 128 R (C + 64)) (upTo_step e' inb)) $$ H
  ipureintro
  exact fun x => (hw x).trans (congrArg _ (emb2 e' inb x).symm)

/-- An offset that is already a literal is its own closed form. -/
instance (priority := low) closedOffLit {n : ℕ} (f : Fin n → ℕ) : ClosedOff f := ⟨f, rfl⟩

/-- A rectangle of a matrix read. -/
theorem ld2 {cs : CoreSpace} {n0 n1 m0 m1 : ℕ} [NeZero n0] [NeZero n1] {et : EltTy} {m : Memref sig .tc (.core cs) ⟨2, ![n0, n1]⟩ et} {q : PosShare TreeShare}
    {G : (⟨2, ![n0, n1]⟩ : Shape).Idx → Elt F et} {D : (⟨2, ![n0, n1]⟩ : Shape).Idx → Prop} (T : (⟨2, ![m0, m1]⟩ : Shape).Idx → Elt F et) (R C : ℕ)
    {off : Fin 2 → ℕ} [h : ClosedOff off] (e : h.form = ![R, C]) {inb : ∀ a, off a + (![m0, m1] : Fin 2 → ℕ) a ≤ (⟨2, ![n0, n1]⟩ : Shape).size a} {hl : m.view.LoadsAt (Rect.unit (s := ⟨2, ![n0, n1]⟩) off ![m0, m1] inb).toLoadRect}
    {k : _ → Prog (TpuEff nD τ sig (Elt F) Λ₀ .tc) α}
    (hD : ∀ (i : Fin m0) (j : Fin m1), R + i.val < n0 → C + j.val < n1 → D (i2 (R + i.val) (C + j.val)))
    (hT : ∀ (i : Fin m0) (j : Fin m1), R + i.val < n0 → C + j.val < n1 → G (i2 (R + i.val) (C + j.val)) = T (ix2 i j)) :
    Known (c : Thread nD τ) m Finset.univ q G D ⊢ iprop((Known (c : Thread nD τ) m Finset.univ q G D -∗ wp frame (wpE defs₀ Variants.none (c : Thread nD τ) none) Set.univ (k T) Q)
      -∗ wp frame (wpE defs₀ Variants.none (c : Thread nD τ) none) Set.univ (.op (.load m (Rect.unit (s := ⟨2, ![n0, n1]⟩) off ![m0, m1] inb).toLoadRect hl) k) Q) := by
  have e' := h.eq.trans e
  have hin : ∀ x : (⟨2, ![m0, m1]⟩ : Shape).Idx, R + (x 0).val < n0 ∧ C + (x 1).val < n1 := fun x => by
    have h0 : (x 0).val < m0 := (x 0).isLt
    have h1 : (x 1).val < m1 := (x 1).isLt
    have b0 : off 0 + m0 ≤ n0 := inb 0
    have b1 : off 1 + m1 ≤ n1 := inb 1
    rw [e'] at b0 b1
    have b0 : R + m0 ≤ n0 := b0
    have b1 : C + m1 ≤ n1 := b1
    exact ⟨by omega, by omega⟩
  refine wp_known_load_eq Variants.none (c : Thread nD τ) none Set.univ (m := m) (hl := hl) (k := k) T (Finset.subset_univ _) (fun x => ?_) fun x => ?_
  · rw [emb2 e' inb x]
    exact hD (x 0) (x 1) (hin x).1 (hin x).2
  · rw [emb2 e' inb x]
    exact (hT (x 0) (x 1) (hin x).1 (hin x).2).trans (congrArg T (eq_ix2 x).symm)

/-- A row of a stack of rows read. -/
theorem ld3 {cs : CoreSpace} {n0 : ℕ} [NeZero n0] {et : EltTy} {m : Memref sig .tc (.core cs) ⟨3, ![n0, 1, 128]⟩ et} {q : PosShare TreeShare}
    {G : (⟨3, ![n0, 1, 128]⟩ : Shape).Idx → Elt F et} (R : ℕ)
    {off : Fin 3 → ℕ} [h : ClosedOff off] (e : h.form = ![R, 0, 0]) {inb : ∀ a, off a + S1x1x128.size a ≤ (⟨3, ![n0, 1, 128]⟩ : Shape).size a} {hl : m.view.LoadsAt (Rect.unit (s := ⟨3, ![n0, 1, 128]⟩) off S1x1x128.size inb).toLoadRect}
    {k : _ → Prog (TpuEff nD τ sig (Elt F) Λ₀ .tc) α} :
    Known (c : Thread nD τ) m Finset.univ q G (fun _ => True) ⊢ iprop((Known (c : Thread nD τ) m Finset.univ q G (fun _ => True) -∗ wp frame (wpE defs₀ Variants.none (c : Thread nD τ) none) Set.univ (k fun i => G (i3 R 0 (i 2).val)) Q)
      -∗ wp frame (wpE defs₀ Variants.none (c : Thread nD τ) none) Set.univ (.op (.load m (Rect.unit (s := ⟨3, ![n0, 1, 128]⟩) off S1x1x128.size inb).toLoadRect hl) k) Q) := by
  have e' := h.eq.trans e
  refine wp_known_load_eq Variants.none (c : Thread nD τ) none Set.univ (m := m) (hl := hl) (k := k) (fun i => G (i3 R 0 (i 2).val)) (Finset.subset_univ _) (fun x => trivial) fun x => ?_
  rw [emb3 e' inb x]
  have h0 : (x 0).val < 1 := (x 0).isLt
  have h1 : (x 1).val < 1 := (x 1).isLt
  have q0 : R + (x 0).val = R := by omega
  have q1 : 0 + (x 1).val = 0 := by omega
  rw [q0, q1, Nat.zero_add]

/-- A rectangle of a matrix written, the next one in the row block under way. -/
theorem put2 {cs : CoreSpace} {n0 n1 m0 m1 : ℕ} [NeZero n0] [NeZero n1] {et : EltTy} {m : Memref sig .tc (.core cs) ⟨2, ![n0, n1]⟩ et}
    {G : (⟨2, ![n0, n1]⟩ : Shape).Idx → Elt F et} (R C : ℕ) {off : Fin 2 → ℕ} [h : ClosedOff off] (e : h.form = ![R, C])
    {inb : ∀ a, off a + (![m0, m1] : Fin 2 → ℕ) a ≤ (⟨2, ![n0, n1]⟩ : Shape).size a}
    {hl : m.view.LoadsAt (Rect.unit (s := ⟨2, ![n0, n1]⟩) off ![m0, m1] inb).toLoadRect} {hx : (m.access (Rect.unit (s := ⟨2, ![n0, n1]⟩) off ![m0, m1] inb)).Stores Finset.univ} {hm} {w : (⟨2, ![m0, m1]⟩ : Shape).Idx → Elt F et} {k : _ → Prog (TpuEff nD τ sig (Elt F) Λ₀ .tc) α} :
    Known (c : Thread nD τ) m Finset.univ fullShare G (upTo m0 R C)
      ⊢ iprop(⌜∀ (i : Fin m0) (j : Fin m1), R + i.val < n0 → C + j.val < n1 → w (ix2 i j) = G (i2 (R + i.val) (C + j.val))⌝ -∗ (Known (c : Thread nD τ) m Finset.univ fullShare G (upTo m0 R (C + m1)) -∗ wp frame (wpE defs₀ Variants.none (c : Thread nD τ) none) Set.univ (k ⟨⟩) Q)
      -∗ wp frame (wpE defs₀ Variants.none (c : Thread nD τ) none) Set.univ (.op (.load m (Rect.unit (s := ⟨2, ![n0, n1]⟩) off ![m0, m1] inb).toLoadRect hl) fun _ =>
        .op (.store m (Rect.unit (s := ⟨2, ![n0, n1]⟩) off ![m0, m1] inb) w Finset.univ hx hm) k) Q) := by
  have e' := h.eq.trans e
  iintro H %hw
  iapply (wp_known_put Variants.none (c : Thread nD τ) none Set.univ (m := m) (hl := hl) (hx := hx) (hm := hm) (w := w) (k := k) (upTo m0 R (C + m1)) (upTo_step e' inb)) $$ H
  ipureintro
  intro x
  have h0 : (x 0).val < m0 := (x 0).isLt
  have h1 : (x 1).val < m1 := (x 1).isLt
  have b0 : off 0 + m0 ≤ n0 := inb 0
  have b1 : off 1 + m1 ≤ n1 := inb 1
  rw [e'] at b0 b1
  have b0 : R + m0 ≤ n0 := b0
  have b1 : C + m1 ≤ n1 := b1
  exact (congrArg w (eq_ix2 x)).trans ((hw (x 0) (x 1) (by omega) (by omega)).trans (congrArg _ (emb2 e' inb x).symm))

/-- A row of a stack of rows written, the next one. -/
theorem put3 {cs : CoreSpace} {n0 : ℕ} [NeZero n0] {et : EltTy} {m : Memref sig .tc (.core cs) ⟨3, ![n0, 1, 128]⟩ et}
    {G : (⟨3, ![n0, 1, 128]⟩ : Shape).Idx → Elt F et} (R : ℕ) {off : Fin 3 → ℕ} [h : ClosedOff off] (e : h.form = ![R, 0, 0])
    {inb : ∀ a, off a + S1x1x128.size a ≤ (⟨3, ![n0, 1, 128]⟩ : Shape).size a}
    {hl : m.view.LoadsAt (Rect.unit (s := ⟨3, ![n0, 1, 128]⟩) off S1x1x128.size inb).toLoadRect} {hx : (m.access (Rect.unit (s := ⟨3, ![n0, 1, 128]⟩) off S1x1x128.size inb)).Stores Finset.univ} {hm} {w : S1x1x128.Idx → Elt F et} {k : _ → Prog (TpuEff nD τ sig (Elt F) Λ₀ .tc) α} :
    Known (c : Thread nD τ) m Finset.univ fullShare G (fun y => (y 0).val < R)
      ⊢ iprop(⌜∀ x : S1x1x128.Idx, w x = G (i3 R 0 (x 2).val)⌝ -∗ (Known (c : Thread nD τ) m Finset.univ fullShare G (fun y => (y 0).val < R + 1) -∗ wp frame (wpE defs₀ Variants.none (c : Thread nD τ) none) Set.univ (k ⟨⟩) Q)
      -∗ wp frame (wpE defs₀ Variants.none (c : Thread nD τ) none) Set.univ (.op (.load m (Rect.unit (s := ⟨3, ![n0, 1, 128]⟩) off S1x1x128.size inb).toLoadRect hl) fun _ =>
        .op (.store m (Rect.unit (s := ⟨3, ![n0, 1, 128]⟩) off S1x1x128.size inb) w Finset.univ hx hm) k) Q) := by
  have e' := h.eq.trans e
  iintro H %hw
  iapply (wp_known_put Variants.none (c : Thread nD τ) none Set.univ (m := m) (hl := hl) (hx := hx) (hm := hm) (w := w) (k := k) (fun y => (y 0).val < R + 1) fun y hy => ?_) $$ H
  · subst e'
    by_cases h0 : (y 0).val < R
    · exact .inl h0
    refine .inr ((Rect.mem_set_unit).mpr fun a => ?_)
    have y1 : (y 1).val < 1 := (y 1).isLt
    have y2 : (y 2).val < 128 := (y 2).isLt
    match a with
    | ⟨0, _⟩ => exact ⟨by show R ≤ (y 0).val; omega, by show (y 0).val < R + 1; omega⟩
    | ⟨1, _⟩ => exact ⟨by show 0 ≤ (y 1).val; omega, by show (y 1).val < 0 + 1; omega⟩
    | ⟨2, _⟩ => exact ⟨by show 0 ≤ (y 2).val; omega, by show (y 2).val < 0 + 128; omega⟩
  ipureintro
  intro x
  have h0 : (x 0).val < 1 := (x 0).isLt
  have h1 : (x 1).val < 1 := (x 1).isLt
  have q0 : R + (x 0).val = R := by omega
  have q1 : 0 + (x 1).val = 0 := by omega
  rw [hw x, emb3 e' inb x, q0, q1, Nat.zero_add]

/-- The row block under way done, the next one starts. -/
theorem next {cs : CoreSpace} {n0 n1 : ℕ} {et : EltTy} {m : Memref sig .tc (.core cs) ⟨2, ![n0, n1]⟩ et} {q : PosShare TreeShare}
    {G : (⟨2, ![n0, n1]⟩ : Shape).Idx → Elt F et} {H R C : ℕ} (R' H' : ℕ) (hC : n1 ≤ C) (hR : R' = R + H) :
    Known (c : Thread nD τ) m Finset.univ q G (upTo H R C) ⊢ (Known (c : Thread nD τ) m Finset.univ q G (upTo H' R' 0) : sProp 𝕄) := by
  refine known_mono (c : Thread nD τ) fun y hy => ⟨?_, rfl⟩
  have h1 : (y 1).val < n1 := (y 1).isLt
  unfold upTo at hy ⊢
  omega

theorem i2_fin {n0 n1 : ℕ} [NeZero n0] [NeZero n1] (i : Fin n0) (j : Fin n1) : i2 i.val j.val = ix2 i j := by
  have h0 : Fin.ofNat n0 i.val = i := Fin.ext (Nat.mod_eq_of_lt i.isLt)
  have h1 : Fin.ofNat n1 j.val = j := Fin.ext (Nat.mod_eq_of_lt j.isLt)
  unfold i2
  rw [h0, h1]

/-- What the loads of whole blocks find done. -/
theorem tp_done (i : Fin 512) (j : Fin 768) : upTo (n0 := 512) (n1 := 768) 512 0 768 (i2 (0 + i.val) (0 + j.val)) := by
  have h := i2_val (n0 := 512) (n1 := 768) (a := 0 + i.val) (b := 0 + j.val) (by omega) (by omega)
  unfold upTo
  rw [h.1, h.2]
  omega

theorem tp_whole (i : Fin 512) (j : Fin 768) : TP A (i2 (0 + i.val) (0 + j.val)) = TP A (ix2 i j) := by
  rw [Nat.zero_add, Nat.zero_add]
  rw [i2_fin]

theorem cb_done (R : ℕ) (i : Fin 128) (j : Fin 2880) (hR : R + i.val < 2048) : upTo (n0 := 2048) (n1 := 2880) 128 R 2880 (i2 (R + i.val) (0 + j.val)) := by
  have h := i2_val (n0 := 2048) (n1 := 2880) (a := R + i.val) (b := 0 + j.val) hR (by omega)
  unfold upTo
  rw [h.1, h.2]
  omega

theorem SC_i2 (a b h : ℕ) (hh : h < 2) (i j : Fin 128) (hR : 256 * b + 128 * h + i.val < 2048) :
    SC A a (i2 (256 * b + 128 * h + i.val) (0 + j.val)) = scN A a (2 * b + h) (ix2 i j) := by
  have e := i2_val (n0 := 2048) (n1 := 128) (a := 256 * b + 128 * h + i.val) (b := 0 + j.val) hR (by omega)
  unfold SC
  rw [e.1, e.2, show (256 * b + 128 * h + i.val) / 128 = 2 * b + h by omega, show (256 * b + 128 * h + i.val) % 128 = i.val by omega, Nat.zero_add]
  rw [i2_fin]

theorem ZZ_i2 (a b h : ℕ) (hh : h < 2) (i j : Fin 128) (hR : 256 * b + 128 * h + i.val < 2048) :
    ZZ A a (i2 (256 * b + 128 * h + i.val) (0 + j.val)) = zN A a (2 * b + h) (ix2 i j) := by
  have e := i2_val (n0 := 2048) (n1 := 128) (a := 256 * b + 128 * h + i.val) (b := 0 + j.val) hR (by omega)
  unfold ZZ
  rw [e.1, e.2, show (256 * b + 128 * h + i.val) / 128 = 2 * b + h by omega, show (256 * b + 128 * h + i.val) % 128 = i.val by omega, Nat.zero_add]
  rw [i2_fin]

end Cert.KernelIdeal.Hand
-- ==== Proof.IChunk.lean ====
/-
  Hand-written. One chunk of 256 sampled rows: its table rows unpacked, its scales and its logits.
-/
module

public import proofs.«01_k».proof.Proof.ISteps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx Cert.Dma

variable (c : Dev nD) (A : Ins F)
variable {α : Type} {Q : α → sProp (MT nD τ sig Unit (Elt F) ℕ (Pipeline.UD sig nD τ) ℕ)}

set_option maxHeartbeats 4000000

/-- The first 128 rows of the chunk unpacked. -/
theorem half0 (a : Fin k0_t4_loop.trips) (b : Fin k0_t6_loop.trips) (hb : b.val < 8) (w1 w2 : BitVec 32) {k : _ → Prog (TpuEff nD τ sig (Elt F) Λ₀ .tc) α} :
    iprop(kRing c A (8 * a.val + b.val) ∗ kCB c A a.val (256 * b.val + 128 * 0) 0)
      ⊢ iprop((kRing c A (8 * a.val + b.val) -∗ kCB c A a.val (256 * b.val + 128 * 0) 2880 -∗ wp frame (wpE defs₀ Variants.none (c : Thread nD τ) none) Set.univ (k ⟨k0_pay37 (F := F) iot (k0_pay7 (F := F) (idRow A (16 * a.val + 2 * b.val + 0))), k0_pay38 (F := F) iot (k0_pay7 (F := F) (idRow A (16 * a.val + 2 * b.val + 0))), k0_pay39 (F := F) iot (k0_pay7 (F := F) (idRow A (16 * a.val + 2 * b.val + 0))), k0_pay40 iot (k0_pay7 (F := F) (idRow A (16 * a.val + 2 * b.val + 0))), k0_pay41 (F := F), k0_pay42 (F := F)⟩) Q) -∗
      wp frame (wpE defs₀ Variants.none (c : Thread nD τ) none) Set.univ (do
        k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w1 (k0_pay8 (F := F) (idRow A (16 * a.val + 2 * b.val + 0))) w2 (k0_pay9 (idRow A (16 * a.val + 2 * b.val + 0)) (ringT A (8 * a.val + b.val) (128 * 0) 0))
        let v840 ← k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w1 (k0_pay8 (F := F) (idRow A (16 * a.val + 2 * b.val + 0))) w2
        k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w1 (k0_pay8 (F := F) (idRow A (16 * a.val + 2 * b.val + 0))) w2 v840
        let v924 ← k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w1 (k0_pay8 (F := F) (idRow A (16 * a.val + 2 * b.val + 0))) w2
        let v966 ← k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w1 (k0_pay8 (F := F) (idRow A (16 * a.val + 2 * b.val + 0))) w2 v924
        let v1008 ← k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w1 (k0_pay8 (F := F) (idRow A (16 * a.val + 2 * b.val + 0))) w2 v966
        let r ← k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 iot a b w1 (k0_pay7 (F := F) (idRow A (16 * a.val + 2 * b.val + 0))) (k0_pay8 (F := F) (idRow A (16 * a.val + 2 * b.val + 0))) w2 v1008
        k r) Q) := by
  iintro ⟨HR, HC⟩ Hk
  rw [k0_part10_eq_skeleton, k0_part11_eq_skeleton, k0_part12_eq_skeleton, k0_part13_eq_skeleton, k0_part14_eq_skeleton, k0_part15_eq_skeleton, k0_part16_eq_skeleton]
  unfold k0_part10_skel k0_part11_skel k0_part12_skel k0_part13_skel k0_part14_skel k0_part15_skel k0_part16_skel
  simp only [Prog.bind_assoc, Prog.bind_lift, Prog.bind_ret, Prog.bind_op, pure_bind, bind_assoc]
  iterate 1
    iapply (cb_put c A a.val (256 * b.val + 128 * 0) _ rfl) $$ HC []
    · ipureintro
      exact cb_tile A a.val b.val 0 _ hb (by omega) (by omega)
    iintro HC
  iterate 21
    iapply (ring_ld c A (8 * a.val + b.val) (128 * 0) _ rfl) $$ HR
    iintro HR
    iapply (cb_put c A a.val (256 * b.val + 128 * 0) _ rfl) $$ HC []
    · ipureintro
      exact cb_tile A a.val b.val 0 _ hb (by omega) (by omega)
    iintro HC
  iterate 1
    iapply (ring_ld64 c A (8 * a.val + b.val) (128 * 0) _ rfl) $$ HR
    iintro HR
    iapply (cb_put64 c A a.val (256 * b.val + 128 * 0) _ rfl) $$ HC []
    · ipureintro
      exact cb_tile64 A a.val b.val 0 hb (by omega)
    iintro HC
  iapply Hk $$ HR HC

/-- The scales of the first 128 rows, and their dots with the hidden states. -/
theorem mid0 (a : Fin k0_t4_loop.trips) (b : Fin k0_t6_loop.trips) (hb : b.val < 8) (w1 w2 : BitVec 32) {q : PosShare TreeShare} {k : _ → Prog (TpuEff nD τ sig (Elt F) Λ₀ .tc) α} :
    iprop(kTP c A ∗ kX c A q ∗ kCB c A a.val (256 * b.val + 128 * 0) 2880 ∗ kSC c A a.val (256 * b.val + 128 * 0) 0 ∗ kZ c A a.val (256 * b.val + 128 * 0) 0)
      ⊢ iprop((kTP c A -∗ kX c A q -∗ kCB c A a.val (256 * b.val + 128 * 0) 2880 -∗ kSC c A a.val (256 * b.val + 128 * 0) 128 -∗ kZ c A a.val (256 * b.val + 128 * 0) 0 -∗ wp frame (wpE defs₀ Variants.none (c : Thread nD τ) none) Set.univ (k (k0_pay47 iot (k0_pay85 (F := F) (tgRow A a.val)) (k0_pay7 (F := F) (idRow A (16 * a.val + 2 * b.val + 0))) (k0_pay37 (F := F) iot (k0_pay7 (F := F) (idRow A (16 * a.val + 2 * b.val + 0)))) (k0_pay38 (F := F) iot (k0_pay7 (F := F) (idRow A (16 * a.val + 2 * b.val + 0)))) (k0_pay39 (F := F) iot (k0_pay7 (F := F) (idRow A (16 * a.val + 2 * b.val + 0)))) (k0_pay40 iot (k0_pay7 (F := F) (idRow A (16 * a.val + 2 * b.val + 0)))) (k0_pay41 (F := F)) (k0_pay42 (F := F)) (TP A)
    (cbT A a.val (256 * b.val + 128 * 0) 0) (xT A a.val 0))) Q) -∗
      wp frame (wpE defs₀ Variants.none (c : Thread nD τ) none) Set.univ (do
        let r ← k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 iot a w1 (k0_pay85 (F := F) (tgRow A a.val)) b (k0_pay7 (F := F) (idRow A (16 * a.val + 2 * b.val + 0))) w2 (k0_pay37 (F := F) iot (k0_pay7 (F := F) (idRow A (16 * a.val + 2 * b.val + 0)))) (k0_pay38 (F := F) iot (k0_pay7 (F := F) (idRow A (16 * a.val + 2 * b.val + 0)))) (k0_pay39 (F := F) iot (k0_pay7 (F := F) (idRow A (16 * a.val + 2 * b.val + 0)))) (k0_pay40 iot (k0_pay7 (F := F) (idRow A (16 * a.val + 2 * b.val + 0)))) (k0_pay41 (F := F)) (k0_pay42 (F := F))
        k r) Q) := by
  iintro ⟨HT, HX, HC, HS, HZ⟩ Hk
  rw [k0_part17_eq_skeleton]
  unfold k0_part17_skel
  simp only [Prog.bind_assoc, Prog.bind_lift, Prog.bind_ret, Prog.bind_op, pure_bind, bind_assoc]
  iapply (ld2 c (m := mTP) (TP A) 0 0 rfl (fun i j h1 h2 => tp_done i j) (fun i j h1 h2 => tp_whole A i j)) $$ HT
  iintro HT
  iapply (put2 c (m := mSC) (256 * b.val + 128 * 0) 0 rfl) $$ HS []
  · ipureintro
    exact fun i j h1 h2 => (SC_i2 A a.val b.val 0 (by omega) i j h1).symm
  iintro HS
  iapply (ld2 c (m := mCB) (cbT A a.val (256 * b.val + 128 * 0) 0) _ 0 rfl (fun i j h1 h2 => cb_done _ i j h1) (fun i j h1 h2 => CB_i2 A a.val _ _ h1 h2)) $$ HC
  iintro HC
  iapply (ld2 c (m := mX) (xT A a.val 0) (128 * a.val) 0 rfl (fun _ _ _ _ => trivial) (fun _ _ _ _ => rfl)) $$ HX
  iintro HX
  iapply Hk $$ HT HX HC HS HZ

/-- The logits, as the program has them. -/
theorem zN_eq (a b h : ℕ) : zN A a (2 * b + h) = k0_pay48 (k0_pay47 iot (k0_pay85 (F := F) (tgRow A a)) (k0_pay7 (F := F) (idRow A (16 * a + 2 * b + h))) (k0_pay37 (F := F) iot (k0_pay7 (F := F) (idRow A (16 * a + 2 * b + h)))) (k0_pay38 (F := F) iot (k0_pay7 (F := F) (idRow A (16 * a + 2 * b + h)))) (k0_pay39 (F := F) iot (k0_pay7 (F := F) (idRow A (16 * a + 2 * b + h)))) (k0_pay40 iot (k0_pay7 (F := F) (idRow A (16 * a + 2 * b + h)))) (k0_pay41 (F := F)) (k0_pay42 (F := F)) (TP A)
    (cbT A a (256 * b + 128 * h) 0) (xT A a 0)) := by
  unfold zN
  rw [← Nat.add_assoc, show 128 * (2 * b + h) = 256 * b + 128 * h by omega]

/-- The first 128 rows' logits written, and the second 128 rows' unpacking begun. -/
theorem begin1 (a : Fin k0_t4_loop.trips) (b : Fin k0_t6_loop.trips) (hb : b.val < 8) (w1 w2 w3 w4 : BitVec 32) {q : PosShare TreeShare} {k : _ → Prog (TpuEff nD τ sig (Elt F) Λ₀ .tc) α} :
    iprop(kRing c A (8 * a.val + b.val) ∗ kIdv c A q ∗ kCB c A a.val (256 * b.val + 128 * 1) 0 ∗ kZ c A a.val (256 * b.val + 128 * 0) 0)
      ⊢ iprop((∀ u, kRing c A (8 * a.val + b.val) -∗ kIdv c A q -∗ kCB c A a.val (256 * b.val + 128 * 1) 128 -∗ kZ c A a.val (256 * b.val + 128 * 0) 128 -∗ wp frame (wpE defs₀ Variants.none (c : Thread nD τ) none) Set.univ (k ⟨(k0_pay49 (F := F) (idRow A (16 * a.val + 2 * b.val + 1))), (k0_pay50 (F := F) (idRow A (16 * a.val + 2 * b.val + 1))), u, k0_pay52 (idRow A (16 * a.val + 2 * b.val + 1)) (ringT A (8 * a.val + b.val) (128 * 1) 128)⟩) Q) -∗
      wp frame (wpE defs₀ Variants.none (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w1 w2 w3 w4 (k0_pay47 iot (k0_pay85 (F := F) (tgRow A a.val)) (k0_pay7 (F := F) (idRow A (16 * a.val + 2 * b.val + 0))) (k0_pay37 (F := F) iot (k0_pay7 (F := F) (idRow A (16 * a.val + 2 * b.val + 0)))) (k0_pay38 (F := F) iot (k0_pay7 (F := F) (idRow A (16 * a.val + 2 * b.val + 0)))) (k0_pay39 (F := F) iot (k0_pay7 (F := F) (idRow A (16 * a.val + 2 * b.val + 0)))) (k0_pay40 iot (k0_pay7 (F := F) (idRow A (16 * a.val + 2 * b.val + 0)))) (k0_pay41 (F := F)) (k0_pay42 (F := F)) (TP A) (cbT A a.val (256 * b.val + 128 * 0) 0) (xT A a.val 0)) >>= k) Q) := by
  iintro ⟨HR, HI, HC, HZ⟩ Hk
  rw [k0_part18_eq_skeleton]
  unfold k0_part18_skel
  simp only [Prog.bind_assoc, Prog.bind_lift, Prog.bind_ret, Prog.bind_op, pure_bind, bind_assoc]
  iapply (put2 c (m := mZ) (256 * b.val + 128 * 0) 0 rfl) $$ HZ []
  · ipureintro
    exact fun i j h1 h2 => (congrFun (zN_eq A a.val b.val 0).symm (ix2 i j)).trans (ZZ_i2 A a.val b.val 0 (by omega) i j h1).symm
  iintro HZ
  iapply (ld3 c (m := mIdv) (16 * a.val + 2 * b.val + 1) rfl) $$ HI
  iintro HI
  iterate 1
    iapply (ring_ld c A (8 * a.val + b.val) (128 * 1) _ rfl) $$ HR
    iintro HR
    iapply (cb_put c A a.val (256 * b.val + 128 * 1) _ rfl) $$ HC []
    · ipureintro
      exact cb_tile A a.val b.val 1 _ hb (by omega) (by omega)
    iintro HC
  iapply (ring_ld c A (8 * a.val + b.val) (128 * 1) _ rfl) $$ HR
  iintro HR
  iapply Hk $$ %_ HR HI HC HZ

/-- The second 128 rows of the chunk unpacked. -/
theorem half1 (a : Fin k0_t4_loop.trips) (b : Fin k0_t6_loop.trips) (hb : b.val < 8) (w1 w3 : BitVec 32) {k : _ → Prog (TpuEff nD τ sig (Elt F) Λ₀ .tc) α} :
    iprop(kRing c A (8 * a.val + b.val) ∗ kTP c A ∗ kCB c A a.val (256 * b.val + 128 * 1) 128)
      ⊢ iprop((kRing c A (8 * a.val + b.val) -∗ kTP c A -∗ kCB c A a.val (256 * b.val + 128 * 1) 2880 -∗ wp frame (wpE defs₀ Variants.none (c : Thread nD τ) none) Set.univ (k ⟨k0_pay79 iot (k0_pay49 (F := F) (idRow A (16 * a.val + 2 * b.val + 1))) (TP A), k0_pay80 iot (k0_pay49 (F := F) (idRow A (16 * a.val + 2 * b.val + 1))), k0_pay81 iot (k0_pay49 (F := F) (idRow A (16 * a.val + 2 * b.val + 1))) (TP A), Scalar.ofBits .f32 0x00000000#32⟩) Q) -∗
      wp frame (wpE defs₀ Variants.none (c : Thread nD τ) none) Set.univ (do
        k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w3 (k0_pay50 (F := F) (idRow A (16 * a.val + 2 * b.val + 1))) w1 (k0_pay52 (idRow A (16 * a.val + 2 * b.val + 1)) (ringT A (8 * a.val + b.val) (128 * 1) 128))
        let v1221 ← k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w3 (k0_pay50 (F := F) (idRow A (16 * a.val + 2 * b.val + 1))) w1
        let v1263 ← k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w3 (k0_pay50 (F := F) (idRow A (16 * a.val + 2 * b.val + 1))) w1 v1221
        let v1305 ← k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w3 (k0_pay50 (F := F) (idRow A (16 * a.val + 2 * b.val + 1))) w1 v1263
        let v1348 ← k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w3 (k0_pay50 (F := F) (idRow A (16 * a.val + 2 * b.val + 1))) w1 v1305
        let v1390 ← k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a b w3 (k0_pay50 (F := F) (idRow A (16 * a.val + 2 * b.val + 1))) w1 v1348
        let r ← k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 iot b (k0_pay49 (F := F) (idRow A (16 * a.val + 2 * b.val + 1))) v1390
        k r) Q) := by
  iintro ⟨HR, HT, HC⟩ Hk
  rw [k0_part19_eq_skeleton, k0_part20_eq_skeleton, k0_part21_eq_skeleton, k0_part22_eq_skeleton, k0_part23_eq_skeleton, k0_part24_eq_skeleton, k0_part25_eq_skeleton]
  unfold k0_part19_skel k0_part20_skel k0_part21_skel k0_part22_skel k0_part23_skel k0_part24_skel k0_part25_skel
  simp only [Prog.bind_assoc, Prog.bind_lift, Prog.bind_ret, Prog.bind_op, pure_bind, bind_assoc]
  iterate 1
    iapply (cb_put c A a.val (256 * b.val + 128 * 1) _ rfl) $$ HC []
    · ipureintro
      exact cb_tile A a.val b.val 1 _ hb (by omega) (by omega)
    iintro HC
  iterate 20
    iapply (ring_ld c A (8 * a.val + b.val) (128 * 1) _ rfl) $$ HR
    iintro HR
    iapply (cb_put c A a.val (256 * b.val + 128 * 1) _ rfl) $$ HC []
    · ipureintro
      exact cb_tile A a.val b.val 1 _ hb (by omega) (by omega)
    iintro HC
  iterate 1
    iapply (ring_ld64 c A (8 * a.val + b.val) (128 * 1) _ rfl) $$ HR
    iintro HR
    iapply (cb_put64 c A a.val (256 * b.val + 128 * 1) _ rfl) $$ HC []
    · ipureintro
      exact cb_tile64 A a.val b.val 1 hb (by omega)
    iintro HC
  iapply (ld2 c (m := mTP) (TP A) 0 0 rfl (fun i j h1 h2 => tp_done i j) (fun i j h1 h2 => tp_whole A i j)) $$ HT
  iintro HT
  iapply Hk $$ HR HT HC

/-- The second half's scales and logits are the same functions, as the program splits them. -/
theorem sc1 (a b : ℕ) : k0_pay83 (k0_pay80 iot (k0_pay49 (F := F) (idRow A (16 * a + 2 * b + 1)))) (k0_pay81 iot (k0_pay49 (F := F) (idRow A (16 * a + 2 * b + 1))) (TP A)) (Scalar.ofBits .f32 0x00000000#32) = scN A a (2 * b + 1) := by
  unfold scN
  rw [← Nat.add_assoc]
  rfl

theorem z1 (a b : ℕ) : k0_pay100 (k0_pay84 (k0_pay85 (F := F) (tgRow A a)) (k0_pay49 (F := F) (idRow A (16 * a + 2 * b + 1))) (k0_pay79 iot (k0_pay49 (F := F) (idRow A (16 * a + 2 * b + 1))) (TP A)) (k0_pay80 iot (k0_pay49 (F := F) (idRow A (16 * a + 2 * b + 1)))) (k0_pay81 iot (k0_pay49 (F := F) (idRow A (16 * a + 2 * b + 1))) (TP A)) (Scalar.ofBits .f32 0x00000000#32) (cbT A a (256 * b + 128 * 1) 0) (xT A a 0)) = zN A a (2 * b + 1) := by
  rw [zN_eq]
  rfl

end Cert.KernelIdeal.Hand
-- ==== Proof.IStream.lean ====
/-
  Hand-written. The two streams of table rows, slot by slot: a slot's transfers issued, and waited for.
-/
module

public import proofs.«01_k».proof.Proof.ISteps
public import proofs.«01_k».proof.Proof.ILoops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx Cert.Dma

variable (c : Dev nD) (A : Ins F) (hid : ∀ i, (A.ids i).toNat < 60000) (htd : ∀ i, (A.tids i).toNat < 60000)
variable {α : Type} {Q : α → sProp (MT nD τ sig Unit (Elt F) ℕ (Pipeline.UD sig nD τ) ℕ)}

abbrev kT (a : ℕ) : sProp 𝕄 := Known (c : Thread nD τ) mT Finset.univ fullShare (tgtG A.w (tid A.tids a)) (fun _ => True)
abbrev kOwes : sProp 𝕄 := iprop((∃ W, owes (c : Thread nD τ) 0 W))

/-- All of a slot's rows issued: the slot is in flight. -/
theorem iss_fly (q : PosShare TreeShare) (w : S15000x2880.Idx → Elt F .i32) (ids : S12288.Idx → BitVec 32) (n : ℕ) (s : Fin 3) :
    iprop(ringIss c q w ids n s 256 ∗ wordsPt c (shareDrop q 256) w) ⊢ (iprop(ringFly c q w (sid ids n) s ∗ idsPt c ids) : sProp 𝕄) := by
  unfold ringIss ringFly
  iintro ⟨⟨HB, HE, HS⟩, HW⟩
  isplitr [HS]
  · isplitl [HB]; · iexact HB
    iexact HW
  · iexact HS

theorem iss_tfly (q : PosShare TreeShare) (w : S15000x2880.Idx → Elt F .i32) (ids : S768.Idx → BitVec 32) (n : ℕ) :
    iprop(tgtIss c q w ids n 128 ∗ wordsPt c (shareDrop q 128) w) ⊢ (iprop(tgtFly c q w (tid ids n) ∗ tidsPt c ids) : sProp 𝕄) := by
  unfold tgtIss tgtFly
  iintro ⟨⟨HB, HE, HS⟩, HW⟩
  isplitr [HS]
  · isplitl [HB]; · iexact HB
    iexact HW
  · iexact HS

include htd in
theorem t1_loop (q : PosShare TreeShare)  {k : _ → Prog (TpuEff nD τ sig (Elt F) Λ₀ .tc) α} :
    iprop(tgtFree c q A.w ∗ tidsPt c A.tids)
      ⊢ iprop((tgtFly c q A.w (tid A.tids 0) -∗ tidsPt c A.tids -∗ wp frame (wpE defs₀ Variants.none (c : Thread nD τ) none) Set.univ (k ⟨⟩) Q) -∗
      wp frame (wpE defs₀ Variants.none (c : Thread nD τ) none) Set.univ (Scf.Loop.for k0_t1_loop (k0_t1_ok) ⟨⟩ (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) >>= k) Q) := by
  iintro ⟨HF, HS⟩ Hk
  imod (tgt_open c q A.w A.tids 0) $$ [HF HS] with ⟨HI, HW⟩
  · isplitl [HF]; · iexact HF
    iexact HS
  iapply (Scf.wp_for_bind Idealize.ShloMosaic.frame (wpE defs₀ Variants.none (c : Thread nD τ) none) Set.univ _ _ _ (k0_t1_ok) ⟨⟩ _ (fun j _ => tgtIss c q A.w A.tids 0 (8 * j)) (fun k _ => t1_trip c q A.w A.tids htd k)) $$ HI
  iintro %acc HI
  ihave HI := (iss_tfly c q A.w A.tids 0) $$ [HI HW]
  · isplitl [HI]; · iexact HI
    iexact HW
  icases HI with ⟨HF, HS⟩
  iapply Hk $$ HF HS

include hid in
theorem t2_loop (q : PosShare TreeShare)  {k : _ → Prog (TpuEff nD τ sig (Elt F) Λ₀ .tc) α} :
    iprop(ringFree c q A.w 0 ∗ idsPt c A.ids)
      ⊢ iprop((ringFly c q A.w (sid A.ids 0) 0 -∗ idsPt c A.ids -∗ wp frame (wpE defs₀ Variants.none (c : Thread nD τ) none) Set.univ (k ⟨⟩) Q) -∗
      wp frame (wpE defs₀ Variants.none (c : Thread nD τ) none) Set.univ (Scf.Loop.for k0_t2_loop (k0_t2_ok) ⟨⟩ (k0_t2_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) >>= k) Q) := by
  iintro ⟨HF, HS⟩ Hk
  imod (ring_open c q A.w A.ids 0 0) $$ [HF HS] with ⟨HI, HW⟩
  · isplitl [HF]; · iexact HF
    iexact HS
  iapply (Scf.wp_for_bind Idealize.ShloMosaic.frame (wpE defs₀ Variants.none (c : Thread nD τ) none) Set.univ _ _ _ (k0_t2_ok) ⟨⟩ _ (fun j _ => ringIss c q A.w A.ids 0 0 (8 * j)) (fun k _ => t2_trip c q A.w A.ids hid k)) $$ HI
  iintro %acc HI
  ihave HI := (iss_fly c q A.w A.ids 0 0) $$ [HI HW]
  · isplitl [HI]; · iexact HI
    iexact HW
  icases HI with ⟨HF, HS⟩
  iapply Hk $$ HF HS

include hid in
theorem t3_loop (q : PosShare TreeShare)  {k : _ → Prog (TpuEff nD τ sig (Elt F) Λ₀ .tc) α} :
    iprop(ringFree c q A.w 1 ∗ idsPt c A.ids)
      ⊢ iprop((ringFly c q A.w (sid A.ids 1) 1 -∗ idsPt c A.ids -∗ wp frame (wpE defs₀ Variants.none (c : Thread nD τ) none) Set.univ (k ⟨⟩) Q) -∗
      wp frame (wpE defs₀ Variants.none (c : Thread nD τ) none) Set.univ (Scf.Loop.for k0_t3_loop (k0_t3_ok) ⟨⟩ (k0_t3_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) >>= k) Q) := by
  iintro ⟨HF, HS⟩ Hk
  imod (ring_open c q A.w A.ids 1 1) $$ [HF HS] with ⟨HI, HW⟩
  · isplitl [HF]; · iexact HF
    iexact HS
  iapply (Scf.wp_for_bind Idealize.ShloMosaic.frame (wpE defs₀ Variants.none (c : Thread nD τ) none) Set.univ _ _ _ (k0_t3_ok) ⟨⟩ _ (fun j _ => ringIss c q A.w A.ids 1 1 (8 * j)) (fun k _ => t3_trip c q A.w A.ids hid k)) $$ HI
  iintro %acc HI
  ihave HI := (iss_fly c q A.w A.ids 1 1) $$ [HI HW]
  · isplitl [HI]; · iexact HI
    iexact HW
  icases HI with ⟨HF, HS⟩
  iapply Hk $$ HF HS

include hid in
theorem t7_loop (q : PosShare TreeShare) (a : Fin k0_t4_loop.trips) (b : Fin k0_t6_loop.trips) (x1 x2 x3 x4 : BitVec 32) (h1 : k0_cond1 a b = 1#1) {k : _ → Prog (TpuEff nD τ sig (Elt F) Λ₀ .tc) α} :
    iprop(ringFree c q A.w (slotOf (8 * a.val + b.val + 2)) ∗ idsPt c A.ids)
      ⊢ iprop((ringFly c q A.w (sid A.ids (8 * a.val + b.val + 2)) (slotOf (8 * a.val + b.val + 2)) -∗ idsPt c A.ids -∗ wp frame (wpE defs₀ Variants.none (c : Thread nD τ) none) Set.univ (k ⟨⟩) Q) -∗
      wp frame (wpE defs₀ Variants.none (c : Thread nD τ) none) Set.univ (Scf.Loop.for k0_t7_loop (k0_t7_ok a b h1) ⟨⟩ (k0_t7_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 x2 x3 b h1 x4) >>= k) Q) := by
  iintro ⟨HF, HS⟩ Hk
  imod (ring_open c q A.w A.ids (8 * a.val + b.val + 2) (slotOf (8 * a.val + b.val + 2))) $$ [HF HS] with ⟨HI, HW⟩
  · isplitl [HF]; · iexact HF
    iexact HS
  iapply (Scf.wp_for_bind Idealize.ShloMosaic.frame (wpE defs₀ Variants.none (c : Thread nD τ) none) Set.univ _ _ _ (k0_t7_ok a b h1) ⟨⟩ _ (fun j _ => ringIss c q A.w A.ids (8 * a.val + b.val + 2) (slotOf (8 * a.val + b.val + 2)) (8 * j)) (fun k _ => t7_trip c q A.w A.ids hid a b x1 x2 x3 x4 h1 k)) $$ HI
  iintro %acc HI
  ihave HI := (iss_fly c q A.w A.ids (8 * a.val + b.val + 2) (slotOf (8 * a.val + b.val + 2))) $$ [HI HW]
  · isplitl [HI]; · iexact HI
    iexact HW
  icases HI with ⟨HF, HS⟩
  iapply Hk $$ HF HS

include htd in
theorem t9_loop (q : PosShare TreeShare) (a : Fin k0_t4_loop.trips) (x1 : BitVec 32) (h2 : k0_cond2 a = 1#1) {k : _ → Prog (TpuEff nD τ sig (Elt F) Λ₀ .tc) α} :
    iprop(tgtFree c q A.w ∗ tidsPt c A.tids)
      ⊢ iprop((tgtFly c q A.w (tid A.tids (a.val + 1)) -∗ tidsPt c A.tids -∗ wp frame (wpE defs₀ Variants.none (c : Thread nD τ) none) Set.univ (k ⟨⟩) Q) -∗
      wp frame (wpE defs₀ Variants.none (c : Thread nD τ) none) Set.univ (Scf.Loop.for k0_t9_loop (k0_t9_ok a h2) ⟨⟩ (k0_t9_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a h2 x1) >>= k) Q) := by
  iintro ⟨HF, HS⟩ Hk
  imod (tgt_open c q A.w A.tids (a.val + 1)) $$ [HF HS] with ⟨HI, HW⟩
  · isplitl [HF]; · iexact HF
    iexact HS
  iapply (Scf.wp_for_bind Idealize.ShloMosaic.frame (wpE defs₀ Variants.none (c : Thread nD τ) none) Set.univ _ _ _ (k0_t9_ok a h2) ⟨⟩ _ (fun j _ => tgtIss c q A.w A.tids (a.val + 1) (8 * j)) (fun k _ => t9_trip c q A.w A.tids htd a x1 h2 k)) $$ HI
  iintro %acc HI
  ihave HI := (iss_tfly c q A.w A.tids (a.val + 1)) $$ [HI HW]
  · isplitl [HI]; · iexact HI
    iexact HW
  icases HI with ⟨HF, HS⟩
  iapply Hk $$ HF HS

/-- A slot's rows waited for: they hold their rows of the table. -/
theorem t8_loop (q : PosShare TreeShare) (a : Fin k0_t4_loop.trips) (b : Fin k0_t6_loop.trips) (x1 x2 x3 : BitVec 32) {k : _ → Prog (TpuEff nD τ sig (Elt F) Λ₀ .tc) α} :
    iprop(ringFly c q A.w (sid A.ids (8 * a.val + b.val)) (slotOf (8 * a.val + b.val)) ∗ kOwes c)
      ⊢ iprop((semVal ((c : Thread nD τ), SemLoc.dma (ringSem (slotOf (8 * a.val + b.val)))) 0 -∗ kRing c A (8 * a.val + b.val) -∗ wordsPt c q A.w -∗ kOwes c -∗ wp frame (wpE defs₀ Variants.none (c : Thread nD τ) none) Set.univ (k ⟨⟩) Q) -∗
      wp frame (wpE defs₀ Variants.none (c : Thread nD τ) none) Set.univ (Scf.Loop.for k0_t8_loop k0_t8_ok ⟨⟩ (k0_t8_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 x2 x3 b) >>= k) Q) := by
  unfold ringFly
  iintro ⟨⟨HF, HW⟩, HO⟩ Hk
  iapply (Scf.wp_for_bind Idealize.ShloMosaic.frame (wpE defs₀ Variants.none (c : Thread nD τ) none) Set.univ _ _ _ k0_t8_ok ⟨⟩ _ (fun j _ => ringWait c q A.w (sid A.ids (8 * a.val + b.val)) (slotOf (8 * a.val + b.val)) j) (fun k _ => t8_trip c q A.w (sid A.ids (8 * a.val + b.val)) a b x1 x2 x3 k)) $$ [HF HO]
  · unfold ringWait
    isplitl [HF]; · iexact HF
    iexact HO
  iintro %acc HI
  unfold ringWait
  icases HI with ⟨HF, HO⟩
  imod (ring_close c q A.w (sid A.ids (8 * a.val + b.val)) (slotOf (8 * a.val + b.val))) $$ [HF HW] with ⟨HV, HR, HW⟩
  · isplitl [HF]; · iexact HF
    iexact HW
  iapply Hk $$ HV [HR] HW HO
  unfold kRing Known
  iexists _
  isplitl [HR]; · iexact HR
  ipureintro
  exact fun y _ => rfl

/-- The target rows waited for. -/
theorem t5_loop (q : PosShare TreeShare) (a : Fin k0_t4_loop.trips) (x1 x2 : BitVec 32) {k : _ → Prog (TpuEff nD τ sig (Elt F) Λ₀ .tc) α} :
    iprop(tgtFly c q A.w (tid A.tids a.val) ∗ kOwes c)
      ⊢ iprop((semVal ((c : Thread nD τ), SemLoc.dma tSem) 0 -∗ kT c A a.val -∗ wordsPt c q A.w -∗ kOwes c -∗ wp frame (wpE defs₀ Variants.none (c : Thread nD τ) none) Set.univ (k ⟨⟩) Q) -∗
      wp frame (wpE defs₀ Variants.none (c : Thread nD τ) none) Set.univ (Scf.Loop.for k0_t5_loop k0_t5_ok ⟨⟩ (k0_t5_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 x1 x2 a) >>= k) Q) := by
  unfold tgtFly
  iintro ⟨⟨HF, HW⟩, HO⟩ Hk
  iapply (Scf.wp_for_bind Idealize.ShloMosaic.frame (wpE defs₀ Variants.none (c : Thread nD τ) none) Set.univ _ _ _ k0_t5_ok ⟨⟩ _ (fun j _ => tgtWait c q A.w (tid A.tids a.val) j) (fun k _ => t5_trip c q A.w (tid A.tids a.val) a x1 x2 k)) $$ [HF HO]
  · unfold tgtWait
    isplitl [HF]; · iexact HF
    iexact HO
  iintro %acc HI
  unfold tgtWait
  icases HI with ⟨HF, HO⟩
  imod (tgt_close c q A.w (tid A.tids a.val)) $$ [HF HW] with ⟨HV, HR, HW⟩
  · isplitl [HF]; · iexact HF
    iexact HW
  iapply Hk $$ HV [HR] HW HO
  unfold kT Known
  iexists _
  isplitl [HR]; · iexact HR
  ipureintro
  exact fun y _ => rfl

/-- What is left of a slot once its rows are used. -/
theorem ring_free (q : PosShare TreeShare) (n : ℕ) :
    iprop(semVal ((c : Thread nD τ), SemLoc.dma (ringSem (slotOf n))) 0 ∗ kRing c A n ∗ wordsPt c q A.w) ⊢ (ringFree c q A.w (slotOf n) : sProp 𝕄) := by
  unfold ringFree kRing Known
  iintro ⟨HV, ⟨%f, HR, %hf⟩, HW⟩
  isplitl [HV]; · iexact HV
  isplitl [HR]
  · iexists f
    iexact HR
  · iexact HW

theorem tgt_free (q : PosShare TreeShare) (a : ℕ) :
    iprop(semVal ((c : Thread nD τ), SemLoc.dma tSem) 0 ∗ kT c A a ∗ wordsPt c q A.w) ⊢ (tgtFree c q A.w : sProp 𝕄) := by
  unfold tgtFree kT Known
  iintro ⟨HV, ⟨%f, HR, %hf⟩, HW⟩
  isplitl [HV]; · iexact HV
  isplitl [HR]
  · iexists f
    iexact HR
  · iexact HW

/-- The slot of chunk `n`: in flight, or at rest past the last chunk. -/
def cell (qs : Fin 3 → PosShare TreeShare) (n : ℕ) : sProp 𝕄 :=
  if n < 48 then ringFly c (qs (slotOf n)) A.w (sid A.ids n) (slotOf n) else ringFree c (qs (slotOf n)) A.w (slotOf n)

include hid in
/-- The start of a chunk: the chunk after next issued, this one waited for, and its first rows read. -/
theorem part9 (qs : Fin 3 → PosShare TreeShare) {q : PosShare TreeShare} (a : Fin k0_t4_loop.trips) (b : Fin k0_t6_loop.trips) (hab : (8 * a.val + b.val) < 48) (w0 w1 w2 : BitVec 32) {k : _ → Prog (TpuEff nD τ sig (Elt F) Λ₀ .tc) α} :
    iprop(cell c A qs (8 * a.val + b.val) ∗ ringFree c (qs (slotOf (8 * a.val + b.val + 2))) A.w (slotOf (8 * a.val + b.val + 2)) ∗ idsPt c A.ids ∗ kOwes c ∗ kIdv c A q)
      ⊢ iprop((∀ u0 u1 u2 u3, cell c A qs (8 * a.val + b.val + 2) -∗ idsPt c A.ids -∗ kOwes c -∗ kIdv c A q -∗ semVal ((c : Thread nD τ), SemLoc.dma (ringSem (slotOf (8 * a.val + b.val)))) 0 -∗ kRing c A (8 * a.val + b.val) -∗ wordsPt c (qs (slotOf (8 * a.val + b.val))) A.w
        -∗ wp frame (wpE defs₀ Variants.none (c : Thread nD τ) none) Set.univ (k ⟨u0, u1, u2, k0_pay7 (F := F) (idRow A (16 * a.val + 2 * b.val + 0)), k0_pay8 (F := F) (idRow A (16 * a.val + 2 * b.val + 0)), u3, k0_pay9 (idRow A (16 * a.val + 2 * b.val + 0)) (ringT A (8 * a.val + b.val) (128 * 0) 0)⟩) Q) -∗
      wp frame (wpE defs₀ Variants.none (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a w0 w1 w2 b >>= k) Q) := by
  rw [k0_part9_eq_skeleton]
  unfold k0_part9_skel
  rw [show cell c A qs (8 * a.val + b.val) = ringFly c (qs (slotOf (8 * a.val + b.val))) A.w (sid A.ids (8 * a.val + b.val)) (slotOf (8 * a.val + b.val)) from if_pos hab]
  by_cases h1 : k0_cond1 a b = 1#1
  · rw [dif_pos h1]
    have h1' := (cond1_iff a b).mp h1
    rw [show cell c A qs (8 * a.val + b.val + 2) = ringFly c (qs (slotOf (8 * a.val + b.val + 2))) A.w (sid A.ids (8 * a.val + b.val + 2)) (slotOf (8 * a.val + b.val + 2)) from if_pos h1']
    simp only [Prog.bind_assoc, Prog.bind_lift, Prog.bind_ret, Prog.bind_op, pure_bind, bind_assoc]
    iintro ⟨HC, HF, HS, HO, HI⟩ Hk
    iapply (t7_loop c A hid (qs (slotOf (8 * a.val + b.val + 2))) a b _ _ _ _ h1) $$ [HF HS]
    · isplitl [HF]; · iexact HF
      iexact HS
    iintro HF HS
    iapply (t8_loop c A (qs (slotOf (8 * a.val + b.val))) a b) $$ [HC HO]
    · isplitl [HC]; · iexact HC
      iexact HO
    iintro HV HR HW HO
    iapply (ld3 c (m := mIdv) (16 * a.val + 2 * b.val + 0) rfl) $$ HI
    iintro HI
    iapply (ring_ld c A (8 * a.val + b.val) (128 * 0) _ rfl) $$ HR
    iintro HR
    iapply Hk $$ %_ %_ %_ %_ HF HS HO HI HV HR HW
  · rw [dif_neg h1]
    have h1' : ¬ (8 * a.val + b.val + 2) < 48 := fun h => h1 ((cond1_iff a b).mpr h)
    rw [show cell c A qs (8 * a.val + b.val + 2) = ringFree c (qs (slotOf (8 * a.val + b.val + 2))) A.w (slotOf (8 * a.val + b.val + 2)) from if_neg h1']
    simp only [Prog.bind_assoc, Prog.bind_lift, Prog.bind_ret, Prog.bind_op, pure_bind, bind_assoc]
    iintro ⟨HC, HF, HS, HO, HI⟩ Hk
    iapply (t8_loop c A (qs (slotOf (8 * a.val + b.val))) a b) $$ [HC HO]
    · isplitl [HC]; · iexact HC
      iexact HO
    iintro HV HR HW HO
    iapply (ld3 c (m := mIdv) (16 * a.val + 2 * b.val + 0) rfl) $$ HI
    iintro HI
    iapply (ring_ld c A (8 * a.val + b.val) (128 * 0) _ rfl) $$ HR
    iintro HR
    iapply Hk $$ %_ %_ %_ %_ HF HS HO HI HV HR HW

end Cert.KernelIdeal.Hand
-- ==== Proof.ITrip6.lean ====
/-
  Hand-written. A chunk's trip: the stream's steps, the unpacking, the scales and the logits.
-/
module

public import proofs.«01_k».proof.Proof.IChunk
public import proofs.«01_k».proof.Proof.IStream

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx Cert.Dma

variable (c : Dev nD) (A : Ins F) (hid : ∀ i, (A.ids i).toNat < 60000) (qs : Fin 3 → PosShare TreeShare) (q1 q2 : PosShare TreeShare)

set_option maxHeartbeats 4000000

theorem slotOf_three (n : ℕ) : slotOf (n + 3) = slotOf n := Fin.ext (Nat.add_mod_right n 3)

/-- Before chunk `b` of batch `a`. -/
def I6 (a b : ℕ) : sProp 𝕄 :=
  iprop(cell c A qs (8 * a + b) ∗ cell c A qs (8 * a + b + 1) ∗ ringFree c (qs (slotOf (8 * a + b + 2))) A.w (slotOf (8 * a + b + 2))
    ∗ idsPt c A.ids ∗ kOwes c ∗ kIdv c A q1 ∗ kTP c A ∗ kX c A q2
    ∗ kCB c A a (256 * b + 128 * 0) 0 ∗ kSC c A a (256 * b + 128 * 0) 0 ∗ kZ c A a (256 * b + 128 * 0) 0)

include hid in
theorem t6_trip (a : Fin k0_t4_loop.trips) (x1 x2 : BitVec 32) (y1 : IVec S128x128 32) (y2 : FVec F S128x128 .f32) (y3 : FVec F S128x512 .bf16) (b : Fin k0_t6_loop.trips) :
    I6 c A qs q1 q2 a.val b.val ⊢ wp frame (wpE defs₀ Variants.none (c : Thread nD τ) none) Set.univ (k0_t6_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 iot a x1 x2 (k0_pay85 (F := F) (tgRow A a.val)) y1 y2 y3 b ()) (fun _ => I6 c A qs q1 q2 a.val (b.val + 1)) := by
  have hb : b.val < 8 := lt_of_lt_of_eq b.isLt t6_trips
  have ha : a.val < 6 := lt_of_lt_of_eq a.isLt t4_trips
  unfold I6 k0_t6_body
  rw [k0_part26_eq_skeleton]
  unfold k0_part26_skel
  rw [bind_assoc]
  iintro ⟨HC, HC1, HF, HS, HO, HI, HT, HX, HB, HSC, HZ⟩
  iapply (part9 c A hid qs a b (by omega)) $$ [HC HF HS HO HI]
  · isplitl [HC]; · iexact HC
    isplitl [HF]; · iexact HF
    isplitl [HS]; · iexact HS
    isplitl [HO]; · iexact HO
    iexact HI
  iintro %u0 %u1 %u2 %u3 HC2 HS HO HI HV HR HW
  simp only [bind_assoc]
  iapply (half0 c A a b hb u2 u3) $$ [HR HB]
  · isplitl [HR]; · iexact HR
    iexact HB
  iintro HR HB
  simp only []
  iapply (mid0 c A a b hb) $$ [HT HX HB HSC HZ]
  · isplitl [HT]; · iexact HT
    isplitl [HX]; · iexact HX
    isplitl [HB]; · iexact HB
    isplitl [HSC]; · iexact HSC
    iexact HZ
  iintro HT HX HB HSC HZ
  ihave HB := (next c (m := mCB) (256 * b.val + 128 * 1) 128 (le_refl _) (by omega)) $$ HB
  iapply (begin1 c A a b hb) $$ [HR HI HB HZ]
  · isplitl [HR]; · iexact HR
    isplitl [HI]; · iexact HI
    isplitl [HB]; · iexact HB
    iexact HZ
  iintro %u4 HR HI HB HZ
  simp only []
  iapply (half1 c A a b hb) $$ [HR HT HB]
  · isplitl [HR]; · iexact HR
    isplitl [HT]; · iexact HT
    iexact HB
  iintro HR HT HB
  ihave HZ := (next c (m := mZ) (256 * b.val + 128 * 1) 128 (le_refl _) (by omega)) $$ HZ
  ihave HSC := (next c (m := mSC) (256 * b.val + 128 * 1) 128 (le_refl _) (by omega)) $$ HSC
  simp only [Prog.bind_assoc, Prog.bind_lift, Prog.bind_ret, Prog.bind_op, pure_bind, bind_assoc]
  iapply (put2 c (m := mSC) (256 * b.val + 128 * 1) 0 rfl) $$ HSC []
  · ipureintro
    exact fun i j h1 h2 => (congrFun (sc1 A a.val b.val) (ix2 i j)).trans (SC_i2 A a.val b.val 1 (by omega) i j h1).symm
  iintro HSC
  iapply (ld2 c (m := mCB) (cbT A a.val (256 * b.val + 128 * 1) 0) _ 0 rfl (fun i j h1 h2 => cb_done _ i j h1) (fun i j h1 h2 => CB_i2 A a.val _ _ h1 h2)) $$ HB
  iintro HB
  iapply (ld2 c (m := mX) (xT A a.val 0) (128 * a.val) 0 rfl (fun _ _ _ _ => trivial) (fun _ _ _ _ => rfl)) $$ HX
  iintro HX
  iapply (put2 c (m := mZ) (256 * b.val + 128 * 1) 0 rfl) $$ HZ []
  · ipureintro
    exact fun i j h1 h2 => (congrFun (z1 A a.val b.val) (ix2 i j)).trans (ZZ_i2 A a.val b.val 1 (by omega) i j h1).symm
  iintro HZ
  ihave HB := (next c (m := mCB) (256 * (b.val + 1) + 128 * 0) 128 (le_refl _) (by omega)) $$ HB
  ihave HZ := (next c (m := mZ) (256 * (b.val + 1) + 128 * 0) 128 (le_refl _) (by omega)) $$ HZ
  ihave HSC := (next c (m := mSC) (256 * (b.val + 1) + 128 * 0) 128 (le_refl _) (by omega)) $$ HSC
  ihave HF := (ring_free c A (qs (slotOf (8 * a.val + b.val))) (8 * a.val + b.val)) $$ [HV HR HW]
  · isplitl [HV]; · iexact HV
    isplitl [HR]; · iexact HR
    iexact HW
  rw [wp_pure]
  imodintro
  rw [show 8 * a.val + (b.val + 1) + 2 = (8 * a.val + b.val) + 3 by omega, slotOf_three, show 8 * a.val + (b.val + 1) = (8 * a.val + b.val) + 1 by omega]
  isplitl [HC1]; · iexact HC1
  isplitl [HC2]; · iexact HC2
  isplitl [HF]; · iexact HF
  isplitl [HS]; · iexact HS
  isplitl [HO]; · iexact HO
  isplitl [HI]; · iexact HI
  isplitl [HT]; · iexact HT
  isplitl [HX]; · iexact HX
  isplitl [HB]; · iexact HB
  isplitl [HSC]; · iexact HSC
  iexact HZ

end Cert.KernelIdeal.Hand
-- ==== Proof.IBatch.lean ====
/-
  Hand-written. A batch's trip.
-/
module

public import proofs.«01_k».proof.Proof.ITrip6

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx Cert.Dma

variable (c : Dev nD) (A : Ins F) (hid : ∀ i, (A.ids i).toNat < 60000) (htd : ∀ i, (A.tids i).toNat < 60000) (qs : Fin 3 → PosShare TreeShare) (q q1 q2 q3 q4 : PosShare TreeShare)

variable {α : Type} {Q : α → sProp (MT nD τ sig Unit (Elt F) ℕ (Pipeline.UD sig nD τ) ℕ)}

set_option maxHeartbeats 4000000

abbrev mDZ : Memref sig .tc .vmem S12288x128 .f32 := Memref.whole cc0_stg8_0
abbrev mDZT : Memref sig .tc .vmem S6x1x128 .f32 := Memref.whole cc0_stg9_0
abbrev mDH : Memref sig .tc .vmem S768x2880 .bf16 := Memref.whole cc0_stg10_0
abbrev mLOSS : Memref sig .tc .vmem S6x1x128 .f32 := Memref.whole cc0_stg11_0

abbrev kTgv : sProp 𝕄 := Known (c : Thread nD τ) mTgv Finset.univ q3 A.tgv (fun _ => True)
abbrev kG : sProp 𝕄 := Known (c : Thread nD τ) mG Finset.univ q4 A.g (fun _ => True)
abbrev kLoss (a : ℕ) : sProp 𝕄 := Known (c : Thread nD τ) mLOSS Finset.univ fullShare (LOSS A) (fun y => (y 0).val < a)
abbrev kDzt (a : ℕ) : sProp 𝕄 := Known (c : Thread nD τ) mDZT Finset.univ fullShare (DZT A) (fun y => (y 0).val < a)
abbrev kDz (R C : ℕ) : sProp 𝕄 := Known (c : Thread nD τ) mDZ Finset.univ fullShare (DZ A) (upTo 2048 R C)
abbrev kDh (R C : ℕ) : sProp 𝕄 := Known (c : Thread nD τ) mDH Finset.univ fullShare (DH A) (upTo 128 R C)

/-! ## The loads -/

theorem tg_ld {m1 : ℕ} (a C : ℕ) {off : Fin 2 → ℕ} [h : ClosedOff off] (e : h.form = ![0, C]) {inb : ∀ a, off a + (![128, m1] : Fin 2 → ℕ) a ≤ S128x2880.size a}
    {hl : (mT).view.LoadsAt (Rect.unit (s := S128x2880) off ![128, m1] inb).toLoadRect} {k : _ → Prog (TpuEff nD τ sig (Elt F) Λ₀ .tc) α} :
    kT c A a ⊢ iprop((kT c A a -∗ wp frame (wpE defs₀ Variants.none (c : Thread nD τ) none) Set.univ (k (tgtT A a C)) Q) -∗ wp frame (wpE defs₀ Variants.none (c : Thread nD τ) none) Set.univ (.op (.load mT (Rect.unit (s := S128x2880) off ![128, m1] inb).toLoadRect hl) k) Q) :=
  ld2 c (m := mT) (tgtT A a C) 0 C e (fun _ _ _ _ => trivial) (fun i j _ _ => by rw [Nat.zero_add]; rfl)

theorem x_ld {m1 : ℕ} (a C : ℕ) {off : Fin 2 → ℕ} [h : ClosedOff off] (e : h.form = ![128 * a, C]) {inb : ∀ a, off a + (![128, m1] : Fin 2 → ℕ) a ≤ S768x2880.size a}
    {hl : (mX).view.LoadsAt (Rect.unit (s := S768x2880) off ![128, m1] inb).toLoadRect} {k : _ → Prog (TpuEff nD τ sig (Elt F) Λ₀ .tc) α} :
    kX c A q2 ⊢ iprop((kX c A q2 -∗ wp frame (wpE defs₀ Variants.none (c : Thread nD τ) none) Set.univ (k (xT A a C)) Q) -∗ wp frame (wpE defs₀ Variants.none (c : Thread nD τ) none) Set.univ (.op (.load mX (Rect.unit (s := S768x2880) off ![128, m1] inb).toLoadRect hl) k) Q) :=
  ld2 c (m := mX) (xT A a C) (128 * a) C e (fun _ _ _ _ => trivial) (fun i j _ _ => rfl)

theorem all_done {n0 n1 : ℕ} [NeZero n0] [NeZero n1] {H R : ℕ} (i j : ℕ) (hi : i < n0) (hR : n0 ≤ R) : upTo (n0 := n0) (n1 := n1) H R 0 (i2 i j) := by
  refine .inl ?_
  show i % n0 < R
  rw [Nat.mod_eq_of_lt hi]
  omega

theorem cb_ld (a C : ℕ) {off : Fin 2 → ℕ} [h : ClosedOff off] (e : h.form = ![0, C]) {inb : ∀ a, off a + S2048x256.size a ≤ S2048x2880.size a}
    {hl : (mCB).view.LoadsAt (Rect.unit (s := S2048x2880) off S2048x256.size inb).toLoadRect} {k : _ → Prog (TpuEff nD τ sig (Elt F) Λ₀ .tc) α} :
    kCB c A a 2048 0 ⊢ iprop((kCB c A a 2048 0 -∗ wp frame (wpE defs₀ Variants.none (c : Thread nD τ) none) Set.univ (k (cbT A a 0 C)) Q) -∗ wp frame (wpE defs₀ Variants.none (c : Thread nD τ) none) Set.univ (.op (.load mCB (Rect.unit (s := S2048x2880) off S2048x256.size inb).toLoadRect hl) k) Q) :=
  ld2 c (m := mCB) (cbT A a 0 C) 0 C e (fun i j h1 h2 => all_done _ _ h1 le_rfl) (fun i j h1 h2 => CB_i2 A a _ _ h1 h2)

theorem cb_ld64 (a C : ℕ) {off : Fin 2 → ℕ} [h : ClosedOff off] (e : h.form = ![0, C]) {inb : ∀ a, off a + S2048x64.size a ≤ S2048x2880.size a}
    {hl : (mCB).view.LoadsAt (Rect.unit (s := S2048x2880) off S2048x64.size inb).toLoadRect} {k : _ → Prog (TpuEff nD τ sig (Elt F) Λ₀ .tc) α} :
    kCB c A a 2048 0 ⊢ iprop((kCB c A a 2048 0 -∗ wp frame (wpE defs₀ Variants.none (c : Thread nD τ) none) Set.univ (k (cbT A a 0 C)) Q) -∗ wp frame (wpE defs₀ Variants.none (c : Thread nD τ) none) Set.univ (.op (.load mCB (Rect.unit (s := S2048x2880) off S2048x64.size inb).toLoadRect hl) k) Q) :=
  ld2 c (m := mCB) (cbT A a 0 C) 0 C e (fun i j h1 h2 => all_done _ _ h1 le_rfl) (fun i j h1 h2 => CB_i2 A a _ _ h1 h2)

theorem z_ld (a : ℕ) {off : Fin 2 → ℕ} [h : ClosedOff off] (e : h.form = ![0, 0]) {inb : ∀ a, off a + S2048x128.size a ≤ S2048x128.size a}
    {hl : (mZ).view.LoadsAt (Rect.unit (s := S2048x128) off S2048x128.size inb).toLoadRect} {k : _ → Prog (TpuEff nD τ sig (Elt F) Λ₀ .tc) α} :
    kZ c A a 2048 0 ⊢ iprop((kZ c A a 2048 0 -∗ wp frame (wpE defs₀ Variants.none (c : Thread nD τ) none) Set.univ (k (ZZ A a)) Q) -∗ wp frame (wpE defs₀ Variants.none (c : Thread nD τ) none) Set.univ (.op (.load mZ (Rect.unit (s := S2048x128) off S2048x128.size inb).toLoadRect hl) k) Q) :=
  ld2 c (m := mZ) (ZZ A a) 0 0 e (fun i j h1 h2 => all_done _ _ h1 le_rfl) (fun i j h1 h2 => by rw [Nat.zero_add, Nat.zero_add, i2_fin])

theorem sc_ld (a : ℕ) {off : Fin 2 → ℕ} [h : ClosedOff off] (e : h.form = ![0, 0]) {inb : ∀ a, off a + S2048x128.size a ≤ S2048x128.size a}
    {hl : (mSC).view.LoadsAt (Rect.unit (s := S2048x128) off S2048x128.size inb).toLoadRect} {k : _ → Prog (TpuEff nD τ sig (Elt F) Λ₀ .tc) α} :
    kSC c A a 2048 0 ⊢ iprop((kSC c A a 2048 0 -∗ wp frame (wpE defs₀ Variants.none (c : Thread nD τ) none) Set.univ (k (SC A a)) Q) -∗ wp frame (wpE defs₀ Variants.none (c : Thread nD τ) none) Set.univ (.op (.load mSC (Rect.unit (s := S2048x128) off S2048x128.size inb).toLoadRect hl) k) Q) :=
  ld2 c (m := mSC) (SC A a) 0 0 e (fun i j h1 h2 => all_done _ _ h1 le_rfl) (fun i j h1 h2 => by rw [Nat.zero_add, Nat.zero_add, i2_fin])

/-! ## What the outputs hold, block by block -/

theorem DH_val (r col : ℕ) (hr : r < 768) (hc : col < 2880) : DH A (i2 r col) =
    if col < 2816 then
      if col % 256 < 128 then dhA A (r / 128) (256 * (col / 256)) (i2 (r % 128) (col % 256))
      else dhB A (r / 128) (256 * (col / 256)) (i2 (r % 128) (col % 256 - 128))
    else dhC A (r / 128) (i2 (r % 128) (col - 2816)) := by
  have e := i2_val (n0 := 768) (n1 := 2880) hr hc
  unfold DH
  rw [e.1, e.2]

theorem dhA_put (a C : ℕ) (hC : C % 256 = 0) (hC' : C < 2816) {w : S128x128.Idx → Elt F .bf16} (hw : w = dhA A a C) (i j : Fin 128)
    (h1 : 128 * a + i.val < 768) (h2 : C + j.val < 2880) : w (ix2 i j) = DH A (i2 (128 * a + i.val) (C + j.val)) := by
  rw [hw, DH_val A _ _ h1 h2, if_pos (by omega), if_pos (by omega), show (128 * a + i.val) / 128 = a by omega, show 256 * ((C + j.val) / 256) = C by omega,
    show (128 * a + i.val) % 128 = i.val by omega, show (C + j.val) % 256 = j.val by omega, i2_fin]

theorem dhB_put (a C : ℕ) (hC : C % 256 = 0) (hC' : C < 2816) {w : S128x128.Idx → Elt F .bf16} (hw : w = dhB A a C) (i j : Fin 128)
    (h1 : 128 * a + i.val < 768) (h2 : (C + 128) + j.val < 2880) : w (ix2 i j) = DH A (i2 (128 * a + i.val) ((C + 128) + j.val)) := by
  rw [hw, DH_val A _ _ h1 h2, if_pos (by omega), if_neg (by omega), show (128 * a + i.val) / 128 = a by omega, show 256 * ((C + 128 + j.val) / 256) = C by omega,
    show (128 * a + i.val) % 128 = i.val by omega, show (C + 128 + j.val) % 256 - 128 = j.val by omega, i2_fin]

theorem dhC_put (a : ℕ) {w : S128x64.Idx → Elt F .bf16} (hw : w = dhC A a) (i : Fin 128) (j : Fin 64)
    (h1 : 128 * a + i.val < 768) (h2 : 2816 + j.val < 2880) : w (ix2 i j) = DH A (i2 (128 * a + i.val) (2816 + j.val)) := by
  rw [hw, DH_val A _ _ h1 h2, if_neg (by omega), show (128 * a + i.val) / 128 = a by omega,
    show (128 * a + i.val) % 128 = i.val by omega, show 2816 + j.val - 2816 = j.val by omega, i2_fin]

theorem dz_put (a : ℕ) (i : Fin 2048) (j : Fin 128)
    (h1 : 2048 * a + i.val < 12288) (h2 : 0 + j.val < 128) : dzN A a (ix2 i j) = DZ A (i2 (2048 * a + i.val) (0 + j.val)) := by
  have e := i2_val (n0 := 12288) (n1 := 128) h1 h2
  unfold DZ
  rw [e.1, e.2, show (2048 * a + i.val) / 2048 = a by omega, show (2048 * a + i.val) % 2048 = i.val by omega, Nat.zero_add, i2_fin]

theorem i3_row (a j : ℕ) (ha : a < 6) (hj : j < 128) : ((i3 (n0 := 6) (n1 := 1) (n2 := 128) a 0 j) 0).val = a ∧ ((i3 (n0 := 6) (n1 := 1) (n2 := 128) a 0 j) 2).val = j :=
  ⟨Nat.mod_eq_of_lt ha, Nat.mod_eq_of_lt hj⟩

theorem row_eta (x : S1x1x128.Idx) : i3 (n0 := 1) (n1 := 1) (n2 := 128) 0 0 (x 2).val = x := by
  have h0 : (x 0).val < 1 := (x 0).isLt
  have h1 : (x 1).val < 1 := (x 1).isLt
  have h2 : (x 2).val < 128 := (x 2).isLt
  funext d
  match d with
  | ⟨0, _⟩ => exact Fin.ext (by show 0 % 1 = (x 0).val; omega)
  | ⟨1, _⟩ => exact Fin.ext (by show 0 % 1 = (x 1).val; omega)
  | ⟨2, _⟩ => exact Fin.ext (by show (x 2).val % 128 = (x 2).val; omega)

theorem loss_put (a : ℕ) (ha : a < 6) (x : S1x1x128.Idx) : lossN A a x = LOSS A (i3 a 0 (x 2).val) := by
  have e := i3_row a (x 2).val ha (x 2).isLt
  unfold LOSS
  rw [e.1, e.2, row_eta]

theorem dzt_put (a : ℕ) (ha : a < 6) (x : S1x1x128.Idx) : dztN A a x = DZT A (i3 a 0 (x 2).val) := by
  have e := i3_row a (x 2).val ha (x 2).isLt
  unfold DZT
  rw [e.1, e.2, row_eta]

/-! ## The trip, stretch by stretch -/

/-- The targets' rows waited for, and the first two tiles of their dots. -/
theorem dots0 (a : Fin k0_t4_loop.trips) (x1 x2 : BitVec 32) {k : _ → Prog (TpuEff nD τ sig (Elt F) Λ₀ .tc) α} :
    iprop(tgtFly c q A.w (tid A.tids a.val) ∗ kTgv c A q3 ∗ kX c A q2 ∗ kOwes c)
      ⊢ iprop((∀ u0 u1, semVal ((c : Thread nD τ), SemLoc.dma tSem) 0 -∗ kT c A a.val -∗ wordsPt c q A.w -∗ kTgv c A q3 -∗ kX c A q2 -∗ kOwes c -∗
        wp frame (wpE defs₀ Variants.none (c : Thread nD τ) none) Set.univ (k ⟨u0, u1, (k0_pay85 (F := F) (tgRow A a.val)), tcol A a.val, tsh A a.val, acc0 A a.val⟩) Q) -∗
      wp frame (wpE defs₀ Variants.none (c : Thread nD τ) none) Set.univ (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 x1 x2 a >>= k) Q) := by
  rw [k0_part29_eq_skeleton]
  unfold k0_part29_skel
  simp only [Prog.bind_assoc, Prog.bind_lift, Prog.bind_ret, Prog.bind_op, pure_bind, bind_assoc]
  iintro ⟨HF, HV, HX, HO⟩ Hk
  iapply (ld3 c (m := mTgv) a.val rfl) $$ HV
  iintro HV
  iapply (t5_loop c A q a x1 x2) $$ [HF HO]
  · isplitl [HF]; · iexact HF
    iexact HO
  iintro HS HT HW HO
  iapply (tg_ld c A a.val 0 rfl) $$ HT
  iintro HT
  iapply (x_ld c A q2 a.val 0 rfl) $$ HX
  iintro HX
  iapply (tg_ld c A a.val 128 rfl) $$ HT
  iintro HT
  iapply (x_ld c A q2 a.val 128 rfl) $$ HX
  iintro HX
  iapply Hk $$ %_ %_ HS HT HW HV HX HO

/-- The rest of the targets' dots. -/
theorem dots1 (a : Fin k0_t4_loop.trips) (w : BitVec 32) {k : _ → Prog (TpuEff nD τ sig (Elt F) Λ₀ .tc) α} :
    iprop(kT c A a.val ∗ kX c A q2)
      ⊢ iprop((kT c A a.val -∗ kX c A q2 -∗ wp frame (wpE defs₀ Variants.none (c : Thread nD τ) none) Set.univ (k ⟨acc6 A a.val, hot A a.val⟩) Q) -∗
      wp frame (wpE defs₀ Variants.none (c : Thread nD τ) none) Set.univ (do
        let v136 ← k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a w (tsh A a.val) (acc0 A a.val)
        let v180 ← k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a w (tsh A a.val) v136
        let v224 ← k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a w (tsh A a.val) v180
        let v268 ← k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a w (tsh A a.val) v224
        let v312 ← k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a w (tsh A a.val) v268
        let r ← k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 iot a w (tcol A a.val) (tsh A a.val) v312
        k r) Q) := by
  rw [k0_part30_eq_skeleton, k0_part31_eq_skeleton, k0_part32_eq_skeleton, k0_part33_eq_skeleton, k0_part34_eq_skeleton, k0_part35_eq_skeleton]
  unfold k0_part30_skel k0_part31_skel k0_part32_skel k0_part33_skel k0_part34_skel k0_part35_skel
  simp only [Prog.bind_assoc, Prog.bind_lift, Prog.bind_ret, Prog.bind_op, pure_bind, bind_assoc]
  iintro ⟨HT, HX⟩ Hk
  iapply (tg_ld c A a.val 256 rfl) $$ HT
  iintro HT
  iapply (x_ld c A q2 a.val 256 rfl) $$ HX
  iintro HX
  iapply (tg_ld c A a.val 384 rfl) $$ HT
  iintro HT
  iapply (x_ld c A q2 a.val 384 rfl) $$ HX
  iintro HX
  iapply (tg_ld c A a.val 512 rfl) $$ HT
  iintro HT
  iapply (x_ld c A q2 a.val 512 rfl) $$ HX
  iintro HX
  iapply (tg_ld c A a.val 640 rfl) $$ HT
  iintro HT
  iapply (x_ld c A q2 a.val 640 rfl) $$ HX
  iintro HX
  iapply (tg_ld c A a.val 768 rfl) $$ HT
  iintro HT
  iapply (x_ld c A q2 a.val 768 rfl) $$ HX
  iintro HX
  iapply (tg_ld c A a.val 896 rfl) $$ HT
  iintro HT
  iapply (x_ld c A q2 a.val 896 rfl) $$ HX
  iintro HX
  iapply (tg_ld c A a.val 1024 rfl) $$ HT
  iintro HT
  iapply (x_ld c A q2 a.val 1024 rfl) $$ HX
  iintro HX
  iapply (tg_ld c A a.val 1152 rfl) $$ HT
  iintro HT
  iapply (x_ld c A q2 a.val 1152 rfl) $$ HX
  iintro HX
  iapply (tg_ld c A a.val 1280 rfl) $$ HT
  iintro HT
  iapply (x_ld c A q2 a.val 1280 rfl) $$ HX
  iintro HX
  iapply (tg_ld c A a.val 1408 rfl) $$ HT
  iintro HT
  iapply (x_ld c A q2 a.val 1408 rfl) $$ HX
  iintro HX
  iapply (tg_ld c A a.val 1536 rfl) $$ HT
  iintro HT
  iapply (x_ld c A q2 a.val 1536 rfl) $$ HX
  iintro HX
  iapply (tg_ld c A a.val 1664 rfl) $$ HT
  iintro HT
  iapply (x_ld c A q2 a.val 1664 rfl) $$ HX
  iintro HX
  iapply (tg_ld c A a.val 1792 rfl) $$ HT
  iintro HT
  iapply (x_ld c A q2 a.val 1792 rfl) $$ HX
  iintro HX
  iapply (tg_ld c A a.val 1920 rfl) $$ HT
  iintro HT
  iapply (x_ld c A q2 a.val 1920 rfl) $$ HX
  iintro HX
  iapply (tg_ld c A a.val 2048 rfl) $$ HT
  iintro HT
  iapply (x_ld c A q2 a.val 2048 rfl) $$ HX
  iintro HX
  iapply (tg_ld c A a.val 2176 rfl) $$ HT
  iintro HT
  iapply (x_ld c A q2 a.val 2176 rfl) $$ HX
  iintro HX
  iapply (tg_ld c A a.val 2304 rfl) $$ HT
  iintro HT
  iapply (x_ld c A q2 a.val 2304 rfl) $$ HX
  iintro HX
  iapply (tg_ld c A a.val 2432 rfl) $$ HT
  iintro HT
  iapply (x_ld c A q2 a.val 2432 rfl) $$ HX
  iintro HX
  iapply (tg_ld c A a.val 2560 rfl) $$ HT
  iintro HT
  iapply (x_ld c A q2 a.val 2560 rfl) $$ HX
  iintro HX
  iapply (tg_ld c A a.val 2688 rfl) $$ HT
  iintro HT
  iapply (x_ld c A q2 a.val 2688 rfl) $$ HX
  iintro HX
  iapply (tg_ld c A a.val 2816 rfl) $$ HT
  iintro HT
  iapply (x_ld c A q2 a.val 2816 rfl) $$ HX
  iintro HX
  iapply Hk $$ HT HX

include hid in
/-- The batch's chunks, and the softmax's maximum and correction. -/
theorem chunks (a : Fin k0_t4_loop.trips) (x1 x2 : BitVec 32) {k : _ → Prog (TpuEff nD τ sig (Elt F) Λ₀ .tc) α} :
    I6 c A qs q1 q2 a.val 0
      ⊢ iprop((I6 c A qs q1 q2 a.val 8 -∗ wp frame (wpE defs₀ Variants.none (c : Thread nD τ) none) Set.univ (k ⟨tscale A a.val, zt A a.val, ZZ A a.val, v396 A a.val, v397 A a.val⟩) Q) -∗
      wp frame (wpE defs₀ Variants.none (c : Thread nD τ) none) Set.univ (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 iot a x1 x2 (k0_pay85 (F := F) (tgRow A a.val)) (tcol A a.val) (acc6 A a.val) (hot A a.val) >>= k) Q) := by
  rw [k0_part36_eq_skeleton]
  unfold k0_part36_skel
  simp only [Prog.bind_assoc, Prog.bind_lift, Prog.bind_ret, Prog.bind_op, pure_bind, bind_assoc]
  unfold I6
  iintro ⟨H1, H2, H3, H4, H5, H6, HT, H7⟩ Hk
  iapply (ld2 c (m := mTP) (TP A) 0 0 rfl (fun i j h1 h2 => tp_done i j) (fun i j h1 h2 => tp_whole A i j)) $$ HT
  iintro HT
  iapply (Scf.wp_for_bind Idealize.ShloMosaic.frame (wpE defs₀ Variants.none (c : Thread nD τ) none) Set.univ _ _ _ k0_t6_ok ⟨⟩ _ (fun j _ => I6 c A qs q1 q2 a.val j) (fun b _ => t6_trip c A hid qs q1 q2 a x1 x2 (tcol A a.val) (acc6 A a.val) (hot A a.val) b)) $$ [H1 H2 H3 H4 H5 H6 HT H7]
  · unfold I6
    isplitl [H1]; · iexact H1
    isplitl [H2]; · iexact H2
    isplitl [H3]; · iexact H3
    isplitl [H4]; · iexact H4
    isplitl [H5]; · iexact H5
    isplitl [H6]; · iexact H6
    isplitl [HT]; · iexact HT
    iexact H7
  iintro %acc HI
  rw [show Scf.trips k0_t6_loop.lb k0_t6_loop.ub k0_t6_loop.st = 8 from t6_trips]
  unfold I6
  icases HI with ⟨H1, H2, H3, H4, H5, H6, HT, HX, HB, HSC, HZ⟩
  iapply (z_ld c A a.val rfl) $$ HZ
  iintro HZ
  iapply Hk
  isplitl [H1]; · iexact H1
  isplitl [H2]; · iexact H2
  isplitl [H3]; · iexact H3
  isplitl [H4]; · iexact H4
  isplitl [H5]; · iexact H5
  isplitl [H6]; · iexact H6
  isplitl [HT]; · iexact HT
  isplitl [HX]; · iexact HX
  isplitl [HB]; · iexact HB
  isplitl [HSC]; · iexact HSC
  iexact HZ

/-- The loss and the gradients of the logits written. -/
theorem grads (a : Fin k0_t4_loop.trips) (x1 : BitVec 32) {k : _ → Prog (TpuEff nD τ sig (Elt F) Λ₀ .tc) α} :
    iprop(kG c A q4 ∗ kLoss c A a.val ∗ kDzt c A a.val ∗ kDz c A (2048 * a.val) 0 ∗ kSC c A a.val 2048 0 ∗ kCB c A a.val 2048 0)
      ⊢ iprop((kG c A q4 -∗ kLoss c A (a.val + 1) -∗ kDzt c A (a.val + 1) -∗ kDz c A (2048 * a.val) (0 + 128) -∗ kSC c A a.val 2048 0 -∗ kCB c A a.val 2048 0 -∗
        wp frame (wpE defs₀ Variants.none (c : Thread nD τ) none) Set.univ (k ⟨dzs A a.val, coef A a.val, cbT A a.val 0 0⟩) Q) -∗
      wp frame (wpE defs₀ Variants.none (c : Thread nD τ) none) Set.univ (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tscale A a.val) (zt A a.val) (ZZ A a.val) (v396 A a.val) (v397 A a.val) >>= k) Q) := by
  have ha : a.val < 6 := lt_of_lt_of_eq a.isLt t4_trips
  rw [k0_part37_eq_skeleton]
  unfold k0_part37_skel
  simp only [Prog.bind_assoc, Prog.bind_lift, Prog.bind_ret, Prog.bind_op, pure_bind, bind_assoc]
  iintro ⟨HG, HL, HD, HZ, HSC, HB⟩ Hk
  iapply (ld3 c (m := mG) a.val rfl) $$ HG
  iintro HG
  iapply (put3 c (m := mLOSS) a.val rfl) $$ HL []
  · ipureintro
    exact fun x => loss_put A a.val ha x
  iintro HL
  iapply (put3 c (m := mDZT) a.val rfl) $$ HD []
  · ipureintro
    exact fun x => dzt_put A a.val ha x
  iintro HD
  iapply (put2 c (m := mDZ) (2048 * a.val) 0 rfl) $$ HZ []
  · ipureintro
    exact fun i j h1 h2 => dz_put A a.val i j h1 h2
  iintro HZ
  iapply (sc_ld c A a.val rfl) $$ HSC
  iintro HSC
  iapply (cb_ld c A a.val 0 rfl) $$ HB
  iintro HB
  iapply Hk $$ HG HL HD HZ HSC HB

/-- The gradient of the hidden states written, tile by tile. -/
theorem tiles (a : Fin k0_t4_loop.trips) (x1 : BitVec 32) {k : PUnit → Prog (TpuEff nD τ sig (Elt F) Λ₀ .tc) α} :
    iprop(kT c A a.val ∗ kCB c A a.val 2048 0 ∗ kDh c A (128 * a.val) 0)
      ⊢ iprop((kT c A a.val -∗ kCB c A a.val 2048 0 -∗ kDh c A (128 * a.val) (2816 + 64) -∗ wp frame (wpE defs₀ Variants.none (c : Thread nD τ) none) Set.univ (k ⟨⟩) Q) -∗
      wp frame (wpE defs₀ Variants.none (c : Thread nD τ) none) Set.univ (do
        let ⟨v465, v478, cst⟩ : Σ' (v465 : FVec F S128x256 .f32) (v478 : IVec S128x128 32), BitVec 32 ← k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tsh A a.val) (dzs A a.val) (coef A a.val) (cbT A a.val 0 0)
        let ⟨v513, v517⟩ : Σ' (v513 : FVec F S128x256 .f32), IVec S128x128 32 ← k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tsh A a.val) (dzs A a.val) (coef A a.val) v465 v478 cst
        let v557 ← k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tsh A a.val) (dzs A a.val) (coef A a.val) v513 v517
        let v585 ← k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tsh A a.val) (dzs A a.val) (coef A a.val) v557
        let v633 ← k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tsh A a.val) (dzs A a.val) (coef A a.val) v585
        let ⟨v673, v674⟩ : Σ' (v673 : FVec F S128x128 .f32), FVec F S128x128 .f32 ← k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tsh A a.val) (dzs A a.val) (coef A a.val) v633
        let ⟨v705, v713⟩ : Σ' (v705 : FVec F S128x64 .f32), FVec F S128x64 .f32 ← k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a x1 (tsh A a.val) (dzs A a.val) (coef A a.val) v673 v674
        let _ : Vec F S128x64 .bf16 ← Prog.lift (.load mDH (Rect.unit (s := S768x2880) (k0_off114 a) S128x64.size (k0_off114_inb a)).toLoadRect (View.loadsAt_vmem h_S128x64))
        let r ← Prog.lift (.store mDH (Rect.unit (s := S768x2880) (k0_off114 a) S128x64.size (k0_off114_inb a)) (k0_pay6 v705 v713) Finset.univ (View.stores_vmem h_S128x64 ((Memref.isWhole_whole _).storeExact_slice rfl _ (k0_off114_packedbf16 a)) (fun _ => rfl)) (.inl rfl))
        k r) Q) := by
  rw [k0_part38_eq_skeleton, k0_part39_eq_skeleton, k0_part40_eq_skeleton, k0_part41_eq_skeleton, k0_part42_eq_skeleton, k0_part43_eq_skeleton, k0_part44_eq_skeleton]
  unfold k0_part38_skel k0_part39_skel k0_part40_skel k0_part41_skel k0_part42_skel k0_part43_skel k0_part44_skel
  simp only [Prog.bind_assoc, Prog.bind_lift, Prog.bind_ret, Prog.bind_op, pure_bind, bind_assoc]
  iintro ⟨HT, HB, HD⟩ Hk
  iapply (tg_ld c A a.val 0 rfl) $$ HT
  iintro HT
  iapply (put2 c (m := mDH) (128 * a.val) 0 rfl) $$ HD []
  · ipureintro
    exact dhA_put A a.val 0 rfl (by decide) rfl
  iintro HD
  iapply (tg_ld c A a.val 128 rfl) $$ HT
  iintro HT
  iapply (put2 c (m := mDH) (128 * a.val) 128 rfl) $$ HD []
  · ipureintro
    exact dhB_put A a.val 0 rfl (by decide) rfl
  iintro HD
  iapply (cb_ld c A a.val 256 rfl) $$ HB
  iintro HB
  iapply (tg_ld c A a.val 256 rfl) $$ HT
  iintro HT
  iapply (put2 c (m := mDH) (128 * a.val) 256 rfl) $$ HD []
  · ipureintro
    exact dhA_put A a.val 256 rfl (by decide) rfl
  iintro HD
  iapply (tg_ld c A a.val 384 rfl) $$ HT
  iintro HT
  iapply (put2 c (m := mDH) (128 * a.val) 384 rfl) $$ HD []
  · ipureintro
    exact dhB_put A a.val 256 rfl (by decide) rfl
  iintro HD
  iapply (cb_ld c A a.val 512 rfl) $$ HB
  iintro HB
  iapply (tg_ld c A a.val 512 rfl) $$ HT
  iintro HT
  iapply (put2 c (m := mDH) (128 * a.val) 512 rfl) $$ HD []
  · ipureintro
    exact dhA_put A a.val 512 rfl (by decide) rfl
  iintro HD
  iapply (tg_ld c A a.val 640 rfl) $$ HT
  iintro HT
  iapply (put2 c (m := mDH) (128 * a.val) 640 rfl) $$ HD []
  · ipureintro
    exact dhB_put A a.val 512 rfl (by decide) rfl
  iintro HD
  iapply (cb_ld c A a.val 768 rfl) $$ HB
  iintro HB
  iapply (tg_ld c A a.val 768 rfl) $$ HT
  iintro HT
  iapply (put2 c (m := mDH) (128 * a.val) 768 rfl) $$ HD []
  · ipureintro
    exact dhA_put A a.val 768 rfl (by decide) rfl
  iintro HD
  iapply (tg_ld c A a.val 896 rfl) $$ HT
  iintro HT
  iapply (put2 c (m := mDH) (128 * a.val) 896 rfl) $$ HD []
  · ipureintro
    exact dhB_put A a.val 768 rfl (by decide) rfl
  iintro HD
  iapply (cb_ld c A a.val 1024 rfl) $$ HB
  iintro HB
  iapply (tg_ld c A a.val 1024 rfl) $$ HT
  iintro HT
  iapply (put2 c (m := mDH) (128 * a.val) 1024 rfl) $$ HD []
  · ipureintro
    exact dhA_put A a.val 1024 rfl (by decide) rfl
  iintro HD
  iapply (tg_ld c A a.val 1152 rfl) $$ HT
  iintro HT
  iapply (put2 c (m := mDH) (128 * a.val) 1152 rfl) $$ HD []
  · ipureintro
    exact dhB_put A a.val 1024 rfl (by decide) rfl
  iintro HD
  iapply (cb_ld c A a.val 1280 rfl) $$ HB
  iintro HB
  iapply (tg_ld c A a.val 1280 rfl) $$ HT
  iintro HT
  iapply (put2 c (m := mDH) (128 * a.val) 1280 rfl) $$ HD []
  · ipureintro
    exact dhA_put A a.val 1280 rfl (by decide) rfl
  iintro HD
  iapply (tg_ld c A a.val 1408 rfl) $$ HT
  iintro HT
  iapply (put2 c (m := mDH) (128 * a.val) 1408 rfl) $$ HD []
  · ipureintro
    exact dhB_put A a.val 1280 rfl (by decide) rfl
  iintro HD
  iapply (cb_ld c A a.val 1536 rfl) $$ HB
  iintro HB
  iapply (tg_ld c A a.val 1536 rfl) $$ HT
  iintro HT
  iapply (put2 c (m := mDH) (128 * a.val) 1536 rfl) $$ HD []
  · ipureintro
    exact dhA_put A a.val 1536 rfl (by decide) rfl
  iintro HD
  iapply (tg_ld c A a.val 1664 rfl) $$ HT
  iintro HT
  iapply (put2 c (m := mDH) (128 * a.val) 1664 rfl) $$ HD []
  · ipureintro
    exact dhB_put A a.val 1536 rfl (by decide) rfl
  iintro HD
  iapply (cb_ld c A a.val 1792 rfl) $$ HB
  iintro HB
  iapply (tg_ld c A a.val 1792 rfl) $$ HT
  iintro HT
  iapply (put2 c (m := mDH) (128 * a.val) 1792 rfl) $$ HD []
  · ipureintro
    exact dhA_put A a.val 1792 rfl (by decide) rfl
  iintro HD
  iapply (tg_ld c A a.val 1920 rfl) $$ HT
  iintro HT
  iapply (put2 c (m := mDH) (128 * a.val) 1920 rfl) $$ HD []
  · ipureintro
    exact dhB_put A a.val 1792 rfl (by decide) rfl
  iintro HD
  iapply (cb_ld c A a.val 2048 rfl) $$ HB
  iintro HB
  iapply (tg_ld c A a.val 2048 rfl) $$ HT
  iintro HT
  iapply (put2 c (m := mDH) (128 * a.val) 2048 rfl) $$ HD []
  · ipureintro
    exact dhA_put A a.val 2048 rfl (by decide) rfl
  iintro HD
  iapply (tg_ld c A a.val 2176 rfl) $$ HT
  iintro HT
  iapply (put2 c (m := mDH) (128 * a.val) 2176 rfl) $$ HD []
  · ipureintro
    exact dhB_put A a.val 2048 rfl (by decide) rfl
  iintro HD
  iapply (cb_ld c A a.val 2304 rfl) $$ HB
  iintro HB
  iapply (tg_ld c A a.val 2304 rfl) $$ HT
  iintro HT
  iapply (put2 c (m := mDH) (128 * a.val) 2304 rfl) $$ HD []
  · ipureintro
    exact dhA_put A a.val 2304 rfl (by decide) rfl
  iintro HD
  iapply (tg_ld c A a.val 2432 rfl) $$ HT
  iintro HT
  iapply (put2 c (m := mDH) (128 * a.val) 2432 rfl) $$ HD []
  · ipureintro
    exact dhB_put A a.val 2304 rfl (by decide) rfl
  iintro HD
  iapply (cb_ld c A a.val 2560 rfl) $$ HB
  iintro HB
  iapply (tg_ld c A a.val 2560 rfl) $$ HT
  iintro HT
  iapply (put2 c (m := mDH) (128 * a.val) 2560 rfl) $$ HD []
  · ipureintro
    exact dhA_put A a.val 2560 rfl (by decide) rfl
  iintro HD
  iapply (tg_ld c A a.val 2688 rfl) $$ HT
  iintro HT
  iapply (put2 c (m := mDH) (128 * a.val) 2688 rfl) $$ HD []
  · ipureintro
    exact dhB_put A a.val 2560 rfl (by decide) rfl
  iintro HD
  iapply (cb_ld64 c A a.val 2816 rfl) $$ HB
  iintro HB
  iapply (tg_ld c A a.val 2816 rfl) $$ HT
  iintro HT
  iapply (put2 c (m := mDH) (128 * a.val) 2816 rfl) $$ HD []
  · ipureintro
    exact dhC_put A a.val rfl
  iintro HD
  iapply Hk $$ HT HB HD

end Cert.KernelIdeal.Hand
-- ==== Proof.IBody.lean ====
/-
  Hand-written. The kernel's run.
-/
module

public import proofs.«01_k».proof.Proof.IBatch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx Cert.Dma

variable (c : Dev nD) (A : Ins F) (hid : ∀ i, (A.ids i).toNat < 60000) (htd : ∀ i, (A.tids i).toNat < 60000) (qs : Fin 3 → PosShare TreeShare) (q q1 q2 q3 q4 : PosShare TreeShare)

set_option maxHeartbeats 4000000

/-- Before batch `a`. -/
def I4 (a : ℕ) : sProp 𝕄 :=
  iprop((if a < 6 then tgtFly c q A.w (tid A.tids a) else tgtFree c q A.w) ∗ tidsPt c A.tids ∗ kTgv c A q3 ∗ kG c A q4
    ∗ kLoss c A a ∗ kDzt c A a ∗ kDz c A (2048 * a) 0 ∗ kDh c A (128 * a) 0 ∗ I6 c A qs q1 q2 a 0)

/-- Nothing of a matrix is known. -/
theorem forget2 {cs : CoreSpace} {n0 n1 : ℕ} {et : EltTy} {m : Memref sig .tc (.core cs) ⟨2, ![n0, n1]⟩ et} {p : PosShare TreeShare}
    {G : (⟨2, ![n0, n1]⟩ : Shape).Idx → Elt F et} {D : (⟨2, ![n0, n1]⟩ : Shape).Idx → Prop} (G' : (⟨2, ![n0, n1]⟩ : Shape).Idx → Elt F et) (H : ℕ) :
    Known (c : Thread nD τ) m Finset.univ p G D ⊢ (Known (c : Thread nD τ) m Finset.univ p G' (upTo H 0 0) : sProp 𝕄) := by
  refine known_mono (c : Thread nD τ) fun y hy => ?_
  unfold upTo at hy
  exact absurd hy (by omega)

include hid htd in
theorem t4_trip (a : Fin k0_t4_loop.trips) :
    I4 c A qs q q1 q2 q3 q4 a.val ⊢ wp frame (wpE defs₀ Variants.none (c : Thread nD τ) none) Set.univ (k0_t4_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 iot a ()) (fun _ => I4 c A qs q q1 q2 q3 q4 (a.val + 1)) := by
  have ha : a.val < 6 := lt_of_lt_of_eq a.isLt t4_trips
  unfold I4 k0_t4_body
  rw [if_pos ha]
  iintro ⟨HF, HTS, HTV, HG, HL, HDT, HDZ, HDH, HI6⟩
  unfold I6
  icases HI6 with ⟨H1, H2, H3, H4, HO, H6, HTP, HX, HB, HSC, HZ⟩
  iapply (dots0 c A q q2 q3 a _ _) $$ [HF HTV HX HO]
  · isplitl [HF]; · iexact HF
    isplitl [HTV]; · iexact HTV
    isplitl [HX]; · iexact HX
    iexact HO
  iintro %u0 %u1 HS HT HW HTV HX HO
  simp only []
  iapply (dots1 c A q2 a _) $$ [HT HX]
  · isplitl [HT]; · iexact HT
    iexact HX
  iintro HT HX
  simp only []
  iapply (chunks c A hid qs q1 q2 a _ _) $$ [H1 H2 H3 H4 HO H6 HTP HX HB HSC HZ]
  · unfold I6
    isplitl [H1]; · iexact H1
    isplitl [H2]; · iexact H2
    isplitl [H3]; · iexact H3
    isplitl [H4]; · iexact H4
    isplitl [HO]; · iexact HO
    isplitl [H6]; · iexact H6
    isplitl [HTP]; · iexact HTP
    isplitl [HX]; · iexact HX
    isplitl [HB]; · iexact HB
    isplitl [HSC]; · iexact HSC
    iexact HZ
  iintro HI6
  simp only []
  unfold I6
  icases HI6 with ⟨H1, H2, H3, H4, HO, H6, HTP, HX, HB, HSC, HZ⟩
  iapply (grads c A q4 a _) $$ [HG HL HDT HDZ HSC HB]
  · isplitl [HG]; · iexact HG
    isplitl [HL]; · iexact HL
    isplitl [HDT]; · iexact HDT
    isplitl [HDZ]; · iexact HDZ
    isplitl [HSC]; · iexact HSC
    iexact HB
  iintro HG HL HDT HDZ HSC HB
  simp only []
  iapply (tiles c A a _) $$ [HT HB HDH]
  · isplitl [HT]; · iexact HT
    isplitl [HB]; · iexact HB
    iexact HDH
  iintro HT HB HDH
  simp only []
  ihave HB := (forget2 c (m := mCB) (CB A (a.val + 1)) 128) $$ HB
  ihave HSC := (forget2 c (m := mSC) (SC A (a.val + 1)) 128) $$ HSC
  ihave HZ := (forget2 c (m := mZ) (ZZ A (a.val + 1)) 128) $$ HZ
  ihave HDZ := (next c (m := mDZ) (2048 * (a.val + 1)) 2048 (le_refl _) (by omega)) $$ HDZ
  ihave HDH := (next c (m := mDH) (128 * (a.val + 1)) 128 (le_refl _) (by omega)) $$ HDH
  ihave HF := (tgt_free c A q a.val) $$ [HS HT HW]
  · isplitl [HS]; · iexact HS
    isplitl [HT]; · iexact HT
    iexact HW
  by_cases h2 : k0_cond2 a = 1#1
  · have h6 : a.val + 1 < 6 := (cond2_iff a).mp h2
    rw [dif_pos h2, if_pos h6]
    simp only [Prog.bind_assoc, Prog.bind_lift, Prog.bind_ret, Prog.bind_op, pure_bind, bind_assoc]
    iapply (t9_loop c A htd q a _ h2) $$ [HF HTS]
    · isplitl [HF]; · iexact HF
      iexact HTS
    iintro HF HTS
    rw [wp_pure]
    imodintro
    isplitl [HF]; · iexact HF
    isplitl [HTS]; · iexact HTS
    isplitl [HTV]; · iexact HTV
    isplitl [HG]; · iexact HG
    isplitl [HL]; · iexact HL
    isplitl [HDT]; · iexact HDT
    isplitl [HDZ]; · iexact HDZ
    isplitl [HDH]; · iexact HDH
    isplitl [H1]; · iexact H1
    isplitl [H2]; · iexact H2
    isplitl [H3]; · iexact H3
    isplitl [H4]; · iexact H4
    isplitl [HO]; · iexact HO
    isplitl [H6]; · iexact H6
    isplitl [HTP]; · iexact HTP
    isplitl [HX]; · iexact HX
    isplitl [HB]; · iexact HB
    isplitl [HSC]; · iexact HSC
    iexact HZ
  · have h6 : ¬ a.val + 1 < 6 := fun h => h2 ((cond2_iff a).mpr h)
    rw [dif_neg h2, if_neg h6]
    simp only [Prog.bind_assoc, Prog.bind_lift, Prog.bind_ret, Prog.bind_op, pure_bind, bind_assoc]
    rw [wp_pure]
    imodintro
    isplitl [HF]; · iexact HF
    isplitl [HTS]; · iexact HTS
    isplitl [HTV]; · iexact HTV
    isplitl [HG]; · iexact HG
    isplitl [HL]; · iexact HL
    isplitl [HDT]; · iexact HDT
    isplitl [HDZ]; · iexact HDZ
    isplitl [HDH]; · iexact HDH
    isplitl [H1]; · iexact H1
    isplitl [H2]; · iexact H2
    isplitl [H3]; · iexact H3
    isplitl [H4]; · iexact H4
    isplitl [HO]; · iexact HO
    isplitl [H6]; · iexact H6
    isplitl [HTP]; · iexact HTP
    isplitl [HX]; · iexact HX
    isplitl [HB]; · iexact HB
    isplitl [HSC]; · iexact HSC
    iexact HZ

/-! ## The table's columns -/

theorem TP_0 (i : Fin 512) (j : Fin 128) : TP A (i2 (0 + i.val) (0 + j.val)) = k0_pay163 A.tsc (ix2 i j) := by
  have e := i2_val (n0 := 512) (n1 := 768) (a := 0 + i.val) (b := 0 + j.val) (by omega) (by omega)
  have e3 : (0 + j.val) % 128 = j.val := by omega
  unfold TP
  rw [e.1, e.2, Nat.zero_add, e3, i2_fin]
  simp only []
  rw [if_pos (show 0 + j.val < 128 by omega)]

theorem TP_1 (i : Fin 512) (j : Fin 128) : TP A (i2 (0 + i.val) (128 + j.val)) = k0_pay1 (k0_pay154 A.tsc) (ix2 i j) := by
  have e := i2_val (n0 := 512) (n1 := 768) (a := 0 + i.val) (b := 128 + j.val) (by omega) (by omega)
  have e3 : (128 + j.val) % 128 = j.val := by omega
  unfold TP
  rw [e.1, e.2, Nat.zero_add, e3, i2_fin]
  simp only []
  rw [if_neg (show ¬ 128 + j.val < 128 by omega), if_pos (show 128 + j.val < 256 by omega)]

theorem TP_2 (i : Fin 512) (j : Fin 128) : TP A (i2 (0 + i.val) (256 + j.val)) = k0_pay2 (k0_pay155 A.tsc) (ix2 i j) := by
  have e := i2_val (n0 := 512) (n1 := 768) (a := 0 + i.val) (b := 256 + j.val) (by omega) (by omega)
  have e3 : (256 + j.val) % 128 = j.val := by omega
  unfold TP
  rw [e.1, e.2, Nat.zero_add, e3, i2_fin]
  simp only []
  rw [if_neg (show ¬ 256 + j.val < 128 by omega), if_neg (show ¬ 256 + j.val < 256 by omega), if_pos (show 256 + j.val < 384 by omega)]

theorem TP_3 (i : Fin 512) (j : Fin 128) : TP A (i2 (0 + i.val) (384 + j.val)) = k0_pay3 (k0_pay160 A.tlq) (ix2 i j) := by
  have e := i2_val (n0 := 512) (n1 := 768) (a := 0 + i.val) (b := 384 + j.val) (by omega) (by omega)
  have e3 : (384 + j.val) % 128 = j.val := by omega
  unfold TP
  rw [e.1, e.2, Nat.zero_add, e3, i2_fin]
  simp only []
  rw [if_neg (show ¬ 384 + j.val < 128 by omega), if_neg (show ¬ 384 + j.val < 256 by omega), if_neg (show ¬ 384 + j.val < 384 by omega), if_pos (show 384 + j.val < 512 by omega)]

theorem TP_4 (i : Fin 512) (j : Fin 128) : TP A (i2 (0 + i.val) (512 + j.val)) = k0_pay4 (k0_pay161 A.tlq) (ix2 i j) := by
  have e := i2_val (n0 := 512) (n1 := 768) (a := 0 + i.val) (b := 512 + j.val) (by omega) (by omega)
  have e3 : (512 + j.val) % 128 = j.val := by omega
  unfold TP
  rw [e.1, e.2, Nat.zero_add, e3, i2_fin]
  simp only []
  rw [if_neg (show ¬ 512 + j.val < 128 by omega), if_neg (show ¬ 512 + j.val < 256 by omega), if_neg (show ¬ 512 + j.val < 384 by omega), if_neg (show ¬ 512 + j.val < 512 by omega), if_pos (show 512 + j.val < 640 by omega)]

theorem TP_5 (i : Fin 512) (j : Fin 128) : TP A (i2 (0 + i.val) (640 + j.val)) = k0_pay5 (k0_pay162 A.tlq) (ix2 i j) := by
  have e := i2_val (n0 := 512) (n1 := 768) (a := 0 + i.val) (b := 640 + j.val) (by omega) (by omega)
  have e3 : (640 + j.val) % 128 = j.val := by omega
  unfold TP
  rw [e.1, e.2, Nat.zero_add, e3, i2_fin]
  simp only []
  rw [if_neg (show ¬ 640 + j.val < 128 by omega), if_neg (show ¬ 640 + j.val < 256 by omega), if_neg (show ¬ 640 + j.val < 384 by omega), if_neg (show ¬ 640 + j.val < 512 by omega), if_neg (show ¬ 640 + j.val < 640 by omega)]

theorem whole2 {n0 n1 : ℕ} [NeZero n0] [NeZero n1] {et : EltTy} (G : (⟨2, ![n0, n1]⟩ : Shape).Idx → Elt F et) (i : Fin n0) (j : Fin n1) :
    G (i2 (0 + i.val) (0 + j.val)) = G (ix2 i j) := by
  rw [Nat.zero_add, Nat.zero_add, i2_fin]

abbrev mTsc : Memref sig .tc .vmem S512x128 .f32 := Memref.whole cc0_stg5_0
abbrev mTlq : Memref sig .tc .vmem S512x128 .f32 := Memref.whole cc0_stg6_0
abbrev kTsc (p : PosShare TreeShare) : sProp 𝕄 := Known (c : Thread nD τ) mTsc Finset.univ p A.tsc (fun _ => True)
abbrev kTlq (p : PosShare TreeShare) : sProp 𝕄 := Known (c : Thread nD τ) mTlq Finset.univ p A.tlq (fun _ => True)

include hid htd in
/-- The kernel: what it reads is unchanged, and the four outputs hold the values of `Spec`. -/
theorem fwd_run (p5 p6 : PosShare TreeShare) :
    iprop(tgtFree c q A.w ∗ ringFree c (qs 0) A.w 0 ∗ ringFree c (qs 1) A.w 1 ∗ ringFree c (qs 2) A.w 2 ∗ idsPt c A.ids ∗ tidsPt c A.tids ∗ kOwes c
      ∗ kIdv c A q1 ∗ kTgv c A q3 ∗ kX c A q2 ∗ kG c A q4 ∗ kTsc c A p5 ∗ kTlq c A p6
      ∗ Known (c : Thread nD τ) mTP Finset.univ fullShare (TP A) (upTo 512 0 0) ∗ kCB c A 0 0 0 ∗ kSC c A 0 0 0 ∗ kZ c A 0 0 0
      ∗ kLoss c A 0 ∗ kDzt c A 0 ∗ kDz c A 0 0 ∗ kDh c A 0 0)
      ⊢ wp frame (wpE defs₀ Variants.none (c : Thread nD τ) none) Set.univ (cc0_fwd (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole main_v12) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) (fun _ => iprop(I4 c A qs q q1 q2 q3 q4 6 ∗ kTsc c A p5 ∗ kTlq c A p6)) := by
  rw [cc0_fwd_eq_skeleton]
  unfold cc0_fwd_skel
  rw [k0_part45_eq_skeleton]
  unfold k0_part45_skel
  simp only [Prog.bind_assoc, Prog.bind_lift, Prog.bind_ret, Prog.bind_op, pure_bind, bind_assoc]
  iintro ⟨HF, HR0, HR1, HR2, HS, HTS, HO, HV, HTV, HX, HG, H5, H6, HT, HB, HSC, HZ, HL, HDT, HDZ, HDH⟩
  iapply (t1_loop c A htd q) $$ [HF HTS]
  · isplitl [HF]; · iexact HF
    iexact HTS
  iintro HF HTS
  iapply (t2_loop c A hid (qs 0)) $$ [HR0 HS]
  · isplitl [HR0]; · iexact HR0
    iexact HS
  iintro HR0 HS
  iapply (t3_loop c A hid (qs 1)) $$ [HR1 HS]
  · isplitl [HR1]; · iexact HR1
    iexact HS
  iintro HR1 HS
  iapply (ld2 c (m := mTsc) A.tsc 0 0 rfl (fun _ _ _ _ => trivial) (fun i j _ _ => whole2 A.tsc i j)) $$ H5
  iintro H5
  iapply (ld2 c (m := mTlq) A.tlq 0 0 rfl (fun _ _ _ _ => trivial) (fun i j _ _ => whole2 A.tlq i j)) $$ H6
  iintro H6
  iapply (put2 c (m := mTP) 0 0 rfl) $$ HT []
  · ipureintro
    exact fun i j h1 h2 => (TP_0 A i j).symm
  iintro HT
  iapply (put2 c (m := mTP) 0 128 rfl) $$ HT []
  · ipureintro
    exact fun i j h1 h2 => (TP_1 A i j).symm
  iintro HT
  iapply (put2 c (m := mTP) 0 256 rfl) $$ HT []
  · ipureintro
    exact fun i j h1 h2 => (TP_2 A i j).symm
  iintro HT
  iapply (put2 c (m := mTP) 0 384 rfl) $$ HT []
  · ipureintro
    exact fun i j h1 h2 => (TP_3 A i j).symm
  iintro HT
  iapply (put2 c (m := mTP) 0 512 rfl) $$ HT []
  · ipureintro
    exact fun i j h1 h2 => (TP_4 A i j).symm
  iintro HT
  iapply (put2 c (m := mTP) 0 640 rfl) $$ HT []
  · ipureintro
    exact fun i j h1 h2 => (TP_5 A i j).symm
  iintro HT
  iapply (Scf.wp_for_bind Idealize.ShloMosaic.frame (wpE defs₀ Variants.none (c : Thread nD τ) none) Set.univ _ _ _ k0_t4_ok ⟨⟩ _ (fun j _ => I4 c A qs q q1 q2 q3 q4 j) (fun a _ => t4_trip c A hid htd qs q q1 q2 q3 q4 a)) $$ [HF HTS HTV HG HL HDT HDZ HDH HR0 HR1 HR2 HS HO HV HT HX HB HSC HZ]
  · unfold I4 I6 cell
    rw [if_pos (by decide), if_pos (by decide), if_pos (by decide)]
    isplitl [HF]; · iexact HF
    isplitl [HTS]; · iexact HTS
    isplitl [HTV]; · iexact HTV
    isplitl [HG]; · iexact HG
    isplitl [HL]; · iexact HL
    isplitl [HDT]; · iexact HDT
    isplitl [HDZ]; · iexact HDZ
    isplitl [HDH]; · iexact HDH
    isplitl [HR0]; · iexact HR0
    isplitl [HR1]; · iexact HR1
    isplitl [HR2]; · iexact HR2
    isplitl [HS]; · iexact HS
    isplitl [HO]; · iexact HO
    isplitl [HV]; · iexact HV
    isplitl [HT]; · iexact HT
    isplitl [HX]; · iexact HX
    isplitl [HB]; · iexact HB
    isplitl [HSC]; · iexact HSC
    iexact HZ
  iintro %acc HI
  rw [show Scf.trips k0_t4_loop.lb k0_t4_loop.ub k0_t4_loop.st = 6 from t4_trips]
  rw [wp_pure]
  imodintro
  isplitl [HI]; · iexact HI
  isplitl [H5]; · iexact H5
  iexact H6

end Cert.KernelIdeal.Hand
-- ==== Proof.ILaunch.lean ====
/-
  Hand-written. The launch: the program runs, its arguments and semaphores end as they began, and the outputs are the
  values of `Spec`.
-/
module

public import proofs.«01_k».proof.Proof.IBody
public import proofs.«01_k».proof.Proof.Gen.KernelIdeal.Frame
public import Idealize.ShloMosaic.Lib.Pipeline.FrameBody
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)
open Cert.Dma

/-! ## Between a whole buffer and what is known of it -/

theorem known_owns (c : Dev nD) {cs : CoreSpace} {s : Shape} {e : EltTy} (m : Memref sig .tc (.core cs) s e) (hs : m.view.set = Finset.univ)
    (p : PosShare TreeShare) (G : s.Idx → Elt F e) (D : s.Idx → Prop) (hD : ∀ y, D y) :
    Known (c : Thread nD τ) m Finset.univ p G D ⊢ (owns (c : Thread nD τ) m p G : sProp 𝕄) := by
  unfold Known owns
  rw [hs]
  iintro ⟨%f, H, %hf⟩
  iexists f
  isplitr
  · ipureintro
    exact funext fun y => hf y (hD y)
  iexact H

theorem owns_known (c : Dev nD) {cs : CoreSpace} {s : Shape} {e : EltTy} (m : Memref sig .tc (.core cs) s e) (hs : m.view.set = Finset.univ)
    (p : PosShare TreeShare) (G : s.Idx → Elt F e) :
    owns (c : Thread nD τ) m p G ⊢ (Known (c : Thread nD τ) m Finset.univ p G (fun _ => True) : sProp 𝕄) := by
  unfold Known owns
  rw [hs]
  iintro ⟨%f, %hf, H⟩
  iexists f
  isplitl [H]; · iexact H
  ipureintro
  intro y _
  rw [hf]

theorem owns_none (c : Dev nD) {cs : CoreSpace} {s : Shape} {e : EltTy} (m : Memref sig .tc (.core cs) s e) (hs : m.view.set = Finset.univ)
    (p : PosShare TreeShare) (G G' : s.Idx → Elt F e) (D : s.Idx → Prop) (hD : ∀ y, ¬ D y) :
    owns (c : Thread nD τ) m p G' ⊢ (Known (c : Thread nD τ) m Finset.univ p G D : sProp 𝕄) :=
  (owns_known c m hs p G').trans (known_mono (c : Thread nD τ) fun y hy => absurd hy (hD y))

theorem pt_none (c : Dev nD) {cs : CoreSpace} {s : Shape} {e : EltTy} (m : Memref sig .tc (.core cs) s e)
    (p : PosShare TreeShare) (f : Buf (Elt F) (m.view.loc (c : Thread nD τ))) (G : s.Idx → Elt F e) (D : s.Idx → Prop) (hD : ∀ y, ¬ D y) :
    (m.view.loc (c : Thread nD τ) ↦{p} f) ⊢ (Known (c : Thread nD τ) m Finset.univ p G D : sProp 𝕄) := by
  unfold Known
  iintro H
  iexists f
  isplitl [H]; · iexact H
  ipureintro
  exact fun y hy => absurd hy (hD y)

theorem known_any (c : Dev nD) {cs : CoreSpace} {s : Shape} {e : EltTy} (m : Memref sig .tc (.core cs) s e)
    (p : PosShare TreeShare) (G : s.Idx → Elt F e) (D : s.Idx → Prop) :
    Known (c : Thread nD τ) m Finset.univ p G D ⊢ (iprop(∃ f, m.view.loc (c : Thread nD τ) ↦{p} f) : sProp 𝕄) := by
  unfold Known
  iintro ⟨%f, H, -⟩
  iexists f
  iexact H

/-! ## The ring's three slots, and the shares of the code table -/

theorem slots_disj : ∀ t ∈ (Finset.univ : Finset (Fin 3)), ∀ t' ∈ (Finset.univ : Finset (Fin 3)), t ≠ t' →
    Disjoint (slotSet t.val) (slotSet t'.val) := by
  intro t _ t' _ h
  rw [Finset.disjoint_left]; intro y h1 h2
  simp only [slotSet, Finset.mem_filter, Finset.mem_univ, true_and] at h1 h2
  exact h (Fin.ext (h1.symm.trans h2))

theorem slots_univ : (Finset.univ : Finset S3x256x2880.Idx) = Finset.univ.biUnion fun t : Fin 3 => slotSet t.val := by
  ext y
  simp only [slotSet, Finset.mem_filter, Finset.mem_univ, true_and, Finset.mem_biUnion, true_iff]
  exact ⟨y 0, rfl⟩

theorem three (Φ : Fin 3 → sProp (MT nD τ sig Unit (Elt F) ℕ (Pipeline.UD sig nD τ) ℕ)) :
    bigSep Finset.univ Φ = (iprop(Φ 0 ∗ Φ 1 ∗ Φ 2) : sProp 𝕄) := by
  rw [Idealize.SL.BI.bigSep_univ_eq_bigSepL [(0 : Fin 3), 1, 2] (by decide) (by decide)]; rfl

theorem ring_split (c : Dev nD) (f : S3x256x2880.Idx → Elt F .i32) :
    ringPt c Finset.univ f ⊢ (iprop(ringPt c (slotSet 0) f ∗ ringPt c (slotSet 1) f ∗ ringPt c (slotSet 2) f) : sProp 𝕄) := by
  have h := three (F := F) (fun t => ringPt c (slotSet t.val) f)
  unfold ringPt at h ⊢
  rw [slots_univ, pointsTo_biUnion _ _ slots_disj, h]
  exact .rfl

theorem join_aux {ℓ : Loc nD τ sig} {T : Type} (S : Finset T) (K : T → Finset (Idx ℓ)) (p : PosShare TreeShare) (fs : T → Buf (Elt F) ℓ) (f₀ : Buf (Elt F) ℓ)
    (h : ∀ t ∈ S, ∀ t' ∈ S, t ≠ t' → Disjoint (K t) (K t')) (hU : ∀ y, ∃ t ∈ S, y ∈ K t) :
    bigSep S (fun t => ℓ ↦[K t]{p} fs t) ⊢ (iprop(∃ g, ℓ ↦{p} g) : sProp 𝕄) := by
  refine (pointsTo_biUnion_join S K fs f₀ h).trans ?_
  have e : S.biUnion K = Finset.univ := Finset.eq_univ_of_forall fun y => Finset.mem_biUnion.mpr (hU y)
  rw [e]
  iintro ⟨%g, -, H⟩
  iexists g
  iexact H

def pick3 (f0 f1 f2 : S3x256x2880.Idx → Elt F .i32) (t : Fin 3) : S3x256x2880.Idx → Elt F .i32 := match t with
  | 0 => f0
  | 1 => f1
  | 2 => f2

theorem ring_join (c : Dev nD) (f0 f1 f2 : S3x256x2880.Idx → Elt F .i32) :
    iprop(ringPt c (slotSet 0) f0 ∗ ringPt c (slotSet 1) f1 ∗ ringPt c (slotSet 2) f2) ⊢ (iprop(∃ f, ringPt c Finset.univ f) : sProp 𝕄) := by
  have h := three (F := F) (fun t => ringPt c (slotSet t.val) (pick3 f0 f1 f2 t))
  refine Entails.trans (Q := bigSep Finset.univ fun t : Fin 3 => ringPt c (slotSet t.val) (pick3 f0 f1 f2 t)) ?_ ?_
  · rw [h]; exact .rfl
  · exact join_aux (ℓ := mRing.view.loc (c : Thread nD τ)) Finset.univ (fun t : Fin 3 => slotSet t.val) fullShare (pick3 f0 f1 f2) f0 slots_disj
      (fun y => ⟨y 0, Finset.mem_univ _, Finset.mem_filter.mpr ⟨Finset.mem_univ _, rfl⟩⟩)

/-- The share of the code table that slot `s` of the ring transfers from, and the target buffer's. -/
def qsAt (s : Fin 3) : PosShare TreeShare := shareTok fullShare 3 s
def qAt : PosShare TreeShare := shareDrop fullShare 3

theorem words_split (c : Dev nD) (w : S15000x2880.Idx → Elt F .i32) :
    wordsPt c fullShare w ⊢ (iprop(wordsPt c qAt w ∗ wordsPt c (qsAt 0) w ∗ wordsPt c (qsAt 1) w ∗ wordsPt c (qsAt 2) w) : sProp 𝕄) := by
  have h := three (F := F) (fun t => wordsPt c (qsAt t) w)
  refine (pointsTo_toks fullShare 3).1.trans ?_
  exact Idealize.SL.BI.Laws.sep_mono .rfl (by exact h ▸ .rfl)

theorem words_join (c : Dev nD) (w : S15000x2880.Idx → Elt F .i32) :
    iprop(wordsPt c qAt w ∗ wordsPt c (qsAt 0) w ∗ wordsPt c (qsAt 1) w ∗ wordsPt c (qsAt 2) w) ⊢ (wordsPt c fullShare w : sProp 𝕄) := by
  have h := three (F := F) (fun t => wordsPt c (qsAt t) w)
  refine Entails.trans ?_ (pointsTo_toks fullShare 3).2
  exact Idealize.SL.BI.Laws.sep_mono .rfl (by exact h ▸ .rfl)

theorem I4_end (c : Dev nD) (A : Ins F) (qs : Fin 3 → PosShare TreeShare) (q q1 q2 q3 q4 : PosShare TreeShare) :
    I4 c A qs q q1 q2 q3 q4 6 ⊢ (iprop(tgtFree c q A.w ∗ tidsPt c A.tids ∗ kTgv c A q3 ∗ kG c A q4 ∗ kLoss c A 6 ∗ kDzt c A 6
      ∗ kDz c A 12288 0 ∗ kDh c A 768 0 ∗ ringFree c (qs 0) A.w 0 ∗ ringFree c (qs 1) A.w 1 ∗ ringFree c (qs 2) A.w 2
      ∗ idsPt c A.ids ∗ kOwes c ∗ kIdv c A q1 ∗ kTP c A ∗ kX c A q2 ∗ kCB c A 6 0 0 ∗ kSC c A 6 0 0 ∗ kZ c A 6 0 0) : sProp 𝕄) := by
  unfold I4 I6 cell
  rw [if_neg (by decide), if_neg (by decide), if_neg (by decide)]
  exact .rfl

theorem set_2 : mIdv.view.set = Finset.univ := View.set_whole _
theorem set_3 : mTgv.view.set = Finset.univ := View.set_whole _
theorem set_4 : mX.view.set = Finset.univ := View.set_whole _
theorem set_5 : mTsc.view.set = Finset.univ := View.set_whole _
theorem set_6 : mTlq.view.set = Finset.univ := View.set_whole _
theorem set_7 : mG.view.set = Finset.univ := View.set_whole _
theorem set_8 : mDZ.view.set = Finset.univ := View.set_whole _
theorem set_9 : mDZT.view.set = Finset.univ := View.set_whole _
theorem set_10 : mDH.view.set = Finset.univ := View.set_whole _
theorem set_11 : mLOSS.view.set = Finset.univ := View.set_whole _
theorem not_upTo {n0 n1 : ℕ} {H : ℕ} (y : (⟨2, ![n0, n1]⟩ : Shape).Idx) : ¬ upTo (n0 := n0) (n1 := n1) H 0 0 y := by
  unfold upTo; omega
theorem done_8 (y : S12288x128.Idx) : upTo (n0 := 12288) (n1 := 128) 2048 12288 0 y := Or.inl (y 0).isLt
theorem done_9 (y : S6x1x128.Idx) : (y 0).val < 6 := (y 0).isLt
theorem done_10 (y : S768x2880.Idx) : upTo (n0 := 768) (n1 := 2880) 128 768 0 y := Or.inl (y 0).isLt
theorem done_11 (y : S6x1x128.Idx) : (y 0).val < 6 := (y 0).isLt

theorem owns_eq0 (c : Dev nD) (X : S12288.Idx → BitVec 32) :
    (owns (c : Thread nD τ) mIds fullShare (X : S12288.Idx → Elt F .i32) : sProp 𝕄) = idsPt c X := owns_whole (Val := Elt F) (c : Thread nD τ) cc0_stg0_0 fullShare X
theorem owns_pt0 (c : Dev nD) (X : S12288.Idx → BitVec 32) :
    (owns (c : Thread nD τ) mIds fullShare (X : S12288.Idx → Elt F .i32) : sProp 𝕄) ⊢ idsPt c X := by rw [owns_eq0]
theorem pt_owns0 (c : Dev nD) (X : S12288.Idx → BitVec 32) :
    idsPt c X ⊢ (owns (c : Thread nD τ) mIds fullShare (X : S12288.Idx → Elt F .i32) : sProp 𝕄) := by rw [owns_eq0]
theorem owns_eq1 (c : Dev nD) (X : S768.Idx → BitVec 32) :
    (owns (c : Thread nD τ) mTids fullShare (X : S768.Idx → Elt F .i32) : sProp 𝕄) = tidsPt c X := owns_whole (Val := Elt F) (c : Thread nD τ) cc0_stg1_0 fullShare X
theorem owns_pt1 (c : Dev nD) (X : S768.Idx → BitVec 32) :
    (owns (c : Thread nD τ) mTids fullShare (X : S768.Idx → Elt F .i32) : sProp 𝕄) ⊢ tidsPt c X := by rw [owns_eq1]
theorem pt_owns1 (c : Dev nD) (X : S768.Idx → BitVec 32) :
    tidsPt c X ⊢ (owns (c : Thread nD τ) mTids fullShare (X : S768.Idx → Elt F .i32) : sProp 𝕄) := by rw [owns_eq1]

/-! ## The launch -/

variable (m : (ℓ : Loc nD τ sig) → Buf (Elt F) ℓ) (ρ : Dev nD → PrngReg)

/-- What the kernel reads on device `c`. -/
def insAt (c : Dev nD) : Ins F where
  w := V m c main_v12
  ids := V m c main_v1
  tids := V m c main_v2
  idv := V m c main_v7
  tgv := V m c main_v8
  x := V m c main_v0
  tsc := V m c main_v4
  tlq := V m c main_v6
  g := V m c main_v9

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The kernel's own semaphores: the ring's three, and the target buffer's. -/
abbrev osem0 : Fin 4 → SemLoc sig := fun j => (![SemLoc.dma 12, SemLoc.dma 13, SemLoc.dma 14, SemLoc.dma 15] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (ringSem 0)) 0 ∗ semVal ((c : Thread nD τ), SemLoc.dma (ringSem 1)) 0
          ∗ semVal ((c : Thread nD τ), SemLoc.dma (ringSem 2)) 0 ∗ semVal ((c : Thread nD τ), SemLoc.dma tSem) 0) := by
  rw [Pipeline.ownSems0_eq_of_list c osem0 [0, 1, 2, 3] (by decide) (by decide)]; rfl
/-- The code table stays in HBM. -/
def H0 : Finset (Ref sig .tc) := {main_v12}
theorem H0_sub : H0 ⊆ Pipeline.restRefs sig spec0 := by decide
theorem hbmPts0_eq (c : Dev nD) :
    (bigSep H0 (fun b => ((c : Thread nD τ).loc b) ↦{fullShare} V m c b) : sProp 𝕄) = wordsPt c fullShare (insAt m c).w := by
  rw [Idealize.SL.BI.bigSep_eq_bigSepL_of_eq [main_v12] (by decide) (by decide)]; rfl

theorem PhiD0_eq (c : Dev nD) :
    (Pipeline.ΦD osem0 spec0 H0 (V m) c : sProp 𝕄)
      = iprop(iprop((∃ f, ringPt c Finset.univ f) ∗ (∃ f, tPt c Finset.univ f)
                ∗ (∃ f : Buf (Elt F) (mCB.view.loc (c : Thread nD τ)), mCB.view.loc (c : Thread nD τ) ↦{fullShare} f)
                ∗ (∃ f : Buf (Elt F) (mZ.view.loc (c : Thread nD τ)), mZ.view.loc (c : Thread nD τ) ↦{fullShare} f)
                ∗ (∃ f : Buf (Elt F) (mSC.view.loc (c : Thread nD τ)), mSC.view.loc (c : Thread nD τ) ↦{fullShare} f)
                ∗ (∃ f : Buf (Elt F) (mTP.view.loc (c : Thread nD τ)), mTP.view.loc (c : Thread nD τ) ↦{fullShare} f))
          ∗ (∃ r, prngReg c r)
          ∗ iprop(semVal ((c : Thread nD τ), SemLoc.dma (ringSem 0)) 0 ∗ semVal ((c : Thread nD τ), SemLoc.dma (ringSem 1)) 0
                  ∗ semVal ((c : Thread nD τ), SemLoc.dma (ringSem 2)) 0 ∗ semVal ((c : Thread nD τ), SemLoc.dma tSem) 0)
          ∗ wordsPt c fullShare (insAt m c).w) := by
  rw [Pipeline.ΦD_eq, scopedRest0_eq, ownSems00_eq, hbmPts0_eq]; rfl

/-- The proof data of the one pipeline on core `c`: the arrays as the region finds them, the outputs at the values of
    `Spec`, nothing owed, full shares. -/
def datsD (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => DZ (insAt m c)
    | ⟨9, _⟩ => DZT (insAt m c)
    | ⟨10, _⟩ => DH (insAt m c)
    | ⟨11, _⟩ => LOSS (insAt m c)
  Φ _ := Pipeline.ΦD osem0 spec0 H0 (V m) c
  q _ := fullShare
  owed _ := 0

theorem A_eqD (c : Dev nD) (w : Fin cfg0.W) : (datsD m 0 c).A w = V m c (Pipeline.arrRef spec0 w) := by
  dsimp only [datsD]

theorem iblkD_0 (c : Dev nD) (t : Fin cfg0.N) : (iblk m c 0 t : S12288.Idx → Elt F .i32) = (insAt m c).ids := by
  rw [fin_N0 t]
  funext j
  blk_simp [iblk]
  refine congrArg (V m c main_v1) (funext fun a => Fin.ext ?_)
  blk_simp
  rw [show win0_0.index t0_0 a = 0 from rfl, Nat.zero_mul, Nat.zero_add]
theorem after0_0 (c : Dev nD) (t : Fin cfg0.N) : (datsD m 0 c).after 0 t = (insAt m c).ids :=
  (show (datsD m 0 c).after 0 t = iblk m c 0 t by dsimp only [datsD]).trans (iblkD_0 m c t)
theorem before0_0 (c : Dev nD) (t : Fin cfg0.N) (d) : (datsD m 0 c).before 0 t d = (insAt m c).ids :=
  (((datsD m 0 c).before_in_eq_fetched 0 rfl (fun _ => rfl) (fun _ _ _ => rfl)
      (fun t => by rw [show (datsD m 0 c).after 0 t = iblk m c 0 t by dsimp only [datsD]]; unfold Dat.blockOf iblk; rw [A_eqD]; try rfl) t d).trans
    (by unfold Dat.fetched Dat.blockOf iblk; rw [A_eqD]; try rfl : _ = iblk m c 0 t)).trans (iblkD_0 m c t)
theorem iblkD_1 (c : Dev nD) (t : Fin cfg0.N) : (iblk m c 1 t : S768.Idx → Elt F .i32) = (insAt m c).tids := by
  rw [fin_N0 t]
  funext j
  blk_simp [iblk]
  refine congrArg (V m c main_v2) (funext fun a => Fin.ext ?_)
  blk_simp
  rw [show win0_1.index t0_0 a = 0 from rfl, Nat.zero_mul, Nat.zero_add]
theorem after0_1 (c : Dev nD) (t : Fin cfg0.N) : (datsD m 0 c).after 1 t = (insAt m c).tids :=
  (show (datsD m 0 c).after 1 t = iblk m c 1 t by dsimp only [datsD]).trans (iblkD_1 m c t)
theorem before0_1 (c : Dev nD) (t : Fin cfg0.N) (d) : (datsD m 0 c).before 1 t d = (insAt m c).tids :=
  (((datsD m 0 c).before_in_eq_fetched 1 rfl (fun _ => rfl) (fun _ _ _ => rfl)
      (fun t => by rw [show (datsD m 0 c).after 1 t = iblk m c 1 t by dsimp only [datsD]]; unfold Dat.blockOf iblk; rw [A_eqD]; try rfl) t d).trans
    (by unfold Dat.fetched Dat.blockOf iblk; rw [A_eqD]; try rfl : _ = iblk m c 1 t)).trans (iblkD_1 m c t)
theorem iblkD_2 (c : Dev nD) (t : Fin cfg0.N) : (iblk m c 2 t : S96x1x128.Idx → Elt F .i32) = (insAt m c).idv := by
  rw [fin_N0 t]
  funext j
  blk_simp [iblk]
  refine congrArg (V m c main_v7) (funext fun a => Fin.ext ?_)
  blk_simp
  rw [show win0_2.index t0_0 a = 0 from rfl, Nat.zero_mul, Nat.zero_add]
theorem after0_2 (c : Dev nD) (t : Fin cfg0.N) : (datsD m 0 c).after 2 t = (insAt m c).idv :=
  (show (datsD m 0 c).after 2 t = iblk m c 2 t by dsimp only [datsD]).trans (iblkD_2 m c t)
theorem before0_2 (c : Dev nD) (t : Fin cfg0.N) (d) : (datsD m 0 c).before 2 t d = (insAt m c).idv :=
  (((datsD m 0 c).before_in_eq_fetched 2 rfl (fun _ => rfl) (fun _ _ _ => rfl)
      (fun t => by rw [show (datsD m 0 c).after 2 t = iblk m c 2 t by dsimp only [datsD]]; unfold Dat.blockOf iblk; rw [A_eqD]; try rfl) t d).trans
    (by unfold Dat.fetched Dat.blockOf iblk; rw [A_eqD]; try rfl : _ = iblk m c 2 t)).trans (iblkD_2 m c t)
theorem iblkD_3 (c : Dev nD) (t : Fin cfg0.N) : (iblk m c 3 t : S6x1x128.Idx → Elt F .i32) = (insAt m c).tgv := by
  rw [fin_N0 t]
  funext j
  blk_simp [iblk]
  refine congrArg (V m c main_v8) (funext fun a => Fin.ext ?_)
  blk_simp
  rw [show win0_3.index t0_0 a = 0 from rfl, Nat.zero_mul, Nat.zero_add]
theorem after0_3 (c : Dev nD) (t : Fin cfg0.N) : (datsD m 0 c).after 3 t = (insAt m c).tgv :=
  (show (datsD m 0 c).after 3 t = iblk m c 3 t by dsimp only [datsD]).trans (iblkD_3 m c t)
theorem before0_3 (c : Dev nD) (t : Fin cfg0.N) (d) : (datsD m 0 c).before 3 t d = (insAt m c).tgv :=
  (((datsD m 0 c).before_in_eq_fetched 3 rfl (fun _ => rfl) (fun _ _ _ => rfl)
      (fun t => by rw [show (datsD m 0 c).after 3 t = iblk m c 3 t by dsimp only [datsD]]; unfold Dat.blockOf iblk; rw [A_eqD]; try rfl) t d).trans
    (by unfold Dat.fetched Dat.blockOf iblk; rw [A_eqD]; try rfl : _ = iblk m c 3 t)).trans (iblkD_3 m c t)
theorem iblkD_4 (c : Dev nD) (t : Fin cfg0.N) : (iblk m c 4 t : S768x2880.Idx → Elt F .bf16) = (insAt m c).x := by
  rw [fin_N0 t]
  funext j
  blk_simp [iblk]
  refine congrArg (V m c main_v0) (funext fun a => Fin.ext ?_)
  blk_simp
  rw [show win0_4.index t0_0 a = 0 from rfl, Nat.zero_mul, Nat.zero_add]
theorem after0_4 (c : Dev nD) (t : Fin cfg0.N) : (datsD m 0 c).after 4 t = (insAt m c).x :=
  (show (datsD m 0 c).after 4 t = iblk m c 4 t by dsimp only [datsD]).trans (iblkD_4 m c t)
theorem before0_4 (c : Dev nD) (t : Fin cfg0.N) (d) : (datsD m 0 c).before 4 t d = (insAt m c).x :=
  (((datsD m 0 c).before_in_eq_fetched 4 rfl (fun _ => rfl) (fun _ _ _ => rfl)
      (fun t => by rw [show (datsD m 0 c).after 4 t = iblk m c 4 t by dsimp only [datsD]]; unfold Dat.blockOf iblk; rw [A_eqD]; try rfl) t d).trans
    (by unfold Dat.fetched Dat.blockOf iblk; rw [A_eqD]; try rfl : _ = iblk m c 4 t)).trans (iblkD_4 m c t)
theorem iblkD_5 (c : Dev nD) (t : Fin cfg0.N) : (iblk m c 5 t : S512x128.Idx → Elt F .f32) = (insAt m c).tsc := by
  rw [fin_N0 t]
  funext j
  blk_simp [iblk]
  refine congrArg (V m c main_v4) (funext fun a => Fin.ext ?_)
  blk_simp
  rw [show win0_5.index t0_0 a = 0 from rfl, Nat.zero_mul, Nat.zero_add]
theorem after0_5 (c : Dev nD) (t : Fin cfg0.N) : (datsD m 0 c).after 5 t = (insAt m c).tsc :=
  (show (datsD m 0 c).after 5 t = iblk m c 5 t by dsimp only [datsD]).trans (iblkD_5 m c t)
theorem before0_5 (c : Dev nD) (t : Fin cfg0.N) (d) : (datsD m 0 c).before 5 t d = (insAt m c).tsc :=
  (((datsD m 0 c).before_in_eq_fetched 5 rfl (fun _ => rfl) (fun _ _ _ => rfl)
      (fun t => by rw [show (datsD m 0 c).after 5 t = iblk m c 5 t by dsimp only [datsD]]; unfold Dat.blockOf iblk; rw [A_eqD]; try rfl) t d).trans
    (by unfold Dat.fetched Dat.blockOf iblk; rw [A_eqD]; try rfl : _ = iblk m c 5 t)).trans (iblkD_5 m c t)
theorem iblkD_6 (c : Dev nD) (t : Fin cfg0.N) : (iblk m c 6 t : S512x128.Idx → Elt F .f32) = (insAt m c).tlq := by
  rw [fin_N0 t]
  funext j
  blk_simp [iblk]
  refine congrArg (V m c main_v6) (funext fun a => Fin.ext ?_)
  blk_simp
  rw [show win0_6.index t0_0 a = 0 from rfl, Nat.zero_mul, Nat.zero_add]
theorem after0_6 (c : Dev nD) (t : Fin cfg0.N) : (datsD m 0 c).after 6 t = (insAt m c).tlq :=
  (show (datsD m 0 c).after 6 t = iblk m c 6 t by dsimp only [datsD]).trans (iblkD_6 m c t)
theorem before0_6 (c : Dev nD) (t : Fin cfg0.N) (d) : (datsD m 0 c).before 6 t d = (insAt m c).tlq :=
  (((datsD m 0 c).before_in_eq_fetched 6 rfl (fun _ => rfl) (fun _ _ _ => rfl)
      (fun t => by rw [show (datsD m 0 c).after 6 t = iblk m c 6 t by dsimp only [datsD]]; unfold Dat.blockOf iblk; rw [A_eqD]; try rfl) t d).trans
    (by unfold Dat.fetched Dat.blockOf iblk; rw [A_eqD]; try rfl : _ = iblk m c 6 t)).trans (iblkD_6 m c t)
theorem iblkD_7 (c : Dev nD) (t : Fin cfg0.N) : (iblk m c 7 t : S6x1x128.Idx → Elt F .f32) = (insAt m c).g := by
  rw [fin_N0 t]
  funext j
  blk_simp [iblk]
  refine congrArg (V m c main_v9) (funext fun a => Fin.ext ?_)
  blk_simp
  rw [show win0_7.index t0_0 a = 0 from rfl, Nat.zero_mul, Nat.zero_add]
theorem after0_7 (c : Dev nD) (t : Fin cfg0.N) : (datsD m 0 c).after 7 t = (insAt m c).g :=
  (show (datsD m 0 c).after 7 t = iblk m c 7 t by dsimp only [datsD]).trans (iblkD_7 m c t)
theorem before0_7 (c : Dev nD) (t : Fin cfg0.N) (d) : (datsD m 0 c).before 7 t d = (insAt m c).g :=
  (((datsD m 0 c).before_in_eq_fetched 7 rfl (fun _ => rfl) (fun _ _ _ => rfl)
      (fun t => by rw [show (datsD m 0 c).after 7 t = iblk m c 7 t by dsimp only [datsD]]; unfold Dat.blockOf iblk; rw [A_eqD]; try rfl) t d).trans
    (by unfold Dat.fetched Dat.blockOf iblk; rw [A_eqD]; try rfl : _ = iblk m c 7 t)).trans (iblkD_7 m c t)
theorem after0_8 (c : Dev nD) (t : Fin cfg0.N) : (datsD m 0 c).after 8 t = DZ (insAt m c) := by dsimp only [datsD]
theorem after0_9 (c : Dev nD) (t : Fin cfg0.N) : (datsD m 0 c).after 9 t = DZT (insAt m c) := by dsimp only [datsD]
theorem after0_10 (c : Dev nD) (t : Fin cfg0.N) : (datsD m 0 c).after 10 t = DH (insAt m c) := by dsimp only [datsD]
theorem after0_11 (c : Dev nD) (t : Fin cfg0.N) : (datsD m 0 c).after 11 t = LOSS (insAt m c) := by dsimp only [datsD]

def bodyPre (c : Dev nD) (t : Fin cfg0.N) : sProp 𝕄 :=
  iprop((datsD m 0 c).Φ t.castSucc ∗ (datsD m 0 c).owesAt () t.castSucc
    ∗ (∃ d, owns (c : Thread nD τ) mIds fullShare ((datsD m 0 c).before 0 t d))
    ∗ (∃ d, owns (c : Thread nD τ) mTids fullShare ((datsD m 0 c).before 1 t d))
    ∗ (∃ d, owns (c : Thread nD τ) mIdv fullShare ((datsD m 0 c).before 2 t d))
    ∗ (∃ d, owns (c : Thread nD τ) mTgv fullShare ((datsD m 0 c).before 3 t d))
    ∗ (∃ d, owns (c : Thread nD τ) mX fullShare ((datsD m 0 c).before 4 t d))
    ∗ (∃ d, owns (c : Thread nD τ) mTsc fullShare ((datsD m 0 c).before 5 t d))
    ∗ (∃ d, owns (c : Thread nD τ) mTlq fullShare ((datsD m 0 c).before 6 t d))
    ∗ (∃ d, owns (c : Thread nD τ) mG fullShare ((datsD m 0 c).before 7 t d))
    ∗ (∃ d, owns (c : Thread nD τ) mDZ fullShare ((datsD m 0 c).before 8 t d))
    ∗ (∃ d, owns (c : Thread nD τ) mDZT fullShare ((datsD m 0 c).before 9 t d))
    ∗ (∃ d, owns (c : Thread nD τ) mDH fullShare ((datsD m 0 c).before 10 t d))
    ∗ (∃ d, owns (c : Thread nD τ) mLOSS fullShare ((datsD m 0 c).before 11 t d)))
def bodyPost (c : Dev nD) (t : Fin cfg0.N) : sProp 𝕄 :=
  iprop((datsD m 0 c).Φ t.succ ∗ (datsD m 0 c).owesAt () t.succ
    ∗ owns (c : Thread nD τ) mIds fullShare ((datsD m 0 c).after 0 t)
    ∗ owns (c : Thread nD τ) mTids fullShare ((datsD m 0 c).after 1 t)
    ∗ owns (c : Thread nD τ) mIdv fullShare ((datsD m 0 c).after 2 t)
    ∗ owns (c : Thread nD τ) mTgv fullShare ((datsD m 0 c).after 3 t)
    ∗ owns (c : Thread nD τ) mX fullShare ((datsD m 0 c).after 4 t)
    ∗ owns (c : Thread nD τ) mTsc fullShare ((datsD m 0 c).after 5 t)
    ∗ owns (c : Thread nD τ) mTlq fullShare ((datsD m 0 c).after 6 t)
    ∗ owns (c : Thread nD τ) mG fullShare ((datsD m 0 c).after 7 t)
    ∗ owns (c : Thread nD τ) mDZ fullShare ((datsD m 0 c).after 8 t)
    ∗ owns (c : Thread nD τ) mDZT fullShare ((datsD m 0 c).after 9 t)
    ∗ owns (c : Thread nD τ) mDH fullShare ((datsD m 0 c).after 10 t)
    ∗ owns (c : Thread nD τ) mLOSS fullShare ((datsD m 0 c).after 11 t))

section Body
variable (c : Dev nD) (hid : ∀ i, ((insAt m c).ids i).toNat < 60000) (htd : ∀ i, ((insAt m c).tids i).toNat < 60000)
include hid htd

theorem sound_body (t : Fin cfg0.N) :
    bodyPre m c t ⊢ wp frame (wpE (defs₀ (F := F)) Variants.none c none) Set.univ (bodyAt0 t) (fun _ => bodyPost m c t) := by
  unfold bodyPre bodyPost bodyAt0
  rw [show (datsD m 0 c).Φ t.succ = (datsD m 0 c).Φ t.castSucc from rfl, after0_0, after0_1, after0_2, after0_3, after0_4, after0_5, after0_6, after0_7, after0_8, after0_9, after0_10, after0_11]
  rw [show (datsD m 0 c).Φ t.castSucc = Pipeline.ΦD osem0 spec0 H0 (V m) c from rfl, PhiD0_eq]
  simp only [before0_0, before0_1, before0_2, before0_3, before0_4, before0_5, before0_6, before0_7]
  unfold Dat.owesAt Pipeline.owesWithin
  rw [show (datsD m 0 c).owed t.castSucc = 0 from rfl, show (datsD m 0 c).owed t.succ = 0 from rfl]
  iintro ⟨⟨⟨⟨%fr, Hr⟩, ⟨%ft, Ht⟩, ⟨%fcb, Hcb⟩, ⟨%fz, Hz⟩, ⟨%fsc, Hsc⟩, ⟨%ftp, Htp⟩⟩, Hg, ⟨Hq0, Hq1, Hq2, Hq3⟩, Hw⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave Hr := (ring_split c fr) $$ Hr
  icases Hr with ⟨Hr0, Hr1, Hr2⟩
  ihave Hw := (words_split c (insAt m c).w) $$ Hw
  icases Hw with ⟨Hw, Hw0, Hw1, Hw2⟩
  ihave Hids := (owns_pt0 c (insAt m c).ids) $$ H0
  ihave Htids := (owns_pt1 c (insAt m c).tids) $$ H1
  ihave Kidv := (owns_known c mIdv set_2 fullShare (insAt m c).idv) $$ H2
  ihave Ktgv := (owns_known c mTgv set_3 fullShare (insAt m c).tgv) $$ H3
  ihave Kx := (owns_known c mX set_4 fullShare (insAt m c).x) $$ H4
  ihave Ktsc := (owns_known c mTsc set_5 fullShare (insAt m c).tsc) $$ H5
  ihave Ktlq := (owns_known c mTlq set_6 fullShare (insAt m c).tlq) $$ H6
  ihave Kg := (owns_known c mG set_7 fullShare (insAt m c).g) $$ H7
  ihave Hcb := (pt_none c mCB fullShare fcb (CB (insAt m c) 0) (upTo 128 0 0) not_upTo) $$ Hcb
  ihave Hz := (pt_none c mZ fullShare fz (ZZ (insAt m c) 0) (upTo 128 0 0) not_upTo) $$ Hz
  ihave Hsc := (pt_none c mSC fullShare fsc (SC (insAt m c) 0) (upTo 128 0 0) not_upTo) $$ Hsc
  ihave Htp := (pt_none c mTP fullShare ftp (TP (insAt m c)) (upTo 512 0 0) not_upTo) $$ Htp
  ihave Kdz := (owns_none c mDZ set_8 fullShare (DZ (insAt m c)) _ (upTo 2048 0 0) not_upTo) $$ H8
  ihave Kdzt := (owns_none c mDZT set_9 fullShare (DZT (insAt m c)) _ (fun y => (y 0).val < 0) (fun _ => Nat.not_lt_zero _)) $$ H9
  ihave Kdh := (owns_none c mDH set_10 fullShare (DH (insAt m c)) _ (upTo 128 0 0) not_upTo) $$ H10
  ihave Kloss := (owns_none c mLOSS set_11 fullShare (LOSS (insAt m c)) _ (fun y => (y 0).val < 0) (fun _ => Nat.not_lt_zero _)) $$ H11
  iapply (wp_wand_r _ _ _)
  isplitl [Hr0 Hr1 Hr2 Ht Hcb Hz Hsc Htp Hq0 Hq1 Hq2 Hq3 Hw Hw0 Hw1 Hw2 HW Hids Htids Kidv Ktgv Kx Ktsc Ktlq Kg Kdz Kdzt Kdh Kloss]
  · iapply (fwd_run c (insAt m c) hid htd qsAt qAt fullShare fullShare fullShare fullShare fullShare fullShare)
    isplitl [Hq3 Ht Hw]
    · unfold tgtFree
      isplitl [Hq3]; · iexact Hq3
      isplitl [Ht]; · iexists ft; iexact Ht
      iexact Hw
    isplitl [Hq0 Hr0 Hw0]
    · unfold ringFree
      isplitl [Hq0]; · iexact Hq0
      isplitl [Hr0]; · iexists fr; iexact Hr0
      iexact Hw0
    isplitl [Hq1 Hr1 Hw1]
    · unfold ringFree
      isplitl [Hq1]; · iexact Hq1
      isplitl [Hr1]; · iexists fr; iexact Hr1
      iexact Hw1
    isplitl [Hq2 Hr2 Hw2]
    · unfold ringFree
      isplitl [Hq2]; · iexact Hq2
      isplitl [Hr2]; · iexists fr; iexact Hr2
      iexact Hw2
    isplitl [Hids]; · iexact Hids
    isplitl [Htids]; · iexact Htids
    isplitl [HW]; · iexists W; iexact HW
    isplitl [Kidv]; · iexact Kidv
    isplitl [Ktgv]; · iexact Ktgv
    isplitl [Kx]; · iexact Kx
    isplitl [Kg]; · iexact Kg
    isplitl [Ktsc]; · iexact Ktsc
    isplitl [Ktlq]; · iexact Ktlq
    isplitl [Htp]; · iexact Htp
    isplitl [Hcb]; · iexact Hcb
    isplitl [Hsc]; · iexact Hsc
    isplitl [Hz]; · iexact Hz
    isplitl [Kloss]; · iexact Kloss
    isplitl [Kdzt]; · iexact Kdzt
    isplitl [Kdz]; · iexact Kdz
    iexact Kdh
  iintro %_ ⟨HI, Ktsc, Ktlq⟩
  ihave HI := (I4_end c (insAt m c) qsAt qAt fullShare fullShare fullShare fullShare) $$ HI
  icases HI with ⟨HT, Htids, Ktgv, Kg, Kloss, Kdzt, Kdz, Kdh, HR0, HR1, HR2, Hids, ⟨%W', HW'⟩, Kidv, Htp, Kx, Hcb, Hsc, Hz⟩
  unfold tgtFree ringFree
  icases HT with ⟨Hq3, Ht, Hw⟩
  icases HR0 with ⟨Hq0, ⟨%f0, Hr0⟩, Hw0⟩
  icases HR1 with ⟨Hq1, ⟨%f1, Hr1⟩, Hw1⟩
  icases HR2 with ⟨Hq2, ⟨%f2, Hr2⟩, Hw2⟩
  isplitl [Hr0 Hr1 Hr2 Ht Hcb Hz Hsc Htp Hq0 Hq1 Hq2 Hq3 Hw Hw0 Hw1 Hw2 Hg]
  · isplitl [Hr0 Hr1 Hr2 Ht Hcb Hz Hsc Htp]
    · isplitl [Hr0 Hr1 Hr2]
      · iapply (ring_join c f0 f1 f2)
        isplitl [Hr0]; · iexact Hr0
        isplitl [Hr1]; · iexact Hr1
        iexact Hr2
      isplitl [Ht]; · iexact Ht
      isplitl [Hcb]; · iapply (known_any c mCB fullShare _ _) $$ Hcb
      isplitl [Hz]; · iapply (known_any c mZ fullShare _ _) $$ Hz
      isplitl [Hsc]; · iapply (known_any c mSC fullShare _ _) $$ Hsc
      iapply (known_any c mTP fullShare _ _) $$ Htp
    isplitl [Hg]; · iexact Hg
    isplitl [Hq0 Hq1 Hq2 Hq3]
    · isplitl [Hq0]; · iexact Hq0
      isplitl [Hq1]; · iexact Hq1
      isplitl [Hq2]; · iexact Hq2
      iexact Hq3
    iapply (words_join c (insAt m c).w)
    isplitl [Hw]; · iexact Hw
    isplitl [Hw0]; · iexact Hw0
    isplitl [Hw1]; · iexact Hw1
    iexact Hw2
  isplitl [HW']
  · iexists W'; isplitr; · ipureintro; exact fun _ _ => Or.inl trivial
    iexact HW'
  isplitl [Hids]; · iapply (pt_owns0 c (insAt m c).ids) $$ Hids
  isplitl [Htids]; · iapply (pt_owns1 c (insAt m c).tids) $$ Htids
  isplitl [Kidv]; · iapply (known_owns c mIdv set_2 fullShare _ _ (fun _ => trivial)) $$ Kidv
  isplitl [Ktgv]; · iapply (known_owns c mTgv set_3 fullShare _ _ (fun _ => trivial)) $$ Ktgv
  isplitl [Kx]; · iapply (known_owns c mX set_4 fullShare _ _ (fun _ => trivial)) $$ Kx
  isplitl [Ktsc]; · iapply (known_owns c mTsc set_5 fullShare _ _ (fun _ => trivial)) $$ Ktsc
  isplitl [Ktlq]; · iapply (known_owns c mTlq set_6 fullShare _ _ (fun _ => trivial)) $$ Ktlq
  isplitl [Kg]; · iapply (known_owns c mG set_7 fullShare _ _ (fun _ => trivial)) $$ Kg
  isplitl [Kdz]; · iapply (known_owns c mDZ set_8 fullShare _ _ done_8) $$ Kdz
  isplitl [Kdzt]; · iapply (known_owns c mDZT set_9 fullShare _ _ done_9) $$ Kdzt
  isplitl [Kdh]; · iapply (known_owns c mDH set_10 fullShare _ _ done_10) $$ Kdh
  iapply (known_owns c mLOSS set_11 fullShare _ _ done_11) $$ Kloss

end Body

theorem defs₀_rowD (t : Fin cfg0.N) :
    defs₀ (F := F) .tc cfg0.body (cfg0.bodyArgs t (cfg0.slots t)) = bodyAt0 t := by
  unfold defs₀; rw [Defs.onTc_tc]

variable (hid : ∀ c i, ((insAt m c).ids i).toNat < 60000) (htd : ∀ c i, ((insAt m c).tids i).toNat < 60000)
include hid htd

theorem body_obligation (c : Dev nD) : BodyObligation (datsD (F := F) m 0 c) (defs₀ (F := F)) Variants.none () Set.univ := fun t => by
  rw [bigSep_W0, bigSep_W0, defs₀_rowD]
  exact triple_restated (sound_body m c (hid c) (htd c) t) rfl .rfl fun _ => .rfl

set_option backward.isDefEq.respectTransparency.types false in
theorem run_main : θ_run defs (onTc (τ := τ) (main (F := F))) (s₀ m ρ) (fun r => Pipeline.FramePost cfgs (datsD m) 0 (V m) r ∧ r.2.sem = fun _ => 0) :=
  Pipeline.θ_run_frame_dma (Q' := _) cfgs (datsD m) (0 : Fin 1) launch0 osem0 defs₀ Variants.none ownSemFacts0 H0 H0_sub m ρ main
    (hbody := fun c => (body_obligation m hid htd c).loose) (hshare := fun c => (datsD m 0 c).share_full fun _ => rfl)
    (howed := fun _ _ => rfl) (V := V m) (hmain := hmainD m Variants.none) (hA := A_eqD m)
    (hin := fun _ => .rfl) (hout := fun _ => .rfl)

end Cert.KernelIdeal.Hand
-- ==== Proof.IFrame.lean ====
/-
  Hand-written. The run with its arguments and semaphores as they began, and with its four results named.
-/
module

public import proofs.«01_k».proof.Proof.ILaunch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

theorem V_ids (c : Dev nD) : V m c main_v1 = shapeCast _ (m ((c : Thread nD τ).loc main_arg4)) shapeCasts_S6x2048_S12288 := by
  simp only [V, hostOps0, hostOps0_1, hostOps0_2, hostOps0_3, hostOps0_4, List.flatten_cons, List.flatten_nil, List.append_nil, List.cons_append, List.nil_append]
  after_results
  rfl
theorem V_tids (c : Dev nD) : V m c main_v2 = shapeCast _ (m ((c : Thread nD τ).loc main_arg5)) shapeCasts_S6x128_S768 := by
  simp only [V, hostOps0, hostOps0_1, hostOps0_2, hostOps0_3, hostOps0_4, List.flatten_cons, List.flatten_nil, List.append_nil, List.cons_append, List.nil_append]
  after_results
  rfl

theorem out_8 (c : Dev nD) : (datsD m 0 c).arrAt 8 cfg0.N = DZ (insAt m c) := by
  refine (datsD m 0 c).arrAt_eq_of_after_last 8 t0_0 (by decide +kernel) _ fun j => ?_
  blk_simp
  exact congrFun (after0_8 m c t0_0) j
theorem out_9 (c : Dev nD) : (datsD m 0 c).arrAt 9 cfg0.N = DZT (insAt m c) := by
  refine (datsD m 0 c).arrAt_eq_of_after_last 9 t0_0 (by decide +kernel) _ fun j => ?_
  blk_simp
  exact congrFun (after0_9 m c t0_0) j
theorem out_10 (c : Dev nD) : (datsD m 0 c).arrAt 10 cfg0.N = DH (insAt m c) := by
  refine (datsD m 0 c).arrAt_eq_of_after_last 10 t0_0 (by decide +kernel) _ fun j => ?_
  blk_simp
  exact congrFun (after0_10 m c t0_0) j
theorem out_11 (c : Dev nD) : (datsD m 0 c).arrAt 11 cfg0.N = LOSS (insAt m c) := by
  refine (datsD m 0 c).arrAt_eq_of_after_last 11 t0_0 (by decide +kernel) _ fun j => ?_
  blk_simp
  exact congrFun (after0_11 m c t0_0) j

variable (hid : ∀ c i, (m ((Dev.tc c : Thread nD τ).loc main_arg4) i).toNat < 60000)
  (htd : ∀ c i, (m ((Dev.tc c : Thread nD τ).loc main_arg5) i).toNat < 60000)
include hid htd

theorem frames : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) := by
  refine (θ_run defs _ _).mono (fun r h => ⟨fun c => ?_, h.2⟩) (run_main m ρ ?_ ?_)
  · exact ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩
  · intro c i
    show (V m c main_v1 i).toNat < 60000
    rw [V_ids]
    exact hid c _
  · intro c i
    show (V m c main_v2 i).toNat < 60000
    rw [V_tids]
    exact htd c _

/-- The run ends with its four results at the values of `Spec` and its arguments as they were. -/
theorem values : θ_run defs (onTc (τ := τ) (main (F := F))) ⟨m, fun _ => 0, ρ⟩ (fun r => ∀ c : Dev nD,
    (r.2.mem ((c.tc : Thread nD τ).loc main_v13_0) = DZ (insAt m c)
    ∧ r.2.mem ((c.tc : Thread nD τ).loc main_v13_1) = DZT (insAt m c)
    ∧ r.2.mem ((c.tc : Thread nD τ).loc main_v13_2) = DH (insAt m c)
    ∧ r.2.mem ((c.tc : Thread nD τ).loc main_v13_3) = LOSS (insAt m c))
    ∧ (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))) := by
  refine (θ_run defs _ _).mono (fun r h c => ⟨⟨?_, ?_, ?_, ?_⟩, ?_⟩) (run_main m ρ ?_ ?_)
  · exact ((h.1 c).1 8).trans (out_8 m c)
  · exact ((h.1 c).1 9).trans (out_9 m c)
  · exact ((h.1 c).1 10).trans (out_10 m c)
  · exact ((h.1 c).1 11).trans (out_11 m c)
  · exact ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩
  · intro c i
    show (V m c main_v1 i).toNat < 60000
    rw [V_ids]
    exact hid c _
  · intro c i
    show (V m c main_v2 i).toNat < 60000
    rw [V_tids]
    exact htd c _

end Cert.KernelIdeal.Hand
-- ==== Proof.PreFinite.lean ====
/-
  Hand-written. What the precondition of the value claim says: every row name lies below 60000 and the floats read are
  finite.
-/
module

public import proofs.«01_k».proof.Proof.Pre
public import Idealize.ShloMosaic.Lib.ReduceAll
public import Idealize.ShloMosaic.Lib.Affine

@[expose] public section

namespace Cert.Pre_in_range_finite

open Idealize.ShloMosaic

instance facts : Facts where
  bcast_S_S6x2048 := by decide
  reducesTo_S6x2048_S_d0_1 := by decide
  h_S_ := by decide
  bcast_S_S6x128 := by decide
  reducesTo_S6x128_S_d0_1 := by decide
  bcast_S_S6x128x2880 := by decide
  reducesTo_S6x128x2880_S_d0_1_2 := by decide
  bcast_S_S60000 := by decide
  reducesTo_S60000_S_d0 := by decide

end Cert.Pre_in_range_finite

namespace Cert.PreHand

open Idealize.ShloMosaic

open Cert.Pre_in_range_finite in
theorem in_range_finite_split {F : FTy → Type} [FloatOps F] (a0 : FVec F S6x128x2880 .bf16) (a1 : IVec S60000x2880 8) (a2 a3 : FVec F S60000 .f32)
    (a4 : IVec S6x2048 32) (a5 : IVec S6x128 32) (a6 : FVec F S6x128 .f32)
    (h : Cert.Pre_in_range_finite.fn (F := F) a0 a1 a2 a3 a4 a5 a6 = fun _ => 1#1) :
    ((∀ i, (a4 i).toNat < 60000) ∧ (∀ i, (a5 i).toNat < 60000))
    ∧ (∀ i, cmpf .olt (Host.absf a0) (fun _ => FloatOps.ofBits .bf16 0x7F80#16) i = 1#1)
    ∧ (∀ i, cmpf .olt (Host.absf a2) (fun _ => FloatOps.ofBits .f32 0x7F800000#32) i = 1#1)
    ∧ (∀ i, cmpf .olt (Host.absf a3) (fun _ => FloatOps.ofBits .f32 0x7F800000#32) i = 1#1) := by
  have e := congrFun h (Shape.Idx.first Facts.h_S_)
  dsimp only [Cert.Pre_in_range_finite.fn, Cert.Pre_in_range_finite.fn_part1] at e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨⟨fun i => word_lt (Host.reduce_andi_all _ _ _ _ _ e1 i), fun i => word_lt (Host.reduce_andi_all _ _ _ _ _ e2 i)⟩,
    fun i => Host.reduce_andi_all _ _ _ _ _ e3 i, fun i => Host.reduce_andi_all _ _ _ _ _ e4 i, fun i => Host.reduce_andi_all _ _ _ _ _ e5 i⟩

end Cert.PreHand
-- ==== Proof.Math.lean ====
/-
  Hand-written. The layer's forward pass over the extended reals at an index: the logits, the loss and the gradients as
  functions of the data, and the arithmetic by which the kernel's and the reference's spellings of them agree.
-/
module

public import Idealize.ShloMosaic.Lib.Pointwise

@[expose] public section

set_option maxRecDepth 16384

noncomputable section

namespace Cert.Val

open Idealize.ShloMosaic

/-- The table row an index word names. -/
def row (w : BitVec 32) : Fin 60000 := Fin.ofNat 60000 w.toNat

theorem row_val {w : BitVec 32} (h : w.toNat < 60000) : (row w).val = w.toNat := Nat.mod_eq_of_lt h

/-- A code as a number. -/
abbrev num (b : BitVec 8) : EReal := (FloatOps.sitofp .f32 (BitVec.signExtend 32 b) : Ideal .f32)

/-- The data at an index: hidden states, sampled and target codes, scales and log-probabilities, hits, cotangents. -/
structure Dat where
  x : Fin 6 → Fin 128 → Fin 2880 → EReal
  c : Fin 6 → Fin 2048 → Fin 2880 → EReal
  ct : Fin 6 → Fin 128 → Fin 2880 → EReal
  s : Fin 6 → Fin 2048 → EReal
  q : Fin 6 → Fin 2048 → EReal
  st : Fin 6 → Fin 128 → EReal
  qt : Fin 6 → Fin 128 → EReal
  hit : Fin 6 → Fin 128 → Fin 2048 → BitVec 1
  g : Fin 6 → Fin 128 → EReal

namespace Dat
variable (D : Dat)

/-- The sampled logits (−∞ on a hit), the target's logit, the samples' maximum and log-sum-exp, the whole log-sum-exp. -/
def z (b : Fin 6) (s : Fin 128) (n : Fin 2048) : EReal :=
  Scalar.select (D.hit b s n) ⊥ (D.s b n * ∑ d, D.x b s d * D.c b n d - D.q b n)
def zt (b : Fin 6) (s : Fin 128) : EReal := D.st b s * ∑ d, D.x b s d * D.ct b s d - D.qt b s
def m (b : Fin 6) (s : Fin 128) : EReal := Finset.univ.fold max ⊥ fun n => D.z b s n
def ls (b : Fin 6) (s : Fin 128) : EReal := D.m b s + Ideal.log (∑ n, Ideal.exp (D.z b s n - D.m b s))
def lse (b : Fin 6) (s : Fin 128) : EReal :=
  max (D.zt b s) (D.ls b s) + Ideal.log1p (Ideal.exp (-(max (D.zt b s - D.ls b s) (-(D.zt b s - D.ls b s)))))

/-- The loss and the gradients of the target's logit, of the sampled logits and of the hidden states. -/
def loss (b : Fin 6) (s : Fin 128) : EReal := D.lse b s - D.zt b s
def dzt (b : Fin 6) (s : Fin 128) : EReal := D.g b s * (Ideal.exp (D.zt b s - D.lse b s) - 1)
def dz (b : Fin 6) (s : Fin 128) (n : Fin 2048) : EReal := D.g b s * Ideal.exp (D.z b s n - D.lse b s)
def dh (b : Fin 6) (s : Fin 128) (d : Fin 2880) : EReal :=
  ∑ n, D.dz b s n * D.s b n * D.c b n d + D.dzt b s * D.st b s * D.ct b s d
end Dat

/-- The data of the layer's seven arguments. -/
def dat (a0 : (⟨3, ![6, 128, 2880]⟩ : Shape).Idx → EReal) (a1 : (⟨2, ![60000, 2880]⟩ : Shape).Idx → BitVec 8)
    (a2 a3 : (⟨1, ![60000]⟩ : Shape).Idx → EReal) (a4 : (⟨2, ![6, 2048]⟩ : Shape).Idx → BitVec 32)
    (a5 : (⟨2, ![6, 128]⟩ : Shape).Idx → BitVec 32) (a6 : (⟨2, ![6, 128]⟩ : Shape).Idx → EReal) : Dat where
  x b s d := a0 (ix3 b s d)
  c b n d := num (a1 (ix2 (row (a4 (ix2 b n))) d))
  ct b s d := num (a1 (ix2 (row (a5 (ix2 b s))) d))
  s b n := a2 (ix1 (row (a4 (ix2 b n))))
  q b n := a3 (ix1 (row (a4 (ix2 b n))))
  st b s := a2 (ix1 (row (a5 (ix2 b s))))
  qt b s := a3 (ix1 (row (a5 (ix2 b s))))
  hit b s n := IntOp.cmpi .eq (a4 (ix2 b n)) (a5 (ix2 b s))
  g b s := a6 (ix2 b s)

/-! ## Finite values -/

theorem negInf : Ideal.ofBits .f32 0xFF800000#32 = ⊥ := by simp [Ideal.ofBits, Ideal.ieee]
theorem posInf : Ideal.ofBits .f32 0x7F800000#32 = ⊤ := by simp [Ideal.ofBits, Ideal.ieee]
theorem posInf16 : Ideal.ofBits .bf16 0x7F80#16 = ⊤ := by simp [Ideal.ofBits, Ideal.ieee]

/-- A real number. -/
def Fini (x : EReal) : Prop := ∃ r : ℝ, x = (r : EReal)

theorem Fini.mul {x y : EReal} (hx : Fini x) (hy : Fini y) : Fini (x * y) := by
  obtain ⟨a, rfl⟩ := hx
  obtain ⟨b, rfl⟩ := hy
  exact ⟨a * b, (EReal.coe_mul a b).symm⟩
theorem Fini.add {x y : EReal} (hx : Fini x) (hy : Fini y) : Fini (x + y) := by
  obtain ⟨a, rfl⟩ := hx
  obtain ⟨b, rfl⟩ := hy
  exact ⟨a + b, (EReal.coe_add a b).symm⟩
theorem Fini.sub {x y : EReal} (hx : Fini x) (hy : Fini y) : Fini (x - y) := by
  obtain ⟨a, rfl⟩ := hx
  obtain ⟨b, rfl⟩ := hy
  exact ⟨a - b, (EReal.coe_sub a b).symm⟩
theorem Fini.sum {n : ℕ} (f : Fin n → EReal) (h : ∀ i, Fini (f i)) : Fini (∑ i, f i) :=
  Finset.sum_induction f Fini (fun _ _ => Fini.add) ⟨0, rfl⟩ fun i _ => h i
theorem Fini.ne_top {x : EReal} (hx : Fini x) : x ≠ ⊤ := by
  obtain ⟨a, rfl⟩ := hx
  exact EReal.coe_ne_top a
theorem fini_num (b : BitVec 8) : Fini (num b) := ⟨((BitVec.signExtend 32 b).toInt : ℝ), rfl⟩
theorem fini_of_abs {x : EReal} (h : max x (-x) < ⊤) : Fini x := by
  induction x with
  | bot => simp at h
  | top => simp at h
  | coe r => exact ⟨r, rfl⟩

/-- A finite value in three parts, the second and third zero, adds up to itself. -/
theorem parts {t : EReal} (h : Fini t) : t + (t - t) + (t - t - (t - t)) = t := by
  obtain ⟨a, rfl⟩ := h
  rw [← EReal.coe_sub, ← EReal.coe_sub, ← EReal.coe_add, ← EReal.coe_add]
  congr 1
  ring

/-- Where the data is finite the sampled logits are not +∞. -/
theorem z_ne_top (D : Dat) (hx : ∀ b s d, Fini (D.x b s d)) (hc : ∀ b n d, Fini (D.c b n d)) (hs : ∀ b n, Fini (D.s b n))
    (hq : ∀ b n, Fini (D.q b n)) (b : Fin 6) (s : Fin 128) (n : Fin 2048) : D.z b s n ≠ ⊤ := by
  unfold Dat.z Scalar.select
  split
  · exact bot_ne_top
  · exact (((hs b n).mul (Fini.sum _ fun d => (hx b s d).mul (hc b n d))).sub (hq b n)).ne_top

/-- The log-sum-exp about the maximum, and about the maximum replaced by zero where it is infinite, are one value. -/
theorem guard {n : ℕ} (f : Fin n → EReal) (hf : ∀ i, f i ≠ ⊤) (m m0 : EReal) (hm : m = Finset.univ.fold max ⊥ f)
    (h0 : m0 = if max m (-m) < ⊤ then m else 0) :
    Ideal.log (∑ i, Ideal.exp (f i - m0)) + m0 = m + Ideal.log (∑ i, Ideal.exp (f i - m)) := by
  have hlt : m < ⊤ := hm ▸ (Finset.fold_max_lt _).2 ⟨bot_lt_top, fun i _ => lt_top_iff_ne_top.2 (hf i)⟩
  have hle : ∀ i, f i ≤ m := fun i => hm ▸ Finset.le_fold_max _ |>.2 (.inr ⟨i, Finset.mem_univ i, le_refl _⟩)
  induction m with
  | top => exact absurd hlt (lt_irrefl _)
  | bot =>
    have e : ∀ i, f i = ⊥ := fun i => le_bot_iff.1 (hle i)
    have h0' : m0 = 0 := by rw [h0]; simp
    rw [h0', EReal.bot_add]
    have : ∀ i, Ideal.exp (f i - 0) = 0 := fun i => by rw [e i, sub_zero]; rfl
    simp only [this, Finset.sum_const_zero, add_zero]
    show (if (0:ℝ) ≤ 0 then (⊥ : EReal) else _) = ⊥
    rw [if_pos (le_refl _)]
  | coe r =>
    have h0' : m0 = (r : EReal) := by
      rw [h0, if_pos]
      rw [← EReal.coe_neg]
      exact max_lt (EReal.coe_lt_top r) (EReal.coe_lt_top _)
    rw [h0', add_comm]

/-! ## Sums -/

/-- A sum against a one-hot row is the entry it marks. -/
theorem pick {n : ℕ} (k : Fin n) (f h : Fin n → EReal) (hk : h k = 1) (ho : ∀ j, j ≠ k → h j = 0) : ∑ j, h j * f j = f k := by
  rw [Finset.sum_eq_single k (fun j _ hj => by rw [ho j hj, zero_mul]) (fun hn => absurd (Finset.mem_univ k) hn), hk, one_mul]

/-- The 2880 terms of a dot, summed lane by lane over 23 chunks of 128, the last half empty. -/
theorem lanes (f : ℕ → EReal) (h : ∀ d, 2880 ≤ d → f d = 0) :
    ∑ l : Fin 128, ∑ c : Fin 23, f (128 * c.val + l.val) = ∑ d : Fin 2880, f d.val := by
  rw [Finset.sum_comm, ← Fintype.sum_prod_type' (f := fun (c : Fin 23) (l : Fin 128) => f (128 * c.val + l.val))]
  have e : ∀ p : Fin 23 × Fin 128, f (128 * p.1.val + p.2.val) = f (finProdFinEquiv p).val := fun p => by
    rw [finProdFinEquiv_apply_val, add_comm]
  simp only [e]
  rw [Equiv.sum_comp finProdFinEquiv (fun k : Fin (23 * 128) => f k.val)]
  show ∑ k : Fin (2880 + 64), f k.val = _
  rw [Fin.sum_univ_add]
  have e2 : ∀ k : Fin 64, f (Fin.natAdd 2880 k).val = 0 := fun k => h _ (by simp)
  simp only [e2, Finset.sum_const_zero, add_zero]
  rfl

end Cert.Val
-- ==== Proof.KIn.lean ====
/-
  Hand-written. What the launch hands the kernel, at an index: each operand as the layer's arguments.
-/
module

public import proofs.«01_k».proof.Proof.ILaunch
public import proofs.«01_k».proof.Proof.Math
public import Idealize.ShloMosaic.Lib.Pointwise.IndexBridge
public import Idealize.ShloMosaic.Lib.BitcastConvert

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Val

variable (m : (ℓ : Loc nD τ sig) → Buf (Elt Ideal) ℓ) (c : Dev nD)

abbrev A0 : S6x128x2880.Idx → EReal := m ((c : Thread nD τ).loc main_arg0)
abbrev A1 : S60000x2880.Idx → BitVec 8 := m ((c : Thread nD τ).loc main_arg1)
abbrev A2 : S60000.Idx → EReal := m ((c : Thread nD τ).loc main_arg2)
abbrev A3 : S60000.Idx → EReal := m ((c : Thread nD τ).loc main_arg3)
abbrev A4 : S6x2048.Idx → BitVec 32 := m ((c : Thread nD τ).loc main_arg4)
abbrev A5 : S6x128.Idx → BitVec 32 := m ((c : Thread nD τ).loc main_arg5)
abbrev A6 : S6x128.Idx → EReal := m ((c : Thread nD τ).loc main_arg6)

theorem in_x : (insAt m c).x = shapeCast S768x2880 (A0 m c) shapeCasts_S6x128x2880_S768x2880 := by
  show V m c main_v0 = _
  simp only [V, hostOps0, hostOps0_1, hostOps0_2, hostOps0_3, hostOps0_4, List.flatten_cons, List.flatten_nil, List.append_nil, List.cons_append, List.nil_append]
  after_results
  rfl
theorem in_ids : (insAt m c).ids = shapeCast S12288 (A4 m c) shapeCasts_S6x2048_S12288 := by
  show V m c main_v1 = _
  simp only [V, hostOps0, hostOps0_1, hostOps0_2, hostOps0_3, hostOps0_4, List.flatten_cons, List.flatten_nil, List.append_nil, List.cons_append, List.nil_append]
  after_results
  rfl
theorem in_tids : (insAt m c).tids = shapeCast S768 (A5 m c) shapeCasts_S6x128_S768 := by
  show V m c main_v2 = _
  simp only [V, hostOps0, hostOps0_1, hostOps0_2, hostOps0_3, hostOps0_4, List.flatten_cons, List.flatten_nil, List.append_nil, List.cons_append, List.nil_append]
  after_results
  rfl
theorem in_idv : (insAt m c).idv = shapeCast S96x1x128 (shapeCast S12288 (A4 m c) shapeCasts_S6x2048_S12288) shapeCasts_S12288_S96x1x128 := by
  show V m c main_v7 = _
  simp only [V, hostOps0, hostOps0_1, hostOps0_2, hostOps0_3, hostOps0_4, List.flatten_cons, List.flatten_nil, List.append_nil, List.cons_append, List.nil_append]
  after_results
  rfl
theorem in_tgv : (insAt m c).tgv = shapeCast S6x1x128 (shapeCast S768 (A5 m c) shapeCasts_S6x128_S768) shapeCasts_S768_S6x1x128 := by
  show V m c main_v8 = _
  simp only [V, hostOps0, hostOps0_1, hostOps0_2, hostOps0_3, hostOps0_4, List.flatten_cons, List.flatten_nil, List.append_nil, List.cons_append, List.nil_append]
  after_results
  rfl
theorem in_g : (insAt m c).g = shapeCast S6x1x128 (A6 m c) shapeCasts_S6x128_S6x1x128 := by
  show V m c main_v9 = _
  simp only [V, hostOps0, hostOps0_1, hostOps0_2, hostOps0_3, hostOps0_4, List.flatten_cons, List.flatten_nil, List.append_nil, List.cons_append, List.nil_append]
  after_results
  rfl
theorem in_tsc : (insAt m c).tsc = shapeCast S512x128 (pad S65536 ![0] ![5536] ![0] (A2 m c) (sitofp (F := Ideal) .f32 (constantI S_ 32 0#32)) pads_S60000_S65536_055360 h_S_) shapeCasts_S65536_S512x128 := by
  show V m c main_v4 = _
  simp only [V, hostOps0, hostOps0_1, hostOps0_2, hostOps0_3, hostOps0_4, List.flatten_cons, List.flatten_nil, List.append_nil, List.cons_append, List.nil_append]
  after_results
  rfl
theorem in_tlq : (insAt m c).tlq = shapeCast S512x128 (pad S65536 ![0] ![5536] ![0] (A3 m c) (sitofp (F := Ideal) .f32 (constantI S_ 32 0#32)) pads_S60000_S65536_055360 h_S_) shapeCasts_S65536_S512x128 := by
  show V m c main_v6 = _
  simp only [V, hostOps0, hostOps0_1, hostOps0_2, hostOps0_3, hostOps0_4, List.flatten_cons, List.flatten_nil, List.append_nil, List.cons_append, List.nil_append]
  after_results
  rfl
theorem in_w : (insAt m c).w = Host.bitcastConvertWiden S15000x2880 32 (transpose S15000x2880x4 [0, 2, 1] (shapeCast S15000x4x2880 (A1 m c) shapeCasts_S60000x2880_S15000x4x2880) transposes_S15000x4x2880_S15000x2880x4_0_2_1) splits_S15000x2880_w32_S15000x2880x4_w8 := by
  show V m c main_v12 = _
  simp only [V, hostOps0, hostOps0_1, hostOps0_2, hostOps0_3, hostOps0_4, List.flatten_cons, List.flatten_nil, List.append_nil, List.cons_append, List.nil_append]
  after_results
  rfl

/-! ## At an index -/

theorem x_at (a : Fin 6) (s : Fin 128) (d : Fin 2880) (k : Fin 768) (hk : k.val = 128 * a.val + s.val) :
    (insAt m c).x (ix2 k d) = A0 m c (ix3 a s d) := by
  rw [in_x]
  have ek : k = ⟨a.val * 128 + s.val, by omega⟩ := Fin.ext (by show k.val = a.val * 128 + s.val; omega)
  rw [ek]
  pointwise

theorem ids_at (a : Fin 6) (n : Fin 2048) (k : Fin 12288) (hk : k.val = 2048 * a.val + n.val) :
    (insAt m c).ids (ix1 k) = A4 m c (ix2 a n) := by
  rw [in_ids]
  have ek : k = ⟨a.val * 2048 + n.val, by omega⟩ := Fin.ext (by show k.val = a.val * 2048 + n.val; omega)
  rw [ek]
  pointwise

theorem tids_at (a : Fin 6) (s : Fin 128) (k : Fin 768) (hk : k.val = 128 * a.val + s.val) :
    (insAt m c).tids (ix1 k) = A5 m c (ix2 a s) := by
  rw [in_tids]
  have ek : k = ⟨a.val * 128 + s.val, by omega⟩ := Fin.ext (by show k.val = a.val * 128 + s.val; omega)
  rw [ek]
  pointwise

theorem idv_at (a : Fin 6) (n : Fin 2048) (k : Fin 96) (i : Fin 128) (hk : 128 * k.val + i.val = 2048 * a.val + n.val) :
    (insAt m c).idv (ix3 k 0 i) = A4 m c (ix2 a n) := by
  rw [← ids_at m c a n ⟨k.val * 128 + i.val, by omega⟩ (by show k.val * 128 + i.val = _; omega), in_idv, in_ids]
  pointwise
  exact congrArg₂ (fun x y => A4 m c (ix2 x y)) (Fin.ext (by show k.val / 16 = (k.val * 128 + i.val) / 2048; omega))
    (Fin.ext (by show k.val % 16 * 128 + i.val = (k.val * 128 + i.val) % 2048; omega))

theorem tgv_at (a : Fin 6) (s : Fin 128) : (insAt m c).tgv (ix3 a 0 s) = A5 m c (ix2 a s) := by
  rw [← tids_at m c a s ⟨a.val * 128 + s.val, by omega⟩ (by show a.val * 128 + s.val = _; omega), in_tgv, in_tids]
  pointwise

theorem g_at (a : Fin 6) (s : Fin 128) : (insAt m c).g (ix3 a 0 s) = A6 m c (ix2 a s) := by
  rw [in_g]
  pointwise

theorem tsc_at (r : Fin 512) (l : Fin 128) : (insAt m c).tsc (ix2 r l)
    = if h : r.val * 128 + l.val < 60000 then A2 m c (ix1 ⟨r.val * 128 + l.val, h⟩) else 0 := by
  rw [in_tsc]
  pointwise
  have e : (FloatOps.sitofp FTy.f32 0#32 : Ideal .f32) = (0 : EReal) := by
    show (((0#32 : BitVec 32).toInt : ℝ) : EReal) = 0
    simp
  rw [e]

theorem tlq_at (r : Fin 512) (l : Fin 128) : (insAt m c).tlq (ix2 r l)
    = if h : r.val * 128 + l.val < 60000 then A3 m c (ix1 ⟨r.val * 128 + l.val, h⟩) else 0 := by
  rw [in_tlq]
  pointwise
  have e : (FloatOps.sitofp FTy.f32 0#32 : Ideal .f32) = (0 : EReal) := by
    show (((0#32 : BitVec 32).toInt : ℝ) : EReal) = 0
    simp
  rw [e]

/-- A byte brought to the top of its word and shifted back down with its sign is the byte, sign-extended. -/
theorem unpack (W : BitVec 32) (b : BitVec 8) (k : ℕ) (hk : k < 4) (hb : ∀ q, q < 8 → W.getLsbD (8 * k + q) = b.getLsbD q)
    (S : BitVec 32) (hS : S.toNat = 24 - 8 * k) :
    IntOp.shrsi .vector (IntOp.shli .vector W S) 24#32 = BitVec.signExtend 32 b := by
  have e1 : IntOp.shli .vector W S = W <<< (24 - 8 * k) := by
    simp only [IntOp.shli, hS]
    rw [if_pos (by omega), BitVec.shiftLeft_eq', hS]
  have e2 : ∀ X : BitVec 32, IntOp.shrsi .vector X 24#32 = X.sshiftRight 24 := fun X => by
    rfl
  rw [e1, e2]
  apply BitVec.eq_of_getLsbD_eq
  intro i hi
  rw [BitVec.getLsbD_sshiftRight, BitVec.getLsbD_signExtend, BitVec.msb_eq_getLsbD_last, BitVec.msb_eq_getLsbD_last,
    BitVec.getLsbD_shiftLeft, BitVec.getLsbD_shiftLeft]
  by_cases h8 : i < 8
  · have h := hb i h8
    have e : 24 + i - (24 - 8 * k) = 8 * k + i := by omega
    rw [if_pos (by omega), if_pos h8, e, h]
    simp only [decide_eq_true (show 24 + i < 32 by omega), decide_eq_false (show ¬ 24 + i < 24 - 8 * k by omega), decide_eq_true hi, decide_eq_false (show ¬ 32 ≤ i by omega), Bool.not_false, Bool.true_and]
  · have h := hb 7 (by omega)
    have e : 32 - 1 - (24 - 8 * k) = 8 * k + 7 := by omega
    rw [if_neg (by omega), if_neg h8, e, h]
    simp only [decide_eq_true (show 32 - 1 < 32 by omega), decide_eq_false (show ¬ 32 - 1 < 24 - 8 * k by omega), decide_eq_true hi, decide_eq_false (show ¬ 32 ≤ i by omega), Bool.not_false, Bool.true_and]

theorem w_bit (r : Fin 15000) (d : Fin 2880) (q : ℕ) (hq : q < 32) :
    ((insAt m c).w (ix2 r d)).getLsbD q = (A1 m c (ix2 ⟨r.val * 4 + q / 8, by omega⟩ d)).getLsbD (q % 8) := by
  rw [in_w, Host.bitcastConvertWiden_getLsbD _ _ _ _ _ q hq]
  have e : ∀ x : Fin 4, splits_S15000x2880_w32_S15000x2880x4_w8.snoc (ix2 r d) x = ix3 r d x := fun x => by
    funext a
    match a with
    | ⟨0, _⟩ => rfl
    | ⟨1, _⟩ => rfl
    | ⟨2, _⟩ => rfl
  refine (congrArg (fun y => BitVec.getLsbD (transpose S15000x2880x4 [0, 2, 1] (shapeCast S15000x4x2880 (A1 m c) shapeCasts_S60000x2880_S15000x4x2880) transposes_S15000x4x2880_S15000x2880x4_0_2_1 y) (q % 8)) (e ⟨q / 8, by omega⟩)).trans ?_
  pointwise

theorem shift_toNat (w : BitVec 32) : (IntOp.subi 24#32 (IntOp.muli 8#32 (IntOp.andi w 3#32))).toNat = 24 - 8 * (w.toNat % 4) := by
  have h : (IntOp.andi w 3#32).toNat = w.toNat % 4 := by
    show (w &&& 3#32).toNat = _
    rw [BitVec.toNat_and]
    exact Nat.and_two_pow_sub_one_eq_mod w.toNat 2
  have h2 : w.toNat % 4 < 4 := Nat.mod_lt _ (by omega)
  show (24#32 - 8#32 * IntOp.andi w 3#32).toNat = _
  rw [BitVec.toNat_sub, BitVec.toNat_mul, h]
  show (2 ^ 32 - (8 * (w.toNat % 4)) % 2 ^ 32 + 24) % 2 ^ 32 = _
  omega

/-- The word's byte an id names is its code. -/
theorem w_at (w : BitVec 32) (hw : w.toNat < 60000) (r : Fin 15000) (d : Fin 2880) (hr : r.val = w.toNat / 4) :
    IntOp.shrsi .vector (IntOp.shli .vector ((insAt m c).w (ix2 r d)) (IntOp.subi 24#32 (IntOp.muli 8#32 (IntOp.andi w 3#32)))) 24#32
      = BitVec.signExtend 32 (A1 m c (ix2 (row w) d)) := by
  refine unpack _ _ (w.toNat % 4) (Nat.mod_lt _ (by omega)) (fun q hq => ?_) _ (shift_toNat w)
  rw [w_bit m c r d _ (by omega)]
  have e1 : (8 * (w.toNat % 4) + q) % 8 = q := by omega
  rw [e1]
  refine congrArg (fun x => (A1 m c (ix2 x d)).getLsbD q) (Fin.ext (by rw [row_val hw]; show r.val * 4 + (8 * (w.toNat % 4) + q) / 8 = w.toNat; omega))

end Cert.KernelIdeal.Hand
-- ==== Proof.KLook.lean ====
/-
  Hand-written. The kernel's table look-up at an index: one-hot rows against the table in three pieces give the entry
  the id names.
-/
module

public import proofs.«01_k».proof.Proof.ISpec
public import proofs.«01_k».proof.Proof.Math
public import Idealize.ShloMosaic.Lib.Pointwise.IndexBridge

@[expose] public section

set_option maxRecDepth 16384

noncomputable section

namespace Cert.KernelIdeal.Hand

open Cert.KernelIdeal Cert.KernelIdeal.Gen
open Idealize.ShloMosaic Idealize.ShloMosaic.TcCoe
open Cert.Val

theorem i2_eq {n0 n1 : ℕ} [NeZero n0] [NeZero n1] {a b : ℕ} (ha : a < n0) (hb : b < n1) :
    (i2 a b : (⟨2, ![n0, n1]⟩ : Shape).Idx) = ix2 ⟨a, ha⟩ ⟨b, hb⟩ := by
  rw [ix2_eq_valueIdx]
  exact congrArg₂ ValueIdx.ix2 (Fin.ext (Nat.mod_eq_of_lt ha)) (Fin.ext (Nat.mod_eq_of_lt hb))

theorem i3_eq {n0 n1 n2 : ℕ} [NeZero n0] [NeZero n1] [NeZero n2] {a b d : ℕ} (ha : a < n0) (hb : b < n1) (hd : d < n2) :
    (i3 a b d : (⟨3, ![n0, n1, n2]⟩ : Shape).Idx) = ix3 ⟨a, ha⟩ ⟨b, hb⟩ ⟨d, hd⟩ := by
  unfold i3
  rw [ix3_eq_valueIdx, show Fin.ofNat n0 a = ⟨a, ha⟩ from Fin.ext (Nat.mod_eq_of_lt ha),
    show Fin.ofNat n1 b = ⟨b, hb⟩ from Fin.ext (Nat.mod_eq_of_lt hb), show Fin.ofNat n2 d = ⟨d, hd⟩ from Fin.ext (Nat.mod_eq_of_lt hd)]

theorem eq_bit {x y : BitVec 32} : (Scalar.select (IntOp.cmpi .eq x y) 1 0 : EReal) = if x.toNat = y.toNat then 1 else 0 := by
  by_cases h : x = y
  · subst h
    simp [IntOp.cmpi, Scalar.select]
  · have h' : ¬ x.toNat = y.toNat := fun e => h (BitVec.eq_of_toNat_eq e)
    have : (x == y) = false := by simpa using h
    simp [IntOp.cmpi, Scalar.select, h', this]

theorem hi_toNat {w : BitVec 32} (hw : w.toNat < 60000) : (IntOp.shrsi .vector w 7#32).toNat = w.toNat / 128 := by
  show (w.sshiftRight 7).toNat = _
  rw [BitVec.sshiftRight_eq_of_msb_false (BitVec.msb_eq_false_iff_two_mul_lt.2 (by omega)), BitVec.toNat_ushiftRight,
    Nat.shiftRight_eq_div_pow]

theorem lo_toNat (w : BitVec 32) : (IntOp.andi w 127#32).toNat = w.toNat % 128 := by
  show (w &&& 127#32).toNat = _
  rw [BitVec.toNat_and]
  exact Nat.and_two_pow_sub_one_eq_mod w.toNat 7

/-- One entry of the one-hot row of an id's upper digits. -/
theorem hot_eq {w : BitVec 32} (hw : w.toNat < 60000) (l C : ℕ) (hl : l < 128) (hC : C < 512) :
    (Scalar.select (IntOp.cmpi .eq (IntOp.shrsi .vector w 7#32) (IntOp.addi (BitVec.ofNat 32 l) (BitVec.ofNat 32 C))) 1 0 : EReal)
      = if w.toNat / 128 = l + C then 1 else 0 := by
  rw [eq_bit, hi_toNat hw]
  have : (IntOp.addi (BitVec.ofNat 32 l) (BitVec.ofNat 32 C)).toNat = l + C := by
    show (BitVec.ofNat 32 l + BitVec.ofNat 32 C).toNat = _
    rw [BitVec.toNat_add, BitVec.toNat_ofNat, BitVec.toNat_ofNat]
    omega
  rw [this]

/-- A row with one lane kept, the id's lower digits', sums to that lane. -/
theorem lane_eq (w : BitVec 32) (f : Fin 128 → EReal) :
    ∑ l : Fin 128, Scalar.select (IntOp.cmpi .eq (BitVec.ofNat 32 l.val) (IntOp.andi w 127#32)) (f l) 0
      = f ⟨w.toNat % 128, Nat.mod_lt _ (by omega)⟩ := by
  have e : ∀ l : Fin 128, Scalar.select (IntOp.cmpi .eq (BitVec.ofNat 32 l.val) (IntOp.andi w 127#32)) (f l) 0
      = (Scalar.select (IntOp.cmpi .eq (BitVec.ofNat 32 l.val) (IntOp.andi w 127#32)) 1 0 : EReal) * f l := fun l => by
    unfold Scalar.select
    split <;> simp
  simp only [e]
  have hl : ∀ l : Fin 128, (BitVec.ofNat 32 l.val).toNat = l.val := fun l => by
    rw [BitVec.toNat_ofNat]
    omega
  refine pick _ f _ ?_ fun j hj => ?_
  · rw [eq_bit, hl, lo_toNat, if_pos rfl]
  · rw [eq_bit, hl, lo_toNat, if_neg fun h => hj (Fin.ext h)]

/-! ## The table's pieces -/

variable (A : Ins Ideal)

theorem TP_at (r : Fin 512) (l : Fin 128) :
    TP A (ix2 r ⟨0 + l.val, by omega⟩) = A.tsc (ix2 r l)
    ∧ TP A (ix2 r ⟨128 + l.val, by omega⟩) = A.tsc (ix2 r l) - A.tsc (ix2 r l)
    ∧ TP A (ix2 r ⟨256 + l.val, by omega⟩) = A.tsc (ix2 r l) - A.tsc (ix2 r l) - (A.tsc (ix2 r l) - A.tsc (ix2 r l))
    ∧ TP A (ix2 r ⟨384 + l.val, by omega⟩) = A.tlq (ix2 r l)
    ∧ TP A (ix2 r ⟨512 + l.val, by omega⟩) = A.tlq (ix2 r l) - A.tlq (ix2 r l)
    ∧ TP A (ix2 r ⟨640 + l.val, by omega⟩) = A.tlq (ix2 r l) - A.tlq (ix2 r l) - (A.tlq (ix2 r l) - A.tlq (ix2 r l)) := by
  have hj : ∀ C : ℕ, C % 128 = 0 → (i2 r.val ((C + l.val) % 128) : S512x128.Idx) = ix2 r l := fun C hC => by
    rw [i2_eq r.isLt (by omega)]
    exact congrArg (ix2 r) (Fin.ext (by show (C + l.val) % 128 = l.val; omega))
  have hj0 := hj 0 rfl
  rw [Nat.zero_add] at hj0
  refine ⟨?_, ?_, ?_, ?_, ?_, ?_⟩
  · show (let j : S512x128.Idx := i2 r.val ((0 + l.val) % 128); if 0 + l.val < 128 then _ else _) = _
    simp only [if_pos (show 0 + l.val < 128 by omega)]
    unfold k0_pay163 k0_pay151 k0_pay150
    pointwise
    rw [hj0]
  · show (let j : S512x128.Idx := i2 r.val ((128 + l.val) % 128); if 128 + l.val < 128 then _ else if 128 + l.val < 256 then _ else _) = _
    simp only [if_neg (show ¬ 128 + l.val < 128 by omega), if_pos (show 128 + l.val < 256 by omega)]
    unfold k0_pay1 k0_pay154 k0_pay153 k0_pay152 k0_pay151 k0_pay150
    pointwise
    rw [hj 128 rfl]
  · show (let j : S512x128.Idx := i2 r.val ((256 + l.val) % 128); if 256 + l.val < 128 then _ else if 256 + l.val < 256 then _ else if 256 + l.val < 384 then _ else _) = _
    simp only [if_neg (show ¬ 256 + l.val < 128 by omega), if_neg (show ¬ 256 + l.val < 256 by omega), if_pos (show 256 + l.val < 384 by omega)]
    unfold k0_pay2 k0_pay155 k0_pay153 k0_pay152 k0_pay151 k0_pay150
    pointwise
    rw [hj 256 rfl]
  · show (let j : S512x128.Idx := i2 r.val ((384 + l.val) % 128); if 384 + l.val < 128 then _ else if 384 + l.val < 256 then _ else if 384 + l.val < 384 then _ else if 384 + l.val < 512 then _ else _) = _
    simp only [if_neg (show ¬ 384 + l.val < 128 by omega), if_neg (show ¬ 384 + l.val < 256 by omega), if_neg (show ¬ 384 + l.val < 384 by omega), if_pos (show 384 + l.val < 512 by omega)]
    unfold k0_pay3 k0_pay160 k0_pay157 k0_pay156
    pointwise
    rw [hj 384 rfl]
  · show (let j : S512x128.Idx := i2 r.val ((512 + l.val) % 128); if 512 + l.val < 128 then _ else if 512 + l.val < 256 then _ else if 512 + l.val < 384 then _ else if 512 + l.val < 512 then _ else if 512 + l.val < 640 then _ else _) = _
    simp only [if_neg (show ¬ 512 + l.val < 128 by omega), if_neg (show ¬ 512 + l.val < 256 by omega), if_neg (show ¬ 512 + l.val < 384 by omega), if_neg (show ¬ 512 + l.val < 512 by omega), if_pos (show 512 + l.val < 640 by omega)]
    unfold k0_pay4 k0_pay161 k0_pay159 k0_pay158 k0_pay157 k0_pay156
    pointwise
    rw [hj 512 rfl]
  · show (let j : S512x128.Idx := i2 r.val ((640 + l.val) % 128); if 640 + l.val < 128 then _ else if 640 + l.val < 256 then _ else if 640 + l.val < 384 then _ else if 640 + l.val < 512 then _ else if 640 + l.val < 640 then _ else _) = _
    simp only [if_neg (show ¬ 640 + l.val < 128 by omega), if_neg (show ¬ 640 + l.val < 256 by omega), if_neg (show ¬ 640 + l.val < 384 by omega), if_neg (show ¬ 640 + l.val < 512 by omega), if_neg (show ¬ 640 + l.val < 640 by omega)]
    unfold k0_pay5 k0_pay162 k0_pay159 k0_pay158 k0_pay157 k0_pay156
    pointwise
    rw [hj 640 rfl]

variable (d : IVec S128x128 32) (tp : S512x768.Idx → EReal) (i : Fin 128) (w : BitVec 32) (hw : w.toNat < 60000) (hd : ∀ l : Fin 128, d (ix2 i l) = w)

include hw hd in
/-- The one-hot rows against the table read the table's row. -/
theorem p43 (col : Fin 768) :
    k0_pay43 (F := Ideal) (k0_pay37 iot d) (k0_pay38 iot d) (k0_pay39 iot d) (k0_pay40 iot d) k0_pay41 k0_pay42 tp (ix2 i col)
      = tp (ix2 ⟨w.toNat / 128, by omega⟩ col) := by
  unfold k0_pay43 k0_pay37 k0_pay38 k0_pay39 k0_pay40 k0_pay41 k0_pay42 k0_pay36
  pointwise
  simp only [hd]
  refine pick (n := 512) ⟨w.toNat / 128, by omega⟩ (fun k => tp (ix2 k col)) _ ?_ fun k hk => ?_
  · dsimp only
    repeat' split
    all_goals rw [hot_eq hw _ _ (by omega) (by omega), if_pos (by omega)]
  · have hk' : w.toNat / 128 ≠ k.val := fun h => hk (Fin.ext h.symm)
    repeat' split
    all_goals rw [hot_eq hw _ _ (by omega) (by omega), if_neg (by omega)]

include hw hd in
theorem p95 (col : Fin 768) :
    ∑ k : Fin 512, k0_pay95 (F := Ideal) iot d (ix2 i k) * tp (ix2 k col) = tp (ix2 ⟨w.toNat / 128, by omega⟩ col) := by
  unfold k0_pay95
  pointwise
  simp only [hd]
  refine pick (n := 512) ⟨w.toNat / 128, by omega⟩ (fun k => tp (ix2 k col)) _ ?_ fun k hk => ?_
  · dsimp only
    repeat' split
    all_goals rw [hot_eq hw _ _ (by omega) (by omega), if_pos (by omega)]
  · have hk' : w.toNat / 128 ≠ k.val := fun h => hk (Fin.ext h.symm)
    repeat' split
    all_goals rw [hot_eq hw _ _ (by omega) (by omega), if_neg (by omega)]

/-- The table's entry an id names, in three pieces from column `C`. -/
def entry (C : ℕ) (hC : C + 384 ≤ 768) : EReal :=
  tp (ix2 ⟨w.toNat / 128, by omega⟩ ⟨C + w.toNat % 128, by omega⟩) + tp (ix2 ⟨w.toNat / 128, by omega⟩ ⟨C + 128 + w.toNat % 128, by omega⟩)
    + tp (ix2 ⟨w.toNat / 128, by omega⟩ ⟨C + 256 + w.toNat % 128, by omega⟩)

include hw hd in
theorem p45 :
    k0_pay45 (F := Ideal) iot d (k0_pay37 iot d) (k0_pay38 iot d) (k0_pay39 iot d) (k0_pay40 iot d) k0_pay41 k0_pay42 tp (ix2 i 0)
      = entry tp w hw 0 (by omega) := by
  unfold k0_pay45 k0_pay44
  pointwise
  simp only [p43 d tp i w hw hd, hd]
  rw [lane_eq w]
  simp only [entry, Nat.zero_add]

include hw hd in
theorem p46 (j : Fin 128) :
    k0_pay46 (F := Ideal) iot d (k0_pay37 iot d) (k0_pay38 iot d) (k0_pay39 iot d) (k0_pay40 iot d) k0_pay41 k0_pay42 tp (ix2 i j)
      = entry tp w hw 0 (by omega) := by
  rw [← p45 d tp i w hw hd]
  unfold k0_pay46
  pointwise

include hw hd in
theorem p47 (tg : IVec S1x128 32) (cb x : S128x2880.Idx → EReal) (j : Fin 128) :
    k0_pay48 (k0_pay47 (F := Ideal) iot tg d (k0_pay37 iot d) (k0_pay38 iot d) (k0_pay39 iot d) (k0_pay40 iot d) k0_pay41 k0_pay42 tp cb x) (ix2 i j)
      = Scalar.select (IntOp.cmpi .eq w (tg (ix2 0 j))) ⊥
          (entry tp w hw 0 (by omega) * ∑ k, cb (ix2 i k) * x (ix2 j k) - entry tp w hw 384 (by omega)) := by
  unfold k0_pay48 k0_pay47 k0_pay44
  pointwise
  simp only [p43 d tp i w hw hd, hd, p45 d tp i w hw hd]
  rw [lane_eq w, negInf]
  rfl

include hw hd in
theorem p98 : k0_pay98 (F := Ideal) iot d (k0_pay95 iot d) tp (ix2 i 0) = entry tp w hw 0 (by omega) := by
  unfold k0_pay98 k0_pay96 k0_pay97
  pointwise
  simp only [p95 d tp i w hw hd, hd]
  rw [lane_eq w]
  simp only [entry, Nat.zero_add]

include hw hd in
theorem p99 (ac : S128x128.Idx → EReal) : k0_pay99 (F := Ideal) iot d ac (k0_pay95 iot d) tp (ix2 0 i)
    = entry tp w hw 0 (by omega) * ∑ l : Fin 128, ac (ix2 i l) - entry tp w hw 384 (by omega) := by
  unfold k0_pay99 k0_pay96 k0_pay97
  pointwise
  simp only [p95 d tp i w hw hd, hd, p98 d tp i w hw hd]
  rw [lane_eq w]
  rfl

/-- The scale and the log-probability an id names, where they are finite. -/
theorem entry_tsc (hf : Fini (A.tsc (ix2 ⟨w.toNat / 128, by omega⟩ ⟨w.toNat % 128, Nat.mod_lt _ (by omega)⟩))) :
    entry (TP A) w hw 0 (by omega) = A.tsc (ix2 ⟨w.toNat / 128, by omega⟩ ⟨w.toNat % 128, Nat.mod_lt _ (by omega)⟩) := by
  obtain ⟨h0, h1, h2, -⟩ := TP_at A ⟨w.toNat / 128, by omega⟩ ⟨w.toNat % 128, Nat.mod_lt _ (by omega)⟩
  unfold entry
  rw [h0, h1, h2, parts hf]

theorem entry_tlq (hf : Fini (A.tlq (ix2 ⟨w.toNat / 128, by omega⟩ ⟨w.toNat % 128, Nat.mod_lt _ (by omega)⟩))) :
    entry (TP A) w hw 384 (by omega) = A.tlq (ix2 ⟨w.toNat / 128, by omega⟩ ⟨w.toNat % 128, Nat.mod_lt _ (by omega)⟩) := by
  obtain ⟨-, -, -, h0, h1, h2⟩ := TP_at A ⟨w.toNat / 128, by omega⟩ ⟨w.toNat % 128, Nat.mod_lt _ (by omega)⟩
  unfold entry
  rw [h0, h1, h2, parts hf]

end Cert.KernelIdeal.Hand
-- ==== Proof.KVal.lean ====
/-
  Hand-written. The kernel's results at an index: the layer's forward pass of `Math.lean` on the layer's arguments.
-/
module

public import proofs.«01_k».proof.Proof.KIn
public import proofs.«01_k».proof.Proof.KLook

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Val

variable (m : (ℓ : Loc nD τ sig) → Buf (Elt Ideal) ℓ) (c : Dev nD)

/-- The data of the kernel's arguments. -/
def KD : Dat := dat (A0 m c) (A1 m c) (A2 m c) (A3 m c) (A4 m c) (A5 m c) (A6 m c)

/-! ## Ids, codes and table entries -/

theorem idRow_at (a : Fin 6) (n : Fin 2048) (k : ℕ) (i : Fin 128) (hk : 128 * k + i.val = 2048 * a.val + n.val) :
    idRow (insAt m c) k (ix3 0 0 i) = A4 m c (ix2 a n) := by
  unfold idRow
  have e : (i3 k 0 ((ix3 (0 : Fin 1) (0 : Fin 1) i) 2).val : S96x1x128.Idx) = ix3 ⟨k, by omega⟩ 0 i :=
    i3_eq (by omega) (by omega) i.isLt
  rw [e]
  exact idv_at m c a n ⟨k, by omega⟩ i hk

theorem tgRow_at (a : Fin 6) (s : Fin 128) : tgRow (insAt m c) a.val (ix3 0 0 s) = A5 m c (ix2 a s) := by
  unfold tgRow
  have e : (i3 a.val 0 ((ix3 (0 : Fin 1) (0 : Fin 1) s) 2).val : S6x1x128.Idx) = ix3 a 0 s :=
    i3_eq a.isLt (by omega) s.isLt
  rw [e]
  exact tgv_at m c a s

theorem gRow_at (a : Fin 6) (s : Fin 128) : gRow (insAt m c) a.val (ix3 0 0 s) = (KD m c).g a s := by
  unfold gRow
  have e : (i3 a.val 0 ((ix3 (0 : Fin 1) (0 : Fin 1) s) 2).val : S6x1x128.Idx) = ix3 a 0 s :=
    i3_eq a.isLt (by omega) s.isLt
  rw [e]
  exact g_at m c a s

theorem d_at (v : S1x1x128.Idx → BitVec 32) (i l : Fin 128) : k0_pay7 (F := Ideal) v (ix2 i l) = v (ix3 0 0 i) := by
  unfold k0_pay7
  pointwise

theorem t_at (v : S1x1x128.Idx → BitVec 32) (i l : Fin 128) : k0_pay86 (F := Ideal) v (ix2 i l) = v (ix3 0 0 i) := by
  unfold k0_pay86 k0_pay85
  pointwise

theorem sh_at (v : S1x1x128.Idx → BitVec 32) (i l : Fin 128) :
    k0_pay8 (F := Ideal) v (ix2 i l) = IntOp.subi 24#32 (IntOp.muli 8#32 (IntOp.andi (v (ix3 0 0 i)) 3#32)) := by
  unfold k0_pay8 k0_pay7
  pointwise

theorem tsh_at (a : Fin 6) (i l : Fin 128) :
    tsh (insAt m c) a.val (ix2 i l) = IntOp.subi 24#32 (IntOp.muli 8#32 (IntOp.andi (A5 m c (ix2 a i)) 3#32)) := by
  rw [← tgRow_at]
  unfold tsh k0_pay87 k0_pay86 k0_pay85
  pointwise

variable (h4 : ∀ y, (A4 m c y).toNat < 60000) (h5 : ∀ y, (A5 m c y).toNat < 60000)

theorem wix_at (n : ℕ) (d : Fin 2880) (hn : n < 60000) : wix n d = ix2 ⟨n / 4, by omega⟩ d := by
  funext e
  match e with
  | ⟨0, _⟩ => exact Fin.ext (Nat.mod_eq_of_lt (by omega))
  | ⟨1, _⟩ => rfl

include h4 in
theorem CBn_at (a : Fin 6) (n : Fin 2048) (d : Fin 2880) : CBn (insAt m c) a.val n.val d.val = (KD m c).c a n d := by
  unfold CBn
  have e : (i2 (n.val % 128) 0 : S128x128.Idx) = ix2 ⟨n.val % 128, Nat.mod_lt _ (by omega)⟩ 0 := i2_eq _ (by omega)
  rw [e]
  have er : ringG (insAt m c).w (sid (insAt m c).ids (8 * a.val + n.val / 256)) (i3 0 (n.val % 256) d.val)
      = (insAt m c).w (ix2 ⟨(A4 m c (ix2 a n)).toNat / 4, by have := h4 (ix2 a n); omega⟩ d) := by
    have e3 : (i3 0 (n.val % 256) d.val : S3x256x2880.Idx) = ix3 0 ⟨n.val % 256, Nat.mod_lt _ (by omega)⟩ d := i3_eq (by omega) _ d.isLt
    rw [e3]
    have es : sid (insAt m c).ids (8 * a.val + n.val / 256) (n.val % 256) = A4 m c (ix2 a n) := by
      unfold sid
      have ea : at12288 (256 * (8 * a.val + n.val / 256) + n.val % 256) = ix1 ⟨2048 * a.val + n.val, by omega⟩ := by
        funext x
        match x with
        | ⟨0, _⟩ => exact Fin.ext (by show (256 * (8 * a.val + n.val / 256) + n.val % 256) % 12288 = 2048 * a.val + n.val; omega)
      rw [ea]
      exact ids_at m c a n _ rfl
    show (insAt m c).w (wix (sid (insAt m c).ids (8 * a.val + n.val / 256) (n.val % 256)).toNat d) = _
    rw [es, wix_at _ _ (h4 _)]
  rw [er]
  unfold k0_pay11
  pointwise
  rw [sh_at, idRow_at m c a n _ _ (by show 128 * (16 * a.val + n.val / 128) + n.val % 128 = _; omega),
    w_at m c _ (h4 _) _ _ rfl]
  rfl

include h4 in
theorem cbT_at {m0 m1 : ℕ} (a : Fin 6) (R C : ℕ) (i : Fin m0) (l : Fin m1) (n : Fin 2048) (d : Fin 2880) (hn : n.val = R + i.val) (hd : d.val = C + l.val) :
    (cbT (insAt m c) a.val R C : (⟨2, ![m0, m1]⟩ : Shape).Idx → Ideal .bf16) (ix2 i l) = (KD m c).c a n d := by
  rw [← CBn_at m c h4, hn, hd]
  rfl

theorem xT_at {m0 m1 : ℕ} (a : Fin 6) (C : ℕ) (i : Fin m0) (l : Fin m1) (s : Fin 128) (d : Fin 2880) (hs : s.val = i.val) (hd : d.val = C + l.val) :
    (xT (insAt m c) a.val C : (⟨2, ![m0, m1]⟩ : Shape).Idx → Ideal .bf16) (ix2 i l) = (KD m c).x a s d := by
  unfold xT
  have e : (i2 (128 * a.val + ((ix2 i l) 0).val) (C + ((ix2 i l) 1).val) : S768x2880.Idx) = ix2 ⟨128 * a.val + s.val, by omega⟩ d := by
    rw [show ((ix2 i l) 0).val = s.val from hs.symm, show C + ((ix2 i l) 1).val = d.val from hd.symm]
    exact i2_eq _ d.isLt
  rw [e]
  exact x_at m c a s d _ rfl

include h5 in
/-- A target's code, shifted down out of its word. -/
theorem tgt_at {m0 m1 : ℕ} (a : Fin 6) (C : ℕ) (i : Fin m0) (l : Fin m1) (s : Fin 128) (d : Fin 2880) (hs : s.val = i.val) (hd : d.val = C + l.val) :
    (FloatOps.sitofp .f32 (IntOp.shrsi .vector (IntOp.shli .vector ((tgtT (insAt m c) a.val C : (⟨2, ![m0, m1]⟩ : Shape).Idx → BitVec 32) (ix2 i l))
      (IntOp.subi 24#32 (IntOp.muli 8#32 (IntOp.andi (A5 m c (ix2 a s)) 3#32)))) 24#32) : Ideal .f32) = (KD m c).ct a s d := by
  have er : (tgtT (insAt m c) a.val C : (⟨2, ![m0, m1]⟩ : Shape).Idx → BitVec 32) (ix2 i l)
      = (insAt m c).w (ix2 ⟨(A5 m c (ix2 a s)).toNat / 4, by have := h5 (ix2 a s); omega⟩ d) := by
    unfold tgtT
    have e3 : (i2 ((ix2 i l) 0).val (C + ((ix2 i l) 1).val) : S128x2880.Idx) = ix2 s d := by
      rw [show ((ix2 i l) 0).val = s.val from hs.symm, show C + ((ix2 i l) 1).val = d.val from hd.symm]
      exact i2_eq s.isLt d.isLt
    rw [e3]
    have es : tid (insAt m c).tids a.val s.val = A5 m c (ix2 a s) := by
      unfold tid
      have ea : at768 (128 * a.val + s.val) = ix1 ⟨128 * a.val + s.val, by omega⟩ := by
        funext x
        match x with
        | ⟨0, _⟩ => exact Fin.ext (by show (128 * a.val + s.val) % 768 = 128 * a.val + s.val; omega)
      rw [ea]
      exact tids_at m c a s _ rfl
    show (insAt m c).w (wix (tid (insAt m c).tids a.val s.val).toNat d) = _
    rw [es, wix_at _ _ (h5 _)]
  rw [er, w_at m c _ (h5 _) _ _ rfl]
  rfl

variable (f2 : ∀ y, Fini (A2 m c y)) (f3 : ∀ y, Fini (A3 m c y))

include f2 in
theorem sc_entry (w : BitVec 32) (hw : w.toNat < 60000) : entry (TP (insAt m c)) w hw 0 (by omega) = A2 m c (ix1 (row w)) := by
  have e : (insAt m c).tsc (ix2 ⟨w.toNat / 128, by omega⟩ ⟨w.toNat % 128, Nat.mod_lt _ (by omega)⟩) = A2 m c (ix1 (row w)) := by
    rw [tsc_at, dif_pos (show w.toNat / 128 * 128 + w.toNat % 128 < 60000 by omega)]
    refine congrArg (fun x => A2 m c (ix1 x)) (Fin.ext ?_)
    rw [row_val hw]
    show w.toNat / 128 * 128 + w.toNat % 128 = _
    omega
  rw [entry_tsc _ _ _ (e ▸ f2 _), e]

include f3 in
theorem lq_entry (w : BitVec 32) (hw : w.toNat < 60000) : entry (TP (insAt m c)) w hw 384 (by omega) = A3 m c (ix1 (row w)) := by
  have e : (insAt m c).tlq (ix2 ⟨w.toNat / 128, by omega⟩ ⟨w.toNat % 128, Nat.mod_lt _ (by omega)⟩) = A3 m c (ix1 (row w)) := by
    rw [tlq_at, dif_pos (show w.toNat / 128 * 128 + w.toNat % 128 < 60000 by omega)]
    refine congrArg (fun x => A3 m c (ix1 x)) (Fin.ext ?_)
    rw [row_val hw]
    show w.toNat / 128 * 128 + w.toNat % 128 = _
    omega
  rw [entry_tlq _ _ _ (e ▸ f3 _), e]

/-! ## The sampled logits -/

include h4 f2 in
theorem SC_at (a : Fin 6) (n : Fin 2048) (s : Fin 128) : SC (insAt m c) a.val (ix2 n s) = (KD m c).s a n := by
  show scN (insAt m c) a.val (n.val / 128) (i2 (n.val % 128) s.val) = _
  have e : (i2 (n.val % 128) s.val : S128x128.Idx) = ix2 ⟨n.val % 128, Nat.mod_lt _ (by omega)⟩ s := i2_eq _ s.isLt
  rw [e]
  unfold scN
  rw [p46 _ _ _ (A4 m c (ix2 a n)) (h4 _) fun l => by rw [d_at]; exact idRow_at m c a n _ _ (by show 128 * (16 * a.val + n.val / 128) + n.val % 128 = _; omega)]
  exact sc_entry m c f2 _ _

include h4 f2 f3 in
theorem ZZ_at (a : Fin 6) (n : Fin 2048) (s : Fin 128) : ZZ (insAt m c) a.val (ix2 n s) = (KD m c).z a s n := by
  show zN (insAt m c) a.val (n.val / 128) (i2 (n.val % 128) s.val) = _
  have e : (i2 (n.val % 128) s.val : S128x128.Idx) = ix2 ⟨n.val % 128, Nat.mod_lt _ (by omega)⟩ s := i2_eq _ s.isLt
  rw [e]
  unfold zN
  rw [p47 _ _ _ (A4 m c (ix2 a n)) (h4 _) fun l => by rw [d_at]; exact idRow_at m c a n _ _ (by show 128 * (16 * a.val + n.val / 128) + n.val % 128 = _; omega)]
  rw [sc_entry m c f2, lq_entry m c f3]
  have et : k0_pay85 (F := Ideal) (tgRow (insAt m c) a.val) (ix2 0 s) = A5 m c (ix2 a s) := by
    rw [← tgRow_at]
    unfold k0_pay85
    pointwise
  rw [et]
  have es : ∀ k : Fin 2880, (cbT (insAt m c) a.val (128 * (n.val / 128)) 0 : S128x2880.Idx → Ideal .bf16) (ix2 ⟨n.val % 128, Nat.mod_lt _ (by omega)⟩ k)
      * (xT (insAt m c) a.val 0 : S128x2880.Idx → Ideal .bf16) (ix2 s k) = (KD m c).x a s k * (KD m c).c a n k := fun k => by
    rw [cbT_at m c h4 a _ 0 _ k n k (by show n.val = 128 * (n.val / 128) + n.val % 128; omega) (by omega),
      xT_at m c a 0 s k s k rfl (by omega), mul_comm]
  simp only [es]
  rfl

/-! ## The target's logit -/

/-- One term of the target's dot, past its last term zero. -/
def term (a : Fin 6) (s : Fin 128) (d : ℕ) : EReal := if h : d < 2880 then (KD m c).ct a s ⟨d, h⟩ * (KD m c).x a s ⟨d, h⟩ else 0

include h5 in
theorem term_at {m1 : ℕ} (a : Fin 6) (C : ℕ) (i : Fin 128) (l : Fin m1) (hC : C + m1 ≤ 2880) :
    (FloatOps.sitofp .f32 (IntOp.shrsi .vector (IntOp.shli .vector ((tgtT (insAt m c) a.val C : (⟨2, ![128, m1]⟩ : Shape).Idx → BitVec 32) (ix2 i l))
      (IntOp.subi 24#32 (IntOp.muli 8#32 (IntOp.andi (A5 m c (ix2 a i)) 3#32)))) 24#32) : Ideal .f32)
      * (xT (insAt m c) a.val C : (⟨2, ![128, m1]⟩ : Shape).Idx → Ideal .bf16) (ix2 i l) = term m c a i (C + l.val) := by
  unfold term
  rw [dif_pos (by omega), tgt_at m c h5 a C i l i ⟨C + l.val, by omega⟩ rfl rfl, xT_at m c a C i l i ⟨C + l.val, by omega⟩ rfl rfl]

include h5 in
theorem acc0_at (a : Fin 6) (i l : Fin 128) :
    acc0 (insAt m c) a.val (ix2 i l) = term m c a i l.val + term m c a i (128 + l.val) := by
  have e : k0_pay87 (F := Ideal) (tgRow (insAt m c) a.val) (ix2 i l) = _ := tsh_at m c a i l
  unfold acc0 k0_pay88
  pointwise
  rw [e, term_at m c h5 a 0 i l (by omega), term_at m c h5 a 128 i l (by omega), Nat.zero_add]

include h5 in
theorem acc1_at (a : Fin 6) (i l : Fin 128) : acc1 (insAt m c) a.val (ix2 i l) = acc0 (insAt m c) a.val (ix2 i l) + term m c a i (256 + l.val)
    + term m c a i (384 + l.val) + term m c a i (512 + l.val) + term m c a i (640 + l.val) := by
  unfold acc1 k0_pay89
  pointwise
  rw [tsh_at, term_at m c h5 a 256 i l (by omega), term_at m c h5 a 384 i l (by omega), term_at m c h5 a 512 i l (by omega), term_at m c h5 a 640 i l (by omega)]

include h5 in
theorem acc2_at (a : Fin 6) (i l : Fin 128) : acc2 (insAt m c) a.val (ix2 i l) = acc1 (insAt m c) a.val (ix2 i l) + term m c a i (768 + l.val)
    + term m c a i (896 + l.val) + term m c a i (1024 + l.val) + term m c a i (1152 + l.val) := by
  unfold acc2 k0_pay90
  pointwise
  rw [tsh_at, term_at m c h5 a 768 i l (by omega), term_at m c h5 a 896 i l (by omega), term_at m c h5 a 1024 i l (by omega), term_at m c h5 a 1152 i l (by omega)]

include h5 in
theorem acc3_at (a : Fin 6) (i l : Fin 128) : acc3 (insAt m c) a.val (ix2 i l) = acc2 (insAt m c) a.val (ix2 i l) + term m c a i (1280 + l.val)
    + term m c a i (1408 + l.val) + term m c a i (1536 + l.val) + term m c a i (1664 + l.val) := by
  unfold acc3 k0_pay91
  pointwise
  rw [tsh_at, term_at m c h5 a 1280 i l (by omega), term_at m c h5 a 1408 i l (by omega), term_at m c h5 a 1536 i l (by omega), term_at m c h5 a 1664 i l (by omega)]

include h5 in
theorem acc4_at (a : Fin 6) (i l : Fin 128) : acc4 (insAt m c) a.val (ix2 i l) = acc3 (insAt m c) a.val (ix2 i l) + term m c a i (1792 + l.val)
    + term m c a i (1920 + l.val) + term m c a i (2048 + l.val) + term m c a i (2176 + l.val) := by
  unfold acc4 k0_pay92
  pointwise
  rw [tsh_at, term_at m c h5 a 1792 i l (by omega), term_at m c h5 a 1920 i l (by omega), term_at m c h5 a 2048 i l (by omega), term_at m c h5 a 2176 i l (by omega)]

include h5 in
theorem acc5_at (a : Fin 6) (i l : Fin 128) : acc5 (insAt m c) a.val (ix2 i l) = acc4 (insAt m c) a.val (ix2 i l) + term m c a i (2304 + l.val)
    + term m c a i (2432 + l.val) + term m c a i (2560 + l.val) + term m c a i (2688 + l.val) := by
  unfold acc5 k0_pay93
  pointwise
  rw [tsh_at, term_at m c h5 a 2304 i l (by omega), term_at m c h5 a 2432 i l (by omega), term_at m c h5 a 2560 i l (by omega), term_at m c h5 a 2688 i l (by omega)]

include h5 in
theorem acc6_at (a : Fin 6) (i l : Fin 128) : acc6 (insAt m c) a.val (ix2 i l) = acc5 (insAt m c) a.val (ix2 i l) + term m c a i (2816 + l.val) := by
  unfold acc6 k0_pay94
  pointwise
  rw [tsh_at]
  by_cases h : l.val < 64
  · rw [dif_pos h, term_at m c h5 a 2816 i ⟨l.val, h⟩ (by omega)]
  · rw [dif_neg h]
    unfold term
    rw [dif_neg (by omega)]

include h5 in
theorem acc_at (a : Fin 6) (i l : Fin 128) : acc6 (insAt m c) a.val (ix2 i l) = ∑ k : Fin 23, term m c a i (128 * k.val + l.val) := by
  rw [acc6_at m c h5, acc5_at m c h5, acc4_at m c h5, acc3_at m c h5, acc2_at m c h5, acc1_at m c h5, acc0_at m c h5]
  rw [Fin.sum_univ_eq_sum_range (fun k => term m c a i (128 * k + l.val)) 23]
  simp only [Finset.sum_range_succ, Finset.sum_range_zero, zero_add, Nat.reduceMul, Nat.zero_add]

include h5 in
theorem dot_at (a : Fin 6) (s : Fin 128) :
    ∑ l : Fin 128, acc6 (insAt m c) a.val (ix2 s l) = ∑ d, (KD m c).x a s d * (KD m c).ct a s d := by
  simp only [acc_at m c h5]
  rw [lanes (term m c a s) fun d hd => by unfold term; rw [dif_neg (by omega)]]
  refine Finset.sum_congr rfl fun d _ => ?_
  unfold term
  rw [dif_pos d.isLt, mul_comm]

include h5 f2 in
theorem tscale_at (a : Fin 6) (s : Fin 128) : tscale (insAt m c) a.val (ix2 s 0) = (KD m c).st a s := by
  unfold tscale hot
  rw [p98 _ _ _ (A5 m c (ix2 a s)) (h5 _) fun l => by unfold tcol; rw [t_at]; exact tgRow_at m c a s]
  exact sc_entry m c f2 _ _

include h5 f2 f3 in
theorem zt_at (a : Fin 6) (s : Fin 128) : zt (insAt m c) a.val (ix2 0 s) = (KD m c).zt a s := by
  unfold zt hot
  rw [p99 _ _ _ (A5 m c (ix2 a s)) (h5 _) fun l => by unfold tcol; rw [t_at]; exact tgRow_at m c a s]
  rw [sc_entry m c f2, lq_entry m c f3, dot_at m c h5]
  rfl

/-! ## The log-sum-exp and the results -/

include h4 f2 f3 in
theorem v396_at (a : Fin 6) (s : Fin 128) : v396 (insAt m c) a.val (ix2 0 s) = (KD m c).ls a s := by
  unfold v396 k0_pay101
  pointwise
  simp only [ZZ_at m c h4 f2 f3, negInf]
  rfl

include h4 h5 f2 f3 in
theorem v397_at (a : Fin 6) (s : Fin 128) : v397 (insAt m c) a.val (ix2 0 s) = max ((KD m c).zt a s) ((KD m c).ls a s) := by
  rw [← zt_at m c h5 f2 f3, ← v396_at m c h4 f2 f3]
  unfold v397 k0_pay102
  pointwise
  rfl

include h4 h5 f2 f3 in
theorem lse_at (a : Fin 6) (s : Fin 128) :
    k0_pay103 (F := Ideal) (zt (insAt m c) a.val) (v396 (insAt m c) a.val) (v397 (insAt m c) a.val) (ix2 0 s) = (KD m c).lse a s := by
  unfold k0_pay103
  pointwise
  rw [zt_at m c h5 f2 f3, v396_at m c h4 f2 f3, v397_at m c h4 h5 f2 f3, zero_sub]
  rfl

include h4 h5 f2 f3 in
theorem loss_at (a : Fin 6) (s : Fin 128) : LOSS (insAt m c) (ix3 a 0 s) = (KD m c).loss a s := by
  show lossN (insAt m c) a.val (i3 0 0 s.val) = _
  rw [show (i3 0 0 s.val : S1x1x128.Idx) = ix3 0 0 s from i3_eq _ _ s.isLt]
  unfold lossN k0_pay106
  pointwise
  rw [lse_at m c h4 h5 f2 f3, zt_at m c h5 f2 f3]
  rfl

include h4 h5 f2 f3 in
theorem pay105_at (a : Fin 6) (s : Fin 128) :
    k0_pay105 (F := Ideal) (zt (insAt m c) a.val) (v396 (insAt m c) a.val) (v397 (insAt m c) a.val) (gRow (insAt m c) a.val) (ix2 0 s) = (KD m c).dzt a s := by
  unfold k0_pay105 k0_pay104
  pointwise
  rw [lse_at m c h4 h5 f2 f3, zt_at m c h5 f2 f3, gRow_at]
  rfl

include h4 h5 f2 f3 in
theorem dzt_at (a : Fin 6) (s : Fin 128) : DZT (insAt m c) (ix3 a 0 s) = (KD m c).dzt a s := by
  show dztN (insAt m c) a.val (i3 0 0 s.val) = _
  rw [show (i3 0 0 s.val : S1x1x128.Idx) = ix3 0 0 s from i3_eq _ _ s.isLt]
  unfold dztN k0_pay107
  pointwise
  exact pay105_at m c h4 h5 f2 f3 a s

include h4 h5 f2 f3 in
theorem dzN_at (a : Fin 6) (n : Fin 2048) (s : Fin 128) : dzN (insAt m c) a.val (ix2 n s) = (KD m c).dz a s n := by
  unfold dzN k0_pay108 k0_pay104
  pointwise
  rw [lse_at m c h4 h5 f2 f3, ZZ_at m c h4 f2 f3, gRow_at]
  rfl

include h4 h5 f2 f3 in
theorem dz_at (a : Fin 6) (n : Fin 2048) (s : Fin 128) (k : Fin 12288) (hk : k.val = 2048 * a.val + n.val) :
    DZ (insAt m c) (ix2 k s) = (KD m c).dz a s n := by
  show dzN (insAt m c) (k.val / 2048) (i2 (k.val % 2048) s.val) = _
  rw [show k.val / 2048 = a.val by omega, show k.val % 2048 = n.val by omega,
    show (i2 n.val s.val : S2048x128.Idx) = ix2 n s from i2_eq n.isLt s.isLt]
  exact dzN_at m c h4 h5 f2 f3 a n s

/-! ## The hidden states' gradient -/

include h4 h5 f2 f3 in
theorem dzs_at (a : Fin 6) (s : Fin 128) (n : Fin 2048) : dzs (insAt m c) a.val (ix2 s n) = (KD m c).dz a s n * (KD m c).s a n := by
  rw [← dzN_at m c h4 h5 f2 f3, ← SC_at m c h4 f2 a n s]
  unfold dzs k0_pay109
  pointwise
  rfl

include h4 h5 f2 f3 in
theorem coef_at (a : Fin 6) (s l : Fin 128) : coef (insAt m c) a.val (ix2 s l) = (KD m c).dzt a s * (KD m c).st a s := by
  rw [← pay105_at m c h4 h5 f2 f3, ← tscale_at m c h5 f2]
  unfold coef k0_pay110
  pointwise

include h4 h5 f2 f3 in
theorem dhA_at (a : Fin 6) (C : ℕ) (s l : Fin 128) (d : Fin 2880) (hd : d.val = C + l.val) :
    dhA (insAt m c) a.val C (ix2 s l) = (KD m c).dh a s d := by
  unfold dhA k0_pay112 k0_pay111
  pointwise
  rw [coef_at m c h4 h5 f2 f3, tsh_at, tgt_at m c h5 a C s l s d rfl hd]
  simp only [dzs_at m c h4 h5 f2 f3]
  have e : ∀ n : Fin 2048, (cbT (insAt m c) a.val 0 C : S2048x256.Idx → Ideal .bf16) (ix2 n ⟨l.val, by omega⟩) = (KD m c).c a n d := fun n =>
    cbT_at m c h4 a 0 C n ⟨l.val, by omega⟩ n d (by omega) hd
  simp only [e]
  rfl

include h4 h5 f2 f3 in
theorem dhB_at (a : Fin 6) (C : ℕ) (s l : Fin 128) (d : Fin 2880) (hd : d.val = C + 128 + l.val) :
    dhB (insAt m c) a.val C (ix2 s l) = (KD m c).dh a s d := by
  unfold dhB k0_pay113 k0_pay111
  pointwise
  rw [coef_at m c h4 h5 f2 f3, tsh_at, tgt_at m c h5 a (C + 128) s l s d rfl hd]
  simp only [dzs_at m c h4 h5 f2 f3]
  have e : ∀ n : Fin 2048, (cbT (insAt m c) a.val 0 C : S2048x256.Idx → Ideal .bf16) (ix2 n ⟨128 + l.val, by omega⟩) = (KD m c).c a n d := fun n =>
    cbT_at m c h4 a 0 C n ⟨128 + l.val, by omega⟩ n d (by omega) (by show d.val = C + (128 + l.val); omega)
  simp only [e]
  rfl

include h4 h5 f2 f3 in
theorem dhC_at (a : Fin 6) (s : Fin 128) (l : Fin 64) (d : Fin 2880) (hd : d.val = 2816 + l.val) :
    dhC (insAt m c) a.val (ix2 s l) = (KD m c).dh a s d := by
  unfold dhC k0_pay6 k0_pay148 k0_pay149
  pointwise
  rw [coef_at m c h4 h5 f2 f3, tsh_at, tgt_at m c h5 a 2816 s l s d rfl hd]
  simp only [dzs_at m c h4 h5 f2 f3]
  have e : ∀ n : Fin 2048, (cbT (insAt m c) a.val 0 2816 : S2048x64.Idx → Ideal .bf16) (ix2 n l) = (KD m c).c a n d := fun n =>
    cbT_at m c h4 a 0 2816 n l n d (by omega) hd
  simp only [e]
  rfl

include h4 h5 f2 f3 in
theorem dh_at (a : Fin 6) (s : Fin 128) (d : Fin 2880) (k : Fin 768) (hk : k.val = 128 * a.val + s.val) :
    DH (insAt m c) (ix2 k d) = (KD m c).dh a s d := by
  show (if d.val < 2816 then
      if d.val % 256 < 128 then dhA (insAt m c) (k.val / 128) (256 * (d.val / 256)) (i2 (k.val % 128) (d.val % 256))
      else dhB (insAt m c) (k.val / 128) (256 * (d.val / 256)) (i2 (k.val % 128) (d.val % 256 - 128))
    else dhC (insAt m c) (k.val / 128) (i2 (k.val % 128) (d.val - 2816))) = _
  rw [show k.val / 128 = a.val by omega, show k.val % 128 = s.val by omega]
  split
  · split
    · rename_i h1 h2
      rw [show (i2 s.val (d.val % 256) : S128x128.Idx) = ix2 s ⟨d.val % 256, h2⟩ from i2_eq s.isLt h2]
      exact dhA_at m c h4 h5 f2 f3 a _ s _ d (by show d.val = 256 * (d.val / 256) + d.val % 256; omega)
    · rename_i h1 h2
      rw [show (i2 s.val (d.val % 256 - 128) : S128x128.Idx) = ix2 s ⟨d.val % 256 - 128, by omega⟩ from i2_eq s.isLt (by omega)]
      exact dhB_at m c h4 h5 f2 f3 a _ s _ d (by show d.val = 256 * (d.val / 256) + 128 + (d.val % 256 - 128); omega)
  · rename_i h1
    rw [show (i2 s.val (d.val - 2816) : S128x64.Idx) = ix2 s ⟨d.val - 2816, by omega⟩ from i2_eq s.isLt (by omega)]
    exact dhC_at m c h4 h5 f2 f3 a s _ d (by show d.val = 2816 + (d.val - 2816); omega)

end Cert.KernelIdeal.Hand
-- ==== Proof.RGather.lean ====
/-
  Hand-written. The reference's table reads at an index: each gather, its indices below the table's extent, reads the
  row the index names.
-/
module

public import proofs.«01_k».proof.Proof.Gen.ReferenceIdeal.Run
public import proofs.«01_k».proof.Proof.Math
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.Val

theorem clamp {w : BitVec 32} (h : w.toNat < 60000) : min w.toInt.toNat (60000 - 1) = w.toNat := by
  rw [BitVec.toInt_eq_toNat_of_lt (by omega)]
  simp only [Int.toNat_natCast]
  omega

theorem wrap {w : BitVec 32} (h : w.toNat < 60000) :
    Scalar.select (IntOp.cmpi .slt w 0#32) (IntOp.addi w 60000#32) w = w := by
  have : IntOp.cmpi .slt w 0#32 = 0#1 := by
    have h1 : w.toInt = w.toNat := BitVec.toInt_eq_toNat_of_lt (by omega)
    show BitVec.ofBool (decide (w.toInt < 0)) = 0#1
    rw [h1, decide_eq_false (by omega)]
    rfl
  rw [this]
  rfl

variable {α : Type}

theorem gather_s2 (x : S60000x2880.Idx → α) (idx : IVec S6x2048x1 32) (b : Fin 6) (n : Fin 2048) (d : Fin 2880)
    (h : (idx (ix3 b n 0)).toNat < 60000) :
    Host.gather gather_S60000x2880_S6x2048x1_S6x2048x2880_2_0_n_n_0_2_12880 x idx (ix3 b n d) = x (ix2 (row (idx (ix3 b n 0))) d) := by
  unfold Host.gather
  congr 1
  have e : ∀ c, gather_S60000x2880_S6x2048x1_S6x2048x2880_2_0_n_n_0_2_12880.siIdx (ix3 b n d) c = ix3 b n 0 := by
    intro c
    funext a
    match a with
    | ⟨0, _⟩ => rfl
    | ⟨1, _⟩ => rfl
    | ⟨2, _⟩ => exact Subsingleton.elim (α := Fin 1) _ _
  funext a
  apply Fin.ext
  match a with
  | ⟨0, _⟩ =>
    show min (idx (GatherDims.siIdx _ _ _)).toInt.toNat (60000 - 1) + 0 + 0 = (row _).val
    rw [e, clamp h, row_val h]
    rfl
  | ⟨1, _⟩ =>
    show 0 + 0 + d.val = d.val
    omega

theorem gather_s1 (x : S60000.Idx → α) (idx : IVec S6x2048x1 32) (b : Fin 6) (n : Fin 2048)
    (h : (idx (ix3 b n 0)).toNat < 60000) :
    Host.gather gather_S60000_S6x2048x1_S6x2048_n_0_n_n_0_2_1 x idx (ix2 b n) = x (ix1 (row (idx (ix3 b n 0)))) := by
  unfold Host.gather
  congr 1
  have e : ∀ c, gather_S60000_S6x2048x1_S6x2048_n_0_n_n_0_2_1.siIdx (ix2 b n) c = ix3 b n 0 := by
    intro c
    funext a
    match a with
    | ⟨0, _⟩ => rfl
    | ⟨1, _⟩ => rfl
    | ⟨2, _⟩ => exact Subsingleton.elim (α := Fin 1) _ _
  funext a
  apply Fin.ext
  match a with
  | ⟨0, _⟩ =>
    show min (idx (GatherDims.siIdx _ _ _)).toInt.toNat (60000 - 1) + 0 + 0 = (row _).val
    rw [e, clamp h, row_val h]
    rfl

theorem gather_t2 (x : S60000x2880.Idx → α) (idx : IVec S6x128x1 32) (b : Fin 6) (n : Fin 128) (d : Fin 2880)
    (h : (idx (ix3 b n 0)).toNat < 60000) :
    Host.gather gather_S60000x2880_S6x128x1_S6x128x2880_2_0_n_n_0_2_12880 x idx (ix3 b n d) = x (ix2 (row (idx (ix3 b n 0))) d) := by
  unfold Host.gather
  congr 1
  have e : ∀ c, gather_S60000x2880_S6x128x1_S6x128x2880_2_0_n_n_0_2_12880.siIdx (ix3 b n d) c = ix3 b n 0 := by
    intro c
    funext a
    match a with
    | ⟨0, _⟩ => rfl
    | ⟨1, _⟩ => rfl
    | ⟨2, _⟩ => exact Subsingleton.elim (α := Fin 1) _ _
  funext a
  apply Fin.ext
  match a with
  | ⟨0, _⟩ =>
    show min (idx (GatherDims.siIdx _ _ _)).toInt.toNat (60000 - 1) + 0 + 0 = (row _).val
    rw [e, clamp h, row_val h]
    rfl
  | ⟨1, _⟩ =>
    show 0 + 0 + d.val = d.val
    omega

theorem gather_t1 (x : S60000.Idx → α) (idx : IVec S6x128x1 32) (b : Fin 6) (n : Fin 128)
    (h : (idx (ix3 b n 0)).toNat < 60000) :
    Host.gather gather_S60000_S6x128x1_S6x128_n_0_n_n_0_2_1 x idx (ix2 b n) = x (ix1 (row (idx (ix3 b n 0)))) := by
  unfold Host.gather
  congr 1
  have e : ∀ c, gather_S60000_S6x128x1_S6x128_n_0_n_n_0_2_1.siIdx (ix2 b n) c = ix3 b n 0 := by
    intro c
    funext a
    match a with
    | ⟨0, _⟩ => rfl
    | ⟨1, _⟩ => rfl
    | ⟨2, _⟩ => exact Subsingleton.elim (α := Fin 1) _ _
  funext a
  apply Fin.ext
  match a with
  | ⟨0, _⟩ =>
    show min (idx (GatherDims.siIdx _ _ _)).toInt.toNat (60000 - 1) + 0 + 0 = (row _).val
    rw [e, clamp h, row_val h]
    rfl

/-- The indices a gather reads: an index below the table's extent is itself. -/
theorem gidx_s (i : IVec S6x2048 32) (h : ∀ y, (i y).toNat < 60000) (b : Fin 6) (n : Fin 2048) :
    (broadcastInDim S6x2048x1 ![0, 1] bcast_S6x2048_S6x2048x1_0_1
      (select (cmpi .slt i (broadcastInDim S6x2048 ![] bcast_S_S6x2048 (constantI S_ 32 0#32)))
        (addi i (broadcastInDim S6x2048 ![] bcast_S_S6x2048 (constantI S_ 32 60000#32))) i) : IVec S6x2048x1 32) (ix3 b n 0) = i (ix2 b n) := by
  pointwise
  exact wrap (h _)

theorem gidx_t (i : IVec S6x128 32) (h : ∀ y, (i y).toNat < 60000) (b : Fin 6) (n : Fin 128) :
    (broadcastInDim S6x128x1 ![0, 1] bcast_S6x128_S6x128x1_0_1
      (select (cmpi .slt i (broadcastInDim S6x128 ![] bcast_S_S6x128 (constantI S_ 32 0#32)))
        (addi i (broadcastInDim S6x128 ![] bcast_S_S6x128 (constantI S_ 32 60000#32))) i) : IVec S6x128x1 32) (ix3 b n 0) = i (ix2 b n) := by
  pointwise
  exact wrap (h _)

end Cert.ReferenceIdeal.Hand
-- ==== Proof.RVal.lean ====
/-
  Hand-written. The reference's results at an index: the layer's forward pass of `Math.lean`.
-/
module

public import proofs.«01_k».proof.Proof.RGather

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.Val

variable (V0 : Valuation τ sig (Elt Ideal))

/-- The data of the reference's arguments. -/
def D : Dat := dat (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5)) (V0 (Proc.devRef .tc main_arg6))

variable (h4 : ∀ y, ((V0 (Proc.devRef .tc main_arg4) : S6x2048.Idx → BitVec 32) y).toNat < 60000)
variable (h5 : ∀ y, ((V0 (Proc.devRef .tc main_arg5) : S6x128.Idx → BitVec 32) y).toNat < 60000)

include h4 in
theorem r9 (b : Fin 6) (n : Fin 2048) (d : Fin 2880) : (res_main_v9 V0 : S6x2048x2880.Idx → Ideal .bf16) (ix3 b n d) = (D V0).c b n d := by
  unfold res_main_v9
  clean_types
  pointwise
  rw [gather_s2 _ _ _ _ _ (by rw [gidx_s _ h4]; exact h4 _), gidx_s _ h4]
  rfl

include h4 in
theorem r16 (b : Fin 6) (n : Fin 2048) : (res_main_v16 V0 : S6x2048.Idx → Ideal .f32) (ix2 b n) = (D V0).s b n := by
  unfold res_main_v16
  clean_types
  rw [gather_s1 _ _ _ _ (by rw [gidx_s _ h4]; exact h4 _), gidx_s _ h4]
  rfl

include h5 in
theorem r32 (b : Fin 6) (n : Fin 128) (d : Fin 2880) : (res_main_v32 V0 : S6x128x2880.Idx → Ideal .f32) (ix3 b n d) = (D V0).ct b n d := by
  unfold res_main_v32
  clean_types
  pointwise
  rw [gather_t2 _ _ _ _ _ (by rw [gidx_t _ h5]; exact h5 _), gidx_t _ h5]
  rfl

include h5 in
theorem r39 (b : Fin 6) (n : Fin 128) : (res_main_v39 V0 : S6x128.Idx → Ideal .f32) (ix2 b n) = (D V0).st b n := by
  unfold res_main_v39
  clean_types
  rw [gather_t1 _ _ _ _ (by rw [gidx_t _ h5]; exact h5 _), gidx_t _ h5]
  rfl

include h4 in
theorem r59 (b : Fin 6) (s : Fin 128) (n : Fin 2048) : (res_main_v59 V0 : S6x128x2048.Idx → Ideal .f32) (ix3 b s n) = (D V0).z b s n := by
  unfold res_main_v59
  clean_types
  pointwise
  rw [gather_s1 _ _ _ _ (by rw [gidx_s _ h4]; exact h4 _), gidx_s _ h4, r16 V0 h4]
  simp only [r9 V0 h4]
  unfold Dat.z
  rw [← negInf]
  rfl

include h5 in
theorem r63 (b : Fin 6) (s : Fin 128) : (res_main_v63 V0 : S6x128.Idx → Ideal .f32) (ix2 b s) = (D V0).zt b s := by
  unfold res_main_v63
  clean_types
  pointwise
  rw [gather_t1 _ _ _ _ (by rw [gidx_t _ h5]; exact h5 _), gidx_t _ h5, r39 V0 h5]
  simp only [r32 V0 h5]
  rfl

include h4 in
theorem r64 (b : Fin 6) (s : Fin 128) : (res_main_v64 V0 : S6x128.Idx → Ideal .f32) (ix2 b s) = (D V0).m b s := by
  unfold res_main_v64
  clean_types
  pointwise
  simp only [r59 V0 h4]
  rw [negInf]
  rfl

include h4 in
theorem r68 (b : Fin 6) (s : Fin 128) : (res_main_v68 V0 : S6x128.Idx → Ideal .f32) (ix2 b s)
    = if max ((D V0).m b s) (-((D V0).m b s)) < ⊤ then (D V0).m b s else (0 : EReal) := by
  unfold res_main_v68
  clean_types
  pointwise
  rw [r64 V0 h4, posInf]
  have e : (id (constant S_ FTy.f32 0#32) ix0 : Ideal .f32) = (0 : EReal) := by
    show Ideal.ofBits .f32 0#32 = 0
    simp [Ideal.ofBits, Ideal.ieee]
  rw [e]
  rfl

variable (hx : ∀ b s d, Fini ((D V0).x b s d)) (hs : ∀ b n, Fini ((D V0).s b n)) (hq : ∀ b n, Fini ((D V0).q b n))

include h4 hx hs hq in
theorem r75 (b : Fin 6) (s : Fin 128) : (res_main_v75 V0 : S6x128.Idx → Ideal .f32) (ix2 b s) = (D V0).ls b s := by
  unfold res_main_v75
  clean_types
  pointwise
  simp only [r59 V0 h4]
  exact guard (fun n => (D V0).z b s n) (fun n => z_ne_top (D V0) hx (fun _ _ _ => fini_num _) hs hq b s n) _ _ rfl (r68 V0 h4 b s)

include h4 h5 hx hs hq in
theorem r77 (b : Fin 6) (s : Fin 128) : (res_main_v77 V0 : S6x128.Idx → Ideal .f32) (ix2 b s) = (D V0).zt b s - (D V0).ls b s := by
  unfold res_main_v77
  clean_types
  pointwise
  rw [r63 V0 h5, r75 V0 h4 hx hs hq]

include h4 h5 hx hs hq in
theorem r85 (b : Fin 6) (s : Fin 128) : (res_main_v85 V0 : S6x128.Idx → Ideal .f32) (ix2 b s) = (D V0).lse b s := by
  unfold res_main_v85
  clean_types
  pointwise
  rw [if_neg (not_not_intro rfl), r77 V0 h4 h5 hx hs hq, r63 V0 h5, r75 V0 h4 hx hs hq]
  rfl

include h4 h5 hx hs hq in
theorem r95 (b : Fin 6) (s : Fin 128) (n : Fin 2048) : (res_main_v95 V0 : S6x128x2048.Idx → Ideal .f32) (ix3 b s n) = (D V0).dz b s n := by
  unfold res_main_v95
  clean_types
  pointwise
  rw [r59 V0 h4, r85 V0 h4 h5 hx hs hq]
  rfl

include h4 h5 hx hs hq in
theorem r98 (b : Fin 6) (s : Fin 128) : (res_main_v98 V0 : S6x128.Idx → Ideal .f32) (ix2 b s) = (D V0).dzt b s := by
  unfold res_main_v98
  clean_types
  pointwise
  rw [r63 V0 h5, r85 V0 h4 h5 hx hs hq]
  rfl

include h4 h5 hx hs hq in
theorem r111 (b : Fin 6) (s : Fin 128) (n : Fin 2048) (k : Fin 12288) (hk : k.val = 2048 * b.val + n.val) :
    (shapeCast S12288x128 (transpose S6x2048x128 [0, 2, 1] (res_main_v95 V0) transposes_S6x128x2048_S6x2048x128_0_2_1) shapeCasts_S6x2048x128_S12288x128 : S12288x128.Idx → Ideal .f32) (ix2 k s)
      = (D V0).dz b s n := by
  rw [← r95 V0 h4 h5 hx hs hq]
  have ek : k = ⟨b.val * 2048 + n.val, by omega⟩ := Fin.ext (by show k.val = b.val * 2048 + n.val; omega)
  rw [ek]
  pointwise

include h4 h5 hx hs hq in
theorem r112 (b : Fin 6) (s : Fin 128) :
    (shapeCast S6x1x128 (res_main_v98 V0) shapeCasts_S6x128_S6x1x128 : S6x1x128.Idx → Ideal .f32) (ix3 b 0 s) = (D V0).dzt b s := by
  rw [← r98 V0 h4 h5 hx hs hq]
  pointwise

include h4 h5 hx hs hq in
theorem r114 (b : Fin 6) (s : Fin 128) :
    (shapeCast S6x1x128 (subf (res_main_v85 V0) (res_main_v63 V0)) shapeCasts_S6x128_S6x1x128 : S6x1x128.Idx → Ideal .f32) (ix3 b 0 s) = (D V0).loss b s := by
  pointwise
  rw [r85 V0 h4 h5 hx hs hq, r63 V0 h5]
  rfl

include h4 h5 hx hs hq in
theorem r113 (b : Fin 6) (s : Fin 128) (d : Fin 2880) (k : Fin 768) (hk : k.val = 128 * b.val + s.val) :
    (shapeCast S768x2880 (truncf .bf16 (addf (Host.dotGeneral (φ₁ := .bf16) (φ₂ := .bf16) dot_S6x128x2048_S6x2048x2880_S6x128x2880_2_1_1_2_0_0 none (truncf .bf16 (mulf (res_main_v95 V0) (broadcastInDim S6x128x2048 ![0, 1, 2] bcast_S6x1x2048_S6x128x2048_0_1_2 (broadcastInDim S6x1x2048 ![0, 2] bcast_S6x2048_S6x1x2048_0_2 (res_main_v16 V0)))) bitsLt_bf16_f32) (res_main_v9 V0)) (mulf (broadcastInDim S6x128x2880 ![0, 1, 2] bcast_S6x128x1_S6x128x2880_0_1_2 (broadcastInDim S6x128x1 ![0, 1] bcast_S6x128_S6x128x1_0_1 (mulf (res_main_v98 V0) (res_main_v39 V0)))) (res_main_v32 V0))) bitsLt_bf16_f32) shapeCasts_S6x128x2880_S768x2880 : S768x2880.Idx → Ideal .bf16) (ix2 k d)
      = (D V0).dh b s d := by
  have ek : k = ⟨b.val * 128 + s.val, by omega⟩ := Fin.ext (by show k.val = b.val * 128 + s.val; omega)
  rw [ek]
  pointwise
  simp only [r95 V0 h4 h5 hx hs hq, r98 V0 h4 h5 hx hs hq, r16 V0 h4, r39 V0 h5, r9 V0 h4, r32 V0 h5]
  rfl

end Cert.ReferenceIdeal.Hand
-- ==== Proof.Value.lean ====
/-
  Hand-written. The kernel's four results are the reference's, index by index.
-/
module

public import proofs.«01_k».proof.Defs
public import proofs.«01_k».proof.Proof.Gen.ReferenceIdeal.Run
public import proofs.«01_k».proof.Proof.IFrame
public import proofs.«01_k».proof.Proof.PreFinite
public import proofs.«01_k».proof.Proof.KVal
public import proofs.«01_k».proof.Proof.RVal

@[expose] public section

set_option maxRecDepth 16384

noncomputable section

namespace Cert.Value

open Idealize.ShloMosaic Cert.Val
open Cert.KernelIdeal.Hand (KD insAt A0 A2 A3 A4 A5)

/-! ## What the precondition gives -/

theorem fini16 {S : Shape} (a : FVec Ideal S .bf16) (i : S.Idx)
    (h : cmpf .olt (Host.absf a) (fun _ => FloatOps.ofBits .bf16 0x7F80#16) i = 1#1) : Fini (a i) := by
  refine fini_of_abs ?_
  have e : BitVec.ofBool (decide (max (a i) (-(a i)) < Ideal.ofBits .bf16 0x7F80#16)) = 1#1 := h
  rw [posInf16] at e
  by_contra hn
  rw [decide_eq_false hn] at e
  exact absurd e (by decide)

theorem fini32 {S : Shape} (a : FVec Ideal S .f32) (i : S.Idx)
    (h : cmpf .olt (Host.absf a) (fun _ => FloatOps.ofBits .f32 0x7F800000#32) i = 1#1) : Fini (a i) := by
  refine fini_of_abs ?_
  have e : BitVec.ofBool (decide (max (a i) (-(a i)) < Ideal.ofBits .f32 0x7F800000#32)) = 1#1 := h
  rw [posInf] at e
  by_contra hn
  rw [decide_eq_false hn] at e
  exact absurd e (by decide)

/-- An index from its coordinates. -/
theorem ix2_eta {a b : ℕ} (y : (⟨2, ![a, b]⟩ : Shape).Idx) : y = ix2 (y 0) (y 1) := by
  funext e
  match e with
  | ⟨0, _⟩ => rfl
  | ⟨1, _⟩ => rfl

theorem ix3_eta {a b : ℕ} (y : (⟨3, ![a, 1, b]⟩ : Shape).Idx) : y = ix3 (y 0) 0 (y 2) := by
  funext e
  match e with
  | ⟨0, _⟩ => rfl
  | ⟨1, _⟩ => exact Subsingleton.elim (α := Fin 1) _ _
  | ⟨2, _⟩ => rfl

section

variable (m : (ℓ : Loc Cert.KernelIdeal.nD Cert.KernelIdeal.τ Cert.KernelIdeal.sig) → Buf (Elt Ideal) ℓ) (c : Dev Cert.KernelIdeal.nD)
variable (V0 : Valuation Cert.ReferenceIdeal.τ Cert.ReferenceIdeal.sig (Elt Ideal))

/-- The precondition, on the kernel's arguments. -/
structure Ok : Prop where
  h4 : ∀ y, (A4 m c y).toNat < 60000
  h5 : ∀ y, (A5 m c y).toNat < 60000
  f0 : ∀ y, Fini (A0 m c y)
  f2 : ∀ y, Fini (A2 m c y)
  f3 : ∀ y, Fini (A3 m c y)

theorem ok [Cert.Pre_in_range_finite.Facts] (h : Cert.Pre_KernelIdeal_in_range_finite m) : Ok m c := by
  obtain ⟨⟨e4, e5⟩, e0, e2, e3⟩ := Cert.PreHand.in_range_finite_split _ _ _ _ _ _ _ (h c)
  exact ⟨e4, e5, fun y => fini16 (A0 m c) y (e0 y), fun y => fini32 (A2 m c) y (e2 y), fun y => fini32 (A3 m c) y (e3 y)⟩

/-- The reference's arguments are the kernel's. -/
structure Same : Prop where
  e0 : V0 (Proc.devRef .tc Cert.ReferenceIdeal.main_arg0) = m ((c.tc : Thread Cert.KernelIdeal.nD Cert.KernelIdeal.τ).loc Cert.KernelIdeal.main_arg0)
  e1 : V0 (Proc.devRef .tc Cert.ReferenceIdeal.main_arg1) = m ((c.tc : Thread Cert.KernelIdeal.nD Cert.KernelIdeal.τ).loc Cert.KernelIdeal.main_arg1)
  e2 : V0 (Proc.devRef .tc Cert.ReferenceIdeal.main_arg2) = m ((c.tc : Thread Cert.KernelIdeal.nD Cert.KernelIdeal.τ).loc Cert.KernelIdeal.main_arg2)
  e3 : V0 (Proc.devRef .tc Cert.ReferenceIdeal.main_arg3) = m ((c.tc : Thread Cert.KernelIdeal.nD Cert.KernelIdeal.τ).loc Cert.KernelIdeal.main_arg3)
  e4 : V0 (Proc.devRef .tc Cert.ReferenceIdeal.main_arg4) = m ((c.tc : Thread Cert.KernelIdeal.nD Cert.KernelIdeal.τ).loc Cert.KernelIdeal.main_arg4)
  e5 : V0 (Proc.devRef .tc Cert.ReferenceIdeal.main_arg5) = m ((c.tc : Thread Cert.KernelIdeal.nD Cert.KernelIdeal.τ).loc Cert.KernelIdeal.main_arg5)
  e6 : V0 (Proc.devRef .tc Cert.ReferenceIdeal.main_arg6) = m ((c.tc : Thread Cert.KernelIdeal.nD Cert.KernelIdeal.τ).loc Cert.KernelIdeal.main_arg6)

variable {m c V0} (hs : Same m c V0) (ho : Ok m c)

include hs in
theorem D_eq : Cert.ReferenceIdeal.Hand.D V0 = KD m c := by
  unfold Cert.ReferenceIdeal.Hand.D KD
  rw [hs.e0, hs.e1, hs.e2, hs.e3, hs.e4, hs.e5, hs.e6]

include hs ho in
theorem r4 (y) : ((V0 (Proc.devRef .tc Cert.ReferenceIdeal.main_arg4) : Cert.ReferenceIdeal.S6x2048.Idx → BitVec 32) y).toNat < 60000 := by
  rw [hs.e4]; exact ho.h4 y
include hs ho in
theorem r5 (y) : ((V0 (Proc.devRef .tc Cert.ReferenceIdeal.main_arg5) : Cert.ReferenceIdeal.S6x128.Idx → BitVec 32) y).toNat < 60000 := by
  rw [hs.e5]; exact ho.h5 y
include hs ho in
theorem rx (b : Fin 6) (s : Fin 128) (d : Fin 2880) : Fini ((Cert.ReferenceIdeal.Hand.D V0).x b s d) := by
  rw [D_eq hs]; exact ho.f0 _
include hs ho in
theorem rs (b : Fin 6) (n : Fin 2048) : Fini ((Cert.ReferenceIdeal.Hand.D V0).s b n) := by
  rw [D_eq hs]; exact ho.f2 _
include hs ho in
theorem rq (b : Fin 6) (n : Fin 2048) : Fini ((Cert.ReferenceIdeal.Hand.D V0).q b n) := by
  rw [D_eq hs]; exact ho.f3 _

open Cert.ReferenceIdeal Cert.ReferenceIdeal.Gen Cert.ReferenceIdeal.Value in
include hs ho in
theorem dz_eq : (shapeCast S12288x128 (transpose S6x2048x128 [0, 2, 1] (res_main_v95 V0) transposes_S6x128x2048_S6x2048x128_0_2_1) shapeCasts_S6x2048x128_S12288x128 : S12288x128.Idx → Ideal .f32)
    = Cert.KernelIdeal.Hand.DZ (insAt m c) := by
  funext y
  obtain ⟨k, s, rfl⟩ : ∃ (k : Fin 12288) (s : Fin 128), y = ix2 k s := ⟨y 0, y 1, ix2_eta y⟩
  have hk : k.val = 2048 * (⟨k.val / 2048, by omega⟩ : Fin 6).val + (⟨k.val % 2048, Nat.mod_lt _ (by omega)⟩ : Fin 2048).val := by
    dsimp only; omega
  exact (Cert.ReferenceIdeal.Hand.r111 V0 (r4 hs ho) (r5 hs ho) (rx hs ho) (rs hs ho) (rq hs ho) _ s _ k hk).trans
    ((congrArg (fun D : Dat => D.dz _ s _) (D_eq hs)).trans (Cert.KernelIdeal.Hand.dz_at m c ho.h4 ho.h5 ho.f2 ho.f3 _ _ s k hk).symm)

open Cert.ReferenceIdeal Cert.ReferenceIdeal.Gen Cert.ReferenceIdeal.Value in
include hs ho in
theorem dzt_eq : (shapeCast S6x1x128 (res_main_v98 V0) shapeCasts_S6x128_S6x1x128 : S6x1x128.Idx → Ideal .f32) = Cert.KernelIdeal.Hand.DZT (insAt m c) := by
  funext y
  rw [ix3_eta y]
  exact (Cert.ReferenceIdeal.Hand.r112 V0 (r4 hs ho) (r5 hs ho) (rx hs ho) (rs hs ho) (rq hs ho) (y 0) (y 2)).trans
    ((congrArg (fun D : Dat => D.dzt (y 0) (y 2)) (D_eq hs)).trans (Cert.KernelIdeal.Hand.dzt_at m c ho.h4 ho.h5 ho.f2 ho.f3 (y 0) (y 2)).symm)

open Cert.ReferenceIdeal Cert.ReferenceIdeal.Gen Cert.ReferenceIdeal.Value in
include hs ho in
theorem loss_eq : (shapeCast S6x1x128 (subf (res_main_v85 V0) (res_main_v63 V0)) shapeCasts_S6x128_S6x1x128 : S6x1x128.Idx → Ideal .f32) = Cert.KernelIdeal.Hand.LOSS (insAt m c) := by
  funext y
  rw [ix3_eta y]
  exact (Cert.ReferenceIdeal.Hand.r114 V0 (r4 hs ho) (r5 hs ho) (rx hs ho) (rs hs ho) (rq hs ho) (y 0) (y 2)).trans
    ((congrArg (fun D : Dat => D.loss (y 0) (y 2)) (D_eq hs)).trans (Cert.KernelIdeal.Hand.loss_at m c ho.h4 ho.h5 ho.f2 ho.f3 (y 0) (y 2)).symm)

open Cert.ReferenceIdeal Cert.ReferenceIdeal.Gen Cert.ReferenceIdeal.Value in
include hs ho in
theorem dh_eq : (shapeCast S768x2880 (truncf .bf16 (addf (Host.dotGeneral (φ₁ := .bf16) (φ₂ := .bf16) dot_S6x128x2048_S6x2048x2880_S6x128x2880_2_1_1_2_0_0 none (truncf .bf16 (mulf (res_main_v95 V0) (broadcastInDim S6x128x2048 ![0, 1, 2] bcast_S6x1x2048_S6x128x2048_0_1_2 (broadcastInDim S6x1x2048 ![0, 2] bcast_S6x2048_S6x1x2048_0_2 (res_main_v16 V0)))) bitsLt_bf16_f32) (res_main_v9 V0)) (mulf (broadcastInDim S6x128x2880 ![0, 1, 2] bcast_S6x128x1_S6x128x2880_0_1_2 (broadcastInDim S6x128x1 ![0, 1] bcast_S6x128_S6x128x1_0_1 (mulf (res_main_v98 V0) (res_main_v39 V0)))) (res_main_v32 V0))) bitsLt_bf16_f32) shapeCasts_S6x128x2880_S768x2880 : S768x2880.Idx → Ideal .bf16)
    = Cert.KernelIdeal.Hand.DH (insAt m c) := by
  funext y
  obtain ⟨k, d, rfl⟩ : ∃ (k : Fin 768) (d : Fin 2880), y = ix2 k d := ⟨y 0, y 1, ix2_eta y⟩
  have hk : k.val = 128 * (⟨k.val / 128, by omega⟩ : Fin 6).val + (⟨k.val % 128, Nat.mod_lt _ (by omega)⟩ : Fin 128).val := by
    dsimp only; omega
  exact (Cert.ReferenceIdeal.Hand.r113 V0 (r4 hs ho) (r5 hs ho) (rx hs ho) (rs hs ho) (rq hs ho) _ _ d k hk).trans
    ((congrArg (fun D : Dat => D.dh _ _ d) (D_eq hs)).trans (Cert.KernelIdeal.Hand.dh_at m c ho.h4 ho.h5 ho.f2 ho.f3 _ _ d k hk).symm)

end

/-- The value claim. -/
theorem algebraic : Cert.algebraic_KernelIdeal_ReferenceIdeal_pre_in_range_finite := by
  intro m g m' g' hpre hagree
  have ho := fun c => ok m c hpre
  have hs : ∀ c : Dev Cert.KernelIdeal.nD, Same m c (StableHlo.launchContents m' c) := fun c =>
    let h := hagree c
    ⟨h.1, h.2.1, h.2.2.1, h.2.2.2.1, h.2.2.2.2.1, h.2.2.2.2.2.1, h.2.2.2.2.2.2⟩
  refine ⟨fun c => Cert.KernelIdeal.Hand.DZ (insAt m c), fun c => Cert.KernelIdeal.Hand.DZT (insAt m c),
    fun c => Cert.KernelIdeal.Hand.DH (insAt m c), fun c => Cert.KernelIdeal.Hand.LOSS (insAt m c), ?_, ?_⟩
  · exact (θ_run Cert.KernelIdeal.defs _ _).mono (fun r h c => ⟨(h c).1.1, (h c).1.2.1, (h c).1.2.2.1, (h c).1.2.2.2, (h c).2⟩)
      (Cert.KernelIdeal.Hand.values m g (fun c => (ho c).h4) (fun c => (ho c).h5))
  · exact (θ_run Cert.ReferenceIdeal.defs _ _).mono (fun r h c =>
      ⟨(h c).1.trans (dz_eq (hs c) (ho c)), (h c).2.1.trans (dzt_eq (hs c) (ho c)), (h c).2.2.1.trans (dh_eq (hs c) (ho c)),
        (h c).2.2.2.1.trans (loss_eq (hs c) (ho c)), (h c).2.2.2.2⟩)
      (Cert.ReferenceIdeal.Value.run m' g')

end Cert.Value
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Pre
public import proofs.«01_k».proof.Proof.Frame
public import proofs.«01_k».proof.Proof.IFrame
public import proofs.«01_k».proof.Proof.PreFinite
public import proofs.«01_k».proof.Proof.Value
public import Idealize.ShloMosaic.Adequacy

@[expose] public section

namespace Cert.Proof

open Idealize.ShloMosaic Idealize.SL.Sem

theorem quiescent_K : Cert.quiescent_Kernel := fun m g h =>
  Cert.Kernel.Hand.frames m g (fun c => (Cert.PreHand.in_range_lt _ _ _ _ _ _ _ (h c)).1) (fun c => (Cert.PreHand.in_range_lt _ _ _ _ _ _ _ (h c)).2)

theorem quiescent_KI : Cert.quiescent_KernelIdeal := fun m g h =>
  Cert.KernelIdeal.Hand.frames m g (fun c => (Cert.PreHand.in_range_lt _ _ _ _ _ _ _ (h c)).1) (fun c => (Cert.PreHand.in_range_lt _ _ _ _ _ _ _ (h c)).2)

theorem quiescent_RI : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run m g)

theorem quiescent_KI_fin : Cert.quiescent_KernelIdeal_pre_in_range_finite := fun m g h =>
  Cert.KernelIdeal.Hand.frames m g (fun c => (Cert.PreHand.in_range_finite_split _ _ _ _ _ _ _ (h c)).1.1)
    (fun c => (Cert.PreHand.in_range_finite_split _ _ _ _ _ _ _ (h c)).1.2)

theorem quiescent_RI_fin : Cert.quiescent_ReferenceIdeal_pre_in_range_finite := fun m g _ => quiescent_RI m g trivial

theorem preserves : Cert.preserves_Kernel_KernelIdeal := IdealRules.bf16_pack.statement _

theorem claim : Cert.Claim :=
  ⟨Cert.Kernel.Gen.facts, Cert.KernelIdeal.Gen.facts, Cert.ReferenceIdeal.Gen.facts, Cert.Pre_in_range.facts, Cert.Pre_in_range_finite.facts,
    quiescent_K, quiescent_KI, quiescent_KI_fin, quiescent_RI, quiescent_RI_fin, preserves, Cert.Value.algebraic⟩

end Cert.Proof
